-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_normal [hPre_scale_normal : Cert.Pre_scale_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scale_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_normal [hPre_scale_normal : Cert.Pre_scale_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Kvq (m : (ℓ : Loc Cert.Kvq.nD Cert.Kvq.τ Cert.Kvq.sig) → Buf (Elt Bits) ℓ) : Prop :=
  True

def Pre_KvqIdeal (m : (ℓ : Loc Cert.KvqIdeal.nD Cert.KvqIdeal.τ Cert.KvqIdeal.sig) → Buf (Elt Ideal) ℓ) : Prop :=
  True

def Pre_KvqReferenceIdeal (m : (ℓ : Loc Cert.KvqReferenceIdeal.nD Cert.KvqReferenceIdeal.τ Cert.KvqReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleReferenceIdeal (m : (ℓ : Loc Cert.MlpSampleReferenceIdeal.nD Cert.MlpSampleReferenceIdeal.τ Cert.MlpSampleReferenceIdeal.sig) → Buf (Elt Ideal) ℓ) : Prop :=
  True

def Pre_KvqSample (m : (ℓ : Loc Cert.KvqSample.nD Cert.KvqSample.τ Cert.KvqSample.sig) → Buf (Elt Bits) ℓ) : Prop :=
  True

def Pre_KvqSampleIdeal (m : (ℓ : Loc Cert.KvqSampleIdeal.nD Cert.KvqSampleIdeal.τ Cert.KvqSampleIdeal.sig) → Buf (Elt Ideal) ℓ) : Prop :=
  True

def Pre_KvqSampleReferenceIdeal (m : (ℓ : Loc Cert.KvqSampleReferenceIdeal.nD Cert.KvqSampleReferenceIdeal.τ Cert.KvqSampleReferenceIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleReferenceIdeal (m : (ℓ : Loc Cert.InProjSampleReferenceIdeal.nD Cert.InProjSampleReferenceIdeal.τ Cert.InProjSampleReferenceIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleReferenceIdeal (m : (ℓ : Loc Cert.OutSampleReferenceIdeal.nD Cert.OutSampleReferenceIdeal.τ Cert.OutSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scale_normal [hKernelIdeal : Cert.KernelIdeal.Facts] [hPre_scale_normal : Cert.Pre_scale_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scale_normal [hReferenceIdeal : Cert.ReferenceIdeal.Facts] [hPre_scale_normal : Cert.Pre_scale_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Kvq [hKvq : Cert.Kvq.Facts] : Prop :=
  ∀ (m : (ℓ : Loc Cert.Kvq.nD Cert.Kvq.τ Cert.Kvq.sig) → Buf (Elt Bits) ℓ) (g : Dev Cert.Kvq.nD → PrngReg), Pre_Kvq m →
    θ_run (Cert.Kvq.defs (F := Bits)) (onTc (τ := Cert.Kvq.τ) (Cert.Kvq.main (F := Bits))) ⟨m, fun _ => 0, g⟩ (fun r => (∀ c : Dev Cert.Kvq.nD,
      r.2.mem ((c.tc : Thread Cert.Kvq.nD Cert.Kvq.τ).loc Cert.Kvq.main_arg0) = m ((c.tc : Thread Cert.Kvq.nD Cert.Kvq.τ).loc Cert.Kvq.main_arg0)
      ∧ r.2.mem ((c.tc : Thread Cert.Kvq.nD Cert.Kvq.τ).loc Cert.Kvq.main_arg1) = m ((c.tc : Thread Cert.Kvq.nD Cert.Kvq.τ).loc Cert.Kvq.main_arg1)
      ∧ r.2.mem ((c.tc : Thread Cert.Kvq.nD Cert.Kvq.τ).loc Cert.Kvq.main_arg2) = m ((c.tc : Thread Cert.Kvq.nD Cert.Kvq.τ).loc Cert.Kvq.main_arg2)
      ∧ r.2.mem ((c.tc : Thread Cert.Kvq.nD Cert.Kvq.τ).loc Cert.Kvq.main_arg3) = m ((c.tc : Thread Cert.Kvq.nD Cert.Kvq.τ).loc Cert.Kvq.main_arg3)
      ∧ r.2.mem ((c.tc : Thread Cert.Kvq.nD Cert.Kvq.τ).loc Cert.Kvq.main_arg4) = m ((c.tc : Thread Cert.Kvq.nD Cert.Kvq.τ).loc Cert.Kvq.main_arg4)
      ∧ r.2.mem ((c.tc : Thread Cert.Kvq.nD Cert.Kvq.τ).loc Cert.Kvq.main_arg5) = m ((c.tc : Thread Cert.Kvq.nD Cert.Kvq.τ).loc Cert.Kvq.main_arg5)
      ∧ r.2.mem ((c.tc : Thread Cert.Kvq.nD Cert.Kvq.τ).loc Cert.Kvq.main_arg6) = m ((c.tc : Thread Cert.Kvq.nD Cert.Kvq.τ).loc Cert.Kvq.main_arg6))
      ∧ r.2.sem = fun _ => 0)

def quiescent_KvqIdeal [hKvqIdeal : Cert.KvqIdeal.Facts] : Prop :=
  ∀ (m : (ℓ : Loc Cert.KvqIdeal.nD Cert.KvqIdeal.τ Cert.KvqIdeal.sig) → Buf (Elt Ideal) ℓ) (g : Dev Cert.KvqIdeal.nD → PrngReg), Pre_KvqIdeal m →
    θ_run (Cert.KvqIdeal.defs (F := Ideal)) (onTc (τ := Cert.KvqIdeal.τ) (Cert.KvqIdeal.main (F := Ideal))) ⟨m, fun _ => 0, g⟩ (fun r => (∀ c : Dev Cert.KvqIdeal.nD,
      r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
      ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
      ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
      ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
      ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4)
      ∧ r.2.mem ((c.tc : Thread Cert.KvqIdeal.nD Cert.KvqIdeal.τ).loc Cert.KvqIdeal.main_arg5) = m ((c.tc : Thread Cert.KvqIdeal.nD Cert.KvqIdeal.τ).loc Cert.KvqIdeal.main_arg5)
      ∧ r.2.mem ((c.tc : Thread Cert.KvqIdeal.nD Cert.KvqIdeal.τ).loc Cert.KvqIdeal.main_arg6) = m ((c.tc : Thread Cert.KvqIdeal.nD Cert.KvqIdeal.τ).loc Cert.KvqIdeal.main_arg6))
      ∧ r.2.sem = fun _ => 0)

def quiescent_KvqReferenceIdeal [hKvqReferenceIdeal : Cert.KvqReferenceIdeal.Facts] : Prop :=
  ∀ (m : (ℓ : Loc Cert.KvqReferenceIdeal.nD Cert.KvqReferenceIdeal.τ Cert.KvqReferenceIdeal.sig) → Buf (Elt Ideal) ℓ) (g : Dev Cert.KvqReferenceIdeal.nD → PrngReg), Pre_KvqReferenceIdeal m →
    θ_run (Cert.KvqReferenceIdeal.defs (F := Ideal)) (onTc (τ := Cert.KvqReferenceIdeal.τ) (Cert.KvqReferenceIdeal.main (F := Ideal))) ⟨m, fun _ => 0, g⟩ (fun r => (∀ c : Dev Cert.KvqReferenceIdeal.nD,
      r.2.mem ((c.tc : Thread Cert.KvqReferenceIdeal.nD Cert.KvqReferenceIdeal.τ).loc Cert.KvqReferenceIdeal.main_arg0) = m ((c.tc : Thread Cert.KvqReferenceIdeal.nD Cert.KvqReferenceIdeal.τ).loc Cert.KvqReferenceIdeal.main_arg0)
      ∧ r.2.mem ((c.tc : Thread Cert.KvqReferenceIdeal.nD Cert.KvqReferenceIdeal.τ).loc Cert.KvqReferenceIdeal.main_arg1) = m ((c.tc : Thread Cert.KvqReferenceIdeal.nD Cert.KvqReferenceIdeal.τ).loc Cert.KvqReferenceIdeal.main_arg1)
      ∧ r.2.mem ((c.tc : Thread Cert.KvqReferenceIdeal.nD Cert.KvqReferenceIdeal.τ).loc Cert.KvqReferenceIdeal.main_arg2) = m ((c.tc : Thread Cert.KvqReferenceIdeal.nD Cert.KvqReferenceIdeal.τ).loc Cert.KvqReferenceIdeal.main_arg2)
      ∧ r.2.mem ((c.tc : Thread Cert.KvqReferenceIdeal.nD Cert.KvqReferenceIdeal.τ).loc Cert.KvqReferenceIdeal.main_arg3) = m ((c.tc : Thread Cert.KvqReferenceIdeal.nD Cert.KvqReferenceIdeal.τ).loc Cert.KvqReferenceIdeal.main_arg3)
      ∧ r.2.mem ((c.tc : Thread Cert.KvqReferenceIdeal.nD Cert.KvqReferenceIdeal.τ).loc Cert.KvqReferenceIdeal.main_arg4) = m ((c.tc : Thread Cert.KvqReferenceIdeal.nD Cert.KvqReferenceIdeal.τ).loc Cert.KvqReferenceIdeal.main_arg4)
      ∧ r.2.mem ((c.tc : Thread Cert.KvqReferenceIdeal.nD Cert.KvqReferenceIdeal.τ).loc Cert.KvqReferenceIdeal.main_arg5) = m ((c.tc : Thread Cert.KvqReferenceIdeal.nD Cert.KvqReferenceIdeal.τ).loc Cert.KvqReferenceIdeal.main_arg5)
      ∧ r.2.mem ((c.tc : Thread Cert.KvqReferenceIdeal.nD Cert.KvqReferenceIdeal.τ).loc Cert.KvqReferenceIdeal.main_arg6) = m ((c.tc : Thread Cert.KvqReferenceIdeal.nD Cert.KvqReferenceIdeal.τ).loc Cert.KvqReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3))
      ∧ r.2.sem = fun _ => 0)

def quiescent_MlpSampleReferenceIdeal [hMlpSampleReferenceIdeal : Cert.MlpSampleReferenceIdeal.Facts] : Prop :=
  ∀ (m : (ℓ : Loc Cert.MlpSampleReferenceIdeal.nD Cert.MlpSampleReferenceIdeal.τ Cert.MlpSampleReferenceIdeal.sig) → Buf (Elt Ideal) ℓ) (g : Dev Cert.MlpSampleReferenceIdeal.nD → PrngReg), Pre_MlpSampleReferenceIdeal m →
    θ_run (Cert.MlpSampleReferenceIdeal.defs (F := Ideal)) (onTc (τ := Cert.MlpSampleReferenceIdeal.τ) (Cert.MlpSampleReferenceIdeal.main (F := Ideal))) ⟨m, fun _ => 0, g⟩ (fun r => (∀ c : Dev Cert.MlpSampleReferenceIdeal.nD,
      r.2.mem ((c.tc : Thread Cert.MlpSampleReferenceIdeal.nD Cert.MlpSampleReferenceIdeal.τ).loc Cert.MlpSampleReferenceIdeal.main_arg0) = m ((c.tc : Thread Cert.MlpSampleReferenceIdeal.nD Cert.MlpSampleReferenceIdeal.τ).loc Cert.MlpSampleReferenceIdeal.main_arg0)
      ∧ r.2.mem ((c.tc : Thread Cert.MlpSampleReferenceIdeal.nD Cert.MlpSampleReferenceIdeal.τ).loc Cert.MlpSampleReferenceIdeal.main_arg1) = m ((c.tc : Thread Cert.MlpSampleReferenceIdeal.nD Cert.MlpSampleReferenceIdeal.τ).loc Cert.MlpSampleReferenceIdeal.main_arg1)
      ∧ r.2.mem ((c.tc : Thread Cert.MlpSampleReferenceIdeal.nD Cert.MlpSampleReferenceIdeal.τ).loc Cert.MlpSampleReferenceIdeal.main_arg2) = m ((c.tc : Thread Cert.MlpSampleReferenceIdeal.nD Cert.MlpSampleReferenceIdeal.τ).loc Cert.MlpSampleReferenceIdeal.main_arg2)
      ∧ r.2.mem ((c.tc : Thread Cert.MlpSampleReferenceIdeal.nD Cert.MlpSampleReferenceIdeal.τ).loc Cert.MlpSampleReferenceIdeal.main_arg3) = m ((c.tc : Thread Cert.MlpSampleReferenceIdeal.nD Cert.MlpSampleReferenceIdeal.τ).loc Cert.MlpSampleReferenceIdeal.main_arg3))
      ∧ r.2.sem = fun _ => 0)

def quiescent_KvqSample [hKvqSample : Cert.KvqSample.Facts] : Prop :=
  ∀ (m : (ℓ : Loc Cert.KvqSample.nD Cert.KvqSample.τ Cert.KvqSample.sig) → Buf (Elt Bits) ℓ) (g : Dev Cert.KvqSample.nD → PrngReg), Pre_KvqSample m →
    θ_run (Cert.KvqSample.defs (F := Bits)) (onTc (τ := Cert.KvqSample.τ) (Cert.KvqSample.main (F := Bits))) ⟨m, fun _ => 0, g⟩ (fun r => (∀ c : Dev Cert.KvqSample.nD,
      r.2.mem ((c.tc : Thread Cert.KvqSample.nD Cert.KvqSample.τ).loc Cert.KvqSample.main_arg0) = m ((c.tc : Thread Cert.KvqSample.nD Cert.KvqSample.τ).loc Cert.KvqSample.main_arg0)
      ∧ r.2.mem ((c.tc : Thread Cert.KvqSample.nD Cert.KvqSample.τ).loc Cert.KvqSample.main_arg1) = m ((c.tc : Thread Cert.KvqSample.nD Cert.KvqSample.τ).loc Cert.KvqSample.main_arg1)
      ∧ r.2.mem ((c.tc : Thread Cert.KvqSample.nD Cert.KvqSample.τ).loc Cert.KvqSample.main_arg2) = m ((c.tc : Thread Cert.KvqSample.nD Cert.KvqSample.τ).loc Cert.KvqSample.main_arg2)
      ∧ r.2.mem ((c.tc : Thread Cert.KvqSample.nD Cert.KvqSample.τ).loc Cert.KvqSample.main_arg3) = m ((c.tc : Thread Cert.KvqSample.nD Cert.KvqSample.τ).loc Cert.KvqSample.main_arg3)
      ∧ r.2.mem ((c.tc : Thread Cert.KvqSample.nD Cert.KvqSample.τ).loc Cert.KvqSample.main_arg4) = m ((c.tc : Thread Cert.KvqSample.nD Cert.KvqSample.τ).loc Cert.KvqSample.main_arg4)
      ∧ r.2.mem ((c.tc : Thread Cert.KvqSample.nD Cert.KvqSample.τ).loc Cert.KvqSample.main_arg5) = m ((c.tc : Thread Cert.KvqSample.nD Cert.KvqSample.τ).loc Cert.KvqSample.main_arg5)
      ∧ r.2.mem ((c.tc : Thread Cert.KvqSample.nD Cert.KvqSample.τ).loc Cert.KvqSample.main_arg6) = m ((c.tc : Thread Cert.KvqSample.nD Cert.KvqSample.τ).loc Cert.KvqSample.main_arg6))
      ∧ r.2.sem = fun _ => 0)

def quiescent_KvqSampleIdeal [hKvqSampleIdeal : Cert.KvqSampleIdeal.Facts] : Prop :=
  ∀ (m : (ℓ : Loc Cert.KvqSampleIdeal.nD Cert.KvqSampleIdeal.τ Cert.KvqSampleIdeal.sig) → Buf (Elt Ideal) ℓ) (g : Dev Cert.KvqSampleIdeal.nD → PrngReg), Pre_KvqSampleIdeal m →
    θ_run (Cert.KvqSampleIdeal.defs (F := Ideal)) (onTc (τ := Cert.KvqSampleIdeal.τ) (Cert.KvqSampleIdeal.main (F := Ideal))) ⟨m, fun _ => 0, g⟩ (fun r => (∀ c : Dev Cert.KvqSampleIdeal.nD,
      r.2.mem ((c.tc : Thread Cert.KvqSampleIdeal.nD Cert.KvqSampleIdeal.τ).loc Cert.KvqSampleIdeal.main_arg0) = m ((c.tc : Thread Cert.KvqSampleIdeal.nD Cert.KvqSampleIdeal.τ).loc Cert.KvqSampleIdeal.main_arg0)
      ∧ r.2.mem ((c.tc : Thread Cert.KvqSampleIdeal.nD Cert.KvqSampleIdeal.τ).loc Cert.KvqSampleIdeal.main_arg1) = m ((c.tc : Thread Cert.KvqSampleIdeal.nD Cert.KvqSampleIdeal.τ).loc Cert.KvqSampleIdeal.main_arg1)
      ∧ r.2.mem ((c.tc : Thread Cert.KvqSampleIdeal.nD Cert.KvqSampleIdeal.τ).loc Cert.KvqSampleIdeal.main_arg2) = m ((c.tc : Thread Cert.KvqSampleIdeal.nD Cert.KvqSampleIdeal.τ).loc Cert.KvqSampleIdeal.main_arg2)
      ∧ r.2.mem ((c.tc : Thread Cert.KvqSampleIdeal.nD Cert.KvqSampleIdeal.τ).loc Cert.KvqSampleIdeal.main_arg3) = m ((c.tc : Thread Cert.KvqSampleIdeal.nD Cert.KvqSampleIdeal.τ).loc Cert.KvqSampleIdeal.main_arg3)
      ∧ r.2.mem ((c.tc : Thread Cert.KvqSampleIdeal.nD Cert.KvqSampleIdeal.τ).loc Cert.KvqSampleIdeal.main_arg4) = m ((c.tc : Thread Cert.KvqSampleIdeal.nD Cert.KvqSampleIdeal.τ).loc Cert.KvqSampleIdeal.main_arg4)
      ∧ r.2.mem ((c.tc : Thread Cert.KvqSampleIdeal.nD Cert.KvqSampleIdeal.τ).loc Cert.KvqSampleIdeal.main_arg5) = m ((c.tc : Thread Cert.KvqSampleIdeal.nD Cert.KvqSampleIdeal.τ).loc Cert.KvqSampleIdeal.main_arg5)
      ∧ r.2.mem ((c.tc : Thread Cert.KvqSampleIdeal.nD Cert.KvqSampleIdeal.τ).loc Cert.KvqSampleIdeal.main_arg6) = m ((c.tc : Thread Cert.KvqSampleIdeal.nD Cert.KvqSampleIdeal.τ).loc Cert.KvqSampleIdeal.main_arg6))
      ∧ r.2.sem = fun _ => 0)

def quiescent_KvqSampleReferenceIdeal [hKvqSampleReferenceIdeal : Cert.KvqSampleReferenceIdeal.Facts] : Prop :=
  ∀ (m : (ℓ : Loc Cert.KvqSampleReferenceIdeal.nD Cert.KvqSampleReferenceIdeal.τ Cert.KvqSampleReferenceIdeal.sig) → Buf (Elt Ideal) ℓ) (g : Dev Cert.KvqSampleReferenceIdeal.nD → PrngReg), Pre_KvqSampleReferenceIdeal m →
    θ_run (Cert.KvqSampleReferenceIdeal.defs (F := Ideal)) (onTc (τ := Cert.KvqSampleReferenceIdeal.τ) (Cert.KvqSampleReferenceIdeal.main (F := Ideal))) ⟨m, fun _ => 0, g⟩ (fun r => (∀ c : Dev Cert.KvqSampleReferenceIdeal.nD,
      r.2.mem ((c.tc : Thread Cert.KvqSampleReferenceIdeal.nD Cert.KvqSampleReferenceIdeal.τ).loc Cert.KvqSampleReferenceIdeal.main_arg0) = m ((c.tc : Thread Cert.KvqSampleReferenceIdeal.nD Cert.KvqSampleReferenceIdeal.τ).loc Cert.KvqSampleReferenceIdeal.main_arg0)
      ∧ r.2.mem ((c.tc : Thread Cert.KvqSampleReferenceIdeal.nD Cert.KvqSampleReferenceIdeal.τ).loc Cert.KvqSampleReferenceIdeal.main_arg1) = m ((c.tc : Thread Cert.KvqSampleReferenceIdeal.nD Cert.KvqSampleReferenceIdeal.τ).loc Cert.KvqSampleReferenceIdeal.main_arg1)
      ∧ r.2.mem ((c.tc : Thread Cert.KvqSampleReferenceIdeal.nD Cert.KvqSampleReferenceIdeal.τ).loc Cert.KvqSampleReferenceIdeal.main_arg2) = m ((c.tc : Thread Cert.KvqSampleReferenceIdeal.nD Cert.KvqSampleReferenceIdeal.τ).loc Cert.KvqSampleReferenceIdeal.main_arg2)
      ∧ r.2.mem ((c.tc : Thread Cert.KvqSampleReferenceIdeal.nD Cert.KvqSampleReferenceIdeal.τ).loc Cert.KvqSampleReferenceIdeal.main_arg3) = m ((c.tc : Thread Cert.KvqSampleReferenceIdeal.nD Cert.KvqSampleReferenceIdeal.τ).loc Cert.KvqSampleReferenceIdeal.main_arg3)
      ∧ r.2.mem ((c.tc : Thread Cert.KvqSampleReferenceIdeal.nD Cert.KvqSampleReferenceIdeal.τ).loc Cert.KvqSampleReferenceIdeal.main_arg4) = m ((c.tc : Thread Cert.KvqSampleReferenceIdeal.nD Cert.KvqSampleReferenceIdeal.τ).loc Cert.KvqSampleReferenceIdeal.main_arg4)
      ∧ r.2.mem ((c.tc : Thread Cert.KvqSampleReferenceIdeal.nD Cert.KvqSampleReferenceIdeal.τ).loc Cert.KvqSampleReferenceIdeal.main_arg5) = m ((c.tc : Thread Cert.KvqSampleReferenceIdeal.nD Cert.KvqSampleReferenceIdeal.τ).loc Cert.KvqSampleReferenceIdeal.main_arg5)
      ∧ r.2.mem ((c.tc : Thread Cert.KvqSampleReferenceIdeal.nD Cert.KvqSampleReferenceIdeal.τ).loc Cert.KvqSampleReferenceIdeal.main_arg6) = m ((c.tc : Thread Cert.KvqSampleReferenceIdeal.nD Cert.KvqSampleReferenceIdeal.τ).loc Cert.KvqSampleReferenceIdeal.main_arg6))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ r.2.sem = fun _ => 0)

def quiescent_InProjSampleReferenceIdeal [hInProjSampleReferenceIdeal : Cert.InProjSampleReferenceIdeal.Facts] : Prop :=
  ∀ (m : (ℓ : Loc Cert.InProjSampleReferenceIdeal.nD Cert.InProjSampleReferenceIdeal.τ Cert.InProjSampleReferenceIdeal.sig) → Buf (Elt Ideal) ℓ) (g : Dev Cert.InProjSampleReferenceIdeal.nD → PrngReg), Pre_InProjSampleReferenceIdeal m →
    θ_run (Cert.InProjSampleReferenceIdeal.defs (F := Ideal)) (onTc (τ := Cert.InProjSampleReferenceIdeal.τ) (Cert.InProjSampleReferenceIdeal.main (F := Ideal))) ⟨m, fun _ => 0, g⟩ (fun r => (∀ c : Dev Cert.InProjSampleReferenceIdeal.nD,
      r.2.mem ((c.tc : Thread Cert.InProjSampleReferenceIdeal.nD Cert.InProjSampleReferenceIdeal.τ).loc Cert.InProjSampleReferenceIdeal.main_arg0) = m ((c.tc : Thread Cert.InProjSampleReferenceIdeal.nD Cert.InProjSampleReferenceIdeal.τ).loc Cert.InProjSampleReferenceIdeal.main_arg0)
      ∧ r.2.mem ((c.tc : Thread Cert.InProjSampleReferenceIdeal.nD Cert.InProjSampleReferenceIdeal.τ).loc Cert.InProjSampleReferenceIdeal.main_arg1) = m ((c.tc : Thread Cert.InProjSampleReferenceIdeal.nD Cert.InProjSampleReferenceIdeal.τ).loc Cert.InProjSampleReferenceIdeal.main_arg1)
      ∧ r.2.mem ((c.tc : Thread Cert.InProjSampleReferenceIdeal.nD Cert.InProjSampleReferenceIdeal.τ).loc Cert.InProjSampleReferenceIdeal.main_arg2) = m ((c.tc : Thread Cert.InProjSampleReferenceIdeal.nD Cert.InProjSampleReferenceIdeal.τ).loc Cert.InProjSampleReferenceIdeal.main_arg2))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2))
      ∧ r.2.sem = fun _ => 0)

def quiescent_OutSampleReferenceIdeal [hOutSampleReferenceIdeal : Cert.OutSampleReferenceIdeal.Facts] : Prop :=
  ∀ (m : (ℓ : Loc Cert.OutSampleReferenceIdeal.nD Cert.OutSampleReferenceIdeal.τ Cert.OutSampleReferenceIdeal.sig) → Buf (Elt Ideal) ℓ) (g : Dev Cert.OutSampleReferenceIdeal.nD → PrngReg), Pre_OutSampleReferenceIdeal m →
    θ_run (Cert.OutSampleReferenceIdeal.defs (F := Ideal)) (onTc (τ := Cert.OutSampleReferenceIdeal.τ) (Cert.OutSampleReferenceIdeal.main (F := Ideal))) ⟨m, fun _ => 0, g⟩ (fun r => (∀ c : Dev Cert.OutSampleReferenceIdeal.nD,
      r.2.mem ((c.tc : Thread Cert.OutSampleReferenceIdeal.nD Cert.OutSampleReferenceIdeal.τ).loc Cert.OutSampleReferenceIdeal.main_arg0) = m ((c.tc : Thread Cert.OutSampleReferenceIdeal.nD Cert.OutSampleReferenceIdeal.τ).loc Cert.OutSampleReferenceIdeal.main_arg0)
      ∧ r.2.mem ((c.tc : Thread Cert.OutSampleReferenceIdeal.nD Cert.OutSampleReferenceIdeal.τ).loc Cert.OutSampleReferenceIdeal.main_arg1) = m ((c.tc : Thread Cert.OutSampleReferenceIdeal.nD Cert.OutSampleReferenceIdeal.τ).loc Cert.OutSampleReferenceIdeal.main_arg1)
      ∧ r.2.mem ((c.tc : Thread Cert.OutSampleReferenceIdeal.nD Cert.OutSampleReferenceIdeal.τ).loc Cert.OutSampleReferenceIdeal.main_arg2) = m ((c.tc : Thread Cert.OutSampleReferenceIdeal.nD Cert.OutSampleReferenceIdeal.τ).loc Cert.OutSampleReferenceIdeal.main_arg2))
      ∧ r.2.sem = fun _ => 0)

def preserves_Kernel_KernelIdeal : Prop :=
  True

def algebraic_KernelIdeal_ReferenceIdeal_pre_scale_normal [hKernelIdeal : Cert.KernelIdeal.Facts] [hReferenceIdeal : Cert.ReferenceIdeal.Facts] [hPre_scale_normal : Cert.Pre_scale_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v23) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Kvq_KvqIdeal : Prop :=
  True

def algebraic_KvqIdeal_KvqReferenceIdeal [hKvqIdeal : Cert.KvqIdeal.Facts] [hKvqReferenceIdeal : Cert.KvqReferenceIdeal.Facts] : Prop :=
  ∀ (m : (ℓ : Loc Cert.KvqIdeal.nD Cert.KvqIdeal.τ Cert.KvqIdeal.sig) → Buf (Elt Ideal) ℓ) (g : Dev Cert.KvqIdeal.nD → PrngReg)
    (m' : (ℓ : Loc Cert.KvqReferenceIdeal.nD Cert.KvqReferenceIdeal.τ Cert.KvqReferenceIdeal.sig) → Buf (Elt Ideal) ℓ) (g' : Dev Cert.KvqReferenceIdeal.nD → PrngReg), Pre_KvqIdeal m →
    (∀ c : Dev Cert.KvqIdeal.nD,
      m' ((c.tc : Thread Cert.KvqReferenceIdeal.nD Cert.KvqReferenceIdeal.τ).loc Cert.KvqReferenceIdeal.main_arg0) = m ((c.tc : Thread Cert.KvqIdeal.nD Cert.KvqIdeal.τ).loc Cert.KvqIdeal.main_arg0)
      ∧ m' ((c.tc : Thread Cert.KvqReferenceIdeal.nD Cert.KvqReferenceIdeal.τ).loc Cert.KvqReferenceIdeal.main_arg1) = m ((c.tc : Thread Cert.KvqIdeal.nD Cert.KvqIdeal.τ).loc Cert.KvqIdeal.main_arg1)
      ∧ m' ((c.tc : Thread Cert.KvqReferenceIdeal.nD Cert.KvqReferenceIdeal.τ).loc Cert.KvqReferenceIdeal.main_arg2) = m ((c.tc : Thread Cert.KvqIdeal.nD Cert.KvqIdeal.τ).loc Cert.KvqIdeal.main_arg2)
      ∧ m' ((c.tc : Thread Cert.KvqReferenceIdeal.nD Cert.KvqReferenceIdeal.τ).loc Cert.KvqReferenceIdeal.main_arg3) = m ((c.tc : Thread Cert.KvqIdeal.nD Cert.KvqIdeal.τ).loc Cert.KvqIdeal.main_arg3)
      ∧ m' ((c.tc : Thread Cert.KvqReferenceIdeal.nD Cert.KvqReferenceIdeal.τ).loc Cert.KvqReferenceIdeal.main_arg4) = m ((c.tc : Thread Cert.KvqIdeal.nD Cert.KvqIdeal.τ).loc Cert.KvqIdeal.main_arg4)
      ∧ m' ((c.tc : Thread Cert.KvqReferenceIdeal.nD Cert.KvqReferenceIdeal.τ).loc Cert.KvqReferenceIdeal.main_arg5) = m ((c.tc : Thread Cert.KvqIdeal.nD Cert.KvqIdeal.τ).loc Cert.KvqIdeal.main_arg5)
      ∧ m' ((c.tc : Thread Cert.KvqReferenceIdeal.nD Cert.KvqReferenceIdeal.τ).loc Cert.KvqReferenceIdeal.main_arg6) = m ((c.tc : Thread Cert.KvqIdeal.nD Cert.KvqIdeal.τ).loc Cert.KvqIdeal.main_arg6)) →
    ∃ (v0 : (c : Dev Cert.KvqIdeal.nD) → Buf (Elt Ideal) ((c.tc : Thread Cert.KvqIdeal.nD Cert.KvqIdeal.τ).loc Cert.KvqIdeal.main_v9_0)) (v1 : (c : Dev Cert.KvqIdeal.nD) → Buf (Elt Ideal) ((c.tc : Thread Cert.KvqIdeal.nD Cert.KvqIdeal.τ).loc Cert.KvqIdeal.main_v9_1)) (v2 : (c : Dev Cert.KvqIdeal.nD) → Buf (Elt Ideal) ((c.tc : Thread Cert.KvqIdeal.nD Cert.KvqIdeal.τ).loc Cert.KvqIdeal.main_v9_2)) (v3 : (c : Dev Cert.KvqIdeal.nD) → Buf (Elt Ideal) ((c.tc : Thread Cert.KvqIdeal.nD Cert.KvqIdeal.τ).loc Cert.KvqIdeal.main_v9_3)) (v4 : (c : Dev Cert.KvqIdeal.nD) → Buf (Elt Ideal) ((c.tc : Thread Cert.KvqIdeal.nD Cert.KvqIdeal.τ).loc Cert.KvqIdeal.main_v9_4)),
      θ_run (Cert.KvqIdeal.defs (F := Ideal)) (onTc (τ := Cert.KvqIdeal.τ) (Cert.KvqIdeal.main (F := Ideal))) ⟨m, fun _ => 0, g⟩ (fun r => ∀ c : Dev Cert.KvqIdeal.nD,
          r.2.mem ((c.tc : Thread Cert.KvqIdeal.nD Cert.KvqIdeal.τ).loc Cert.KvqIdeal.main_v9_0) = v0 c
          ∧ r.2.mem ((c.tc : Thread Cert.KvqIdeal.nD Cert.KvqIdeal.τ).loc Cert.KvqIdeal.main_v9_1) = v1 c
          ∧ r.2.mem ((c.tc : Thread Cert.KvqIdeal.nD Cert.KvqIdeal.τ).loc Cert.KvqIdeal.main_v9_2) = v2 c
          ∧ r.2.mem ((c.tc : Thread Cert.KvqIdeal.nD Cert.KvqIdeal.τ).loc Cert.KvqIdeal.main_v9_3) = v3 c
          ∧ r.2.mem ((c.tc : Thread Cert.KvqIdeal.nD Cert.KvqIdeal.τ).loc Cert.KvqIdeal.main_v9_4) = v4 c
          ∧ r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
          ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
          ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
          ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
          ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4)
          ∧ r.2.mem ((c.tc : Thread Cert.KvqIdeal.nD Cert.KvqIdeal.τ).loc Cert.KvqIdeal.main_arg5) = m ((c.tc : Thread Cert.KvqIdeal.nD Cert.KvqIdeal.τ).loc Cert.KvqIdeal.main_arg5)
          ∧ r.2.mem ((c.tc : Thread Cert.KvqIdeal.nD Cert.KvqIdeal.τ).loc Cert.KvqIdeal.main_arg6) = m ((c.tc : Thread Cert.KvqIdeal.nD Cert.KvqIdeal.τ).loc Cert.KvqIdeal.main_arg6))
      ∧ θ_run (Cert.KvqReferenceIdeal.defs (F := Ideal)) (onTc (τ := Cert.KvqReferenceIdeal.τ) (Cert.KvqReferenceIdeal.main (F := Ideal))) ⟨m', fun _ => 0, g'⟩ (fun r => ∀ c : Dev Cert.KvqReferenceIdeal.nD,
          r.2.mem ((c.tc : Thread Cert.KvqReferenceIdeal.nD Cert.KvqReferenceIdeal.τ).loc Cert.KvqReferenceIdeal.main_v63) = v0 c
          ∧ r.2.mem ((c.tc : Thread Cert.KvqReferenceIdeal.nD Cert.KvqReferenceIdeal.τ).loc Cert.KvqReferenceIdeal.main_v64) = v1 c
          ∧ r.2.mem ((c.tc : Thread Cert.KvqReferenceIdeal.nD Cert.KvqReferenceIdeal.τ).loc Cert.KvqReferenceIdeal.main_v66) = v2 c
          ∧ r.2.mem ((c.tc : Thread Cert.KvqReferenceIdeal.nD Cert.KvqReferenceIdeal.τ).loc Cert.KvqReferenceIdeal.main_v68) = v3 c
          ∧ r.2.mem ((c.tc : Thread Cert.KvqReferenceIdeal.nD Cert.KvqReferenceIdeal.τ).loc Cert.KvqReferenceIdeal.main_v70) = v4 c
          ∧ r.2.mem ((c.tc : Thread Cert.KvqReferenceIdeal.nD Cert.KvqReferenceIdeal.τ).loc Cert.KvqReferenceIdeal.main_arg0) = m' ((c.tc : Thread Cert.KvqReferenceIdeal.nD Cert.KvqReferenceIdeal.τ).loc Cert.KvqReferenceIdeal.main_arg0)
          ∧ r.2.mem ((c.tc : Thread Cert.KvqReferenceIdeal.nD Cert.KvqReferenceIdeal.τ).loc Cert.KvqReferenceIdeal.main_arg1) = m' ((c.tc : Thread Cert.KvqReferenceIdeal.nD Cert.KvqReferenceIdeal.τ).loc Cert.KvqReferenceIdeal.main_arg1)
          ∧ r.2.mem ((c.tc : Thread Cert.KvqReferenceIdeal.nD Cert.KvqReferenceIdeal.τ).loc Cert.KvqReferenceIdeal.main_arg2) = m' ((c.tc : Thread Cert.KvqReferenceIdeal.nD Cert.KvqReferenceIdeal.τ).loc Cert.KvqReferenceIdeal.main_arg2)
          ∧ r.2.mem ((c.tc : Thread Cert.KvqReferenceIdeal.nD Cert.KvqReferenceIdeal.τ).loc Cert.KvqReferenceIdeal.main_arg3) = m' ((c.tc : Thread Cert.KvqReferenceIdeal.nD Cert.KvqReferenceIdeal.τ).loc Cert.KvqReferenceIdeal.main_arg3)
          ∧ r.2.mem ((c.tc : Thread Cert.KvqReferenceIdeal.nD Cert.KvqReferenceIdeal.τ).loc Cert.KvqReferenceIdeal.main_arg4) = m' ((c.tc : Thread Cert.KvqReferenceIdeal.nD Cert.KvqReferenceIdeal.τ).loc Cert.KvqReferenceIdeal.main_arg4)
          ∧ r.2.mem ((c.tc : Thread Cert.KvqReferenceIdeal.nD Cert.KvqReferenceIdeal.τ).loc Cert.KvqReferenceIdeal.main_arg5) = m' ((c.tc : Thread Cert.KvqReferenceIdeal.nD Cert.KvqReferenceIdeal.τ).loc Cert.KvqReferenceIdeal.main_arg5)
          ∧ r.2.mem ((c.tc : Thread Cert.KvqReferenceIdeal.nD Cert.KvqReferenceIdeal.τ).loc Cert.KvqReferenceIdeal.main_arg6) = m' ((c.tc : Thread Cert.KvqReferenceIdeal.nD Cert.KvqReferenceIdeal.τ).loc Cert.KvqReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v29) = v0 c
          ∧ r.2.mem ((c.tc : Thread Cert.InProjReferenceIdeal.nD Cert.InProjReferenceIdeal.τ).loc Cert.InProjReferenceIdeal.main_v30) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_MlpSample_MlpSampleIdeal : Prop :=
  True

def algebraic_MlpSampleIdeal_MlpSampleReferenceIdeal [hMlpSampleIdeal : Cert.MlpSampleIdeal.Facts] [hMlpSampleReferenceIdeal : Cert.MlpSampleReferenceIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleReferenceIdeal.nD Cert.MlpSampleReferenceIdeal.τ Cert.MlpSampleReferenceIdeal.sig) → Buf (Elt Ideal) ℓ) (g' : Dev Cert.MlpSampleReferenceIdeal.nD → PrngReg), Pre_MlpSampleIdeal m →
    (∀ c : Dev Cert.MlpSampleIdeal.nD,
      m' ((c.tc : Thread Cert.MlpSampleReferenceIdeal.nD Cert.MlpSampleReferenceIdeal.τ).loc Cert.MlpSampleReferenceIdeal.main_arg0) = m ((c.tc : Thread Cert.MlpSampleIdeal.nD Cert.MlpSampleIdeal.τ).loc Cert.MlpSampleIdeal.main_arg0)
      ∧ m' ((c.tc : Thread Cert.MlpSampleReferenceIdeal.nD Cert.MlpSampleReferenceIdeal.τ).loc Cert.MlpSampleReferenceIdeal.main_arg1) = m ((c.tc : Thread Cert.MlpSampleIdeal.nD Cert.MlpSampleIdeal.τ).loc Cert.MlpSampleIdeal.main_arg1)
      ∧ m' ((c.tc : Thread Cert.MlpSampleReferenceIdeal.nD Cert.MlpSampleReferenceIdeal.τ).loc Cert.MlpSampleReferenceIdeal.main_arg2) = m ((c.tc : Thread Cert.MlpSampleIdeal.nD Cert.MlpSampleIdeal.τ).loc Cert.MlpSampleIdeal.main_arg2)
      ∧ m' ((c.tc : Thread Cert.MlpSampleReferenceIdeal.nD Cert.MlpSampleReferenceIdeal.τ).loc Cert.MlpSampleReferenceIdeal.main_arg3) = m ((c.tc : Thread Cert.MlpSampleIdeal.nD Cert.MlpSampleIdeal.τ).loc Cert.MlpSampleIdeal.main_arg3)) →
    ∃ (v0 : (c : Dev Cert.MlpSampleIdeal.nD) → Buf (Elt Ideal) ((c.tc : Thread Cert.MlpSampleIdeal.nD Cert.MlpSampleIdeal.τ).loc Cert.MlpSampleIdeal.main_v5)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v5) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3))
      ∧ θ_run (Cert.MlpSampleReferenceIdeal.defs (F := Ideal)) (onTc (τ := Cert.MlpSampleReferenceIdeal.τ) (Cert.MlpSampleReferenceIdeal.main (F := Ideal))) ⟨m', fun _ => 0, g'⟩ (fun r => ∀ c : Dev Cert.MlpSampleReferenceIdeal.nD,
          r.2.mem ((c.tc : Thread Cert.MlpSampleReferenceIdeal.nD Cert.MlpSampleReferenceIdeal.τ).loc Cert.MlpSampleReferenceIdeal.main_v23) = v0 c
          ∧ r.2.mem ((c.tc : Thread Cert.MlpSampleReferenceIdeal.nD Cert.MlpSampleReferenceIdeal.τ).loc Cert.MlpSampleReferenceIdeal.main_arg0) = m' ((c.tc : Thread Cert.MlpSampleReferenceIdeal.nD Cert.MlpSampleReferenceIdeal.τ).loc Cert.MlpSampleReferenceIdeal.main_arg0)
          ∧ r.2.mem ((c.tc : Thread Cert.MlpSampleReferenceIdeal.nD Cert.MlpSampleReferenceIdeal.τ).loc Cert.MlpSampleReferenceIdeal.main_arg1) = m' ((c.tc : Thread Cert.MlpSampleReferenceIdeal.nD Cert.MlpSampleReferenceIdeal.τ).loc Cert.MlpSampleReferenceIdeal.main_arg1)
          ∧ r.2.mem ((c.tc : Thread Cert.MlpSampleReferenceIdeal.nD Cert.MlpSampleReferenceIdeal.τ).loc Cert.MlpSampleReferenceIdeal.main_arg2) = m' ((c.tc : Thread Cert.MlpSampleReferenceIdeal.nD Cert.MlpSampleReferenceIdeal.τ).loc Cert.MlpSampleReferenceIdeal.main_arg2)
          ∧ r.2.mem ((c.tc : Thread Cert.MlpSampleReferenceIdeal.nD Cert.MlpSampleReferenceIdeal.τ).loc Cert.MlpSampleReferenceIdeal.main_arg3) = m' ((c.tc : Thread Cert.MlpSampleReferenceIdeal.nD Cert.MlpSampleReferenceIdeal.τ).loc Cert.MlpSampleReferenceIdeal.main_arg3))

def preserves_KvqSample_KvqSampleIdeal : Prop :=
  True

def algebraic_KvqSampleIdeal_KvqSampleReferenceIdeal [hKvqSampleIdeal : Cert.KvqSampleIdeal.Facts] [hKvqSampleReferenceIdeal : Cert.KvqSampleReferenceIdeal.Facts] : Prop :=
  ∀ (m : (ℓ : Loc Cert.KvqSampleIdeal.nD Cert.KvqSampleIdeal.τ Cert.KvqSampleIdeal.sig) → Buf (Elt Ideal) ℓ) (g : Dev Cert.KvqSampleIdeal.nD → PrngReg)
    (m' : (ℓ : Loc Cert.KvqSampleReferenceIdeal.nD Cert.KvqSampleReferenceIdeal.τ Cert.KvqSampleReferenceIdeal.sig) → Buf (Elt Ideal) ℓ) (g' : Dev Cert.KvqSampleReferenceIdeal.nD → PrngReg), Pre_KvqSampleIdeal m →
    (∀ c : Dev Cert.KvqSampleIdeal.nD,
      m' ((c.tc : Thread Cert.KvqSampleReferenceIdeal.nD Cert.KvqSampleReferenceIdeal.τ).loc Cert.KvqSampleReferenceIdeal.main_arg0) = m ((c.tc : Thread Cert.KvqSampleIdeal.nD Cert.KvqSampleIdeal.τ).loc Cert.KvqSampleIdeal.main_arg0)
      ∧ m' ((c.tc : Thread Cert.KvqSampleReferenceIdeal.nD Cert.KvqSampleReferenceIdeal.τ).loc Cert.KvqSampleReferenceIdeal.main_arg1) = m ((c.tc : Thread Cert.KvqSampleIdeal.nD Cert.KvqSampleIdeal.τ).loc Cert.KvqSampleIdeal.main_arg1)
      ∧ m' ((c.tc : Thread Cert.KvqSampleReferenceIdeal.nD Cert.KvqSampleReferenceIdeal.τ).loc Cert.KvqSampleReferenceIdeal.main_arg2) = m ((c.tc : Thread Cert.KvqSampleIdeal.nD Cert.KvqSampleIdeal.τ).loc Cert.KvqSampleIdeal.main_arg2)
      ∧ m' ((c.tc : Thread Cert.KvqSampleReferenceIdeal.nD Cert.KvqSampleReferenceIdeal.τ).loc Cert.KvqSampleReferenceIdeal.main_arg3) = m ((c.tc : Thread Cert.KvqSampleIdeal.nD Cert.KvqSampleIdeal.τ).loc Cert.KvqSampleIdeal.main_arg3)
      ∧ m' ((c.tc : Thread Cert.KvqSampleReferenceIdeal.nD Cert.KvqSampleReferenceIdeal.τ).loc Cert.KvqSampleReferenceIdeal.main_arg4) = m ((c.tc : Thread Cert.KvqSampleIdeal.nD Cert.KvqSampleIdeal.τ).loc Cert.KvqSampleIdeal.main_arg4)
      ∧ m' ((c.tc : Thread Cert.KvqSampleReferenceIdeal.nD Cert.KvqSampleReferenceIdeal.τ).loc Cert.KvqSampleReferenceIdeal.main_arg5) = m ((c.tc : Thread Cert.KvqSampleIdeal.nD Cert.KvqSampleIdeal.τ).loc Cert.KvqSampleIdeal.main_arg5)
      ∧ m' ((c.tc : Thread Cert.KvqSampleReferenceIdeal.nD Cert.KvqSampleReferenceIdeal.τ).loc Cert.KvqSampleReferenceIdeal.main_arg6) = m ((c.tc : Thread Cert.KvqSampleIdeal.nD Cert.KvqSampleIdeal.τ).loc Cert.KvqSampleIdeal.main_arg6)) →
    ∃ (v0 : (c : Dev Cert.KvqSampleIdeal.nD) → Buf (Elt Ideal) ((c.tc : Thread Cert.KvqSampleIdeal.nD Cert.KvqSampleIdeal.τ).loc Cert.KvqSampleIdeal.main_v9_0)) (v1 : (c : Dev Cert.KvqSampleIdeal.nD) → Buf (Elt Ideal) ((c.tc : Thread Cert.KvqSampleIdeal.nD Cert.KvqSampleIdeal.τ).loc Cert.KvqSampleIdeal.main_v9_1)) (v2 : (c : Dev Cert.KvqSampleIdeal.nD) → Buf (Elt Ideal) ((c.tc : Thread Cert.KvqSampleIdeal.nD Cert.KvqSampleIdeal.τ).loc Cert.KvqSampleIdeal.main_v9_2)) (v3 : (c : Dev Cert.KvqSampleIdeal.nD) → Buf (Elt Ideal) ((c.tc : Thread Cert.KvqSampleIdeal.nD Cert.KvqSampleIdeal.τ).loc Cert.KvqSampleIdeal.main_v9_3)) (v4 : (c : Dev Cert.KvqSampleIdeal.nD) → Buf (Elt Ideal) ((c.tc : Thread Cert.KvqSampleIdeal.nD Cert.KvqSampleIdeal.τ).loc Cert.KvqSampleIdeal.main_v9_4)),
      θ_run (Cert.KvqSampleIdeal.defs (F := Ideal)) (onTc (τ := Cert.KvqSampleIdeal.τ) (Cert.KvqSampleIdeal.main (F := Ideal))) ⟨m, fun _ => 0, g⟩ (fun r => ∀ c : Dev Cert.KvqSampleIdeal.nD,
          r.2.mem ((c.tc : Thread Cert.KvqSampleIdeal.nD Cert.KvqSampleIdeal.τ).loc Cert.KvqSampleIdeal.main_v9_0) = v0 c
          ∧ r.2.mem ((c.tc : Thread Cert.KvqSampleIdeal.nD Cert.KvqSampleIdeal.τ).loc Cert.KvqSampleIdeal.main_v9_1) = v1 c
          ∧ r.2.mem ((c.tc : Thread Cert.KvqSampleIdeal.nD Cert.KvqSampleIdeal.τ).loc Cert.KvqSampleIdeal.main_v9_2) = v2 c
          ∧ r.2.mem ((c.tc : Thread Cert.KvqSampleIdeal.nD Cert.KvqSampleIdeal.τ).loc Cert.KvqSampleIdeal.main_v9_3) = v3 c
          ∧ r.2.mem ((c.tc : Thread Cert.KvqSampleIdeal.nD Cert.KvqSampleIdeal.τ).loc Cert.KvqSampleIdeal.main_v9_4) = v4 c
          ∧ r.2.mem ((c.tc : Thread Cert.KvqSampleIdeal.nD Cert.KvqSampleIdeal.τ).loc Cert.KvqSampleIdeal.main_arg0) = m ((c.tc : Thread Cert.KvqSampleIdeal.nD Cert.KvqSampleIdeal.τ).loc Cert.KvqSampleIdeal.main_arg0)
          ∧ r.2.mem ((c.tc : Thread Cert.KvqSampleIdeal.nD Cert.KvqSampleIdeal.τ).loc Cert.KvqSampleIdeal.main_arg1) = m ((c.tc : Thread Cert.KvqSampleIdeal.nD Cert.KvqSampleIdeal.τ).loc Cert.KvqSampleIdeal.main_arg1)
          ∧ r.2.mem ((c.tc : Thread Cert.KvqSampleIdeal.nD Cert.KvqSampleIdeal.τ).loc Cert.KvqSampleIdeal.main_arg2) = m ((c.tc : Thread Cert.KvqSampleIdeal.nD Cert.KvqSampleIdeal.τ).loc Cert.KvqSampleIdeal.main_arg2)
          ∧ r.2.mem ((c.tc : Thread Cert.KvqSampleIdeal.nD Cert.KvqSampleIdeal.τ).loc Cert.KvqSampleIdeal.main_arg3) = m ((c.tc : Thread Cert.KvqSampleIdeal.nD Cert.KvqSampleIdeal.τ).loc Cert.KvqSampleIdeal.main_arg3)
          ∧ r.2.mem ((c.tc : Thread Cert.KvqSampleIdeal.nD Cert.KvqSampleIdeal.τ).loc Cert.KvqSampleIdeal.main_arg4) = m ((c.tc : Thread Cert.KvqSampleIdeal.nD Cert.KvqSampleIdeal.τ).loc Cert.KvqSampleIdeal.main_arg4)
          ∧ r.2.mem ((c.tc : Thread Cert.KvqSampleIdeal.nD Cert.KvqSampleIdeal.τ).loc Cert.KvqSampleIdeal.main_arg5) = m ((c.tc : Thread Cert.KvqSampleIdeal.nD Cert.KvqSampleIdeal.τ).loc Cert.KvqSampleIdeal.main_arg5)
          ∧ r.2.mem ((c.tc : Thread Cert.KvqSampleIdeal.nD Cert.KvqSampleIdeal.τ).loc Cert.KvqSampleIdeal.main_arg6) = m ((c.tc : Thread Cert.KvqSampleIdeal.nD Cert.KvqSampleIdeal.τ).loc Cert.KvqSampleIdeal.main_arg6))
      ∧ θ_run (Cert.KvqSampleReferenceIdeal.defs (F := Ideal)) (onTc (τ := Cert.KvqSampleReferenceIdeal.τ) (Cert.KvqSampleReferenceIdeal.main (F := Ideal))) ⟨m', fun _ => 0, g'⟩ (fun r => ∀ c : Dev Cert.KvqSampleReferenceIdeal.nD,
          r.2.mem ((c.tc : Thread Cert.KvqSampleReferenceIdeal.nD Cert.KvqSampleReferenceIdeal.τ).loc Cert.KvqSampleReferenceIdeal.main_v63) = v0 c
          ∧ r.2.mem ((c.tc : Thread Cert.KvqSampleReferenceIdeal.nD Cert.KvqSampleReferenceIdeal.τ).loc Cert.KvqSampleReferenceIdeal.main_v64) = v1 c
          ∧ r.2.mem ((c.tc : Thread Cert.KvqSampleReferenceIdeal.nD Cert.KvqSampleReferenceIdeal.τ).loc Cert.KvqSampleReferenceIdeal.main_v66) = v2 c
          ∧ r.2.mem ((c.tc : Thread Cert.KvqSampleReferenceIdeal.nD Cert.KvqSampleReferenceIdeal.τ).loc Cert.KvqSampleReferenceIdeal.main_v68) = v3 c
          ∧ r.2.mem ((c.tc : Thread Cert.KvqSampleReferenceIdeal.nD Cert.KvqSampleReferenceIdeal.τ).loc Cert.KvqSampleReferenceIdeal.main_v70) = v4 c
          ∧ r.2.mem ((c.tc : Thread Cert.KvqSampleReferenceIdeal.nD Cert.KvqSampleReferenceIdeal.τ).loc Cert.KvqSampleReferenceIdeal.main_arg0) = m' ((c.tc : Thread Cert.KvqSampleReferenceIdeal.nD Cert.KvqSampleReferenceIdeal.τ).loc Cert.KvqSampleReferenceIdeal.main_arg0)
          ∧ r.2.mem ((c.tc : Thread Cert.KvqSampleReferenceIdeal.nD Cert.KvqSampleReferenceIdeal.τ).loc Cert.KvqSampleReferenceIdeal.main_arg1) = m' ((c.tc : Thread Cert.KvqSampleReferenceIdeal.nD Cert.KvqSampleReferenceIdeal.τ).loc Cert.KvqSampleReferenceIdeal.main_arg1)
          ∧ r.2.mem ((c.tc : Thread Cert.KvqSampleReferenceIdeal.nD Cert.KvqSampleReferenceIdeal.τ).loc Cert.KvqSampleReferenceIdeal.main_arg2) = m' ((c.tc : Thread Cert.KvqSampleReferenceIdeal.nD Cert.KvqSampleReferenceIdeal.τ).loc Cert.KvqSampleReferenceIdeal.main_arg2)
          ∧ r.2.mem ((c.tc : Thread Cert.KvqSampleReferenceIdeal.nD Cert.KvqSampleReferenceIdeal.τ).loc Cert.KvqSampleReferenceIdeal.main_arg3) = m' ((c.tc : Thread Cert.KvqSampleReferenceIdeal.nD Cert.KvqSampleReferenceIdeal.τ).loc Cert.KvqSampleReferenceIdeal.main_arg3)
          ∧ r.2.mem ((c.tc : Thread Cert.KvqSampleReferenceIdeal.nD Cert.KvqSampleReferenceIdeal.τ).loc Cert.KvqSampleReferenceIdeal.main_arg4) = m' ((c.tc : Thread Cert.KvqSampleReferenceIdeal.nD Cert.KvqSampleReferenceIdeal.τ).loc Cert.KvqSampleReferenceIdeal.main_arg4)
          ∧ r.2.mem ((c.tc : Thread Cert.KvqSampleReferenceIdeal.nD Cert.KvqSampleReferenceIdeal.τ).loc Cert.KvqSampleReferenceIdeal.main_arg5) = m' ((c.tc : Thread Cert.KvqSampleReferenceIdeal.nD Cert.KvqSampleReferenceIdeal.τ).loc Cert.KvqSampleReferenceIdeal.main_arg5)
          ∧ r.2.mem ((c.tc : Thread Cert.KvqSampleReferenceIdeal.nD Cert.KvqSampleReferenceIdeal.τ).loc Cert.KvqSampleReferenceIdeal.main_arg6) = m' ((c.tc : Thread Cert.KvqSampleReferenceIdeal.nD Cert.KvqSampleReferenceIdeal.τ).loc Cert.KvqSampleReferenceIdeal.main_arg6))

def preserves_InProjSample_InProjSampleIdeal : Prop :=
  True

def algebraic_InProjSampleIdeal_InProjSampleReferenceIdeal [hInProjSampleIdeal : Cert.InProjSampleIdeal.Facts] [hInProjSampleReferenceIdeal : Cert.InProjSampleReferenceIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleReferenceIdeal.nD Cert.InProjSampleReferenceIdeal.τ Cert.InProjSampleReferenceIdeal.sig) → Buf (Elt Ideal) ℓ) (g' : Dev Cert.InProjSampleReferenceIdeal.nD → PrngReg), Pre_InProjSampleIdeal m →
    (∀ c : Dev Cert.InProjSampleIdeal.nD,
      m' ((c.tc : Thread Cert.InProjSampleReferenceIdeal.nD Cert.InProjSampleReferenceIdeal.τ).loc Cert.InProjSampleReferenceIdeal.main_arg0) = m ((c.tc : Thread Cert.InProjSampleIdeal.nD Cert.InProjSampleIdeal.τ).loc Cert.InProjSampleIdeal.main_arg0)
      ∧ m' ((c.tc : Thread Cert.InProjSampleReferenceIdeal.nD Cert.InProjSampleReferenceIdeal.τ).loc Cert.InProjSampleReferenceIdeal.main_arg1) = m ((c.tc : Thread Cert.InProjSampleIdeal.nD Cert.InProjSampleIdeal.τ).loc Cert.InProjSampleIdeal.main_arg1)
      ∧ m' ((c.tc : Thread Cert.InProjSampleReferenceIdeal.nD Cert.InProjSampleReferenceIdeal.τ).loc Cert.InProjSampleReferenceIdeal.main_arg2) = m ((c.tc : Thread Cert.InProjSampleIdeal.nD Cert.InProjSampleIdeal.τ).loc Cert.InProjSampleIdeal.main_arg2)) →
    ∃ (v0 : (c : Dev Cert.InProjSampleIdeal.nD) → Buf (Elt Ideal) ((c.tc : Thread Cert.InProjSampleIdeal.nD Cert.InProjSampleIdeal.τ).loc Cert.InProjSampleIdeal.main_v4_0)) (v1 : (c : Dev Cert.InProjSampleIdeal.nD) → Buf (Elt Ideal) ((c.tc : Thread Cert.InProjSampleIdeal.nD Cert.InProjSampleIdeal.τ).loc Cert.InProjSampleIdeal.main_v4_1)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v4_0) = v0 c
          ∧ r.2.mem ((c.tc : Thread Cert.InProjSampleIdeal.nD Cert.InProjSampleIdeal.τ).loc Cert.InProjSampleIdeal.main_v4_1) = v1 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ θ_run (Cert.InProjSampleReferenceIdeal.defs (F := Ideal)) (onTc (τ := Cert.InProjSampleReferenceIdeal.τ) (Cert.InProjSampleReferenceIdeal.main (F := Ideal))) ⟨m', fun _ => 0, g'⟩ (fun r => ∀ c : Dev Cert.InProjSampleReferenceIdeal.nD,
          r.2.mem ((c.tc : Thread Cert.InProjSampleReferenceIdeal.nD Cert.InProjSampleReferenceIdeal.τ).loc Cert.InProjSampleReferenceIdeal.main_v29) = v0 c
          ∧ r.2.mem ((c.tc : Thread Cert.InProjSampleReferenceIdeal.nD Cert.InProjSampleReferenceIdeal.τ).loc Cert.InProjSampleReferenceIdeal.main_v30) = v1 c
          ∧ r.2.mem ((c.tc : Thread Cert.InProjSampleReferenceIdeal.nD Cert.InProjSampleReferenceIdeal.τ).loc Cert.InProjSampleReferenceIdeal.main_arg0) = m' ((c.tc : Thread Cert.InProjSampleReferenceIdeal.nD Cert.InProjSampleReferenceIdeal.τ).loc Cert.InProjSampleReferenceIdeal.main_arg0)
          ∧ r.2.mem ((c.tc : Thread Cert.InProjSampleReferenceIdeal.nD Cert.InProjSampleReferenceIdeal.τ).loc Cert.InProjSampleReferenceIdeal.main_arg1) = m' ((c.tc : Thread Cert.InProjSampleReferenceIdeal.nD Cert.InProjSampleReferenceIdeal.τ).loc Cert.InProjSampleReferenceIdeal.main_arg1)
          ∧ r.2.mem ((c.tc : Thread Cert.InProjSampleReferenceIdeal.nD Cert.InProjSampleReferenceIdeal.τ).loc Cert.InProjSampleReferenceIdeal.main_arg2) = m' ((c.tc : Thread Cert.InProjSampleReferenceIdeal.nD Cert.InProjSampleReferenceIdeal.τ).loc Cert.InProjSampleReferenceIdeal.main_arg2))

def preserves_OutSample_OutSampleIdeal : Prop :=
  True

def algebraic_OutSampleIdeal_OutSampleReferenceIdeal [hOutSampleIdeal : Cert.OutSampleIdeal.Facts] [hOutSampleReferenceIdeal : Cert.OutSampleReferenceIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleReferenceIdeal.nD Cert.OutSampleReferenceIdeal.τ Cert.OutSampleReferenceIdeal.sig) → Buf (Elt Ideal) ℓ) (g' : Dev Cert.OutSampleReferenceIdeal.nD → PrngReg), Pre_OutSampleIdeal m →
    (∀ c : Dev Cert.OutSampleIdeal.nD,
      m' ((c.tc : Thread Cert.OutSampleReferenceIdeal.nD Cert.OutSampleReferenceIdeal.τ).loc Cert.OutSampleReferenceIdeal.main_arg0) = m ((c.tc : Thread Cert.OutSampleIdeal.nD Cert.OutSampleIdeal.τ).loc Cert.OutSampleIdeal.main_arg0)
      ∧ m' ((c.tc : Thread Cert.OutSampleReferenceIdeal.nD Cert.OutSampleReferenceIdeal.τ).loc Cert.OutSampleReferenceIdeal.main_arg1) = m ((c.tc : Thread Cert.OutSampleIdeal.nD Cert.OutSampleIdeal.τ).loc Cert.OutSampleIdeal.main_arg1)
      ∧ m' ((c.tc : Thread Cert.OutSampleReferenceIdeal.nD Cert.OutSampleReferenceIdeal.τ).loc Cert.OutSampleReferenceIdeal.main_arg2) = m ((c.tc : Thread Cert.OutSampleIdeal.nD Cert.OutSampleIdeal.τ).loc Cert.OutSampleIdeal.main_arg2)) →
    ∃ (v0 : (c : Dev Cert.OutSampleIdeal.nD) → Buf (Elt Ideal) ((c.tc : Thread Cert.OutSampleIdeal.nD Cert.OutSampleIdeal.τ).loc Cert.OutSampleIdeal.main_v2)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v2) = v0 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2))
      ∧ θ_run (Cert.OutSampleReferenceIdeal.defs (F := Ideal)) (onTc (τ := Cert.OutSampleReferenceIdeal.τ) (Cert.OutSampleReferenceIdeal.main (F := Ideal))) ⟨m', fun _ => 0, g'⟩ (fun r => ∀ c : Dev Cert.OutSampleReferenceIdeal.nD,
          r.2.mem ((c.tc : Thread Cert.OutSampleReferenceIdeal.nD Cert.OutSampleReferenceIdeal.τ).loc Cert.OutSampleReferenceIdeal.main_v3) = v0 c
          ∧ r.2.mem ((c.tc : Thread Cert.OutSampleReferenceIdeal.nD Cert.OutSampleReferenceIdeal.τ).loc Cert.OutSampleReferenceIdeal.main_arg0) = m' ((c.tc : Thread Cert.OutSampleReferenceIdeal.nD Cert.OutSampleReferenceIdeal.τ).loc Cert.OutSampleReferenceIdeal.main_arg0)
          ∧ r.2.mem ((c.tc : Thread Cert.OutSampleReferenceIdeal.nD Cert.OutSampleReferenceIdeal.τ).loc Cert.OutSampleReferenceIdeal.main_arg1) = m' ((c.tc : Thread Cert.OutSampleReferenceIdeal.nD Cert.OutSampleReferenceIdeal.τ).loc Cert.OutSampleReferenceIdeal.main_arg1)
          ∧ r.2.mem ((c.tc : Thread Cert.OutSampleReferenceIdeal.nD Cert.OutSampleReferenceIdeal.τ).loc Cert.OutSampleReferenceIdeal.main_arg2) = m' ((c.tc : Thread Cert.OutSampleReferenceIdeal.nD Cert.OutSampleReferenceIdeal.τ).loc Cert.OutSampleReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hKvq : Cert.Kvq.Facts) (hKvqIdeal : Cert.KvqIdeal.Facts) (hKvqReferenceIdeal : Cert.KvqReferenceIdeal.Facts) (hInProj : Cert.InProj.Facts) (hInProjIdeal : Cert.InProjIdeal.Facts) (hInProjReferenceIdeal : Cert.InProjReferenceIdeal.Facts) (hOut : Cert.Out.Facts) (hOutIdeal : Cert.OutIdeal.Facts) (hOutReferenceIdeal : Cert.OutReferenceIdeal.Facts) (hMlpSample : Cert.MlpSample.Facts) (hMlpSampleIdeal : Cert.MlpSampleIdeal.Facts) (hMlpSampleReferenceIdeal : Cert.MlpSampleReferenceIdeal.Facts) (hKvqSample : Cert.KvqSample.Facts) (hKvqSampleIdeal : Cert.KvqSampleIdeal.Facts) (hKvqSampleReferenceIdeal : Cert.KvqSampleReferenceIdeal.Facts) (hInProjSample : Cert.InProjSample.Facts) (hInProjSampleIdeal : Cert.InProjSampleIdeal.Facts) (hInProjSampleReferenceIdeal : Cert.InProjSampleReferenceIdeal.Facts) (hOutSample : Cert.OutSample.Facts) (hOutSampleIdeal : Cert.OutSampleIdeal.Facts) (hOutSampleReferenceIdeal : Cert.OutSampleReferenceIdeal.Facts) (hPre_scale_normal : Cert.Pre_scale_normal.Facts),
    quiescent_Kernel (hKernel := hKernel)
    ∧ quiescent_KernelIdeal (hKernelIdeal := hKernelIdeal)
    ∧ quiescent_KernelIdeal_pre_scale_normal (hKernelIdeal := hKernelIdeal) (hPre_scale_normal := hPre_scale_normal)
    ∧ quiescent_ReferenceIdeal (hReferenceIdeal := hReferenceIdeal)
    ∧ quiescent_ReferenceIdeal_pre_scale_normal (hReferenceIdeal := hReferenceIdeal) (hPre_scale_normal := hPre_scale_normal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Kvq (hKvq := hKvq)
    ∧ quiescent_KvqIdeal (hKvqIdeal := hKvqIdeal)
    ∧ quiescent_KvqReferenceIdeal (hKvqReferenceIdeal := hKvqReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Out (hOut := hOut)
    ∧ quiescent_OutIdeal (hOutIdeal := hOutIdeal)
    ∧ quiescent_OutReferenceIdeal (hOutReferenceIdeal := hOutReferenceIdeal)
    ∧ quiescent_MlpSample (hMlpSample := hMlpSample)
    ∧ quiescent_MlpSampleIdeal (hMlpSampleIdeal := hMlpSampleIdeal)
    ∧ quiescent_MlpSampleReferenceIdeal (hMlpSampleReferenceIdeal := hMlpSampleReferenceIdeal)
    ∧ quiescent_KvqSample (hKvqSample := hKvqSample)
    ∧ quiescent_KvqSampleIdeal (hKvqSampleIdeal := hKvqSampleIdeal)
    ∧ quiescent_KvqSampleReferenceIdeal (hKvqSampleReferenceIdeal := hKvqSampleReferenceIdeal)
    ∧ quiescent_InProjSample (hInProjSample := hInProjSample)
    ∧ quiescent_InProjSampleIdeal (hInProjSampleIdeal := hInProjSampleIdeal)
    ∧ quiescent_InProjSampleReferenceIdeal (hInProjSampleReferenceIdeal := hInProjSampleReferenceIdeal)
    ∧ quiescent_OutSample (hOutSample := hOutSample)
    ∧ quiescent_OutSampleIdeal (hOutSampleIdeal := hOutSampleIdeal)
    ∧ quiescent_OutSampleReferenceIdeal (hOutSampleReferenceIdeal := hOutSampleReferenceIdeal)
    ∧ preserves_Kernel_KernelIdeal
    ∧ algebraic_KernelIdeal_ReferenceIdeal_pre_scale_normal (hKernelIdeal := hKernelIdeal) (hReferenceIdeal := hReferenceIdeal) (hPre_scale_normal := hPre_scale_normal)
    ∧ preserves_Mlp_MlpIdeal
    ∧ algebraic_MlpIdeal_MlpReferenceIdeal (hMlpIdeal := hMlpIdeal) (hMlpReferenceIdeal := hMlpReferenceIdeal)
    ∧ preserves_Kvq_KvqIdeal
    ∧ algebraic_KvqIdeal_KvqReferenceIdeal (hKvqIdeal := hKvqIdeal) (hKvqReferenceIdeal := hKvqReferenceIdeal)
    ∧ preserves_InProj_InProjIdeal
    ∧ algebraic_InProjIdeal_InProjReferenceIdeal (hInProjIdeal := hInProjIdeal) (hInProjReferenceIdeal := hInProjReferenceIdeal)
    ∧ preserves_Out_OutIdeal
    ∧ algebraic_OutIdeal_OutReferenceIdeal (hOutIdeal := hOutIdeal) (hOutReferenceIdeal := hOutReferenceIdeal)
    ∧ preserves_MlpSample_MlpSampleIdeal
    ∧ algebraic_MlpSampleIdeal_MlpSampleReferenceIdeal (hMlpSampleIdeal := hMlpSampleIdeal) (hMlpSampleReferenceIdeal := hMlpSampleReferenceIdeal)
    ∧ preserves_KvqSample_KvqSampleIdeal
    ∧ algebraic_KvqSampleIdeal_KvqSampleReferenceIdeal (hKvqSampleIdeal := hKvqSampleIdeal) (hKvqSampleReferenceIdeal := hKvqSampleReferenceIdeal)
    ∧ preserves_InProjSample_InProjSampleIdeal
    ∧ algebraic_InProjSampleIdeal_InProjSampleReferenceIdeal (hInProjSampleIdeal := hInProjSampleIdeal) (hInProjSampleReferenceIdeal := hInProjSampleReferenceIdeal)
    ∧ preserves_OutSample_OutSampleIdeal
    ∧ algebraic_OutSampleIdeal_OutSampleReferenceIdeal (hOutSampleIdeal := hOutSampleIdeal) (hOutSampleReferenceIdeal := hOutSampleReferenceIdeal)
-- ==== Pre_scale_normal.lean ====
abbrev S16384x2048 : Shape := ⟨2, ![16384, 2048]⟩
abbrev S1x3x2048 : Shape := ⟨3, ![1, 3, 2048]⟩
abbrev S1x2048 : Shape := ⟨2, ![1, 2048]⟩
abbrev S1x4x2048 : Shape := ⟨3, ![1, 4, 2048]⟩
abbrev S1x16x128x128 : Shape := ⟨4, ![1, 16, 128, 128]⟩
abbrev S1x16384x2048 : Shape := ⟨3, ![1, 16384, 2048]⟩
abbrev S1x16387x2048 : Shape := ⟨3, ![1, 16387, 2048]⟩
abbrev S4x2048 : Shape := ⟨2, ![4, 2048]⟩
abbrev S2048 : Shape := ⟨1, ![2048]⟩
abbrev S1x1x2048 : Shape := ⟨3, ![1, 1, 2048]⟩
abbrev S16x128x128 : Shape := ⟨3, ![16, 128, 128]⟩
abbrev S1x16384x16x128 : Shape := ⟨4, ![1, 16384, 16, 128]⟩
abbrev S16x128x1x16384 : Shape := ⟨4, ![16, 128, 1, 16384]⟩
abbrev S_ : Shape := ⟨0, ![]⟩

class Facts : Prop where
  shapeCasts_S16384x2048_S1x16384x2048 : S16384x2048.ShapeCasts S1x16384x2048
  concatenates_S1x3x2048_S1x16384x2048_S1x16387x2048_d1 : Shape.Concatenates [S1x3x2048, S1x16384x2048] S1x16387x2048 1
  shapeCasts_S1x4x2048_S4x2048 : S1x4x2048.ShapeCasts S4x2048
  shapeCasts_S1x2048_S2048 : S1x2048.ShapeCasts S2048
  slices_S1x16387x2048_S1x16384x2048_0_0_0 : S1x16387x2048.Slices ![0, 0, 0] S1x16384x2048
  slices_S4x2048_S1x2048_0_0 : S4x2048.Slices ![0, 0] S1x2048
  bcast_S2048_S1x1x2048_2 : S2048.BroadcastsInDim S1x1x2048 (![2] : Fin 1 → Fin S1x1x2048.rank)
  bcast_S1x1x2048_S1x16384x2048_0_1_2 : S1x1x2048.BroadcastsInDim S1x16384x2048 (![0, 1, 2] : Fin 3 → Fin S1x16384x2048.rank)
  slices_S1x16387x2048_S1x16384x2048_0_1_0 : S1x16387x2048.Slices ![0, 1, 0] S1x16384x2048
  slices_S4x2048_S1x2048_1_0 : S4x2048.Slices ![1, 0] S1x2048
  slices_S1x16387x2048_S1x16384x2048_0_2_0 : S1x16387x2048.Slices ![0, 2, 0] S1x16384x2048
  slices_S4x2048_S1x2048_2_0 : S4x2048.Slices ![2, 0] S1x2048
  slices_S1x16387x2048_S1x16384x2048_0_3_0 : S1x16387x2048.Slices ![0, 3, 0] S1x16384x2048
  slices_S4x2048_S1x2048_3_0 : S4x2048.Slices ![3, 0] S1x2048
  shapeCasts_S1x16x128x128_S16x128x128 : S1x16x128x128.ShapeCasts S16x128x128
  shapeCasts_S1x16384x2048_S1x16384x16x128 : S1x16384x2048.ShapeCasts S1x16384x16x128
  transposes_S16x128x1x16384_S1x16384x16x128_2_3_0_1 : S16x128x1x16384.Transposes [2, 3, 0, 1] S1x16384x16x128
  shapeCasts_S1x16384x16x128_S1x16384x2048 : S1x16384x16x128.ShapeCasts S1x16384x2048
  bcast_S_S1x16384x2048 : S_.BroadcastsInDim S1x16384x2048 (![] : Fin 0 → Fin S1x16384x2048.rank)
  bcast_S_S2048 : S_.BroadcastsInDim S2048 (![] : Fin 0 → Fin S2048.rank)
  reducesTo_S1x16384x2048_S_d0_1_2 : S1x16384x2048.ReducesTo [0, 1, 2] S_
  h_S_ : 0 < S_.numel
  dot_S16x128x128_S1x16384x16x128_S16x128x1x16384_1_3_2_01_0_2_wf : DotDims.WF S16x128x128 S1x16384x16x128 S16x128x1x16384 [1] [3] [2] [0, 1] [0] [2]

variable [Facts]

def dot_S16x128x128_S1x16384x16x128_S16x128x1x16384_1_3_2_01_0_2 : DotDims S16x128x128 S1x16384x16x128 S16x128x1x16384 where
  lhsContracting := [1]
  rhsContracting := [3]
  lhsNonContracting := [2]
  rhsNonContracting := [0, 1]
  lhsBatch := [0]
  rhsBatch := [2]
  wf := dot_S16x128x128_S1x16384x16x128_S16x128x1x16384_1_3_2_01_0_2_wf
def fn_softplus {F : FTy → Type} [FloatOps F] (arg0 : FVec F S2048 .f32) : FVec F S2048 .f32 :=
  let cst : FVec F S_ .f32 := constant S_ .f32 0x00000000#32
  let v0 : FVec F S2048 .f32 := broadcastInDim S2048 ![] bcast_S_S2048 cst
  let v1 : FVec F S2048 .f32 := maximumf arg0 v0
  let v2 : FVec F S2048 .f32 := broadcastInDim S2048 ![] bcast_S_S2048 cst
  let v3 : FVec F S2048 .f32 := subf arg0 v2
  let v4 : IVec S2048 1 := cmpf .une v3 v3
  let v5 : FVec F S2048 .f32 := broadcastInDim S2048 ![] bcast_S_S2048 cst
  let v6 : FVec F S2048 .f32 := addf arg0 v5
  let v7 : FVec F S2048 .f32 := Host.absf v3
  let v8 : FVec F S2048 .f32 := Host.negf v7
  let v9 : FVec F S2048 .f32 := Host.exp v8
  let v10 : FVec F S2048 .f32 := Host.log1p v9
  let v11 : FVec F S2048 .f32 := addf v1 v10
  let v12 : FVec F S2048 .f32 := select v4 v6 v11
  v12

def fn_part3 {F : FTy → Type} [FloatOps F] (main_v65 : IVec S1x16384x2048 1) : IVec S_ 1 :=
  let main_c : IVec S_ 1 := constantI S_ 1 1#1
  let main_v66 : IVec S_ 1 := (fun x v => Host.reduce IntOp.andi x v reducesTo_S1x16384x2048_S_d0_1_2 h_S_) main_v65 main_c
  main_v66

def fn_part2 {F : FTy → Type} [FloatOps F] (main_v36 : FVec F S2048 .f32) (main_v45 : FVec F S1x16384x2048 .f32) (main_v46 : FVec F S1x16384x2048 .f32) : IVec S_ 1 :=
  let main_v47 : FVec F S1x16384x2048 .f32 := addf main_v46 main_v45
  let main_cst_0 : FVec F S_ .f32 := constant S_ .f32 0x3F800000#32
  let main_v48 : FVec F S1x16384x2048 .f32 := broadcastInDim S1x16384x2048 ![] bcast_S_S1x16384x2048 main_cst_0
  let main_v49 : FVec F S1x16384x2048 .f32 := Host.divf main_v48 main_v47
  let main_cst_1 : FVec F S_ .f32 := constant S_ .f32 0xC1000000#32
  let main_v50 : FVec F S1x16384x2048 .f32 := broadcastInDim S1x16384x2048 ![] bcast_S_S1x16384x2048 main_cst_1
  let main_v51 : FVec F S1x16384x2048 .f32 := mulf main_v50 main_v49
  let main_v52 : FVec F S2048 .f32 := Host.negf main_v36
  let main_v53 : FVec F S2048 .f32 := fn_softplus (F := F) main_v52
  let main_v54 : FVec F S1x1x2048 .f32 := broadcastInDim S1x1x2048 ![2] bcast_S2048_S1x1x2048_2 main_v53
  let main_v55 : FVec F S1x16384x2048 .f32 := broadcastInDim S1x16384x2048 ![0, 1, 2] bcast_S1x1x2048_S1x16384x2048_0_1_2 main_v54
  let main_v56 : FVec F S1x16384x2048 .f32 := mulf main_v51 main_v55
  let main_cst_2 : FVec F S_ .f32 := constant S_ .f32 0x40000000#32
  let main_v57 : FVec F S1x16384x2048 .f32 := broadcastInDim S1x16384x2048 ![] bcast_S_S1x16384x2048 main_cst_2
  let main_v58 : FVec F S1x16384x2048 .f32 := mulf main_v57 main_v56
  let main_v59 : FVec F S1x16384x2048 .f32 := Host.expm1 main_v58
  let main_v60 : FVec F S1x16384x2048 .f32 := Host.negf main_v59
  let main_cst_3 : FVec F S_ .f32 := constant S_ .f32 0x00800000#32
  let main_v61 : FVec F S1x16384x2048 .f32 := broadcastInDim S1x16384x2048 ![] bcast_S_S1x16384x2048 main_cst_3
  let main_v62 : IVec S1x16384x2048 1 := cmpf .oge main_v60 main_v61
  let main_cst_4 : FVec F S_ .f32 := constant S_ .f32 0x00000000#32
  let main_v63 : FVec F S1x16384x2048 .f32 := broadcastInDim S1x16384x2048 ![] bcast_S_S1x16384x2048 main_cst_4
  let main_v64 : IVec S1x16384x2048 1 := cmpf .oeq main_v60 main_v63
  let main_v65 : IVec S1x16384x2048 1 := ori main_v62 main_v64
  fn_part3 (F := F) main_v65

def fn_part1 {F : FTy → Type} [FloatOps F] (main_arg6 : FVec F S1x16x128x128 .f32) (main_arg7 : FVec F S1x2048 .f32) (main_arg10 : FVec F S1x2048 .f32) (main_v1 : FVec F S1x16387x2048 .f32) (main_v2 : FVec F S4x2048 .f32) (main_v19 : FVec F S1x16384x2048 .f32) (main_v20 : FVec F S1x16384x2048 .f32) (main_v23 : FVec F S1x1x2048 .f32) : IVec S_ 1 :=
  let main_v24 : FVec F S1x16384x2048 .f32 := broadcastInDim S1x16384x2048 ![0, 1, 2] bcast_S1x1x2048_S1x16384x2048_0_1_2 main_v23
  let main_v25 : FVec F S1x16384x2048 .f32 := mulf main_v20 main_v24
  let main_v26 : FVec F S1x16384x2048 .f32 := addf main_v19 main_v25
  let main_v27 : FVec F S1x16384x2048 .f32 := (extractStridedSlice S1x16384x2048 ![0, 3, 0] · slices_S1x16387x2048_S1x16384x2048_0_3_0) main_v1
  let main_v28 : FVec F S1x2048 .f32 := (extractStridedSlice S1x2048 ![3, 0] · slices_S4x2048_S1x2048_3_0) main_v2
  let main_v29 : FVec F S2048 .f32 := shapeCast S2048 main_v28 shapeCasts_S1x2048_S2048
  let main_v30 : FVec F S1x1x2048 .f32 := broadcastInDim S1x1x2048 ![2] bcast_S2048_S1x1x2048_2 main_v29
  let main_v31 : FVec F S1x16384x2048 .f32 := broadcastInDim S1x16384x2048 ![0, 1, 2] bcast_S1x1x2048_S1x16384x2048_0_1_2 main_v30
  let main_v32 : FVec F S1x16384x2048 .f32 := mulf main_v27 main_v31
  let main_v33 : FVec F S1x16384x2048 .f32 := addf main_v26 main_v32
  let main_v34 : FVec F S16x128x128 .f32 := shapeCast S16x128x128 main_arg6 shapeCasts_S1x16x128x128_S16x128x128
  let main_v35 : FVec F S2048 .f32 := shapeCast S2048 main_arg7 shapeCasts_S1x2048_S2048
  let main_v36 : FVec F S2048 .f32 := shapeCast S2048 main_arg10 shapeCasts_S1x2048_S2048
  let main_v37 : FVec F S1x16384x16x128 .f32 := shapeCast S1x16384x16x128 main_v33 shapeCasts_S1x16384x2048_S1x16384x16x128
  let main_v38 : FVec F S16x128x1x16384 .f32 := (fun l r => Host.dotGeneral dot_S16x128x128_S1x16384x16x128_S16x128x1x16384_1_3_2_01_0_2 none l r) main_v34 main_v37
  let main_v39 : FVec F S1x16384x16x128 .f32 := (transpose S1x16384x16x128 [2, 3, 0, 1] · transposes_S16x128x1x16384_S1x16384x16x128_2_3_0_1) main_v38
  let main_v40 : FVec F S1x16384x2048 .f32 := shapeCast S1x16384x2048 main_v39 shapeCasts_S1x16384x16x128_S1x16384x2048
  let main_v41 : FVec F S1x1x2048 .f32 := broadcastInDim S1x1x2048 ![2] bcast_S2048_S1x1x2048_2 main_v35
  let main_v42 : FVec F S1x16384x2048 .f32 := broadcastInDim S1x16384x2048 ![0, 1, 2] bcast_S1x1x2048_S1x16384x2048_0_1_2 main_v41
  let main_v43 : FVec F S1x16384x2048 .f32 := addf main_v40 main_v42
  let main_v44 : FVec F S1x16384x2048 .f32 := Host.negf main_v43
  let main_v45 : FVec F S1x16384x2048 .f32 := Host.exp main_v44
  let main_cst : FVec F S_ .f32 := constant S_ .f32 0x3F800000#32
  let main_v46 : FVec F S1x16384x2048 .f32 := broadcastInDim S1x16384x2048 ![] bcast_S_S1x16384x2048 main_cst
  fn_part2 (F := F) main_v36 main_v45 main_v46

def fn {F : FTy → Type} [FloatOps F] (main_arg0 : FVec F S16384x2048 .f32) (main_arg1 : FVec F S16384x2048 .f32) (main_arg2 : FVec F S1x3x2048 .f32) (main_arg3 : FVec F S1x2048 .f32) (main_arg4 : FVec F S1x4x2048 .f32) (main_arg5 : FVec F S1x2048 .f32) (main_arg6 : FVec F S1x16x128x128 .f32) (main_arg7 : FVec F S1x2048 .f32) (main_arg8 : FVec F S1x16x128x128 .f32) (main_arg9 : FVec F S1x2048 .f32) (main_arg10 : FVec F S1x2048 .f32) : IVec S_ 1 :=
  let main_v0 : FVec F S1x16384x2048 .f32 := shapeCast S1x16384x2048 main_arg0 shapeCasts_S16384x2048_S1x16384x2048
  let main_v1 : FVec F S1x16387x2048 .f32 := (fun a b => concatenate S1x16387x2048 1 [⟨S1x3x2048, a⟩, ⟨S1x16384x2048, b⟩] concatenates_S1x3x2048_S1x16384x2048_S1x16387x2048_d1) main_arg2 main_v0
  let main_v2 : FVec F S4x2048 .f32 := shapeCast S4x2048 main_arg4 shapeCasts_S1x4x2048_S4x2048
  let main_v3 : FVec F S2048 .f32 := shapeCast S2048 main_arg5 shapeCasts_S1x2048_S2048
  let main_v4 : FVec F S1x16384x2048 .f32 := (extractStridedSlice S1x16384x2048 ![0, 0, 0] · slices_S1x16387x2048_S1x16384x2048_0_0_0) main_v1
  let main_v5 : FVec F S1x2048 .f32 := (extractStridedSlice S1x2048 ![0, 0] · slices_S4x2048_S1x2048_0_0) main_v2
  let main_v6 : FVec F S2048 .f32 := shapeCast S2048 main_v5 shapeCasts_S1x2048_S2048
  let main_v7 : FVec F S1x1x2048 .f32 := broadcastInDim S1x1x2048 ![2] bcast_S2048_S1x1x2048_2 main_v6
  let main_v8 : FVec F S1x16384x2048 .f32 := broadcastInDim S1x16384x2048 ![0, 1, 2] bcast_S1x1x2048_S1x16384x2048_0_1_2 main_v7
  let main_v9 : FVec F S1x16384x2048 .f32 := mulf main_v4 main_v8
  let main_v10 : FVec F S1x1x2048 .f32 := broadcastInDim S1x1x2048 ![2] bcast_S2048_S1x1x2048_2 main_v3
  let main_v11 : FVec F S1x16384x2048 .f32 := broadcastInDim S1x16384x2048 ![0, 1, 2] bcast_S1x1x2048_S1x16384x2048_0_1_2 main_v10
  let main_v12 : FVec F S1x16384x2048 .f32 := addf main_v11 main_v9
  let main_v13 : FVec F S1x16384x2048 .f32 := (extractStridedSlice S1x16384x2048 ![0, 1, 0] · slices_S1x16387x2048_S1x16384x2048_0_1_0) main_v1
  let main_v14 : FVec F S1x2048 .f32 := (extractStridedSlice S1x2048 ![1, 0] · slices_S4x2048_S1x2048_1_0) main_v2
  let main_v15 : FVec F S2048 .f32 := shapeCast S2048 main_v14 shapeCasts_S1x2048_S2048
  let main_v16 : FVec F S1x1x2048 .f32 := broadcastInDim S1x1x2048 ![2] bcast_S2048_S1x1x2048_2 main_v15
  let main_v17 : FVec F S1x16384x2048 .f32 := broadcastInDim S1x16384x2048 ![0, 1, 2] bcast_S1x1x2048_S1x16384x2048_0_1_2 main_v16
  let main_v18 : FVec F S1x16384x2048 .f32 := mulf main_v13 main_v17
  let main_v19 : FVec F S1x16384x2048 .f32 := addf main_v12 main_v18
  let main_v20 : FVec F S1x16384x2048 .f32 := (extractStridedSlice S1x16384x2048 ![0, 2, 0] · slices_S1x16387x2048_S1x16384x2048_0_2_0) main_v1
  let main_v21 : FVec F S1x2048 .f32 := (extractStridedSlice S1x2048 ![2, 0] · slices_S4x2048_S1x2048_2_0) main_v2
  let main_v22 : FVec F S2048 .f32 := shapeCast S2048 main_v21 shapeCasts_S1x2048_S2048
  let main_v23 : FVec F S1x1x2048 .f32 := broadcastInDim S1x1x2048 ![2] bcast_S2048_S1x1x2048_2 main_v22
  fn_part1 (F := F) main_arg6 main_arg7 main_arg10 main_v1 main_v2 main_v19 main_v20 main_v23
-- ==== Kernel.lean ====
abbrev S16384x2048 : Shape := ⟨2, ![16384, 2048]⟩
abbrev S1x3x2048 : Shape := ⟨3, ![1, 3, 2048]⟩
abbrev S1x2048 : Shape := ⟨2, ![1, 2048]⟩
abbrev S1x4x2048 : Shape := ⟨3, ![1, 4, 2048]⟩
abbrev S1x16x128x128 : Shape := ⟨4, ![1, 16, 128, 128]⟩
abbrev S1x16384x2048 : Shape := ⟨3, ![1, 16384, 2048]⟩
abbrev S1x1x2048 : Shape := ⟨3, ![1, 1, 2048]⟩
abbrev S4x2048 : Shape := ⟨2, ![4, 2048]⟩
abbrev S2048 : Shape := ⟨1, ![2048]⟩
abbrev S16x128x128 : Shape := ⟨3, ![16, 128, 128]⟩
abbrev S1x256x1024 : Shape := ⟨3, ![1, 256, 1024]⟩
abbrev S1x3x1024 : Shape := ⟨3, ![1, 3, 1024]⟩
abbrev S1x1x1024 : Shape := ⟨3, ![1, 1, 1024]⟩
abbrev S4x1024 : Shape := ⟨2, ![4, 1024]⟩
abbrev S1x1024 : Shape := ⟨2, ![1, 1024]⟩
abbrev S8x128x128 : Shape := ⟨3, ![8, 128, 128]⟩
abbrev S272x1024 : Shape := ⟨2, ![272, 1024]⟩
abbrev S3x1024 : Shape := ⟨2, ![3, 1024]⟩
abbrev S256x1024 : Shape := ⟨2, ![256, 1024]⟩
abbrev S256x128 : Shape := ⟨2, ![256, 128]⟩
abbrev S1x128x128 : Shape := ⟨3, ![1, 128, 128]⟩
abbrev S128x128 : Shape := ⟨2, ![128, 128]⟩
abbrev S32x8x1024 : Shape := ⟨3, ![32, 8, 1024]⟩
abbrev S1x8x1024 : Shape := ⟨3, ![1, 8, 1024]⟩
abbrev S8x1024 : Shape := ⟨2, ![8, 1024]⟩
abbrev S16x1024 : Shape := ⟨2, ![16, 1024]⟩
abbrev S1x16x1024 : Shape := ⟨3, ![1, 16, 1024]⟩

abbrev nBuf : Space → Nat
  | .hbm => 30
  | .vmem => 30
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x3x2048, .f32⟩
  | .hbm, ⟨3, _⟩ => ⟨S1x2048, .f32⟩
  | .hbm, ⟨4, _⟩ => ⟨S1x4x2048, .f32⟩
  | .hbm, ⟨5, _⟩ => ⟨S1x2048, .f32⟩
  | .hbm, ⟨6, _⟩ => ⟨S1x16x128x128, .f32⟩
  | .hbm, ⟨7, _⟩ => ⟨S1x2048, .f32⟩
  | .hbm, ⟨8, _⟩ => ⟨S1x16x128x128, .f32⟩
  | .hbm, ⟨9, _⟩ => ⟨S1x2048, .f32⟩
  | .hbm, ⟨10, _⟩ => ⟨S1x2048, .f32⟩
  | .hbm, ⟨11, _⟩ => ⟨S1x16384x2048, .f32⟩
  | .hbm, ⟨12, _⟩ => ⟨S1x16384x2048, .f32⟩
  | .hbm, ⟨13, _⟩ => ⟨S1x1x2048, .f32⟩
  | .hbm, ⟨14, _⟩ => ⟨S4x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S16x128x128, .f32⟩
  | .hbm, ⟨24, _⟩ => ⟨S16x128x128, .bf16⟩
  | .hbm, ⟨25, _⟩ => ⟨S16x128x128, .f32⟩
  | .hbm, ⟨26, _⟩ => ⟨S16x128x128, .bf16⟩
  | .hbm, ⟨27, _⟩ => ⟨S1x16384x2048, .bf16⟩
  | .hbm, ⟨28, _⟩ => ⟨S1x1x2048, .f32⟩
  | .hbm, ⟨29, _⟩ => ⟨S1x3x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1x1024, .f32⟩
  | .local _ .vmem, ⟨7, _⟩ => ⟨S1x1x1024, .f32⟩
  | .local _ .vmem, ⟨8, _⟩ => ⟨S4x1024, .f32⟩
  | .local _ .vmem, ⟨9, _⟩ => ⟨S4x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S8x128x128, .bf16⟩
  | .local _ .vmem, ⟨19, _⟩ => ⟨S8x128x128, .bf16⟩
  | .local _ .vmem, ⟨20, _⟩ => ⟨S8x128x128, .bf16⟩
  | .local _ .vmem, ⟨21, _⟩ => ⟨S8x128x128, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x1x1024, .f32⟩
  | .local _ .vmem, ⟨25, _⟩ => ⟨S1x1x1024, .f32⟩
  | .local _ .vmem, ⟨26, _⟩ => ⟨S1x3x1024, .f32⟩
  | .local _ .vmem, ⟨27, _⟩ => ⟨S1x3x1024, .f32⟩
  | .local _ .vmem, ⟨28, _⟩ => ⟨S272x1024, .f32⟩
  | .local _ .vmem, ⟨29, _⟩ => ⟨S1x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![1, 2, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S8x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S8x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x3x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ReferenceIdeal.lean ====
abbrev S16384x2048 : Shape := ⟨2, ![16384, 2048]⟩
abbrev S1x3x2048 : Shape := ⟨3, ![1, 3, 2048]⟩
abbrev S1x2048 : Shape := ⟨2, ![1, 2048]⟩
abbrev S1x4x2048 : Shape := ⟨3, ![1, 4, 2048]⟩
abbrev S1x16x128x128 : Shape := ⟨4, ![1, 16, 128, 128]⟩
abbrev S1x16384x2048 : Shape := ⟨3, ![1, 16384, 2048]⟩
abbrev S1x16387x2048 : Shape := ⟨3, ![1, 16387, 2048]⟩
abbrev S4x2048 : Shape := ⟨2, ![4, 2048]⟩
abbrev S2048 : Shape := ⟨1, ![2048]⟩
abbrev S1x1x2048 : Shape := ⟨3, ![1, 1, 2048]⟩
abbrev S16x128x128 : Shape := ⟨3, ![16, 128, 128]⟩
abbrev S1x16384x16x128 : Shape := ⟨4, ![1, 16384, 16, 128]⟩
abbrev S16x128x1x16384 : Shape := ⟨4, ![16, 128, 1, 16384]⟩
abbrev S_ : Shape := ⟨0, ![]⟩
abbrev S16384 : Shape := ⟨1, ![16384]⟩
abbrev S1x16384x1 : Shape := ⟨3, ![1, 16384, 1]⟩
abbrev S16384x1x2048 : Shape := ⟨3, ![16384, 1, 2048]⟩

abbrev nBuf : Space → Nat
  | .hbm => 157
  | .vmem => 0
  | .smem => 0
  | _ => 0

abbrev hbmTy0_0 (i : Nat) : BufTy := match i % 128 with
  | 0 => ⟨S16384x2048, .f32⟩
  | 1 => ⟨S16384x2048, .f32⟩
  | 2 => ⟨S1x3x2048, .f32⟩
  | 3 => ⟨S1x2048, .f32⟩
  | 4 => ⟨S1x4x2048, .f32⟩
  | 5 => ⟨S1x2048, .f32⟩
  | 6 => ⟨S1x16x128x128, .f32⟩
  | 7 => ⟨S1x2048, .f32⟩
  | 8 => ⟨S1x16x128x128, .f32⟩
  | 9 => ⟨S1x2048, .f32⟩
  | 10 => ⟨S1x2048, .f32⟩
  | 11 => ⟨S1x16384x2048, .f32⟩
  | 12 => ⟨S1x16384x2048, .f32⟩
  | 13 => ⟨S1x16387x2048, .f32⟩
  | 14 => ⟨S1x3x2048, .f32⟩
  | 15 => ⟨S4x2048, .f32⟩
  | 16 => ⟨S2048, .f32⟩
  | 17 => ⟨S1x16384x2048, .f32⟩
  | 18 => ⟨S1x2048, .f32⟩
  | 19 => ⟨S2048, .f32⟩
  | 20 => ⟨S1x1x2048, .f32⟩
  | 21 => ⟨S1x16384x2048, .f32⟩
  | 22 => ⟨S1x16384x2048, .f32⟩
  | 23 => ⟨S1x1x2048, .f32⟩
  | 24 => ⟨S1x16384x2048, .f32⟩
  | 25 => ⟨S1x16384x2048, .f32⟩
  | 26 => ⟨S1x16384x2048, .f32⟩
  | 27 => ⟨S1x2048, .f32⟩
  | 28 => ⟨S2048, .f32⟩
  | 29 => ⟨S1x1x2048, .f32⟩
  | 30 => ⟨S1x16384x2048, .f32⟩
  | 31 => ⟨S1x16384x2048, .f32⟩
  | 32 => ⟨S1x16384x2048, .f32⟩
  | 33 => ⟨S1x16384x2048, .f32⟩
  | 34 => ⟨S1x2048, .f32⟩
  | 35 => ⟨S2048, .f32⟩
  | 36 => ⟨S1x1x2048, .f32⟩
  | 37 => ⟨S1x16384x2048, .f32⟩
  | 38 => ⟨S1x16384x2048, .f32⟩
  | 39 => ⟨S1x16384x2048, .f32⟩
  | 40 => ⟨S1x16384x2048, .f32⟩
  | 41 => ⟨S1x2048, .f32⟩
  | 42 => ⟨S2048, .f32⟩
  | 43 => ⟨S1x1x2048, .f32⟩
  | 44 => ⟨S1x16384x2048, .f32⟩
  | 45 => ⟨S1x16384x2048, .f32⟩
  | 46 => ⟨S1x16384x2048, .f32⟩
  | 47 => ⟨S16x128x128, .f32⟩
  | 48 => ⟨S2048, .f32⟩
  | 49 => ⟨S2048, .f32⟩
  | 50 => ⟨S1x16384x16x128, .f32⟩
  | 51 => ⟨S16x128x1x16384, .f32⟩
  | 52 => ⟨S1x16384x16x128, .f32⟩
  | 53 => ⟨S1x16384x2048, .f32⟩
  | 54 => ⟨S1x1x2048, .f32⟩
  | 55 => ⟨S1x16384x2048, .f32⟩
  | 56 => ⟨S1x16384x2048, .f32⟩
  | 57 => ⟨S1x16384x2048, .f32⟩
  | 58 => ⟨S1x16384x2048, .f32⟩
  | 59 => ⟨S_, .f32⟩
  | 60 => ⟨S1x16384x2048, .f32⟩
  | 61 => ⟨S1x16384x2048, .f32⟩
  | 62 => ⟨S_, .f32⟩
  | 63 => ⟨S1x16384x2048, .f32⟩
  | 64 => ⟨S1x16384x2048, .f32⟩
  | 65 => ⟨S_, .f32⟩
  | 66 => ⟨S1x16384x2048, .f32⟩
  | 67 => ⟨S1x16384x2048, .f32⟩
  | 68 => ⟨S2048, .f32⟩
  | 69 => ⟨S_, .f32⟩
  | 70 => ⟨S2048, .f32⟩
  | 71 => ⟨S2048, .f32⟩
  | 72 => ⟨S2048, .f32⟩
  | 73 => ⟨S2048, .f32⟩
  | 74 => ⟨S2048, .i1⟩
  | 75 => ⟨S2048, .f32⟩
  | 76 => ⟨S2048, .f32⟩
  | 77 => ⟨S2048, .f32⟩
  | 78 => ⟨S2048, .f32⟩
  | 79 => ⟨S2048, .f32⟩
  | 80 => ⟨S2048, .f32⟩
  | 81 => ⟨S2048, .f32⟩
  | 82 => ⟨S2048, .f32⟩
  | 83 => ⟨S1x1x2048, .f32⟩
  | 84 => ⟨S1x16384x2048, .f32⟩
  | 85 => ⟨S1x16384x2048, .f32⟩
  | 86 => ⟨S1x16384x16x128, .f32⟩
  | 87 => ⟨S16x128x128, .f32⟩
  | 88 => ⟨S16x128x1x16384, .f32⟩
  | 89 => ⟨S1x16384x16x128, .f32⟩
  | 90 => ⟨S1x16384x2048, .f32⟩
  | 91 => ⟨S2048, .f32⟩
  | 92 => ⟨S1x1x2048, .f32⟩
  | 93 => ⟨S1x16384x2048, .f32⟩
  | 94 => ⟨S1x16384x2048, .f32⟩
  | 95 => ⟨S1x16384x2048, .f32⟩
  | 96 => ⟨S1x16384x2048, .f32⟩
  | 97 => ⟨S_, .f32⟩
  | 98 => ⟨S1x16384x2048, .f32⟩
  | 99 => ⟨S1x16384x2048, .f32⟩
  | 100 => ⟨S_, .f32⟩
  | 101 => ⟨S1x16384x2048, .f32⟩
  | 102 => ⟨S1x16384x2048, .f32⟩
  | 103 => ⟨S1x16384x2048, .f32⟩
  | 104 => ⟨S16384, .i32⟩
  | 105 => ⟨S_, .i32⟩
  | 106 => ⟨S16384, .i32⟩
  | 107 => ⟨S16384, .i32⟩
  | 108 => ⟨S_, .i32⟩
  | 109 => ⟨S16384, .i32⟩
  | 110 => ⟨S16384, .i1⟩
  | 111 => ⟨S1x16384x1, .i1⟩
  | 112 => ⟨S_, .f32⟩
  | 113 => ⟨S1x16384x2048, .f32⟩
  | 114 => ⟨S1x16384x2048, .f32⟩
  | 115 => ⟨S1x16384x2048, .f32⟩
  | 116 => ⟨S1x16384x2048, .f32⟩
  | 117 => ⟨S1x16384x2048, .f32⟩
  | 118 => ⟨S_, .f32⟩
  | 119 => ⟨S_, .f32⟩
  | 120 => ⟨S1x16384x2048, .i1⟩
  | 121 => ⟨S1x16384x2048, .f32⟩
  | 122 => ⟨S1x16384x2048, .f32⟩
  | 123 => ⟨S1x16384x2048, .f32⟩
  | 124 => ⟨S1x16384x2048, .f32⟩
  | 125 => ⟨S16384x1x2048, .f32⟩
  | 126 => ⟨S16384x1x2048, .f32⟩
  | 127 => ⟨S_, .f32⟩
  | _ => ⟨S16384x2048, .f32⟩

abbrev hbmTy0_1 (i : Nat) : BufTy := match i % 128 with
  | 0 => ⟨S16384x1x2048, .f32⟩
  | 1 => ⟨S_, .i32⟩
  | 2 => ⟨S16384x1x2048, .f32⟩
  | 3 => ⟨S16384x1x2048, .f32⟩
  | 4 => ⟨S_, .i32⟩
  | 5 => ⟨S1x2048, .f32⟩
  | 6 => ⟨S16384x1x2048, .f32⟩
  | 7 => ⟨S_, .i32⟩
  | 8 => ⟨S_, .i1⟩
  | 9 => ⟨S_, .i32⟩
  | 10 => ⟨S_, .i32⟩
  | 11 => ⟨S1x1x2048, .f32⟩
  | 12 => ⟨S1x2048, .f32⟩
  | 13 => ⟨S_, .i32⟩
  | 14 => ⟨S_, .i32⟩
  | 15 => ⟨S1x1x2048, .f32⟩
  | 16 => ⟨S1x2048, .f32⟩
  | 17 => ⟨S1x2048, .f32⟩
  | 18 => ⟨S1x2048, .f32⟩
  | 19 => ⟨S1x1x2048, .f32⟩
  | 20 => ⟨S_, .i32⟩
  | 21 => ⟨S_, .i32⟩
  | 22 => ⟨S16384x1x2048, .f32⟩
  | 23 => ⟨S_, .i32⟩
  | 24 => ⟨S_, .i32⟩
  | 25 => ⟨S1x16384x2048, .f32⟩
  | 26 => ⟨S1x16384x2048, .f32⟩
  | 27 => ⟨S1x16384x2048, .bf16⟩
  | 28 => ⟨S1x1x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst : Ref sig .tc := ⟨.hbm, 59, rfl⟩
abbrev main_v48 : Ref sig .tc := ⟨.hbm, 60, rfl⟩
abbrev main_v49 : Ref sig .tc := ⟨.hbm, 61, rfl⟩
abbrev main_cst_0 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_2 : Ref sig .tc := ⟨.hbm, 97, rfl⟩
abbrev main_v70 : Ref sig .tc := ⟨.hbm, 98, rfl⟩
abbrev main_v71 : Ref sig .tc := ⟨.hbm, 99, rfl⟩
abbrev main_cst_3 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c : Ref sig .tc := ⟨.hbm, 105, rfl⟩
abbrev main_v76 : Ref sig .tc := ⟨.hbm, 106, rfl⟩
abbrev main_v77 : Ref sig .tc := ⟨.hbm, 107, rfl⟩
abbrev main_c_4 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_5 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_6 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_7 : Ref sig .tc := ⟨.hbm, 127, rfl⟩
abbrev main_v91 : Ref sig .tc := ⟨.hbm, 128, rfl⟩
abbrev main_c_8 : Ref sig .tc := ⟨.hbm, 129, rfl⟩
abbrev main_v92_0 : Ref sig .tc := ⟨.hbm, 130, rfl⟩
abbrev main_v92_1 : Ref sig .tc := ⟨.hbm, 131, rfl⟩
abbrev main_v92_2 : Ref sig .tc := ⟨.hbm, 132, rfl⟩
abbrev main_v92_3 : Ref sig .tc := ⟨.hbm, 133, rfl⟩
abbrev main_v92_4 : Ref sig .tc := ⟨.hbm, 134, rfl⟩
abbrev main_while0c_c_13 : Ref sig .tc := ⟨.hbm, 135, rfl⟩
abbrev main_while0c_v97 : Ref sig .tc := ⟨.hbm, 136, rfl⟩
abbrev main_while0b_call2_c : Ref sig .tc := ⟨.hbm, 137, rfl⟩
abbrev main_while0b_call2_c_0 : Ref sig .tc := ⟨.hbm, 138, rfl⟩
abbrev main_while0b_call2_v0 : Ref sig .tc := ⟨.hbm, 139, rfl⟩
abbrev main_while0b_v97 : Ref sig .tc := ⟨.hbm, 140, rfl⟩
abbrev main_while0b_call3_c : Ref sig .tc := ⟨.hbm, 141, rfl⟩
abbrev main_while0b_call3_c_0 : Ref sig .tc := ⟨.hbm, 142, rfl⟩
abbrev main_while0b_call3_v0 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_call4_v0 : Ref sig .tc := ⟨.hbm, 147, rfl⟩
abbrev main_while0b_call4_c : Ref sig .tc := ⟨.hbm, 148, rfl⟩
abbrev main_while0b_call4_c_0 : Ref sig .tc := ⟨.hbm, 149, rfl⟩
abbrev main_while0b_v101 : Ref sig .tc := ⟨.hbm, 150, rfl⟩
abbrev main_while0b_c_13 : Ref sig .tc := ⟨.hbm, 151, rfl⟩
abbrev main_while0b_v102 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩

abbrev nD : Nat := 1
abbrev τ : Topo := Topo.v7x

variable {F : FTy → Type} [FloatOps F]

abbrev main_while0_count : Scf.Loop 32 := ⟨0#32, 16384#32, 1#32⟩
-- ==== Mlp.lean ====
abbrev S16384x2048 : Shape := ⟨2, ![16384, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S128x2048 : Shape := ⟨2, ![128, 2048]⟩
abbrev S128 : Shape := ⟨1, ![128]⟩
abbrev S128x1 : Shape := ⟨2, ![128, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2x2048x8192, .bf16⟩
  | .hbm, ⟨8, _⟩ => ⟨S2x8192x2048, .bf16⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpReferenceIdeal.lean ====
abbrev S16384x2048 : Shape := ⟨2, ![16384, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x8192 : Shape := ⟨3, ![1, 2048, 8192]⟩
abbrev S2048x8192 : Shape := ⟨2, ![2048, 8192]⟩
abbrev S16384x8192 : Shape := ⟨2, ![16384, 8192]⟩
abbrev S1x8192x2048 : Shape := ⟨3, ![1, 8192, 2048]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S1x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x8192, .f32⟩
  | .hbm, ⟨23, _⟩ => ⟨S2048x8192, .f32⟩
  | .hbm, ⟨24, _⟩ => ⟨S16384x8192, .f32⟩
  | .hbm, ⟨25, _⟩ => ⟨S_, .f32⟩
  | .hbm, ⟨26, _⟩ => ⟨S16384x8192, .f32⟩
  | .hbm, ⟨27, _⟩ => ⟨S16384x8192, .f32⟩
  | .hbm, ⟨28, _⟩ => ⟨S16384x8192, .f32⟩
  | .hbm, ⟨29, _⟩ => ⟨S1x8192x2048, .f32⟩
  | .hbm, ⟨30, _⟩ => ⟨S8192x2048, .f32⟩
  | .hbm, ⟨31, _⟩ => ⟨S16384x2048, .f32⟩
  | .hbm, ⟨32, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kvq.lean ====
abbrev S16384x2048 : Shape := ⟨2, ![16384, 2048]⟩
abbrev S2048 : Shape := ⟨1, ![2048]⟩
abbrev S1x2048 : Shape := ⟨2, ![1, 2048]⟩
abbrev S2048x4096 : Shape := ⟨2, ![2048, 4096]⟩
abbrev S1x2048x2048 : Shape := ⟨3, ![1, 2048, 2048]⟩
abbrev S128 : Shape := ⟨1, ![128]⟩
abbrev S1x128 : Shape := ⟨2, ![1, 128]⟩
abbrev S2048x2048 : Shape := ⟨2, ![2048, 2048]⟩
abbrev S16x16384x128 : Shape := ⟨3, ![16, 16384, 128]⟩
abbrev S1024x2048 : Shape := ⟨2, ![1024, 2048]⟩
abbrev S2048x256 : Shape := ⟨2, ![2048, 256]⟩
abbrev S1024x256 : Shape := ⟨2, ![1024, 256]⟩
abbrev S2x1024x128 : Shape := ⟨3, ![2, 1024, 128]⟩
abbrev S128x2048 : Shape := ⟨2, ![128, 2048]⟩
abbrev S128x1 : Shape := ⟨2, ![128, 1]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 21
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S2048x4096, .f32⟩
  | .hbm, ⟨4, _⟩ => ⟨S1x2048x2048, .f32⟩
  | .hbm, ⟨5, _⟩ => ⟨S128, .f32⟩
  | .hbm, ⟨6, _⟩ => ⟨S1x128, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048x4096, .bf16⟩
  | .hbm, ⟨11, _⟩ => ⟨S2048x2048, .f32⟩
  | .hbm, ⟨12, _⟩ => ⟨S2048x2048, .bf16⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S16384x2048, .f32⟩
  | .hbm, ⟨17, _⟩ => ⟨S16384x2048, .f32⟩
  | .hbm, ⟨18, _⟩ => ⟨S16x16384x128, .bf16⟩
  | .hbm, ⟨19, _⟩ => ⟨S16x16384x128, .bf16⟩
  | .hbm, ⟨20, _⟩ => ⟨S16x16384x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x128, .f32⟩
  | .local _ .vmem, ⟨11, _⟩ => ⟨S1x128, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S2x1024x128, .bf16⟩
  | .local _ .vmem, ⟨17, _⟩ => ⟨S2x1024x128, .bf16⟩
  | .local _ .vmem, ⟨18, _⟩ => ⟨S2x1024x128, .bf16⟩
  | .local _ .vmem, ⟨19, _⟩ => ⟨S2x1024x128, .bf16⟩
  | .local _ .vmem, ⟨20, _⟩ => ⟨S2x1024x128, .bf16⟩
  | .local _ .vmem, ⟨21, _⟩ => ⟨S2x1024x128, .bf16⟩
  | .local _ .vmem, ⟨22, _⟩ => ⟨S1024x2048, .bf16⟩
  | .local _ .vmem, ⟨23, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KvqIdeal.lean ====
abbrev S16384x2048 : Shape := ⟨2, ![16384, 2048]⟩
abbrev S2048 : Shape := ⟨1, ![2048]⟩
abbrev S1x2048 : Shape := ⟨2, ![1, 2048]⟩
abbrev S2048x4096 : Shape := ⟨2, ![2048, 4096]⟩
abbrev S1x2048x2048 : Shape := ⟨3, ![1, 2048, 2048]⟩
abbrev S128 : Shape := ⟨1, ![128]⟩
abbrev S1x128 : Shape := ⟨2, ![1, 128]⟩
abbrev S2048x2048 : Shape := ⟨2, ![2048, 2048]⟩
abbrev S16x16384x128 : Shape := ⟨3, ![16, 16384, 128]⟩
abbrev S1024x2048 : Shape := ⟨2, ![1024, 2048]⟩
abbrev S2048x256 : Shape := ⟨2, ![2048, 256]⟩
abbrev S1024x256 : Shape := ⟨2, ![1024, 256]⟩
abbrev S2x1024x128 : Shape := ⟨3, ![2, 1024, 128]⟩
abbrev S128x2048 : Shape := ⟨2, ![128, 2048]⟩
abbrev S128x1 : Shape := ⟨2, ![128, 1]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 21
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S2048x4096, .f32⟩
  | .hbm, ⟨4, _⟩ => ⟨S1x2048x2048, .f32⟩
  | .hbm, ⟨5, _⟩ => ⟨S128, .f32⟩
  | .hbm, ⟨6, _⟩ => ⟨S1x128, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048x4096, .bf16⟩
  | .hbm, ⟨11, _⟩ => ⟨S2048x2048, .f32⟩
  | .hbm, ⟨12, _⟩ => ⟨S2048x2048, .bf16⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S16384x2048, .f32⟩
  | .hbm, ⟨17, _⟩ => ⟨S16384x2048, .f32⟩
  | .hbm, ⟨18, _⟩ => ⟨S16x16384x128, .bf16⟩
  | .hbm, ⟨19, _⟩ => ⟨S16x16384x128, .bf16⟩
  | .hbm, ⟨20, _⟩ => ⟨S16x16384x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x128, .f32⟩
  | .local _ .vmem, ⟨11, _⟩ => ⟨S1x128, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S2x1024x128, .bf16⟩
  | .local _ .vmem, ⟨17, _⟩ => ⟨S2x1024x128, .bf16⟩
  | .local _ .vmem, ⟨18, _⟩ => ⟨S2x1024x128, .bf16⟩
  | .local _ .vmem, ⟨19, _⟩ => ⟨S2x1024x128, .bf16⟩
  | .local _ .vmem, ⟨20, _⟩ => ⟨S2x1024x128, .bf16⟩
  | .local _ .vmem, ⟨21, _⟩ => ⟨S2x1024x128, .bf16⟩
  | .local _ .vmem, ⟨22, _⟩ => ⟨S1024x2048, .bf16⟩
  | .local _ .vmem, ⟨23, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KvqReferenceIdeal.lean ====
abbrev S16384x2048 : Shape := ⟨2, ![16384, 2048]⟩
abbrev S2048 : Shape := ⟨1, ![2048]⟩
abbrev S1x2048 : Shape := ⟨2, ![1, 2048]⟩
abbrev S2048x4096 : Shape := ⟨2, ![2048, 4096]⟩
abbrev S1x2048x2048 : Shape := ⟨3, ![1, 2048, 2048]⟩
abbrev S128 : Shape := ⟨1, ![128]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S16384x2x16x128 : Shape := ⟨4, ![16384, 2, 16, 128]⟩
abbrev S16384x1x16x128 : Shape := ⟨4, ![16384, 1, 16, 128]⟩
abbrev S16384x16x128 : Shape := ⟨3, ![16384, 16, 128]⟩
abbrev S16384x16 : Shape := ⟨2, ![16384, 16]⟩
abbrev S16384x16x1 : Shape := ⟨3, ![16384, 16, 1]⟩
abbrev S1x1x128 : Shape := ⟨3, ![1, 1, 128]⟩
abbrev S2048x2048 : Shape := ⟨2, ![2048, 2048]⟩
abbrev S16x16384x128 : Shape := ⟨3, ![16, 16384, 128]⟩

abbrev nBuf : Space → Nat
  | .hbm => 90
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S2048x4096, .f32⟩
  | .hbm, ⟨4, _⟩ => ⟨S1x2048x2048, .f32⟩
  | .hbm, ⟨5, _⟩ => ⟨S128, .f32⟩
  | .hbm, ⟨6, _⟩ => ⟨S1x128, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x4096, .f32⟩
  | .hbm, ⟨24, _⟩ => ⟨S16384x2x16x128, .f32⟩
  | .hbm, ⟨25, _⟩ => ⟨S16384x1x16x128, .f32⟩
  | .hbm, ⟨26, _⟩ => ⟨S16384x16x128, .f32⟩
  | .hbm, ⟨27, _⟩ => ⟨S16384x16x128, .f32⟩
  | .hbm, ⟨28, _⟩ => ⟨S_, .f32⟩
  | .hbm, ⟨29, _⟩ => ⟨S16384x16, .f32⟩
  | .hbm, ⟨30, _⟩ => ⟨S16384x16x1, .f32⟩
  | .hbm, ⟨31, _⟩ => ⟨S_, .f32⟩
  | .hbm, ⟨32, _⟩ => ⟨S16384x16x1, .f32⟩
  | .hbm, ⟨33, _⟩ => ⟨S16384x16x1, .f32⟩
  | .hbm, ⟨34, _⟩ => ⟨S_, .f32⟩
  | .hbm, ⟨35, _⟩ => ⟨S16384x16x1, .f32⟩
  | .hbm, ⟨36, _⟩ => ⟨S16384x16x1, .f32⟩
  | .hbm, ⟨37, _⟩ => ⟨S16384x16x1, .f32⟩
  | .hbm, ⟨38, _⟩ => ⟨S16384x16x128, .f32⟩
  | .hbm, ⟨39, _⟩ => ⟨S16384x16x128, .f32⟩
  | .hbm, ⟨40, _⟩ => ⟨S1x1x128, .f32⟩
  | .hbm, ⟨41, _⟩ => ⟨S16384x16x128, .f32⟩
  | .hbm, ⟨42, _⟩ => ⟨S16384x16x128, .f32⟩
  | .hbm, ⟨43, _⟩ => ⟨S16384x1x16x128, .f32⟩
  | .hbm, ⟨44, _⟩ => ⟨S16384x16x128, .f32⟩
  | .hbm, ⟨45, _⟩ => ⟨S2048, .f32⟩
  | .hbm, ⟨46, _⟩ => ⟨S16384x2048, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x2048, .f32⟩
  | .hbm, ⟨58, _⟩ => ⟨S16384x2048, .f32⟩
  | .hbm, ⟨59, _⟩ => ⟨S1x2048, .f32⟩
  | .hbm, ⟨60, _⟩ => ⟨S16384x2048, .f32⟩
  | .hbm, ⟨61, _⟩ => ⟨S16384x2048, .f32⟩
  | .hbm, ⟨62, _⟩ => ⟨S2048x2048, .f32⟩
  | .hbm, ⟨63, _⟩ => ⟨S16384x2048, .f32⟩
  | .hbm, ⟨64, _⟩ => ⟨S16384x16x128, .f32⟩
  | .hbm, ⟨65, _⟩ => ⟨S128, .f32⟩
  | .hbm, ⟨66, _⟩ => ⟨S16384x16x128, .f32⟩
  | .hbm, ⟨67, _⟩ => ⟨S_, .f32⟩
  | .hbm, ⟨68, _⟩ => ⟨S16384x16, .f32⟩
  | .hbm, ⟨69, _⟩ => ⟨S16384x16x1, .f32⟩
  | .hbm, ⟨70, _⟩ => ⟨S_, .f32⟩
  | .hbm, ⟨71, _⟩ => ⟨S16384x16x1, .f32⟩
  | .hbm, ⟨72, _⟩ => ⟨S16384x16x1, .f32⟩
  | .hbm, ⟨73, _⟩ => ⟨S_, .f32⟩
  | .hbm, ⟨74, _⟩ => ⟨S16384x16x1, .f32⟩
  | .hbm, ⟨75, _⟩ => ⟨S16384x16x1, .f32⟩
  | .hbm, ⟨76, _⟩ => ⟨S16384x16x1, .f32⟩
  | .hbm, ⟨77, _⟩ => ⟨S16384x16x128, .f32⟩
  | .hbm, ⟨78, _⟩ => ⟨S16384x16x128, .f32⟩
  | .hbm, ⟨79, _⟩ => ⟨S1x1x128, .f32⟩
  | .hbm, ⟨80, _⟩ => ⟨S16384x16x128, .f32⟩
  | .hbm, ⟨81, _⟩ => ⟨S16384x16x128, .f32⟩
  | .hbm, ⟨82, _⟩ => ⟨S16384x2048, .f32⟩
  | .hbm, ⟨83, _⟩ => ⟨S16384x2048, .f32⟩
  | .hbm, ⟨84, _⟩ => ⟨S16x16384x128, .f32⟩
  | .hbm, ⟨85, _⟩ => ⟨S16x16384x128, .bf16⟩
  | .hbm, ⟨86, _⟩ => ⟨S16x16384x128, .f32⟩
  | .hbm, ⟨87, _⟩ => ⟨S16x16384x128, .bf16⟩
  | .hbm, ⟨88, _⟩ => ⟨S16x16384x128, .f32⟩
  | .hbm, ⟨89, _⟩ => ⟨S16x16384x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== InProj.lean ====
abbrev S16384x2048 : Shape := ⟨2, ![16384, 2048]⟩
abbrev S1x2048 : Shape := ⟨2, ![1, 2048]⟩
abbrev S1x2048x4096 : Shape := ⟨3, ![1, 2048, 4096]⟩
abbrev S2048 : Shape := ⟨1, ![2048]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x4096, .f32⟩
  | .hbm, ⟨3, _⟩ => ⟨S2048, .f32⟩
  | .hbm, ⟨4, _⟩ => ⟨S1x2048, .f32⟩
  | .hbm, ⟨5, _⟩ => ⟨S2048x4096, .f32⟩
  | .hbm, ⟨6, _⟩ => ⟨S2048x4096, .bf16⟩
  | .hbm, ⟨7, _⟩ => ⟨S16384x2048, .f32⟩
  | .hbm, ⟨8, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjIdeal.lean ====
abbrev S16384x2048 : Shape := ⟨2, ![16384, 2048]⟩
abbrev S1x2048 : Shape := ⟨2, ![1, 2048]⟩
abbrev S1x2048x4096 : Shape := ⟨3, ![1, 2048, 4096]⟩
abbrev S2048 : Shape := ⟨1, ![2048]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x4096, .f32⟩
  | .hbm, ⟨3, _⟩ => ⟨S2048, .f32⟩
  | .hbm, ⟨4, _⟩ => ⟨S1x2048, .f32⟩
  | .hbm, ⟨5, _⟩ => ⟨S2048x4096, .f32⟩
  | .hbm, ⟨6, _⟩ => ⟨S2048x4096, .bf16⟩
  | .hbm, ⟨7, _⟩ => ⟨S16384x2048, .f32⟩
  | .hbm, ⟨8, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjReferenceIdeal.lean ====
abbrev S16384x2048 : Shape := ⟨2, ![16384, 2048]⟩
abbrev S1x2048 : Shape := ⟨2, ![1, 2048]⟩
abbrev S1x2048x4096 : Shape := ⟨3, ![1, 2048, 4096]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x4096 : Shape := ⟨2, ![2048, 4096]⟩
abbrev S16384x4096 : Shape := ⟨2, ![16384, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x4096, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x4096, .f32⟩
  | .hbm, ⟨21, _⟩ => ⟨S16384x4096, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Out.lean ====
abbrev S16384x2048 : Shape := ⟨2, ![16384, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutIdeal.lean ====
abbrev S16384x2048 : Shape := ⟨2, ![16384, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlpSample.lean ====
abbrev S512x2048 : Shape := ⟨2, ![512, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S1x2048x1024 : Shape := ⟨3, ![1, 2048, 1024]⟩
abbrev S1x1024x2048 : Shape := ⟨3, ![1, 1024, 2048]⟩
abbrev S128x2048 : Shape := ⟨2, ![128, 2048]⟩
abbrev S128 : Shape := ⟨1, ![128]⟩
abbrev S128x1 : Shape := ⟨2, ![128, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 10
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2x2048x8192, .bf16⟩
  | .hbm, ⟨8, _⟩ => ⟨S2x8192x2048, .bf16⟩
  | .hbm, ⟨9, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== MlpSampleReferenceIdeal.lean ====
abbrev S512x2048 : Shape := ⟨2, ![512, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048x8192 : Shape := ⟨3, ![1, 2048, 8192]⟩
abbrev S2048x8192 : Shape := ⟨2, ![2048, 8192]⟩
abbrev S512x8192 : Shape := ⟨2, ![512, 8192]⟩
abbrev S1x8192x2048 : Shape := ⟨3, ![1, 8192, 2048]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S1x2048, .f32⟩
  | .hbm, ⟨5, _⟩ => ⟨S2048, .f32⟩
  | .hbm, ⟨6, _⟩ => ⟨S512x2048, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x2048, .f32⟩
  | .hbm, ⟨18, _⟩ => ⟨S512x2048, .f32⟩
  | .hbm, ⟨19, _⟩ => ⟨S1x2048, .f32⟩
  | .hbm, ⟨20, _⟩ => ⟨S512x2048, .f32⟩
  | .hbm, ⟨21, _⟩ => ⟨S512x2048, .f32⟩
  | .hbm, ⟨22, _⟩ => ⟨S1x2048x8192, .f32⟩
  | .hbm, ⟨23, _⟩ => ⟨S2048x8192, .f32⟩
  | .hbm, ⟨24, _⟩ => ⟨S512x8192, .f32⟩
  | .hbm, ⟨25, _⟩ => ⟨S_, .f32⟩
  | .hbm, ⟨26, _⟩ => ⟨S512x8192, .f32⟩
  | .hbm, ⟨27, _⟩ => ⟨S512x8192, .f32⟩
  | .hbm, ⟨28, _⟩ => ⟨S512x8192, .f32⟩
  | .hbm, ⟨29, _⟩ => ⟨S1x8192x2048, .f32⟩
  | .hbm, ⟨30, _⟩ => ⟨S8192x2048, .f32⟩
  | .hbm, ⟨31, _⟩ => ⟨S512x2048, .f32⟩
  | .hbm, ⟨32, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KvqSample.lean ====
abbrev S512x2048 : Shape := ⟨2, ![512, 2048]⟩
abbrev S2048 : Shape := ⟨1, ![2048]⟩
abbrev S1x2048 : Shape := ⟨2, ![1, 2048]⟩
abbrev S2048x4096 : Shape := ⟨2, ![2048, 4096]⟩
abbrev S1x2048x2048 : Shape := ⟨3, ![1, 2048, 2048]⟩
abbrev S128 : Shape := ⟨1, ![128]⟩
abbrev S1x128 : Shape := ⟨2, ![1, 128]⟩
abbrev S2048x2048 : Shape := ⟨2, ![2048, 2048]⟩
abbrev S16x512x128 : Shape := ⟨3, ![16, 512, 128]⟩
abbrev S2048x512 : Shape := ⟨2, ![2048, 512]⟩
abbrev S512x512 : Shape := ⟨2, ![512, 512]⟩
abbrev S4x512x128 : Shape := ⟨3, ![4, 512, 128]⟩
abbrev S128x2048 : Shape := ⟨2, ![128, 2048]⟩
abbrev S128x1 : Shape := ⟨2, ![128, 1]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 21
  | .vmem => 23
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S1x2048, .f32⟩
  | .hbm, ⟨3, _⟩ => ⟨S2048x4096, .f32⟩
  | .hbm, ⟨4, _⟩ => ⟨S1x2048x2048, .f32⟩
  | .hbm, ⟨5, _⟩ => ⟨S128, .f32⟩
  | .hbm, ⟨6, _⟩ => ⟨S1x128, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048x4096, .bf16⟩
  | .hbm, ⟨11, _⟩ => ⟨S2048x2048, .f32⟩
  | .hbm, ⟨12, _⟩ => ⟨S2048x2048, .bf16⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S512x2048, .f32⟩
  | .hbm, ⟨17, _⟩ => ⟨S512x2048, .f32⟩
  | .hbm, ⟨18, _⟩ => ⟨S16x512x128, .bf16⟩
  | .hbm, ⟨19, _⟩ => ⟨S16x512x128, .bf16⟩
  | .hbm, ⟨20, _⟩ => ⟨S16x512x128, .bf16⟩
  | .local _ .vmem, ⟨0, _⟩ => ⟨S512x2048, .f32⟩
  | .local _ .vmem, ⟨1, _⟩ => ⟨S1x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1x128, .f32⟩
  | .local _ .vmem, ⟨10, _⟩ => ⟨S1x128, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S4x512x128, .bf16⟩
  | .local _ .vmem, ⟨16, _⟩ => ⟨S4x512x128, .bf16⟩
  | .local _ .vmem, ⟨17, _⟩ => ⟨S4x512x128, .bf16⟩
  | .local _ .vmem, ⟨18, _⟩ => ⟨S4x512x128, .bf16⟩
  | .local _ .vmem, ⟨19, _⟩ => ⟨S4x512x128, .bf16⟩
  | .local _ .vmem, ⟨20, _⟩ => ⟨S4x512x128, .bf16⟩
  | .local _ .vmem, ⟨21, _⟩ => ⟨S512x2048, .bf16⟩
  | .local _ .vmem, ⟨22, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KvqSampleReferenceIdeal.lean ====
abbrev S512x2048 : Shape := ⟨2, ![512, 2048]⟩
abbrev S2048 : Shape := ⟨1, ![2048]⟩
abbrev S1x2048 : Shape := ⟨2, ![1, 2048]⟩
abbrev S2048x4096 : Shape := ⟨2, ![2048, 4096]⟩
abbrev S1x2048x2048 : Shape := ⟨3, ![1, 2048, 2048]⟩
abbrev S128 : Shape := ⟨1, ![128]⟩
abbrev S1x128 : Shape := ⟨2, ![1, 128]⟩
abbrev S_ : Shape := ⟨0, ![]⟩
abbrev S512 : Shape := ⟨1, ![512]⟩
abbrev S512x1 : Shape := ⟨2, ![512, 1]⟩
abbrev S512x4096 : Shape := ⟨2, ![512, 4096]⟩
abbrev S512x2x16x128 : Shape := ⟨4, ![512, 2, 16, 128]⟩
abbrev S512x1x16x128 : Shape := ⟨4, ![512, 1, 16, 128]⟩
abbrev S512x16x128 : Shape := ⟨3, ![512, 16, 128]⟩
abbrev S512x16 : Shape := ⟨2, ![512, 16]⟩
abbrev S512x16x1 : Shape := ⟨3, ![512, 16, 1]⟩
abbrev S1x1x128 : Shape := ⟨3, ![1, 1, 128]⟩
abbrev S2048x2048 : Shape := ⟨2, ![2048, 2048]⟩
abbrev S16x512x128 : Shape := ⟨3, ![16, 512, 128]⟩

abbrev nBuf : Space → Nat
  | .hbm => 90
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S1x2048, .f32⟩
  | .hbm, ⟨3, _⟩ => ⟨S2048x4096, .f32⟩
  | .hbm, ⟨4, _⟩ => ⟨S1x2048x2048, .f32⟩
  | .hbm, ⟨5, _⟩ => ⟨S128, .f32⟩
  | .hbm, ⟨6, _⟩ => ⟨S1x128, .f32⟩
  | .hbm, ⟨7, _⟩ => ⟨S512x2048, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x2048, .f32⟩
  | .hbm, ⟨19, _⟩ => ⟨S512x2048, .f32⟩
  | .hbm, ⟨20, _⟩ => ⟨S1x2048, .f32⟩
  | .hbm, ⟨21, _⟩ => ⟨S512x2048, .f32⟩
  | .hbm, ⟨22, _⟩ => ⟨S512x2048, .f32⟩
  | .hbm, ⟨23, _⟩ => ⟨S512x4096, .f32⟩
  | .hbm, ⟨24, _⟩ => ⟨S512x2x16x128, .f32⟩
  | .hbm, ⟨25, _⟩ => ⟨S512x1x16x128, .f32⟩
  | .hbm, ⟨26, _⟩ => ⟨S512x16x128, .f32⟩
  | .hbm, ⟨27, _⟩ => ⟨S512x16x128, .f32⟩
  | .hbm, ⟨28, _⟩ => ⟨S_, .f32⟩
  | .hbm, ⟨29, _⟩ => ⟨S512x16, .f32⟩
  | .hbm, ⟨30, _⟩ => ⟨S512x16x1, .f32⟩
  | .hbm, ⟨31, _⟩ => ⟨S_, .f32⟩
  | .hbm, ⟨32, _⟩ => ⟨S512x16x1, .f32⟩
  | .hbm, ⟨33, _⟩ => ⟨S512x16x1, .f32⟩
  | .hbm, ⟨34, _⟩ => ⟨S_, .f32⟩
  | .hbm, ⟨35, _⟩ => ⟨S512x16x1, .f32⟩
  | .hbm, ⟨36, _⟩ => ⟨S512x16x1, .f32⟩
  | .hbm, ⟨37, _⟩ => ⟨S512x16x1, .f32⟩
  | .hbm, ⟨38, _⟩ => ⟨S512x16x128, .f32⟩
  | .hbm, ⟨39, _⟩ => ⟨S512x16x128, .f32⟩
  | .hbm, ⟨40, _⟩ => ⟨S1x1x128, .f32⟩
  | .hbm, ⟨41, _⟩ => ⟨S512x16x128, .f32⟩
  | .hbm, ⟨42, _⟩ => ⟨S512x16x128, .f32⟩
  | .hbm, ⟨43, _⟩ => ⟨S512x1x16x128, .f32⟩
  | .hbm, ⟨44, _⟩ => ⟨S512x16x128, .f32⟩
  | .hbm, ⟨45, _⟩ => ⟨S2048, .f32⟩
  | .hbm, ⟨46, _⟩ => ⟨S512x2048, .f32⟩
  | .hbm, ⟨47, _⟩ => ⟨S_, .f32⟩
  | .hbm, ⟨48, _⟩ => ⟨S512, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S_, .f32⟩
  | .hbm, ⟨54, _⟩ => ⟨S512x1, .f32⟩
  | .hbm, ⟨55, _⟩ => ⟨S512x1, .f32⟩
  | .hbm, ⟨56, _⟩ => ⟨S512x1, .f32⟩
  | .hbm, ⟨57, _⟩ => ⟨S512x2048, .f32⟩
  | .hbm, ⟨58, _⟩ => ⟨S512x2048, .f32⟩
  | .hbm, ⟨59, _⟩ => ⟨S1x2048, .f32⟩
  | .hbm, ⟨60, _⟩ => ⟨S512x2048, .f32⟩
  | .hbm, ⟨61, _⟩ => ⟨S512x2048, .f32⟩
  | .hbm, ⟨62, _⟩ => ⟨S2048x2048, .f32⟩
  | .hbm, ⟨63, _⟩ => ⟨S512x2048, .f32⟩
  | .hbm, ⟨64, _⟩ => ⟨S512x16x128, .f32⟩
  | .hbm, ⟨65, _⟩ => ⟨S128, .f32⟩
  | .hbm, ⟨66, _⟩ => ⟨S512x16x128, .f32⟩
  | .hbm, ⟨67, _⟩ => ⟨S_, .f32⟩
  | .hbm, ⟨68, _⟩ => ⟨S512x16, .f32⟩
  | .hbm, ⟨69, _⟩ => ⟨S512x16x1, .f32⟩
  | .hbm, ⟨70, _⟩ => ⟨S_, .f32⟩
  | .hbm, ⟨71, _⟩ => ⟨S512x16x1, .f32⟩
  | .hbm, ⟨72, _⟩ => ⟨S512x16x1, .f32⟩
  | .hbm, ⟨73, _⟩ => ⟨S_, .f32⟩
  | .hbm, ⟨74, _⟩ => ⟨S512x16x1, .f32⟩
  | .hbm, ⟨75, _⟩ => ⟨S512x16x1, .f32⟩
  | .hbm, ⟨76, _⟩ => ⟨S512x16x1, .f32⟩
  | .hbm, ⟨77, _⟩ => ⟨S512x16x128, .f32⟩
  | .hbm, ⟨78, _⟩ => ⟨S512x16x128, .f32⟩
  | .hbm, ⟨79, _⟩ => ⟨S1x1x128, .f32⟩
  | .hbm, ⟨80, _⟩ => ⟨S512x16x128, .f32⟩
  | .hbm, ⟨81, _⟩ => ⟨S512x16x128, .f32⟩
  | .hbm, ⟨82, _⟩ => ⟨S512x2048, .f32⟩
  | .hbm, ⟨83, _⟩ => ⟨S512x2048, .f32⟩
  | .hbm, ⟨84, _⟩ => ⟨S16x512x128, .f32⟩
  | .hbm, ⟨85, _⟩ => ⟨S16x512x128, .bf16⟩
  | .hbm, ⟨86, _⟩ => ⟨S16x512x128, .f32⟩
  | .hbm, ⟨87, _⟩ => ⟨S16x512x128, .bf16⟩
  | .hbm, ⟨88, _⟩ => ⟨S16x512x128, .f32⟩
  | .hbm, ⟨89, _⟩ => ⟨S16x512x128, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== InProjSample.lean ====
abbrev S512x2048 : Shape := ⟨2, ![512, 2048]⟩
abbrev S1x2048 : Shape := ⟨2, ![1, 2048]⟩
abbrev S1x2048x4096 : Shape := ⟨3, ![1, 2048, 4096]⟩
abbrev S2048 : Shape := ⟨1, ![2048]⟩
abbrev S2048x4096 : Shape := ⟨2, ![2048, 4096]⟩
abbrev S2048x1024 : Shape := ⟨2, ![2048, 1024]⟩
abbrev S512x1024 : Shape := ⟨2, ![512, 1024]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 11
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S1x2048x4096, .f32⟩
  | .hbm, ⟨3, _⟩ => ⟨S2048, .f32⟩
  | .hbm, ⟨4, _⟩ => ⟨S1x2048, .f32⟩
  | .hbm, ⟨5, _⟩ => ⟨S2048x4096, .f32⟩
  | .hbm, ⟨6, _⟩ => ⟨S2048x4096, .bf16⟩
  | .hbm, ⟨7, _⟩ => ⟨S512x2048, .f32⟩
  | .hbm, ⟨8, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjSampleReferenceIdeal.lean ====
abbrev S512x2048 : Shape := ⟨2, ![512, 2048]⟩
abbrev S1x2048 : Shape := ⟨2, ![1, 2048]⟩
abbrev S1x2048x4096 : Shape := ⟨3, ![1, 2048, 4096]⟩
abbrev S2048 : Shape := ⟨1, ![2048]⟩
abbrev S_ : Shape := ⟨0, ![]⟩
abbrev S512 : Shape := ⟨1, ![512]⟩
abbrev S512x1 : Shape := ⟨2, ![512, 1]⟩
abbrev S2048x4096 : Shape := ⟨2, ![2048, 4096]⟩
abbrev S512x4096 : Shape := ⟨2, ![512, 4096]⟩

abbrev nBuf : Space → Nat
  | .hbm => 41
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S1x2048x4096, .f32⟩
  | .hbm, ⟨3, _⟩ => ⟨S2048, .f32⟩
  | .hbm, ⟨4, _⟩ => ⟨S512x2048, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x2048, .f32⟩
  | .hbm, ⟨16, _⟩ => ⟨S512x2048, .f32⟩
  | .hbm, ⟨17, _⟩ => ⟨S1x2048, .f32⟩
  | .hbm, ⟨18, _⟩ => ⟨S512x2048, .f32⟩
  | .hbm, ⟨19, _⟩ => ⟨S512x2048, .f32⟩
  | .hbm, ⟨20, _⟩ => ⟨S2048x4096, .f32⟩
  | .hbm, ⟨21, _⟩ => ⟨S512x4096, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== OutSample.lean ====
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 6
  | .vmem => 4
  | .smem => 0
  | _ => 0

abbrev bufTy : (tb : Table) → Fin (tcTables nBuf tb) → BufTy
  | .hbm, ⟨0, _⟩ => ⟨S512x2048, .bf16⟩
  | .hbm, ⟨1, _⟩ => ⟨S1x2048x2048, .f32⟩
  | .hbm, ⟨2, _⟩ => ⟨S512x2048, .f32⟩
  | .hbm, ⟨3, _⟩ => ⟨S2048x2048, .f32⟩
  | .hbm, ⟨4, _⟩ => ⟨S2048x2048, .bf16⟩
  | .hbm, ⟨5, _⟩ => ⟨S512x2048, .f32⟩
  | .local _ .vmem, ⟨0, _⟩ => ⟨S512x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== OutSampleReferenceIdeal.lean ====
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1x2048x2048, .f32⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S512x2048, .f32⟩
  | .hbm, ⟨6, _⟩ => ⟨S512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.MlpValue.lean ====
module

public import proofs.«01_k».proof.Proof.Gen.MlpIdeal.Value
public import proofs.«01_k».proof.Proof.Gen.MlpReferenceIdeal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MlpIdeal.Result

open Cert.MlpIdeal Cert.MlpIdeal.Gen

variable (m : (ℓ : Loc nD τ sig) → Buf (Elt Ideal) ℓ)

/-- The reference's result: `x + relu(rmsnorm(x) g U)² D` as it composes its operations. -/
def REF (X : FVec Ideal S16384x2048 .f32) (g : FVec Ideal S2x2048 .f32) (U : FVec Ideal S2x2048x8192 .f32)
    (D : FVec Ideal S2x8192x2048 .f32) : FVec Ideal S16384x2048 .f32 :=
  addf X (Host.dotGeneral (φ₁ := .f32) (φ₂ := .f32) Cert.MlpReferenceIdeal.dot_S16384x8192_S8192x2048_S16384x2048_1_0_0_1_n_n none (mulf (maximumf (Host.dotGeneral (φ₁ := .f32) (φ₂ := .f32) Cert.MlpReferenceIdeal.dot_S16384x2048_S2048x8192_S16384x8192_1_0_0_1_n_n none (mulf (mulf X (broadcastInDim Cert.MlpReferenceIdeal.S16384x2048 ![0, 1] Cert.MlpReferenceIdeal.Gen.bcast_S16384x1_S16384x2048_0_1 (Host.rsqrt (addf (Host.divf (broadcastInDim Cert.MlpReferenceIdeal.S16384x1 ![0] Cert.MlpReferenceIdeal.Gen.bcast_S16384_S16384x1_0 (Host.reduceAdd (mulf X X) (constant Cert.MlpReferenceIdeal.S_ .f32 0x00000000#32) Cert.MlpReferenceIdeal.Gen.reducesTo_S16384x2048_S16384_d1 Cert.MlpReferenceIdeal.Gen.h_S_)) (broadcastInDim Cert.MlpReferenceIdeal.S16384x1 ![] Cert.MlpReferenceIdeal.Gen.bcast_S_S16384x1 (constant Cert.MlpReferenceIdeal.S_ .f32 0x45000000#32))) (broadcastInDim Cert.MlpReferenceIdeal.S16384x1 ![] Cert.MlpReferenceIdeal.Gen.bcast_S_S16384x1 (constant Cert.MlpReferenceIdeal.S_ .f32 0x358637BD#32)))))) (broadcastInDim Cert.MlpReferenceIdeal.S16384x2048 ![0, 1] Cert.MlpReferenceIdeal.Gen.bcast_S1x2048_S16384x2048_0_1 (broadcastInDim Cert.MlpReferenceIdeal.S1x2048 ![1] Cert.MlpReferenceIdeal.Gen.bcast_S2048_S1x2048_1 (shapeCast _ (extractStridedSlice Cert.MlpReferenceIdeal.S1x2048 ![0, 0] g Cert.MlpReferenceIdeal.Gen.slices_S2x2048_S1x2048_0_0) Cert.MlpReferenceIdeal.Gen.shapeCasts_S1x2048_S2048)))) (shapeCast _ (extractStridedSlice Cert.MlpReferenceIdeal.S1x2048x8192 ![0, 0, 0] U Cert.MlpReferenceIdeal.Gen.slices_S2x2048x8192_S1x2048x8192_0_0_0) Cert.MlpReferenceIdeal.Gen.shapeCasts_S1x2048x8192_S2048x8192)) (broadcastInDim Cert.MlpReferenceIdeal.S16384x8192 ![] Cert.MlpReferenceIdeal.Gen.bcast_S_S16384x8192 (constant Cert.MlpReferenceIdeal.S_ .f32 0x00000000#32))) (maximumf (Host.dotGeneral (φ₁ := .f32) (φ₂ := .f32) Cert.MlpReferenceIdeal.dot_S16384x2048_S2048x8192_S16384x8192_1_0_0_1_n_n none (mulf (mulf X (broadcastInDim Cert.MlpReferenceIdeal.S16384x2048 ![0, 1] Cert.MlpReferenceIdeal.Gen.bcast_S16384x1_S16384x2048_0_1 (Host.rsqrt (addf (Host.divf (broadcastInDim Cert.MlpReferenceIdeal.S16384x1 ![0] Cert.MlpReferenceIdeal.Gen.bcast_S16384_S16384x1_0 (Host.reduceAdd (mulf X X) (constant Cert.MlpReferenceIdeal.S_ .f32 0x00000000#32) Cert.MlpReferenceIdeal.Gen.reducesTo_S16384x2048_S16384_d1 Cert.MlpReferenceIdeal.Gen.h_S_)) (broadcastInDim Cert.MlpReferenceIdeal.S16384x1 ![] Cert.MlpReferenceIdeal.Gen.bcast_S_S16384x1 (constant Cert.MlpReferenceIdeal.S_ .f32 0x45000000#32))) (broadcastInDim Cert.MlpReferenceIdeal.S16384x1 ![] Cert.MlpReferenceIdeal.Gen.bcast_S_S16384x1 (constant Cert.MlpReferenceIdeal.S_ .f32 0x358637BD#32)))))) (broadcastInDim Cert.MlpReferenceIdeal.S16384x2048 ![0, 1] Cert.MlpReferenceIdeal.Gen.bcast_S1x2048_S16384x2048_0_1 (broadcastInDim Cert.MlpReferenceIdeal.S1x2048 ![1] Cert.MlpReferenceIdeal.Gen.bcast_S2048_S1x2048_1 (shapeCast _ (extractStridedSlice Cert.MlpReferenceIdeal.S1x2048 ![0, 0] g Cert.MlpReferenceIdeal.Gen.slices_S2x2048_S1x2048_0_0) Cert.MlpReferenceIdeal.Gen.shapeCasts_S1x2048_S2048)))) (shapeCast _ (extractStridedSlice Cert.MlpReferenceIdeal.S1x2048x8192 ![0, 0, 0] U Cert.MlpReferenceIdeal.Gen.slices_S2x2048x8192_S1x2048x8192_0_0_0) Cert.MlpReferenceIdeal.Gen.shapeCasts_S1x2048x8192_S2048x8192)) (broadcastInDim Cert.MlpReferenceIdeal.S16384x8192 ![] Cert.MlpReferenceIdeal.Gen.bcast_S_S16384x8192 (constant Cert.MlpReferenceIdeal.S_ .f32 0x00000000#32)))) (shapeCast _ (extractStridedSlice Cert.MlpReferenceIdeal.S1x8192x2048 ![0, 0, 0] D Cert.MlpReferenceIdeal.Gen.slices_S2x8192x2048_S1x8192x2048_0_0_0) Cert.MlpReferenceIdeal.Gen.shapeCasts_S1x8192x2048_S8192x2048))

/-- Row `i`, entry `d` of the normalised and scaled input. -/
def RN (X : FVec Ideal S16384x2048 .f32) (g : FVec Ideal S2x2048 .f32) (i : Fin 16384) (d : Fin 2048) : EReal :=
  X (ix2 i d) * Ideal.rsqrt (Ideal.div (∑ k : Fin 2048, X (ix2 i k) * X (ix2 i k)) (Ideal.ofBits .f32 0x45000000#32)
    + Ideal.ofBits .f32 0x358637BD#32) * g (ix2 0 d)

/-- Entry `f` of row `i` of the hidden layer. -/
def HID (X : FVec Ideal S16384x2048 .f32) (g : FVec Ideal S2x2048 .f32) (U : FVec Ideal S2x2048x8192 .f32)
    (i : Fin 16384) (f : Fin 8192) : EReal :=
  max (∑ d : Fin 2048, RN X g i d * U (ix3 0 d f)) 0

theorem ref_at (X : FVec Ideal S16384x2048 .f32) (g : FVec Ideal S2x2048 .f32) (U : FVec Ideal S2x2048x8192 .f32)
    (D : FVec Ideal S2x8192x2048 .f32) (i : Fin 16384) (l : Fin 2048) : REF X g U D (ix2 i l)
      = X (ix2 i l) + ∑ f : Fin 8192, HID X g U i f * HID X g U i f * D (ix3 0 f l) := by
  pointwise [REF, HID, RN]

theorem pay2_at (xn wu acc wd) (r : Fin 1024) (l : Fin 2048) : k0_pay2 (F := Ideal) xn wu acc wd (ix2 r l)
      = acc (ix2 r l) + ∑ k : Fin 512, max (∑ d : Fin 2048, xn (ix2 r d) * wu (ix3 0 d k)) 0
          * max (∑ d : Fin 2048, xn (ix2 r d) * wu (ix3 0 d k)) 0 * wd (ix3 0 k l) := by
  pointwise [k0_pay2]

theorem idx : ∀ t : Fin cfg0.N, win0_0.index t = ![t.val / 16, 0] ∧ win0_1.index t = ![0, 0] ∧ win0_2.index t = ![0, 0, t.val % 16]
    ∧ win0_3.index t = ![0, t.val % 16, 0] ∧ win0_4.index t = ![t.val / 16, 0] ∧ t.val / 16 < 16 :=
  (by decide +kernel : ∀ t : Fin grid0.N, _)

theorem scr_A (c : Dev nD) (t : Fin cfg0.N) (h : t.val % 16 = 0) (y : S1024x2048.Idx) (i : Fin 16384)
    (hi : (i : ℕ) = t.val / 16 * 1024 + y 0) : (outsAt0 m c t.val t.isLt).2 y =
      RN (m ((c : Thread nD τ).loc main_arg0)) (m ((c : Thread nD τ).loc main_arg1)) i (y 1) := by
  rw [outsAt0_A m c t h]; frame_out
  canon_tiles x h
  all_goals
    rw [h0] at hi
    pointwise [k0_pay1, k0_pay3, k0_pay4, k0_pay5, k0_pay6, k0_pay7, k0_pay8, k0_pay9, k0_pay10, k0_pay11, k0_pay12,
      k0_pay13, k0_pay14, k0_pay15, k0_pay16, RN]
    blk_point [iblk, V, idx t]

theorem scr (c : Dev nD) : ∀ (n : ℕ) (hn : n < cfg0.N) (y : S1024x2048.Idx) (i : Fin 16384)
    (_ : (i : ℕ) = n / 16 * 1024 + y 0), (outsAt0 m c n hn).2 y =
      RN (m ((c : Thread nD τ).loc main_arg0)) (m ((c : Thread nD τ).loc main_arg1)) i (y 1) := by
  intro n
  induction n with
  | zero => exact fun hn y i hi => scr_A m c ⟨0, hn⟩ rfl y i hi
  | succ n ih =>
    intro hn y i hi
    by_cases h : (n + 1) % 16 = 0
    · exact scr_A m c ⟨n + 1, hn⟩ h y i hi
    · rw [outsAt0_B m c ⟨n + 1, hn⟩ h]
      frame_out
      unfold sout0_B_0
      exact ih _ y i (by omega)

/-- The part of row `i`, column `l` that slice `s` of the hidden layer adds. -/
def PART (X : FVec Ideal S16384x2048 .f32) (g : FVec Ideal S2x2048 .f32) (U : FVec Ideal S2x2048x8192 .f32)
    (D : FVec Ideal S2x8192x2048 .f32) (i : Fin 16384) (l : Fin 2048) (s : Fin 16) : EReal :=
  ∑ k : Fin 512, HID X g U i ⟨s * 512 + k, by omega⟩ * HID X g U i ⟨s * 512 + k, by omega⟩
    * D (ix3 0 ⟨s * 512 + k, by omega⟩ l)

theorem up_read (c : Dev nD) (t : Fin cfg0.N) (d : Fin 2048) (k : Fin 512) : iblk m c 2 t (ix3 0 d k) =
    m ((c : Thread nD τ).loc main_arg2) (ix3 0 d ⟨t.val % 16 * 512 + k, by omega⟩) := by
  blk_point [iblk, V, idx t]

theorem down_read (c : Dev nD) (t : Fin cfg0.N) (l : Fin 2048) (k : Fin 512) : iblk m c 3 t (ix3 0 k l) =
    m ((c : Thread nD τ).loc main_arg3) (ix3 0 ⟨t.val % 16 * 512 + k, by omega⟩ l) := by
  blk_point [iblk, V, idx t]

/-- Row `i`, column `l` after the first slice: the input's entry and slice 0. -/
def FIRST (X : FVec Ideal S16384x2048 .f32) (g : FVec Ideal S2x2048 .f32) (U : FVec Ideal S2x2048x8192 .f32)
    (D : FVec Ideal S2x8192x2048 .f32) (i : Fin 16384) (l : Fin 2048) : EReal :=
  X (ix2 i l) + PART X g U D i l 0

theorem pay2_val (c : Dev nD) (t : Fin cfg0.N) (r : Fin 1024) (l : Fin 2048) (i : Fin 16384)
    (xn : FVec Ideal S1024x2048 .bf16) (acc : FVec Ideal S1024x2048 .f32) (hx : ∀ d, xn (ix2 r d) =
      RN (m ((c : Thread nD τ).loc main_arg0)) (m ((c : Thread nD τ).loc main_arg1)) i d) (s : Fin 16)
    (hs : (s : ℕ) = t.val % 16) :
    k0_pay2 (F := Ideal) xn (iblk m c 2 t) acc (iblk m c 3 t) (ix2 r l) = acc (ix2 r l)
      + PART (m ((c : Thread nD τ).loc main_arg0)) (m ((c : Thread nD τ).loc main_arg1))
        (m ((c : Thread nD τ).loc main_arg2)) (m ((c : Thread nD τ).loc main_arg3)) i l s := by
  obtain ⟨s, hs'⟩ := s
  obtain rfl : s = t.val % 16 := hs
  rw [pay2_at, PART]
  refine congrArg _ (Finset.sum_congr rfl fun k _ => ?_)
  rw [down_read]
  have : (∑ d : Fin 2048, xn (ix2 r d) * iblk m c 2 t (ix3 0 d k)) =
    ∑ d : Fin 2048, RN (m ((c : Thread nD τ).loc main_arg0)) (m ((c : Thread nD τ).loc main_arg1)) i d
     * m ((c : Thread nD τ).loc main_arg2) (ix3 0 d ⟨t.val % 16 * 512 + k, by omega⟩) :=
    Finset.sum_congr rfl fun d _ => by rw [hx, up_read]
  rw [this]
  rfl

end Cert.MlpIdeal.Result
-- ==== Proof.MlpFinal.lean ====
module

public import proofs.«01_k».proof.Proof.MlpValue
public import proofs.«01_k».proof.Proof.Gen.MlpIdeal.Value
public import proofs.«01_k».proof.Proof.Gen.MlpReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MlpIdeal.Result

open Cert.MlpIdeal Cert.MlpIdeal.Gen

section
/-- Row `i`, column `l` after the first `n` slices. -/
def SUMS (X : FVec Ideal S16384x2048 .f32) (g : FVec Ideal S2x2048 .f32) (U : FVec Ideal S2x2048x8192 .f32)
    (D : FVec Ideal S2x8192x2048 .f32) (i : Fin 16384) (l : Fin 2048) (n : ℕ) (hn : n ≤ 16) : EReal :=
  X (ix2 i l) + ∑ s : Fin n, PART X g U D i l ⟨s, by omega⟩

variable (X : FVec Ideal S16384x2048 .f32) (g : FVec Ideal S2x2048 .f32) (U : FVec Ideal S2x2048x8192 .f32)
    (D : FVec Ideal S2x8192x2048 .f32) (i : Fin 16384) (l : Fin 2048)

theorem sums_one (n : ℕ) (hn : n ≤ 16) (h : n = 1) : SUMS X g U D i l n hn = FIRST X g U D i l := by
  subst h
  exact congrArg (X (ix2 i l) + ·) (Fin.sum_univ_one _)

theorem sums_succ (n k : ℕ) (hn : n ≤ 16) (hk : k < 16) (h : n = k + 1) :
    SUMS X g U D i l n hn = SUMS X g U D i l k (by omega) + PART X g U D i l ⟨k, hk⟩ := by
  subst h
  unfold SUMS
  rw [Fin.sum_univ_castSucc, ← add_assoc]
  rfl

end

variable (m : (ℓ : Loc nD τ sig) → Buf (Elt Ideal) ℓ)

theorem whole_idx (h) (r : Fin 1024) (l : Fin 2048) :
    (Rect.unit (s := S1024x2048) ![0, 0] ![1024, 2048] h).toLoadRect.idx (ix2 r l) = ix2 r l := by
  blk_ext
  · show 0 + 1 * (r : ℕ) = r
    omega
  · show 0 + 1 * (l : ℕ) = l
    omega

theorem step_A (c : Dev nD) (t : Fin cfg0.N) (h : t.val % 16 = 0) (r : Fin 1024) (l : Fin 2048) (i : Fin 16384)
    (hi : (i : ℕ) = t.val / 16 * 1024 + r) : (outsAt0 m c t.val t.isLt).1 (ix2 r l) =
      FIRST (m ((c : Thread nD τ).loc main_arg0)) (m ((c : Thread nD τ).loc main_arg1))
        (m ((c : Thread nD τ).loc main_arg2)) (m ((c : Thread nD τ).loc main_arg3)) i l := by
  have hs := fun d => scr_A m c t h (ix2 r d) i hi
  rw [outsAt0_A m c t h] at hs ⊢
  frame_out
  refine (pay2_val m c t r l i _ _ (fun d => ?_) 0 h.symm).trans (congrArg (· + _) ?_)
  · refine (congrFun (View.readCov_eq_canon' _ _ _) _).trans (Eq.trans ?_ (hs d))
    rw [whole_idx]
    frame_out
  · refine (congrFun (View.readCov_eq_canon' _ _ _) _).trans ?_
    rw [whole_idx]
    generalize hy : ix2 r l = y
    have hr : (r : ℕ) = y 0 := hy ▸ rfl
    have hl : (l : ℕ) = y 1 := hy ▸ rfl
    clear hs hy
    canon_tiles x h
    all_goals
      rw [h0] at hr
      rw [h1] at hl
      blk_point [iblk, V, idx t]

theorem step_B (c : Dev nD) (n : ℕ) (hn : n + 1 < cfg0.N) (h : ¬(n + 1) % 16 = 0) (r : Fin 1024) (l : Fin 2048)
    (i : Fin 16384) (hi : (i : ℕ) = (n + 1) / 16 * 1024 + r) (s : Fin 16) (hs : (s : ℕ) = (n + 1) % 16) :
    (outsAt0 m c (n + 1) hn).1 (ix2 r l) = (outsAt0 m c n (by omega)).1 (ix2 r l)
      + PART (m ((c : Thread nD τ).loc main_arg0)) (m ((c : Thread nD τ).loc main_arg1))
        (m ((c : Thread nD τ).loc main_arg2)) (m ((c : Thread nD τ).loc main_arg3)) i l s := by
  rw [outsAt0_B m c ⟨n + 1, hn⟩ h]
  frame_out
  refine pay2_val m c ⟨n + 1, hn⟩ r l i _ _ (fun d => ?_) s hs
  refine (congrFun (read_unread_whole _ _ _) _).trans ?_
  exact scr m c n (by omega) (ix2 r d) i (by show (i : ℕ) = n / 16 * 1024 + r; omega)

theorem acc (c : Dev nD) : ∀ (n : ℕ) (hn : n < cfg0.N) (r : Fin 1024) (l : Fin 2048) (i : Fin 16384)
    (_ : (i : ℕ) = n / 16 * 1024 + r), (outsAt0 m c n hn).1 (ix2 r l) =
      SUMS (m ((c : Thread nD τ).loc main_arg0)) (m ((c : Thread nD τ).loc main_arg1))
        (m ((c : Thread nD τ).loc main_arg2)) (m ((c : Thread nD τ).loc main_arg3)) i l (n % 16 + 1) (by omega) := by
  intro n
  induction n with
  | zero =>
    intro hn r l i hi
    exact (step_A m c ⟨0, hn⟩ rfl r l i hi).trans (sums_one _ _ _ _ _ _ _ _ rfl).symm
  | succ n ih =>
    intro hn r l i hi
    by_cases h : (n + 1) % 16 = 0
    · exact (step_A m c ⟨n + 1, hn⟩ h r l i hi).trans (sums_one _ _ _ _ _ _ _ _ (by omega)).symm
    · rw [step_B m c n hn h r l i hi ⟨n % 16 + 1, by omega⟩ (by show n % 16 + 1 = _; omega), ih (by omega) r l i (by omega)]
      exact (sums_succ _ _ _ _ _ _ _ _ _ _ (by omega)).symm

/-- The kernel's array is the reference's term of the entry contents. -/
theorem final (c : Dev nD) :
    (dats m 0 c).arrAt 4 (cfgs 0).N = REF (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  have ht := (idx t).2.2.2.2.2
  have h15 : t.val % 16 = 15 := (flush0_4 t).mp hf
  obtain ⟨r, l, rfl⟩ : ∃ (r : Fin 1024) (l : Fin 2048), y = ix2 r l := ⟨y 0, y 1, by blk_ext⟩
  have e : (win0_4.blk t).view.emb (ix2 r l) = ix2 ⟨t.val / 16 * 1024 + r, by omega⟩ l := by
    blk_ext [idx t]
  rw [e, ref_at]
  refine (acc m c t.val t.isLt r l ⟨t.val / 16 * 1024 + r, by omega⟩ rfl).trans ?_
  unfold SUMS
  refine congrArg _ ?_
  rw [← Fin.sum_congr' _ (show 16 = t.val % 16 + 1 by omega)]
  exact Fin.sum_mul_add_congr fun s k hl => rfl

end Cert.MlpIdeal.Result

namespace Cert.Proof.MlpClaim

/-- The kernel's result is the reference's. -/
theorem algebraic : Cert.algebraic_MlpIdeal_MlpReferenceIdeal := by
  pair_intro
  · run_from Cert.MlpIdeal.Gen.run_main m g
  · run_from Cert.MlpReferenceIdeal.Value.run m' g'
    exact (Cert.MlpIdeal.Result.final m c).symm

end Cert.Proof.MlpClaim

end
-- ==== Proof.KvqRef.lean ====
module

public import proofs.«01_k».proof.Proof.Gen.KvqIdeal.Value
public import proofs.«01_k».proof.Proof.Gen.KvqReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.KvqIdeal.Result

open Cert.KvqIdeal Cert.KvqIdeal.Gen

/-- The reference's keys: per head normalised rows of the key projection. -/
def REFK (X : FVec Ideal S16384x2048 .f32) (gk : FVec Ideal S2048 .f32) (Wkv : FVec Ideal S2048x4096 .f32) (kn : FVec Ideal S128 .f32) : FVec Ideal S16384x2048 .f32 :=
  shapeCast _ (mulf (mulf (shapeCast _ (extractStridedSlice Cert.KvqReferenceIdeal.S16384x1x16x128 ![0, 0, 0, 0] (shapeCast _ (Host.dotGeneral (φ₁ := .f32) (φ₂ := .f32) Cert.KvqReferenceIdeal.dot_S16384x2048_S2048x4096_S16384x4096_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 gk))) Wkv) Cert.KvqReferenceIdeal.Gen.shapeCasts_S16384x4096_S16384x2x16x128) Cert.KvqReferenceIdeal.Gen.slices_S16384x2x16x128_S16384x1x16x128_0_0_0_0) Cert.KvqReferenceIdeal.Gen.shapeCasts_S16384x1x16x128_S16384x16x128) (broadcastInDim Cert.KvqReferenceIdeal.S16384x16x128 ![0, 1, 2] Cert.KvqReferenceIdeal.Gen.bcast_S16384x16x1_S16384x16x128_0_1_2 (Host.rsqrt (addf (Host.divf (broadcastInDim Cert.KvqReferenceIdeal.S16384x16x1 ![0, 1] Cert.KvqReferenceIdeal.Gen.bcast_S16384x16_S16384x16x1_0_1 (Host.reduceAdd (mulf (shapeCast _ (extractStridedSlice Cert.KvqReferenceIdeal.S16384x1x16x128 ![0, 0, 0, 0] (shapeCast _ (Host.dotGeneral (φ₁ := .f32) (φ₂ := .f32) Cert.KvqReferenceIdeal.dot_S16384x2048_S2048x4096_S16384x4096_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 gk))) Wkv) Cert.KvqReferenceIdeal.Gen.shapeCasts_S16384x4096_S16384x2x16x128) Cert.KvqReferenceIdeal.Gen.slices_S16384x2x16x128_S16384x1x16x128_0_0_0_0) Cert.KvqReferenceIdeal.Gen.shapeCasts_S16384x1x16x128_S16384x16x128) (shapeCast _ (extractStridedSlice Cert.KvqReferenceIdeal.S16384x1x16x128 ![0, 0, 0, 0] (shapeCast _ (Host.dotGeneral (φ₁ := .f32) (φ₂ := .f32) Cert.KvqReferenceIdeal.dot_S16384x2048_S2048x4096_S16384x4096_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 gk))) Wkv) Cert.KvqReferenceIdeal.Gen.shapeCasts_S16384x4096_S16384x2x16x128) Cert.KvqReferenceIdeal.Gen.slices_S16384x2x16x128_S16384x1x16x128_0_0_0_0) Cert.KvqReferenceIdeal.Gen.shapeCasts_S16384x1x16x128_S16384x16x128)) (constant Cert.KvqReferenceIdeal.S_ .f32 0x00000000#32) Cert.KvqReferenceIdeal.Gen.reducesTo_S16384x16x128_S16384x16_d2 Cert.KvqReferenceIdeal.Gen.h_S_)) (broadcastInDim Cert.KvqReferenceIdeal.S16384x16x1 ![] Cert.KvqReferenceIdeal.Gen.bcast_S_S16384x16x1 (constant Cert.KvqReferenceIdeal.S_ .f32 0x43000000#32))) (broadcastInDim Cert.KvqReferenceIdeal.S16384x16x1 ![] Cert.KvqReferenceIdeal.Gen.bcast_S_S16384x16x1 (constant Cert.KvqReferenceIdeal.S_ .f32 0x358637BD#32)))))) (broadcastInDim Cert.KvqReferenceIdeal.S16384x16x128 ![0, 1, 2] Cert.KvqReferenceIdeal.Gen.bcast_S1x1x128_S16384x16x128_0_1_2 (broadcastInDim Cert.KvqReferenceIdeal.S1x1x128 ![2] Cert.KvqReferenceIdeal.Gen.bcast_S128_S1x1x128_2 kn))) Cert.KvqReferenceIdeal.Gen.shapeCasts_S16384x16x128_S16384x2048

/-- The reference's values: rows of the value projection. -/
def REFV (X : FVec Ideal S16384x2048 .f32) (gk : FVec Ideal S2048 .f32) (Wkv : FVec Ideal S2048x4096 .f32) : FVec Ideal S16384x2048 .f32 :=
  shapeCast _ (shapeCast _ (extractStridedSlice Cert.KvqReferenceIdeal.S16384x1x16x128 ![0, 1, 0, 0] (shapeCast _ (Host.dotGeneral (φ₁ := .f32) (φ₂ := .f32) Cert.KvqReferenceIdeal.dot_S16384x2048_S2048x4096_S16384x4096_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 gk))) Wkv) Cert.KvqReferenceIdeal.Gen.shapeCasts_S16384x4096_S16384x2x16x128) Cert.KvqReferenceIdeal.Gen.slices_S16384x2x16x128_S16384x1x16x128_0_1_0_0) Cert.KvqReferenceIdeal.Gen.shapeCasts_S16384x1x16x128_S16384x16x128) Cert.KvqReferenceIdeal.Gen.shapeCasts_S16384x16x128_S16384x2048

/-- The keys again, one head after the other. -/
def REFKH (X : FVec Ideal S16384x2048 .f32) (gk : FVec Ideal S2048 .f32) (Wkv : FVec Ideal S2048x4096 .f32) (kn : FVec Ideal S128 .f32) : FVec Ideal S16x16384x128 .bf16 :=
  truncf .bf16 (transpose Cert.KvqReferenceIdeal.S16x16384x128 [1, 0, 2] (mulf (mulf (shapeCast _ (extractStridedSlice Cert.KvqReferenceIdeal.S16384x1x16x128 ![0, 0, 0, 0] (shapeCast _ (Host.dotGeneral (φ₁ := .f32) (φ₂ := .f32) Cert.KvqReferenceIdeal.dot_S16384x2048_S2048x4096_S16384x4096_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 gk))) Wkv) Cert.KvqReferenceIdeal.Gen.shapeCasts_S16384x4096_S16384x2x16x128) Cert.KvqReferenceIdeal.Gen.slices_S16384x2x16x128_S16384x1x16x128_0_0_0_0) Cert.KvqReferenceIdeal.Gen.shapeCasts_S16384x1x16x128_S16384x16x128) (broadcastInDim Cert.KvqReferenceIdeal.S16384x16x128 ![0, 1, 2] Cert.KvqReferenceIdeal.Gen.bcast_S16384x16x1_S16384x16x128_0_1_2 (Host.rsqrt (addf (Host.divf (broadcastInDim Cert.KvqReferenceIdeal.S16384x16x1 ![0, 1] Cert.KvqReferenceIdeal.Gen.bcast_S16384x16_S16384x16x1_0_1 (Host.reduceAdd (mulf (shapeCast _ (extractStridedSlice Cert.KvqReferenceIdeal.S16384x1x16x128 ![0, 0, 0, 0] (shapeCast _ (Host.dotGeneral (φ₁ := .f32) (φ₂ := .f32) Cert.KvqReferenceIdeal.dot_S16384x2048_S2048x4096_S16384x4096_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 gk))) Wkv) Cert.KvqReferenceIdeal.Gen.shapeCasts_S16384x4096_S16384x2x16x128) Cert.KvqReferenceIdeal.Gen.slices_S16384x2x16x128_S16384x1x16x128_0_0_0_0) Cert.KvqReferenceIdeal.Gen.shapeCasts_S16384x1x16x128_S16384x16x128) (shapeCast _ (extractStridedSlice Cert.KvqReferenceIdeal.S16384x1x16x128 ![0, 0, 0, 0] (shapeCast _ (Host.dotGeneral (φ₁ := .f32) (φ₂ := .f32) Cert.KvqReferenceIdeal.dot_S16384x2048_S2048x4096_S16384x4096_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 gk))) Wkv) Cert.KvqReferenceIdeal.Gen.shapeCasts_S16384x4096_S16384x2x16x128) Cert.KvqReferenceIdeal.Gen.slices_S16384x2x16x128_S16384x1x16x128_0_0_0_0) Cert.KvqReferenceIdeal.Gen.shapeCasts_S16384x1x16x128_S16384x16x128)) (constant Cert.KvqReferenceIdeal.S_ .f32 0x00000000#32) Cert.KvqReferenceIdeal.Gen.reducesTo_S16384x16x128_S16384x16_d2 Cert.KvqReferenceIdeal.Gen.h_S_)) (broadcastInDim Cert.KvqReferenceIdeal.S16384x16x1 ![] Cert.KvqReferenceIdeal.Gen.bcast_S_S16384x16x1 (constant Cert.KvqReferenceIdeal.S_ .f32 0x43000000#32))) (broadcastInDim Cert.KvqReferenceIdeal.S16384x16x1 ![] Cert.KvqReferenceIdeal.Gen.bcast_S_S16384x16x1 (constant Cert.KvqReferenceIdeal.S_ .f32 0x358637BD#32)))))) (broadcastInDim Cert.KvqReferenceIdeal.S16384x16x128 ![0, 1, 2] Cert.KvqReferenceIdeal.Gen.bcast_S1x1x128_S16384x16x128_0_1_2 (broadcastInDim Cert.KvqReferenceIdeal.S1x1x128 ![2] Cert.KvqReferenceIdeal.Gen.bcast_S128_S1x1x128_2 kn))) Cert.KvqReferenceIdeal.Gen.transposes_S16384x16x128_S16x16384x128_1_0_2) Cert.KvqReferenceIdeal.Gen.bitsLt_bf16_f32

/-- The values again, one head after the other. -/
def REFVH (X : FVec Ideal S16384x2048 .f32) (gk : FVec Ideal S2048 .f32) (Wkv : FVec Ideal S2048x4096 .f32) : FVec Ideal S16x16384x128 .bf16 :=
  truncf .bf16 (transpose Cert.KvqReferenceIdeal.S16x16384x128 [1, 0, 2] (shapeCast _ (extractStridedSlice Cert.KvqReferenceIdeal.S16384x1x16x128 ![0, 1, 0, 0] (shapeCast _ (Host.dotGeneral (φ₁ := .f32) (φ₂ := .f32) Cert.KvqReferenceIdeal.dot_S16384x2048_S2048x4096_S16384x4096_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 gk))) Wkv) Cert.KvqReferenceIdeal.Gen.shapeCasts_S16384x4096_S16384x2x16x128) Cert.KvqReferenceIdeal.Gen.slices_S16384x2x16x128_S16384x1x16x128_0_1_0_0) Cert.KvqReferenceIdeal.Gen.shapeCasts_S16384x1x16x128_S16384x16x128) Cert.KvqReferenceIdeal.Gen.transposes_S16384x16x128_S16x16384x128_1_0_2) Cert.KvqReferenceIdeal.Gen.bitsLt_bf16_f32

/-- The reference's queries, one head after the other. -/
def REFQH (X : FVec Ideal S16384x2048 .f32) (gq : FVec Ideal S1x2048 .f32) (Wq : FVec Ideal S1x2048x2048 .f32) (qn : FVec Ideal S1x128 .f32) : FVec Ideal S16x16384x128 .bf16 :=
  truncf .bf16 (transpose Cert.KvqReferenceIdeal.S16x16384x128 [1, 0, 2] (mulf (mulf (shapeCast _ (Host.dotGeneral (φ₁ := .f32) (φ₂ := .f32) Cert.KvqReferenceIdeal.dot_S16384x2048_S2048x2048_S16384x2048_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 (shapeCast _ gq Cert.KvqReferenceIdeal.Gen.shapeCasts_S1x2048_S2048)))) (shapeCast _ Wq Cert.KvqReferenceIdeal.Gen.shapeCasts_S1x2048x2048_S2048x2048)) Cert.KvqReferenceIdeal.Gen.shapeCasts_S16384x2048_S16384x16x128) (broadcastInDim Cert.KvqReferenceIdeal.S16384x16x128 ![0, 1, 2] Cert.KvqReferenceIdeal.Gen.bcast_S16384x16x1_S16384x16x128_0_1_2 (Host.rsqrt (addf (Host.divf (broadcastInDim Cert.KvqReferenceIdeal.S16384x16x1 ![0, 1] Cert.KvqReferenceIdeal.Gen.bcast_S16384x16_S16384x16x1_0_1 (Host.reduceAdd (mulf (shapeCast _ (Host.dotGeneral (φ₁ := .f32) (φ₂ := .f32) Cert.KvqReferenceIdeal.dot_S16384x2048_S2048x2048_S16384x2048_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 (shapeCast _ gq Cert.KvqReferenceIdeal.Gen.shapeCasts_S1x2048_S2048)))) (shapeCast _ Wq Cert.KvqReferenceIdeal.Gen.shapeCasts_S1x2048x2048_S2048x2048)) Cert.KvqReferenceIdeal.Gen.shapeCasts_S16384x2048_S16384x16x128) (shapeCast _ (Host.dotGeneral (φ₁ := .f32) (φ₂ := .f32) Cert.KvqReferenceIdeal.dot_S16384x2048_S2048x2048_S16384x2048_1_0_0_1_n_n none (mulf (mulf X (broadcastInDim Cert.KvqReferenceIdeal.S16384x2048 ![0, 1] Cert.KvqReferenceIdeal.Gen.bcast_S16384x1_S16384x2048_0_1 (Host.rsqrt (addf (Host.divf (broadcastInDim Cert.KvqReferenceIdeal.S16384x1 ![0] Cert.KvqReferenceIdeal.Gen.bcast_S16384_S16384x1_0 (Host.reduceAdd (mulf X X) (constant Cert.KvqReferenceIdeal.S_ .f32 0x00000000#32) Cert.KvqReferenceIdeal.Gen.reducesTo_S16384x2048_S16384_d1 Cert.KvqReferenceIdeal.Gen.h_S_)) (broadcastInDim Cert.KvqReferenceIdeal.S16384x1 ![] Cert.KvqReferenceIdeal.Gen.bcast_S_S16384x1 (constant Cert.KvqReferenceIdeal.S_ .f32 0x45000000#32))) (broadcastInDim Cert.KvqReferenceIdeal.S16384x1 ![] Cert.KvqReferenceIdeal.Gen.bcast_S_S16384x1 (constant Cert.KvqReferenceIdeal.S_ .f32 0x358637BD#32)))))) (broadcastInDim Cert.KvqReferenceIdeal.S16384x2048 ![0, 1] Cert.KvqReferenceIdeal.Gen.bcast_S1x2048_S16384x2048_0_1 (broadcastInDim Cert.KvqReferenceIdeal.S1x2048 ![1] Cert.KvqReferenceIdeal.Gen.bcast_S2048_S1x2048_1 (shapeCast _ gq Cert.KvqReferenceIdeal.Gen.shapeCasts_S1x2048_S2048)))) (shapeCast _ Wq Cert.KvqReferenceIdeal.Gen.shapeCasts_S1x2048x2048_S2048x2048)) Cert.KvqReferenceIdeal.Gen.shapeCasts_S16384x2048_S16384x16x128)) (constant Cert.KvqReferenceIdeal.S_ .f32 0x00000000#32) Cert.KvqReferenceIdeal.Gen.reducesTo_S16384x16x128_S16384x16_d2 Cert.KvqReferenceIdeal.Gen.h_S_)) (broadcastInDim Cert.KvqReferenceIdeal.S16384x16x1 ![] Cert.KvqReferenceIdeal.Gen.bcast_S_S16384x16x1 (constant Cert.KvqReferenceIdeal.S_ .f32 0x43000000#32))) (broadcastInDim Cert.KvqReferenceIdeal.S16384x16x1 ![] Cert.KvqReferenceIdeal.Gen.bcast_S_S16384x16x1 (constant Cert.KvqReferenceIdeal.S_ .f32 0x358637BD#32)))))) (broadcastInDim Cert.KvqReferenceIdeal.S16384x16x128 ![0, 1, 2] Cert.KvqReferenceIdeal.Gen.bcast_S1x1x128_S16384x16x128_0_1_2 (broadcastInDim Cert.KvqReferenceIdeal.S1x1x128 ![2] Cert.KvqReferenceIdeal.Gen.bcast_S128_S1x1x128_2 (shapeCast _ qn Cert.KvqReferenceIdeal.Gen.shapeCasts_S1x128_S128)))) Cert.KvqReferenceIdeal.Gen.transposes_S16384x16x128_S16x16384x128_1_0_2) Cert.KvqReferenceIdeal.Gen.bitsLt_bf16_f32

/-- Row `i` of the input over its root mean square, entry `d`. -/
def RMS (X : FVec Ideal S16384x2048 .f32) (i : Fin 16384) (d : Fin 2048) : EReal :=
  X (ix2 i d) * Ideal.rsqrt (Ideal.div (∑ k : Fin 2048, X (ix2 i k) * X (ix2 i k)) (Ideal.ofBits .f32 0x45000000#32)
    + Ideal.ofBits .f32 0x358637BD#32)

/-- Row `i`, column `f` of the joint key and value projection. -/
def PKV (X : FVec Ideal S16384x2048 .f32) (gk : FVec Ideal S2048 .f32) (Wkv : FVec Ideal S2048x4096 .f32) (i : Fin 16384) (f : Fin 4096) : EReal :=
  ∑ d : Fin 2048, RMS X i d * gk (ix1 d) * Wkv (ix2 d f)

/-- Row `i`, column `f` of the query projection. -/
def PQ (X : FVec Ideal S16384x2048 .f32) (gq : FVec Ideal S1x2048 .f32) (Wq : FVec Ideal S1x2048x2048 .f32) (i : Fin 16384) (f : Fin 2048) : EReal :=
  ∑ d : Fin 2048, RMS X i d * gq (ix2 0 d) * Wq (ix3 0 d f)

/-- Entry `z` of a head's 128 values over their root mean square, scaled by `s`. -/
def HEAD (u : Fin 128 → EReal) (s : EReal) (z : Fin 128) : EReal :=
  u z * Ideal.rsqrt (Ideal.div (∑ k : Fin 128, u k * u k) (Ideal.ofBits .f32 0x43000000#32)
    + Ideal.ofBits .f32 0x358637BD#32) * s

theorem refkh_at (X : FVec Ideal S16384x2048 .f32) (gk : FVec Ideal S2048 .f32) (Wkv : FVec Ideal S2048x4096 .f32) (kn : FVec Ideal S128 .f32) (h : Fin 16) (i : Fin 16384) (z : Fin 128) : REFKH X gk Wkv kn (ix3 h i z)
      = HEAD (fun k => PKV X gk Wkv i ⟨h * 128 + k, by omega⟩) (kn (ix1 z)) z := by
  pointwise [REFKH, HEAD, PKV, RMS]

theorem refvh_at (X : FVec Ideal S16384x2048 .f32) (gk : FVec Ideal S2048 .f32) (Wkv : FVec Ideal S2048x4096 .f32) (h : Fin 16) (i : Fin 16384) (z : Fin 128) : REFVH X gk Wkv (ix3 h i z)
      = PKV X gk Wkv i ⟨2048 + (h * 128 + z), by omega⟩ := by
  pointwise [REFVH, PKV, RMS]
  exact Finset.sum_congr rfl fun d _ => congrArg _ (congrArg Wkv (congrArg (ix2 d) (Fin.ext (by simp only []; omega))))

theorem refqh_at (X : FVec Ideal S16384x2048 .f32) (gq : FVec Ideal S1x2048 .f32) (Wq : FVec Ideal S1x2048x2048 .f32) (qn : FVec Ideal S1x128 .f32) (h : Fin 16) (i : Fin 16384) (z : Fin 128) : REFQH X gq Wq qn (ix3 h i z)
      = HEAD (fun k => PQ X gq Wq i ⟨h * 128 + k, by omega⟩) (qn (ix2 0 z)) z := by
  pointwise [REFQH, HEAD, PQ, RMS]

theorem refk_at (X : FVec Ideal S16384x2048 .f32) (gk : FVec Ideal S2048 .f32) (Wkv : FVec Ideal S2048x4096 .f32) (kn : FVec Ideal S128 .f32) (h : Fin 16) (i : Fin 16384) (z : Fin 128) :
    REFK X gk Wkv kn (ix2 i ⟨h * 128 + z, by omega⟩)
      = HEAD (fun k => PKV X gk Wkv i ⟨h * 128 + k, by omega⟩) (kn (ix1 z)) z := by
  pointwise [REFK, HEAD, PKV, RMS]

theorem refv_at (X : FVec Ideal S16384x2048 .f32) (gk : FVec Ideal S2048 .f32) (Wkv : FVec Ideal S2048x4096 .f32) (i : Fin 16384) (l : Fin 2048) : REFV X gk Wkv (ix2 i l)
      = PKV X gk Wkv i ⟨2048 + l, by omega⟩ := by
  pointwise [REFV, PKV, RMS]
  exact Finset.sum_congr rfl fun d _ => congrArg _ (congrArg Wkv (congrArg (ix2 d) (Fin.ext (by simp only []; omega))))

theorem pay35_at0 (xn w s) (r : Fin 1024) (z : Fin 128) : k0_pay35 (F := Ideal) xn w s (ix2 r ⟨z, by omega⟩)
      = HEAD (fun k => ∑ d : Fin 2048, xn (ix2 r d) * w (ix2 d ⟨k, by omega⟩)) (s (ix2 0 z)) z := by
  pointwise [k0_pay35, HEAD]

theorem pay35_at1 (xn w s) (r : Fin 1024) (z : Fin 128) : k0_pay35 (F := Ideal) xn w s (ix2 r ⟨128 + z, by omega⟩)
      = HEAD (fun k => ∑ d : Fin 2048, xn (ix2 r d) * w (ix2 d ⟨128 + k, by omega⟩)) (s (ix2 0 z)) z := by
  pointwise [k0_pay35, HEAD]

theorem pay36_at (xn w) (r : Fin 1024) (l : Fin 256) : k0_pay36 (F := Ideal) xn w (ix2 r l)
      = ∑ d : Fin 2048, xn (ix2 r d) * w (ix2 d l) := by
  pointwise [k0_pay36]

theorem pay37_eq (xn w s) : k0_pay37 (F := Ideal) xn w s = k0_pay35 xn w s := rfl

/-- The blocks of the windows at grid point `t`. -/
theorem idx : ∀ t : Fin cfg0.N, win0_0.index t = ![t.val / 8, 0] ∧ win0_1.index t = ![0, 0] ∧ win0_2.index t = ![0, 0]
    ∧ win0_3.index t = ![0, t.val % 8] ∧ win0_4.index t = ![0, t.val % 8 + 8] ∧ win0_5.index t = ![0, t.val % 8]
    ∧ win0_6.index t = ![0, 0] ∧ win0_7.index t = ![0, 0] ∧ win0_8.index t = ![t.val / 8, t.val % 8]
    ∧ win0_9.index t = ![t.val / 8, t.val % 8] ∧ win0_10.index t = ![t.val % 8, t.val / 8, 0]
    ∧ win0_11.index t = ![t.val % 8, t.val / 8, 0] ∧ win0_12.index t = ![t.val % 8, t.val / 8, 0] ∧ t.val / 8 < 16 :=
  (by decide +kernel : ∀ t : Fin grid0.N, _)

end Cert.KvqIdeal.Result

end
-- ==== Proof.KvqScratch.lean ====
module

public import proofs.«01_k».proof.Proof.Gen.KvqIdeal.Value
public import proofs.«01_k».proof.Proof.Gen.KvqReferenceIdeal.Run
public import Idealize.ShloMosaic.Lib.Pipeline.ValueKit
public import Idealize.ShloMosaic.Lib.Pipeline.ReadBack
public import Idealize.ShloMosaic.Lib.Pointwise
public import proofs.«01_k».proof.Proof.KvqRef
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.KvqIdeal.Result

open Cert.KvqIdeal Cert.KvqIdeal.Gen

variable (m : (ℓ : Loc nD τ sig) → Buf (Elt Ideal) ℓ)

/-- The first column tile of a row block fills the first scratch with the rows scaled for keys and values. -/
theorem kv_A (c : Dev nD) (t : Fin cfg0.N) (h : t.val % 8 = 0) (y : S1024x2048.Idx) (i : Fin 16384)
    (hi : (i : ℕ) = t.val / 8 * 1024 + y 0) : (outsAt0 m c t.val t.isLt).2.2.2.2.2.1 y
      = RMS (m ((c : Thread nD τ).loc main_arg0)) i (y 1) * (m ((c : Thread nD τ).loc main_arg1)) (ix1 (y 1)) := by
  rw [outsAt0_A m c t h]; frame_out
  canon_tiles x h
  all_goals
    rw [h0] at hi
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, RMS]
    blk_point [iblk, V, idx t]

/-- The second scratch with the rows scaled for the queries. -/
theorem q_A (c : Dev nD) (t : Fin cfg0.N) (h : t.val % 8 = 0) (y : S1024x2048.Idx) (i : Fin 16384)
    (hi : (i : ℕ) = t.val / 8 * 1024 + y 0) : (outsAt0 m c t.val t.isLt).2.2.2.2.2.2 y
      = RMS (m ((c : Thread nD τ).loc main_arg0)) i (y 1) * (m ((c : Thread nD τ).loc main_arg2)) (ix2 0 (y 1)) := by
  rw [outsAt0_A m c t h]; frame_out
  canon_tiles x h
  all_goals
    rw [h0] at hi
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, RMS]
    blk_point [iblk, V, idx t]

end Cert.KvqIdeal.Result

end
-- ==== Proof.KvqValue.lean ====
module

public import proofs.«01_k».proof.Proof.Gen.KvqIdeal.Value
public import proofs.«01_k».proof.Proof.Gen.KvqReferenceIdeal.Run
public import Idealize.ShloMosaic.Lib.Pipeline.ValueKit
public import Idealize.ShloMosaic.Lib.Pipeline.ReadBack
public import Idealize.ShloMosaic.Lib.Pointwise
public import proofs.«01_k».proof.Proof.KvqScratch
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.KvqIdeal.Result

open Cert.KvqIdeal Cert.KvqIdeal.Gen

theorem heads_k (K : FVec Ideal S1024x256 .f32) (b : Fin 2) (r : Fin 1024) (z : Fin 128) :
    View.canon (Val := Elt Ideal) (s := S2x1024x128) (e := .bf16)
      [⟨Rect.unit ![1, 0, 0] ![1, 1024, 128] inb_S2x1024x128_S1x1024x128_1_0_0, k0_pay4 (F := Ideal) K⟩,
       ⟨Rect.unit ![0, 0, 0] ![1, 1024, 128] inb_S2x1024x128_S1x1024x128_0_0_0, k0_pay1 (F := Ideal) (k0_pay38 K)⟩] (ix3 b r z)
      = K (ix2 r ⟨b * 128 + z, by omega⟩) := by
  generalize hy : ix3 b r z = y
  have hb : (b : ℕ) = y 0 := hy ▸ rfl
  have hr : (r : ℕ) = y 1 := hy ▸ rfl
  have hz : (z : ℕ) = y 2 := hy ▸ rfl
  clear hy
  canon_tiles x h
  all_goals
    rw [h0] at hb
    rw [h1] at hr
    rw [h2] at hz
    pointwise [k0_pay4, k0_pay1, k0_pay38]
    refine congrArg K ?_
    blk_ext
    all_goals (try simp only []); (try omega)

theorem heads_v (K : FVec Ideal S1024x256 .f32) (b : Fin 2) (r : Fin 1024) (z : Fin 128) :
    View.canon (Val := Elt Ideal) (s := S2x1024x128) (e := .bf16)
      [⟨Rect.unit ![1, 0, 0] ![1, 1024, 128] inb_S2x1024x128_S1x1024x128_1_0_0, k0_pay5 (F := Ideal) K⟩,
       ⟨Rect.unit ![0, 0, 0] ![1, 1024, 128] inb_S2x1024x128_S1x1024x128_0_0_0, k0_pay2 (F := Ideal) K⟩] (ix3 b r z)
      = K (ix2 r ⟨b * 128 + z, by omega⟩) := heads_k K b r z

theorem heads_q (K : FVec Ideal S1024x256 .f32) (b : Fin 2) (r : Fin 1024) (z : Fin 128) :
    View.canon (Val := Elt Ideal) (s := S2x1024x128) (e := .bf16)
      [⟨Rect.unit ![1, 0, 0] ![1, 1024, 128] inb_S2x1024x128_S1x1024x128_1_0_0, k0_pay6 (F := Ideal) K⟩,
       ⟨Rect.unit ![0, 0, 0] ![1, 1024, 128] inb_S2x1024x128_S1x1024x128_0_0_0, k0_pay3 (F := Ideal) K⟩] (ix3 b r z)
      = K (ix2 r ⟨b * 128 + z, by omega⟩) := heads_k K b r z

theorem whole_idx (h) (r : Fin 1024) (l : Fin 2048) :
    (Rect.unit (s := S1024x2048) ![0, 0] ![1024, 2048] h).toLoadRect.idx (ix2 r l) = ix2 r l := by
  blk_ext
  · show 0 + 1 * (r : ℕ) = r
    omega
  · show 0 + 1 * (l : ℕ) = l
    omega

variable (m : (ℓ : Loc nD τ sig) → Buf (Elt Ideal) ℓ)

/-- The scratch keeps the row block's scaled rows at every column tile. -/
theorem kv (c : Dev nD) : ∀ (n : ℕ) (hn : n < cfg0.N) (y : S1024x2048.Idx) (i : Fin 16384)
    (_ : (i : ℕ) = n / 8 * 1024 + y 0), (outsAt0 m c n hn).2.2.2.2.2.1 y
      = RMS (m ((c : Thread nD τ).loc main_arg0)) i (y 1) * (m ((c : Thread nD τ).loc main_arg1)) (ix1 (y 1)) := by
  intro n
  induction n with
  | zero => exact fun hn y i hi => kv_A m c ⟨0, hn⟩ rfl y i hi
  | succ n ih =>
    intro hn y i hi
    by_cases h : (n + 1) % 8 = 0
    · exact kv_A m c ⟨n + 1, hn⟩ h y i hi
    · rw [outsAt0_B m c ⟨n + 1, hn⟩ h]
      frame_out
      unfold sout0_B_0
      exact ih _ y i (by omega)

/-- The same of the second scratch. -/
theorem qs (c : Dev nD) : ∀ (n : ℕ) (hn : n < cfg0.N) (y : S1024x2048.Idx) (i : Fin 16384)
    (_ : (i : ℕ) = n / 8 * 1024 + y 0), (outsAt0 m c n hn).2.2.2.2.2.2 y
      = RMS (m ((c : Thread nD τ).loc main_arg0)) i (y 1) * (m ((c : Thread nD τ).loc main_arg2)) (ix2 0 (y 1)) := by
  intro n
  induction n with
  | zero => exact fun hn y i hi => q_A m c ⟨0, hn⟩ rfl y i hi
  | succ n ih =>
    intro hn y i hi
    by_cases h : (n + 1) % 8 = 0
    · exact q_A m c ⟨n + 1, hn⟩ h y i hi
    · rw [outsAt0_B m c ⟨n + 1, hn⟩ h]
      frame_out
      unfold sout0_B_1
      exact ih _ y i (by omega)

theorem wk_read (c : Dev nD) (t : Fin cfg0.N) (d : Fin 2048) (k : Fin 256) : iblk m c 3 t (ix2 d k) =
    (m ((c : Thread nD τ).loc main_arg3)) (ix2 d ⟨t.val % 8 * 256 + k, by omega⟩) := by
  blk_point [iblk, V, idx t]

theorem wv_read (c : Dev nD) (t : Fin cfg0.N) (d : Fin 2048) (k : Fin 256) : iblk m c 4 t (ix2 d k) =
    (m ((c : Thread nD τ).loc main_arg3)) (ix2 d ⟨2048 + (t.val % 8 * 256 + k), by omega⟩) := by
  blk_point [iblk, V, idx t]

theorem wq_read (c : Dev nD) (t : Fin cfg0.N) (d : Fin 2048) (k : Fin 256) : iblk m c 5 t (ix2 d k) =
    (m ((c : Thread nD τ).loc main_arg4)) (ix3 0 d ⟨t.val % 8 * 256 + k, by omega⟩) := by
  blk_point [iblk, V, idx t]

theorem kn_read (c : Dev nD) (t : Fin cfg0.N) (k : Fin 128) : iblk m c 6 t (ix2 0 k) = (m ((c : Thread nD τ).loc main_arg5)) (ix1 k) := by
  blk_point [iblk, V, idx t]

theorem qn_read (c : Dev nD) (t : Fin cfg0.N) (k : Fin 128) : iblk m c 7 t (ix2 0 k) = (m ((c : Thread nD τ).loc main_arg6)) (ix2 0 k) := by
  blk_point [iblk, V, idx t]

/-- Both heads of a normalised tile at once. -/
theorem pay35_at (xn w s) (r : Fin 1024) (b : Fin 2) (z : Fin 128) :
    k0_pay35 (F := Ideal) xn w s (ix2 r ⟨b * 128 + z, by omega⟩)
      = HEAD (fun k => ∑ d : Fin 2048, xn (ix2 r d) * w (ix2 d ⟨b * 128 + k, by omega⟩)) (s (ix2 0 z)) z := by
  obtain ⟨b, hb⟩ := b
  obtain rfl | rfl : b = 0 ∨ b = 1 := by omega
  · have e : ∀ k : Fin 128, (⟨0 * 128 + k, by omega⟩ : Fin 256) = ⟨k, by omega⟩ := fun k => Fin.ext (by simp only []; omega)
    simp only [e]
    exact pay35_at0 xn w s r z
  · exact pay35_at1 xn w s r z

/-- A grid point's key tile, from the scaled rows. -/
theorem k_val (c : Dev nD) (t : Fin cfg0.N) (r : Fin 1024) (i : Fin 16384) (b : Fin 2) (z : Fin 128)
    (xn : FVec Ideal S1024x2048 .bf16) (hx : ∀ d, xn (ix2 r d) = RMS (m ((c : Thread nD τ).loc main_arg0)) i d * (m ((c : Thread nD τ).loc main_arg1)) (ix1 d)) :
    k0_pay35 (F := Ideal) xn (iblk m c 3 t) (iblk m c 6 t) (ix2 r ⟨b * 128 + z, by omega⟩)
      = HEAD (fun k => PKV (m ((c : Thread nD τ).loc main_arg0)) (m ((c : Thread nD τ).loc main_arg1)) (m ((c : Thread nD τ).loc main_arg3)) i ⟨(t.val % 8 * 2 + b) * 128 + k, by omega⟩) ((m ((c : Thread nD τ).loc main_arg5)) (ix1 z)) z := by
  rw [pay35_at, kn_read]
  refine congrArg (HEAD · _ z) (funext fun k => Finset.sum_congr rfl fun d _ => ?_)
  rw [hx, wk_read]
  refine congrArg _ (congrArg (m ((c : Thread nD τ).loc main_arg3)) (congrArg (ix2 d) (Fin.ext ?_)))
  simp only []
  omega

/-- A grid point's value tile. -/
theorem v_val (c : Dev nD) (t : Fin cfg0.N) (r : Fin 1024) (i : Fin 16384) (l : Fin 256)
    (xn : FVec Ideal S1024x2048 .bf16) (hx : ∀ d, xn (ix2 r d) = RMS (m ((c : Thread nD τ).loc main_arg0)) i d * (m ((c : Thread nD τ).loc main_arg1)) (ix1 d)) :
    k0_pay36 (F := Ideal) xn (iblk m c 4 t) (ix2 r l)
      = PKV (m ((c : Thread nD τ).loc main_arg0)) (m ((c : Thread nD τ).loc main_arg1)) (m ((c : Thread nD τ).loc main_arg3)) i ⟨2048 + (t.val % 8 * 256 + l), by omega⟩ := by
  rw [pay36_at]
  exact Finset.sum_congr rfl fun d _ => by rw [hx, wv_read]

/-- A grid point's query tile. -/
theorem q_val (c : Dev nD) (t : Fin cfg0.N) (r : Fin 1024) (i : Fin 16384) (b : Fin 2) (z : Fin 128)
    (xn : FVec Ideal S1024x2048 .bf16) (hx : ∀ d, xn (ix2 r d) = RMS (m ((c : Thread nD τ).loc main_arg0)) i d * (m ((c : Thread nD τ).loc main_arg2)) (ix2 0 d)) :
    k0_pay37 (F := Ideal) xn (iblk m c 5 t) (iblk m c 7 t) (ix2 r ⟨b * 128 + z, by omega⟩)
      = HEAD (fun k => PQ (m ((c : Thread nD τ).loc main_arg0)) (m ((c : Thread nD τ).loc main_arg2)) (m ((c : Thread nD τ).loc main_arg4)) i ⟨(t.val % 8 * 2 + b) * 128 + k, by omega⟩) ((m ((c : Thread nD τ).loc main_arg6)) (ix2 0 z)) z := by
  rw [pay37_eq, pay35_at, qn_read]
  refine congrArg (HEAD · _ z) (funext fun k => Finset.sum_congr rfl fun d _ => ?_)
  rw [hx, wq_read]
  refine congrArg _ (congrArg (m ((c : Thread nD τ).loc main_arg4)) (congrArg (ix3 0 d) (Fin.ext ?_)))
  simp only []
  omega

/-- All five tiles a grid point leaves. -/
theorem tiles (c : Dev nD) (t : Fin cfg0.N) (r : Fin 1024) (i : Fin 16384) (hi : (i : ℕ) = t.val / 8 * 1024 + r) :
    (∀ (b : Fin 2) (z : Fin 128), (outsAt0 m c t.val t.isLt).1 (ix2 r ⟨b * 128 + z, by omega⟩)
      = HEAD (fun k => PKV (m ((c : Thread nD τ).loc main_arg0)) (m ((c : Thread nD τ).loc main_arg1)) (m ((c : Thread nD τ).loc main_arg3)) i ⟨(t.val % 8 * 2 + b) * 128 + k, by omega⟩) ((m ((c : Thread nD τ).loc main_arg5)) (ix1 z)) z)
    ∧ (∀ l : Fin 256, (outsAt0 m c t.val t.isLt).2.1 (ix2 r l) = PKV (m ((c : Thread nD τ).loc main_arg0)) (m ((c : Thread nD τ).loc main_arg1)) (m ((c : Thread nD τ).loc main_arg3)) i ⟨2048 + (t.val % 8 * 256 + l), by omega⟩)
    ∧ (∀ (b : Fin 2) (z : Fin 128), (outsAt0 m c t.val t.isLt).2.2.1 (ix3 b r z)
      = HEAD (fun k => PKV (m ((c : Thread nD τ).loc main_arg0)) (m ((c : Thread nD τ).loc main_arg1)) (m ((c : Thread nD τ).loc main_arg3)) i ⟨(t.val % 8 * 2 + b) * 128 + k, by omega⟩) ((m ((c : Thread nD τ).loc main_arg5)) (ix1 z)) z)
    ∧ (∀ (b : Fin 2) (z : Fin 128), (outsAt0 m c t.val t.isLt).2.2.2.1 (ix3 b r z)
      = PKV (m ((c : Thread nD τ).loc main_arg0)) (m ((c : Thread nD τ).loc main_arg1)) (m ((c : Thread nD τ).loc main_arg3)) i ⟨2048 + (t.val % 8 * 256 + (b * 128 + z)), by omega⟩)
    ∧ (∀ (b : Fin 2) (z : Fin 128), (outsAt0 m c t.val t.isLt).2.2.2.2.1 (ix3 b r z)
      = HEAD (fun k => PQ (m ((c : Thread nD τ).loc main_arg0)) (m ((c : Thread nD τ).loc main_arg2)) (m ((c : Thread nD τ).loc main_arg4)) i ⟨(t.val % 8 * 2 + b) * 128 + k, by omega⟩) ((m ((c : Thread nD τ).loc main_arg6)) (ix2 0 z)) z) := by
  by_cases h : t.val % 8 = 0
  · have hk := fun d => kv_A m c t h (ix2 r d) i hi
    have hq := fun d => q_A m c t h (ix2 r d) i hi
    rw [outsAt0_A m c t h] at hk hq ⊢
    refine ⟨?_, ?_, ?_, ?_, ?_⟩
    · intro b z
      frame_out
      refine k_val m c t r i b z _ fun d => ?_
      refine (congrFun (View.readCov_eq_canon' _ _ _) _).trans (Eq.trans ?_ (hk d))
      rw [whole_idx]
      frame_out
    · intro l
      frame_out
      refine v_val m c t r i l _ fun d => ?_
      refine (congrFun (View.readCov_eq_canon' _ _ _) _).trans (Eq.trans ?_ (hk d))
      rw [whole_idx]
      frame_out
    · intro b z
      frame_out
      refine (heads_k _ b r z).trans ?_
      refine k_val m c t r i b z _ fun d => ?_
      refine (congrFun (View.readCov_eq_canon' _ _ _) _).trans (Eq.trans ?_ (hk d))
      rw [whole_idx]
      frame_out
    · intro b z
      frame_out
      refine (heads_v _ b r z).trans ?_
      refine v_val m c t r i ⟨b * 128 + z, by omega⟩ _ fun d => ?_
      refine (congrFun (View.readCov_eq_canon' _ _ _) _).trans (Eq.trans ?_ (hk d))
      rw [whole_idx]
      frame_out
    · intro b z
      frame_out
      refine (heads_q _ b r z).trans ?_
      refine q_val m c t r i b z _ fun d => ?_
      refine (congrFun (View.readCov_eq_canon' _ _ _) _).trans (Eq.trans ?_ (hq d))
      rw [whole_idx]
      frame_out
  · have hk := fun d => kv m c (t.val - 1) (by omega) (ix2 r d) i (by show (i : ℕ) = (t.val - 1) / 8 * 1024 + r; omega)
    have hq := fun d => qs m c (t.val - 1) (by omega) (ix2 r d) i (by show (i : ℕ) = (t.val - 1) / 8 * 1024 + r; omega)
    rw [outsAt0_B m c t h]
    refine ⟨?_, ?_, ?_, ?_, ?_⟩
    · intro b z
      frame_out
      exact k_val m c t r i b z _ fun d => (congrFun (read_unread_whole _ _ _) _).trans (hk d)
    · intro l
      frame_out
      exact v_val m c t r i l _ fun d => (congrFun (read_unread_whole _ _ _) _).trans (hk d)
    · intro b z
      frame_out
      refine (heads_k _ b r z).trans ?_
      exact k_val m c t r i b z _ fun d => (congrFun (read_unread_whole _ _ _) _).trans (hk d)
    · intro b z
      frame_out
      refine (heads_v _ b r z).trans ?_
      exact v_val m c t r i ⟨b * 128 + z, by omega⟩ _ fun d => (congrFun (read_unread_whole _ _ _) _).trans (hk d)
    · intro b z
      frame_out
      refine (heads_q _ b r z).trans ?_
      exact q_val m c t r i b z _ fun d => (congrFun (read_unread_whole _ _ _) _).trans (hq d)

/-- Output 1 after the run is the reference's. -/
theorem final8 (c : Dev nD) : (dats m 0 c).arrAt 8 (cfgs 0).N = REFK (m ((c : Thread nD τ).loc main_arg0)) (m ((c : Thread nD τ).loc main_arg1)) (m ((c : Thread nD τ).loc main_arg3)) (m ((c : Thread nD τ).loc main_arg5)) := by
  refine (dats m 0 c).arrAt_eq_of_covers 8 _ (by decide +kernel) fun t hf y => ?_
  blk_simp
  rw [after0_8]
  have ht := (idx t).2.2.2.2.2.2.2.2.2.2.2.2.2
  obtain ⟨r, b, z, rfl⟩ : ∃ (r : Fin 1024) (b : Fin 2) (z : Fin 128), y = ix2 r ⟨b * 128 + z, by omega⟩ :=
    ⟨y 0, ⟨y 1 / 128, by have := (y 1).isLt; change _ < 256 at this; omega⟩, ⟨y 1 % 128, by omega⟩, by blk_ext⟩
  have e : (win0_8.blk t).view.emb (ix2 r ⟨b * 128 + z, by omega⟩)
      = ix2 ⟨t.val / 8 * 1024 + r, by omega⟩ ⟨((⟨t.val % 8 * 2 + b, by omega⟩ : Fin 16) : ℕ) * 128 + z, by simp only []; omega⟩ := by
    blk_ext [idx t]
    all_goals (try simp only []); (try omega)
  rw [e, refk_at]
  exact ((tiles m c t r _ rfl).1 b z)

/-- Output 2 after the run is the reference's. -/
theorem final9 (c : Dev nD) : (dats m 0 c).arrAt 9 (cfgs 0).N = REFV (m ((c : Thread nD τ).loc main_arg0)) (m ((c : Thread nD τ).loc main_arg1)) (m ((c : Thread nD τ).loc main_arg3)) := by
  refine (dats m 0 c).arrAt_eq_of_covers 9 _ (by decide +kernel) fun t hf y => ?_
  blk_simp
  rw [after0_9]
  have ht := (idx t).2.2.2.2.2.2.2.2.2.2.2.2.2
  obtain ⟨r, l, rfl⟩ : ∃ (r : Fin 1024) (l : Fin 256), y = ix2 r l := ⟨y 0, y 1, by blk_ext⟩
  have e : (win0_9.blk t).view.emb (ix2 r l) = ix2 ⟨t.val / 8 * 1024 + r, by omega⟩ ⟨t.val % 8 * 256 + l, by omega⟩ := by
    blk_ext [idx t]
    all_goals (try simp only []); (try omega)
  rw [e, refv_at]
  exact ((tiles m c t r _ rfl).2.1 l)

/-- Output 3 after the run is the reference's. -/
theorem final10 (c : Dev nD) : (dats m 0 c).arrAt 10 (cfgs 0).N = REFKH (m ((c : Thread nD τ).loc main_arg0)) (m ((c : Thread nD τ).loc main_arg1)) (m ((c : Thread nD τ).loc main_arg3)) (m ((c : Thread nD τ).loc main_arg5)) := by
  refine (dats m 0 c).arrAt_eq_of_covers 10 _ (by decide +kernel) fun t hf y => ?_
  blk_simp
  rw [after0_10]
  have ht := (idx t).2.2.2.2.2.2.2.2.2.2.2.2.2
  obtain ⟨b, r, z, rfl⟩ : ∃ (b : Fin 2) (r : Fin 1024) (z : Fin 128), y = ix3 b r z := ⟨y 0, y 1, y 2, by blk_ext⟩
  have e : (win0_10.blk t).view.emb (ix3 b r z) = ix3 ⟨t.val % 8 * 2 + b, by omega⟩ ⟨t.val / 8 * 1024 + r, by omega⟩ z := by
    blk_ext [idx t]
    all_goals (try simp only []); (try omega)
  rw [e, refkh_at]
  exact ((tiles m c t r _ rfl).2.2.1 b z)

/-- Output 4 after the run is the reference's. -/
theorem final11 (c : Dev nD) : (dats m 0 c).arrAt 11 (cfgs 0).N = REFVH (m ((c : Thread nD τ).loc main_arg0)) (m ((c : Thread nD τ).loc main_arg1)) (m ((c : Thread nD τ).loc main_arg3)) := by
  refine (dats m 0 c).arrAt_eq_of_covers 11 _ (by decide +kernel) fun t hf y => ?_
  blk_simp
  rw [after0_11]
  have ht := (idx t).2.2.2.2.2.2.2.2.2.2.2.2.2
  obtain ⟨b, r, z, rfl⟩ : ∃ (b : Fin 2) (r : Fin 1024) (z : Fin 128), y = ix3 b r z := ⟨y 0, y 1, y 2, by blk_ext⟩
  have e : (win0_11.blk t).view.emb (ix3 b r z) = ix3 ⟨t.val % 8 * 2 + b, by omega⟩ ⟨t.val / 8 * 1024 + r, by omega⟩ z := by
    blk_ext [idx t]
    all_goals (try simp only []); (try omega)
  rw [e, refvh_at]
  exact ((tiles m c t r _ rfl).2.2.2.1 b z).trans (congrArg _ (Fin.ext (by simp only []; omega)))

/-- Output 5 after the run is the reference's. -/
theorem final12 (c : Dev nD) : (dats m 0 c).arrAt 12 (cfgs 0).N = REFQH (m ((c : Thread nD τ).loc main_arg0)) (m ((c : Thread nD τ).loc main_arg2)) (m ((c : Thread nD τ).loc main_arg4)) (m ((c : Thread nD τ).loc main_arg6)) := by
  refine (dats m 0 c).arrAt_eq_of_covers 12 _ (by decide +kernel) fun t hf y => ?_
  blk_simp
  rw [after0_12]
  have ht := (idx t).2.2.2.2.2.2.2.2.2.2.2.2.2
  obtain ⟨b, r, z, rfl⟩ : ∃ (b : Fin 2) (r : Fin 1024) (z : Fin 128), y = ix3 b r z := ⟨y 0, y 1, y 2, by blk_ext⟩
  have e : (win0_12.blk t).view.emb (ix3 b r z) = ix3 ⟨t.val % 8 * 2 + b, by omega⟩ ⟨t.val / 8 * 1024 + r, by omega⟩ z := by
    blk_ext [idx t]
    all_goals (try simp only []); (try omega)
  rw [e, refqh_at]
  exact ((tiles m c t r _ rfl).2.2.2.2 b z)

end Cert.KvqIdeal.Result

namespace Cert.Proof.KvqClaim

set_option maxHeartbeats 8000000 in
/-- The kernel's results are the reference's. -/
theorem algebraic : Cert.algebraic_KvqIdeal_KvqReferenceIdeal := by
  pair_intro
  · run_from Cert.KvqIdeal.Gen.run_main m g
  · run_from Cert.KvqReferenceIdeal.Value.run m' g'
    · exact (Cert.KvqIdeal.Result.final8 m c).symm
    · exact (Cert.KvqIdeal.Result.final9 m c).symm
    · exact (Cert.KvqIdeal.Result.final10 m c).symm
    · exact (Cert.KvqIdeal.Result.final11 m c).symm
    · exact (Cert.KvqIdeal.Result.final12 m c).symm

end Cert.Proof.KvqClaim

end
-- ==== Proof.InProjValue.lean ====
module

public import proofs.«01_k».proof.Proof.Gen.InProjIdeal.Value
public import proofs.«01_k».proof.Proof.Gen.InProjReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.InProjIdeal.Result

open Cert.InProjIdeal Cert.InProjIdeal.Gen

/-- The reference's first result, the gate `gelu(rmsnorm(x) g W[:, :2048])`, as it composes its operations. -/
def REF0 (X : FVec Ideal S16384x2048 .f32) (g : FVec Ideal S1x2048 .f32) (W : FVec Ideal S1x2048x4096 .f32) : FVec Ideal S16384x2048 .f32 :=
  mulf (extractStridedSlice Cert.InProjReferenceIdeal.S16384x2048 ![0, 0] (Host.dotGeneral (φ₁ := .f32) (φ₂ := .f32) Cert.InProjReferenceIdeal.dot_S16384x2048_S2048x4096_S16384x4096_1_0_0_1_n_n none (mulf (mulf X (broadcastInDim Cert.InProjReferenceIdeal.S16384x2048 ![0, 1] Cert.InProjReferenceIdeal.Gen.bcast_S16384x1_S16384x2048_0_1 (Host.rsqrt (addf (Host.divf (broadcastInDim Cert.InProjReferenceIdeal.S16384x1 ![0] Cert.InProjReferenceIdeal.Gen.bcast_S16384_S16384x1_0 (Host.reduceAdd (mulf X X) (constant Cert.InProjReferenceIdeal.S_ .f32 0x00000000#32) Cert.InProjReferenceIdeal.Gen.reducesTo_S16384x2048_S16384_d1 Cert.InProjReferenceIdeal.Gen.h_S_)) (broadcastInDim Cert.InProjReferenceIdeal.S16384x1 ![] Cert.InProjReferenceIdeal.Gen.bcast_S_S16384x1 (constant Cert.InProjReferenceIdeal.S_ .f32 0x45000000#32))) (broadcastInDim Cert.InProjReferenceIdeal.S16384x1 ![] Cert.InProjReferenceIdeal.Gen.bcast_S_S16384x1 (constant Cert.InProjReferenceIdeal.S_ .f32 0x358637BD#32)))))) (broadcastInDim Cert.InProjReferenceIdeal.S16384x2048 ![0, 1] Cert.InProjReferenceIdeal.Gen.bcast_S1x2048_S16384x2048_0_1 (broadcastInDim Cert.InProjReferenceIdeal.S1x2048 ![1] Cert.InProjReferenceIdeal.Gen.bcast_S2048_S1x2048_1 (shapeCast _ g Cert.InProjReferenceIdeal.Gen.shapeCasts_S1x2048_S2048)))) (shapeCast _ W Cert.InProjReferenceIdeal.Gen.shapeCasts_S1x2048x4096_S2048x4096)) Cert.InProjReferenceIdeal.Gen.slices_S16384x4096_S16384x2048_0_0) (mulf (broadcastInDim Cert.InProjReferenceIdeal.S16384x2048 ![] Cert.InProjReferenceIdeal.Gen.bcast_S_S16384x2048 (constant Cert.InProjReferenceIdeal.S_ .f32 0x3F000000#32)) (addf (broadcastInDim Cert.InProjReferenceIdeal.S16384x2048 ![] Cert.InProjReferenceIdeal.Gen.bcast_S_S16384x2048 (constant Cert.InProjReferenceIdeal.S_ .f32 0x3F800000#32)) (Host.tanh (mulf (broadcastInDim Cert.InProjReferenceIdeal.S16384x2048 ![] Cert.InProjReferenceIdeal.Gen.bcast_S_S16384x2048 (constant Cert.InProjReferenceIdeal.S_ .f32 0x3F4C422A#32)) (addf (extractStridedSlice Cert.InProjReferenceIdeal.S16384x2048 ![0, 0] (Host.dotGeneral (φ₁ := .f32) (φ₂ := .f32) Cert.InProjReferenceIdeal.dot_S16384x2048_S2048x4096_S16384x4096_1_0_0_1_n_n none (mulf (mulf X (broadcastInDim Cert.InProjReferenceIdeal.S16384x2048 ![0, 1] Cert.InProjReferenceIdeal.Gen.bcast_S16384x1_S16384x2048_0_1 (Host.rsqrt (addf (Host.divf (broadcastInDim Cert.InProjReferenceIdeal.S16384x1 ![0] Cert.InProjReferenceIdeal.Gen.bcast_S16384_S16384x1_0 (Host.reduceAdd (mulf X X) (constant Cert.InProjReferenceIdeal.S_ .f32 0x00000000#32) Cert.InProjReferenceIdeal.Gen.reducesTo_S16384x2048_S16384_d1 Cert.InProjReferenceIdeal.Gen.h_S_)) (broadcastInDim Cert.InProjReferenceIdeal.S16384x1 ![] Cert.InProjReferenceIdeal.Gen.bcast_S_S16384x1 (constant Cert.InProjReferenceIdeal.S_ .f32 0x45000000#32))) (broadcastInDim Cert.InProjReferenceIdeal.S16384x1 ![] Cert.InProjReferenceIdeal.Gen.bcast_S_S16384x1 (constant Cert.InProjReferenceIdeal.S_ .f32 0x358637BD#32)))))) (broadcastInDim Cert.InProjReferenceIdeal.S16384x2048 ![0, 1] Cert.InProjReferenceIdeal.Gen.bcast_S1x2048_S16384x2048_0_1 (broadcastInDim Cert.InProjReferenceIdeal.S1x2048 ![1] Cert.InProjReferenceIdeal.Gen.bcast_S2048_S1x2048_1 (shapeCast _ g Cert.InProjReferenceIdeal.Gen.shapeCasts_S1x2048_S2048)))) (shapeCast _ W Cert.InProjReferenceIdeal.Gen.shapeCasts_S1x2048x4096_S2048x4096)) Cert.InProjReferenceIdeal.Gen.slices_S16384x4096_S16384x2048_0_0) (mulf (broadcastInDim Cert.InProjReferenceIdeal.S16384x2048 ![] Cert.InProjReferenceIdeal.Gen.bcast_S_S16384x2048 (constant Cert.InProjReferenceIdeal.S_ .f32 0x3D372713#32)) (mulf (mulf (extractStridedSlice Cert.InProjReferenceIdeal.S16384x2048 ![0, 0] (Host.dotGeneral (φ₁ := .f32) (φ₂ := .f32) Cert.InProjReferenceIdeal.dot_S16384x2048_S2048x4096_S16384x4096_1_0_0_1_n_n none (mulf (mulf X (broadcastInDim Cert.InProjReferenceIdeal.S16384x2048 ![0, 1] Cert.InProjReferenceIdeal.Gen.bcast_S16384x1_S16384x2048_0_1 (Host.rsqrt (addf (Host.divf (broadcastInDim Cert.InProjReferenceIdeal.S16384x1 ![0] Cert.InProjReferenceIdeal.Gen.bcast_S16384_S16384x1_0 (Host.reduceAdd (mulf X X) (constant Cert.InProjReferenceIdeal.S_ .f32 0x00000000#32) Cert.InProjReferenceIdeal.Gen.reducesTo_S16384x2048_S16384_d1 Cert.InProjReferenceIdeal.Gen.h_S_)) (broadcastInDim Cert.InProjReferenceIdeal.S16384x1 ![] Cert.InProjReferenceIdeal.Gen.bcast_S_S16384x1 (constant Cert.InProjReferenceIdeal.S_ .f32 0x45000000#32))) (broadcastInDim Cert.InProjReferenceIdeal.S16384x1 ![] Cert.InProjReferenceIdeal.Gen.bcast_S_S16384x1 (constant Cert.InProjReferenceIdeal.S_ .f32 0x358637BD#32)))))) (broadcastInDim Cert.InProjReferenceIdeal.S16384x2048 ![0, 1] Cert.InProjReferenceIdeal.Gen.bcast_S1x2048_S16384x2048_0_1 (broadcastInDim Cert.InProjReferenceIdeal.S1x2048 ![1] Cert.InProjReferenceIdeal.Gen.bcast_S2048_S1x2048_1 (shapeCast _ g Cert.InProjReferenceIdeal.Gen.shapeCasts_S1x2048_S2048)))) (shapeCast _ W Cert.InProjReferenceIdeal.Gen.shapeCasts_S1x2048x4096_S2048x4096)) Cert.InProjReferenceIdeal.Gen.slices_S16384x4096_S16384x2048_0_0) (extractStridedSlice Cert.InProjReferenceIdeal.S16384x2048 ![0, 0] (Host.dotGeneral (φ₁ := .f32) (φ₂ := .f32) Cert.InProjReferenceIdeal.dot_S16384x2048_S2048x4096_S16384x4096_1_0_0_1_n_n none (mulf (mulf X (broadcastInDim Cert.InProjReferenceIdeal.S16384x2048 ![0, 1] Cert.InProjReferenceIdeal.Gen.bcast_S16384x1_S16384x2048_0_1 (Host.rsqrt (addf (Host.divf (broadcastInDim Cert.InProjReferenceIdeal.S16384x1 ![0] Cert.InProjReferenceIdeal.Gen.bcast_S16384_S16384x1_0 (Host.reduceAdd (mulf X X) (constant Cert.InProjReferenceIdeal.S_ .f32 0x00000000#32) Cert.InProjReferenceIdeal.Gen.reducesTo_S16384x2048_S16384_d1 Cert.InProjReferenceIdeal.Gen.h_S_)) (broadcastInDim Cert.InProjReferenceIdeal.S16384x1 ![] Cert.InProjReferenceIdeal.Gen.bcast_S_S16384x1 (constant Cert.InProjReferenceIdeal.S_ .f32 0x45000000#32))) (broadcastInDim Cert.InProjReferenceIdeal.S16384x1 ![] Cert.InProjReferenceIdeal.Gen.bcast_S_S16384x1 (constant Cert.InProjReferenceIdeal.S_ .f32 0x358637BD#32)))))) (broadcastInDim Cert.InProjReferenceIdeal.S16384x2048 ![0, 1] Cert.InProjReferenceIdeal.Gen.bcast_S1x2048_S16384x2048_0_1 (broadcastInDim Cert.InProjReferenceIdeal.S1x2048 ![1] Cert.InProjReferenceIdeal.Gen.bcast_S2048_S1x2048_1 (shapeCast _ g Cert.InProjReferenceIdeal.Gen.shapeCasts_S1x2048_S2048)))) (shapeCast _ W Cert.InProjReferenceIdeal.Gen.shapeCasts_S1x2048x4096_S2048x4096)) Cert.InProjReferenceIdeal.Gen.slices_S16384x4096_S16384x2048_0_0)) (extractStridedSlice Cert.InProjReferenceIdeal.S16384x2048 ![0, 0] (Host.dotGeneral (φ₁ := .f32) (φ₂ := .f32) Cert.InProjReferenceIdeal.dot_S16384x2048_S2048x4096_S16384x4096_1_0_0_1_n_n none (mulf (mulf X (broadcastInDim Cert.InProjReferenceIdeal.S16384x2048 ![0, 1] Cert.InProjReferenceIdeal.Gen.bcast_S16384x1_S16384x2048_0_1 (Host.rsqrt (addf (Host.divf (broadcastInDim Cert.InProjReferenceIdeal.S16384x1 ![0] Cert.InProjReferenceIdeal.Gen.bcast_S16384_S16384x1_0 (Host.reduceAdd (mulf X X) (constant Cert.InProjReferenceIdeal.S_ .f32 0x00000000#32) Cert.InProjReferenceIdeal.Gen.reducesTo_S16384x2048_S16384_d1 Cert.InProjReferenceIdeal.Gen.h_S_)) (broadcastInDim Cert.InProjReferenceIdeal.S16384x1 ![] Cert.InProjReferenceIdeal.Gen.bcast_S_S16384x1 (constant Cert.InProjReferenceIdeal.S_ .f32 0x45000000#32))) (broadcastInDim Cert.InProjReferenceIdeal.S16384x1 ![] Cert.InProjReferenceIdeal.Gen.bcast_S_S16384x1 (constant Cert.InProjReferenceIdeal.S_ .f32 0x358637BD#32)))))) (broadcastInDim Cert.InProjReferenceIdeal.S16384x2048 ![0, 1] Cert.InProjReferenceIdeal.Gen.bcast_S1x2048_S16384x2048_0_1 (broadcastInDim Cert.InProjReferenceIdeal.S1x2048 ![1] Cert.InProjReferenceIdeal.Gen.bcast_S2048_S1x2048_1 (shapeCast _ g Cert.InProjReferenceIdeal.Gen.shapeCasts_S1x2048_S2048)))) (shapeCast _ W Cert.InProjReferenceIdeal.Gen.shapeCasts_S1x2048x4096_S2048x4096)) Cert.InProjReferenceIdeal.Gen.slices_S16384x4096_S16384x2048_0_0))))))))

/-- The reference's second result, the recurrence's input `rmsnorm(x) g W[:, 2048:]`. -/
def REF1 (X : FVec Ideal S16384x2048 .f32) (g : FVec Ideal S1x2048 .f32) (W : FVec Ideal S1x2048x4096 .f32) : FVec Ideal S16384x2048 .f32 :=
  extractStridedSlice Cert.InProjReferenceIdeal.S16384x2048 ![0, 2048] (Host.dotGeneral (φ₁ := .f32) (φ₂ := .f32) Cert.InProjReferenceIdeal.dot_S16384x2048_S2048x4096_S16384x4096_1_0_0_1_n_n none (mulf (mulf X (broadcastInDim Cert.InProjReferenceIdeal.S16384x2048 ![0, 1] Cert.InProjReferenceIdeal.Gen.bcast_S16384x1_S16384x2048_0_1 (Host.rsqrt (addf (Host.divf (broadcastInDim Cert.InProjReferenceIdeal.S16384x1 ![0] Cert.InProjReferenceIdeal.Gen.bcast_S16384_S16384x1_0 (Host.reduceAdd (mulf X X) (constant Cert.InProjReferenceIdeal.S_ .f32 0x00000000#32) Cert.InProjReferenceIdeal.Gen.reducesTo_S16384x2048_S16384_d1 Cert.InProjReferenceIdeal.Gen.h_S_)) (broadcastInDim Cert.InProjReferenceIdeal.S16384x1 ![] Cert.InProjReferenceIdeal.Gen.bcast_S_S16384x1 (constant Cert.InProjReferenceIdeal.S_ .f32 0x45000000#32))) (broadcastInDim Cert.InProjReferenceIdeal.S16384x1 ![] Cert.InProjReferenceIdeal.Gen.bcast_S_S16384x1 (constant Cert.InProjReferenceIdeal.S_ .f32 0x358637BD#32)))))) (broadcastInDim Cert.InProjReferenceIdeal.S16384x2048 ![0, 1] Cert.InProjReferenceIdeal.Gen.bcast_S1x2048_S16384x2048_0_1 (broadcastInDim Cert.InProjReferenceIdeal.S1x2048 ![1] Cert.InProjReferenceIdeal.Gen.bcast_S2048_S1x2048_1 (shapeCast _ g Cert.InProjReferenceIdeal.Gen.shapeCasts_S1x2048_S2048)))) (shapeCast _ W Cert.InProjReferenceIdeal.Gen.shapeCasts_S1x2048x4096_S2048x4096)) Cert.InProjReferenceIdeal.Gen.slices_S16384x4096_S16384x2048_0_2048

/-- Row `i`, entry `d` of the normalised and scaled input. -/
def RN (X : FVec Ideal S16384x2048 .f32) (g : FVec Ideal S1x2048 .f32) (i : Fin 16384) (d : Fin 2048) : EReal :=
  X (ix2 i d) * Ideal.rsqrt (Ideal.div (∑ k : Fin 2048, X (ix2 i k) * X (ix2 i k)) (Ideal.ofBits .f32 0x45000000#32)
    + Ideal.ofBits .f32 0x358637BD#32) * g (ix2 0 d)

/-- Row `i`, column `f` of the projection. -/
def PROJ (X : FVec Ideal S16384x2048 .f32) (g : FVec Ideal S1x2048 .f32) (W : FVec Ideal S1x2048x4096 .f32) (i : Fin 16384) (f : Fin 4096) : EReal :=
  ∑ d : Fin 2048, RN X g i d * W (ix3 0 d f)

/-- The approximate `gelu` both sides use. -/
def GELU (u : EReal) : EReal :=
  u * (Ideal.ofBits .f32 0x3F000000#32 * (Ideal.ofBits .f32 0x3F800000#32 + Ideal.tanh
    (Ideal.ofBits .f32 0x3F4C422A#32 * (u + Ideal.ofBits .f32 0x3D372713#32 * (u * (u * u))))))

theorem ref0_at (X : FVec Ideal S16384x2048 .f32) (g : FVec Ideal S1x2048 .f32) (W : FVec Ideal S1x2048x4096 .f32) (i : Fin 16384) (l : Fin 2048) :
    REF0 X g W (ix2 i l) = GELU (PROJ X g W i ⟨l, by omega⟩) := by
  pointwise [REF0, PROJ, RN, GELU]
  simp only [mul_assoc]

theorem ref1_at (X : FVec Ideal S16384x2048 .f32) (g : FVec Ideal S1x2048 .f32) (W : FVec Ideal S1x2048x4096 .f32) (i : Fin 16384) (l : Fin 2048) :
    REF1 X g W (ix2 i l) = PROJ X g W i ⟨2048 + l, by omega⟩ := by
  pointwise [REF1, PROJ, RN]

theorem pay3_at (xn wg) (r : Fin 1024) (l : Fin 512) : k0_pay3 (F := Ideal) xn wg (ix2 r l)
      = GELU (∑ d : Fin 2048, xn (ix2 r d) * wg (ix2 d l)) := by
  pointwise [k0_pay3, GELU]

theorem pay4_at (xn wr) (r : Fin 1024) (l : Fin 512) : k0_pay4 (F := Ideal) xn wr (ix2 r l)
      = ∑ d : Fin 2048, xn (ix2 r d) * wr (ix2 d l) := by
  pointwise [k0_pay4]

/-- The blocks of the windows at grid point `t`. -/
theorem idx : ∀ t : Fin cfg0.N, win0_0.index t = ![t.val / 4, 0] ∧ win0_1.index t = ![0, 0] ∧ win0_2.index t = ![0, t.val % 4]
    ∧ win0_3.index t = ![0, t.val % 4 + 4] ∧ win0_4.index t = ![t.val / 4, t.val % 4]
    ∧ win0_5.index t = ![t.val / 4, t.val % 4] ∧ t.val / 4 < 16 :=
  (by decide +kernel : ∀ t : Fin grid0.N, _)

variable (m : (ℓ : Loc nD τ sig) → Buf (Elt Ideal) ℓ)

/-- The first column tile of a row block fills the scratch with the normalised rows. -/
theorem scr_A (c : Dev nD) (t : Fin cfg0.N) (h : t.val % 4 = 0) (y : S1024x2048.Idx) (i : Fin 16384)
    (hi : (i : ℕ) = t.val / 4 * 1024 + y 0) : (outsAt0 m c t.val t.isLt).2.2 y = RN (m ((c : Thread nD τ).loc main_arg0)) (m ((c : Thread nD τ).loc main_arg1)) i (y 1) := by
  rw [outsAt0_A m c t h]; frame_out
  canon_tiles x h
  all_goals
    rw [h0] at hi
    pointwise [k0_pay1, k0_pay2, k0_pay5, k0_pay6, k0_pay7, k0_pay8, k0_pay9, k0_pay10, RN]
    blk_point [iblk, V, idx t]

/-- The scratch holds the row block's normalised rows at every column tile. -/
theorem scr (c : Dev nD) : ∀ (n : ℕ) (hn : n < cfg0.N) (y : S1024x2048.Idx) (i : Fin 16384)
    (_ : (i : ℕ) = n / 4 * 1024 + y 0), (outsAt0 m c n hn).2.2 y = RN (m ((c : Thread nD τ).loc main_arg0)) (m ((c : Thread nD τ).loc main_arg1)) i (y 1) := by
  intro n
  induction n with
  | zero => exact fun hn y i hi => scr_A m c ⟨0, hn⟩ rfl y i hi
  | succ n ih =>
    intro hn y i hi
    by_cases h : (n + 1) % 4 = 0
    · exact scr_A m c ⟨n + 1, hn⟩ h y i hi
    · rw [outsAt0_B m c ⟨n + 1, hn⟩ h]
      frame_out
      unfold sout0_B_0
      exact ih _ y i (by omega)

theorem gate_read (c : Dev nD) (t : Fin cfg0.N) (d : Fin 2048) (k : Fin 512) : iblk m c 2 t (ix2 d k) =
    (m ((c : Thread nD τ).loc main_arg2)) (ix3 0 d ⟨t.val % 4 * 512 + k, by omega⟩) := by
  blk_point [iblk, V, idx t]

theorem rec_read (c : Dev nD) (t : Fin cfg0.N) (d : Fin 2048) (k : Fin 512) : iblk m c 3 t (ix2 d k) =
    (m ((c : Thread nD τ).loc main_arg2)) (ix3 0 d ⟨2048 + (t.val % 4 * 512 + k), by omega⟩) := by
  blk_point [iblk, V, idx t]

theorem whole_idx (h) (r : Fin 1024) (l : Fin 2048) :
    (Rect.unit (s := S1024x2048) ![0, 0] ![1024, 2048] h).toLoadRect.idx (ix2 r l) = ix2 r l := by
  blk_ext
  · show 0 + 1 * (r : ℕ) = r
    omega
  · show 0 + 1 * (l : ℕ) = l
    omega

/-- A grid point's gate tile, from the normalised rows. -/
theorem gate_val (c : Dev nD) (t : Fin cfg0.N) (r : Fin 1024) (l : Fin 512) (i : Fin 16384)
    (xn : FVec Ideal S1024x2048 .bf16) (hx : ∀ d, xn (ix2 r d) = RN (m ((c : Thread nD τ).loc main_arg0)) (m ((c : Thread nD τ).loc main_arg1)) i d) :
    k0_pay3 (F := Ideal) xn (iblk m c 2 t) (ix2 r l)
      = GELU (PROJ (m ((c : Thread nD τ).loc main_arg0)) (m ((c : Thread nD τ).loc main_arg1)) (m ((c : Thread nD τ).loc main_arg2)) i ⟨t.val % 4 * 512 + l, by omega⟩) := by
  rw [pay3_at, PROJ]
  exact congrArg GELU (Finset.sum_congr rfl fun d _ => by rw [hx, gate_read])

/-- A grid point's tile of the recurrence's input, from the normalised rows. -/
theorem rec_val (c : Dev nD) (t : Fin cfg0.N) (r : Fin 1024) (l : Fin 512) (i : Fin 16384)
    (xn : FVec Ideal S1024x2048 .bf16) (hx : ∀ d, xn (ix2 r d) = RN (m ((c : Thread nD τ).loc main_arg0)) (m ((c : Thread nD τ).loc main_arg1)) i d) :
    k0_pay4 (F := Ideal) xn (iblk m c 3 t) (ix2 r l)
      = PROJ (m ((c : Thread nD τ).loc main_arg0)) (m ((c : Thread nD τ).loc main_arg1)) (m ((c : Thread nD τ).loc main_arg2)) i ⟨2048 + (t.val % 4 * 512 + l), by omega⟩ := by
  rw [pay4_at, PROJ]
  exact Finset.sum_congr rfl fun d _ => by rw [hx, rec_read]

/-- Both tiles a grid point leaves. -/
theorem tiles (c : Dev nD) (t : Fin cfg0.N) (r : Fin 1024) (l : Fin 512) (i : Fin 16384)
    (hi : (i : ℕ) = t.val / 4 * 1024 + r) :
    (outsAt0 m c t.val t.isLt).1 (ix2 r l) = GELU (PROJ (m ((c : Thread nD τ).loc main_arg0)) (m ((c : Thread nD τ).loc main_arg1)) (m ((c : Thread nD τ).loc main_arg2)) i ⟨t.val % 4 * 512 + l, by omega⟩)
    ∧ (outsAt0 m c t.val t.isLt).2.1 (ix2 r l) = PROJ (m ((c : Thread nD τ).loc main_arg0)) (m ((c : Thread nD τ).loc main_arg1)) (m ((c : Thread nD τ).loc main_arg2)) i ⟨2048 + (t.val % 4 * 512 + l), by omega⟩ := by
  by_cases h : t.val % 4 = 0
  · have hs := fun d => scr_A m c t h (ix2 r d) i hi
    rw [outsAt0_A m c t h] at hs ⊢
    constructor
    · frame_out
      refine gate_val m c t r l i _ fun d => ?_
      refine (congrFun (View.readCov_eq_canon' _ _ _) _).trans (Eq.trans ?_ (hs d))
      rw [whole_idx]
      frame_out
    · frame_out
      refine rec_val m c t r l i _ fun d => ?_
      refine (congrFun (View.readCov_eq_canon' _ _ _) _).trans (Eq.trans ?_ (hs d))
      rw [whole_idx]
      frame_out
  · have hs := fun d => scr m c (t.val - 1) (by omega) (ix2 r d) i (by show (i : ℕ) = (t.val - 1) / 4 * 1024 + r; omega)
    rw [outsAt0_B m c t h]
    constructor
    · frame_out
      exact gate_val m c t r l i _ fun d => (congrFun (read_unread_whole _ _ _) _).trans (hs d)
    · frame_out
      exact rec_val m c t r l i _ fun d => (congrFun (read_unread_whole _ _ _) _).trans (hs d)

/-- The gate array after the run is the reference's first term. -/
theorem final0 (c : Dev nD) : (dats m 0 c).arrAt 4 (cfgs 0).N = REF0 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have ht := (idx t).2.2.2.2.2.2
  obtain ⟨r, l, rfl⟩ : ∃ (r : Fin 1024) (l : Fin 512), y = ix2 r l := ⟨y 0, y 1, by blk_ext⟩
  have e : (win0_4.blk t).view.emb (ix2 r l) = ix2 ⟨t.val / 4 * 1024 + r, by omega⟩ ⟨t.val % 4 * 512 + l, by omega⟩ := by
    blk_ext [idx t]
  rw [e, ref0_at]
  exact (tiles m c t r l _ rfl).1

/-- The array of the recurrence's input after the run is the reference's second term. -/
theorem final1 (c : Dev nD) : (dats m 0 c).arrAt 5 (cfgs 0).N = REF1 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have ht := (idx t).2.2.2.2.2.2
  obtain ⟨r, l, rfl⟩ : ∃ (r : Fin 1024) (l : Fin 512), y = ix2 r l := ⟨y 0, y 1, by blk_ext⟩
  have e : (win0_5.blk t).view.emb (ix2 r l) = ix2 ⟨t.val / 4 * 1024 + r, by omega⟩ ⟨t.val % 4 * 512 + l, by omega⟩ := by
    blk_ext [idx t]
  rw [e, ref1_at]
  exact (tiles m c t r l _ rfl).2

end Cert.InProjIdeal.Result

namespace Cert.Proof.InProjClaim

/-- The kernel's results are the reference's. -/
theorem algebraic : Cert.algebraic_InProjIdeal_InProjReferenceIdeal := by
  pair_intro
  · run_from Cert.InProjIdeal.Gen.run_main m g
  · run_from Cert.InProjReferenceIdeal.Value.run m' g'
    · unfold Cert.InProjReferenceIdeal.Value.res_main_v29
      rw [(hagree c).1, (hagree c).2.1, (hagree c).2.2]
      exact (Cert.InProjIdeal.Result.final0 m c).symm
    · exact (Cert.InProjIdeal.Result.final1 m c).symm

end Cert.Proof.InProjClaim

end
-- ==== Proof.OutValue.lean ====
module

public import proofs.«01_k».proof.Proof.Gen.OutIdeal.Value
public import proofs.«01_k».proof.Proof.Gen.OutReferenceIdeal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.OutIdeal.Result

open Cert.OutIdeal Cert.OutIdeal.Gen

variable (m : (ℓ : Loc nD τ sig) → Buf (Elt Ideal) ℓ)

/-- The reference's result: the residual plus the product with the weight's one layer. -/
def REF (A : FVec Ideal S16384x2048 .bf16) (W : FVec Ideal S1x2048x2048 .f32) (X : FVec Ideal S16384x2048 .f32) :
    FVec Ideal S16384x2048 .f32 :=
  addf X (Host.dotGeneral (φ₁ := .f32) (φ₂ := .f32) Cert.OutReferenceIdeal.dot_S16384x2048_S2048x2048_S16384x2048_1_0_0_1_n_n none
    (extf .f32 A Cert.OutReferenceIdeal.Gen.bitsLt_bf16_f32) (shapeCast _ W Cert.OutReferenceIdeal.Gen.shapeCasts_S1x2048x2048_S2048x2048))

/-- The blocks of the four windows at grid point `t`: rows move with `t`, the weight is one block. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- What grid point `t` stores at `y` is the reference's result where `y` sits in the array. -/
theorem point (c : Dev nD) (t : Fin cfg0.N) (y) : k0_pay1 (F := Ideal) (iblk m c 2 t) (iblk m c 0 t) (iblk m c 1 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The result array after the run is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutIdeal.Result

namespace Cert.Proof.OutClaim

/-- The kernel's result is the reference's. -/
theorem algebraic : Cert.algebraic_OutIdeal_OutReferenceIdeal := by
  pair_intro
  · run_from Cert.OutIdeal.Gen.run_main m g
  · run_from Cert.OutReferenceIdeal.Value.run m' g'
    exact (Cert.OutIdeal.Result.final m c).symm

end Cert.Proof.OutClaim

end
-- ==== Proof.MlpSampleValue.lean ====
module

public import proofs.«01_k».proof.Proof.Gen.MlpSampleIdeal.Value
public import proofs.«01_k».proof.Proof.Gen.MlpSampleReferenceIdeal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MlpSampleIdeal.Result

open Cert.MlpSampleIdeal Cert.MlpSampleIdeal.Gen

variable (m : (ℓ : Loc nD τ sig) → Buf (Elt Ideal) ℓ)

/-- The reference's result: `x + relu(rmsnorm(x) g U)² D` as it composes its operations. -/
def REF (X : FVec Ideal S512x2048 .f32) (g : FVec Ideal S2x2048 .f32) (U : FVec Ideal S2x2048x8192 .f32)
    (D : FVec Ideal S2x8192x2048 .f32) : FVec Ideal S512x2048 .f32 :=
  addf X (Host.dotGeneral (φ₁ := .f32) (φ₂ := .f32) Cert.MlpSampleReferenceIdeal.dot_S512x8192_S8192x2048_S512x2048_1_0_0_1_n_n none (mulf (maximumf (Host.dotGeneral (φ₁ := .f32) (φ₂ := .f32) Cert.MlpSampleReferenceIdeal.dot_S512x2048_S2048x8192_S512x8192_1_0_0_1_n_n none (mulf (mulf X (broadcastInDim Cert.MlpSampleReferenceIdeal.S512x2048 ![0, 1] Cert.MlpSampleReferenceIdeal.Gen.bcast_S512x1_S512x2048_0_1 (Host.rsqrt (addf (Host.divf (broadcastInDim Cert.MlpSampleReferenceIdeal.S512x1 ![0] Cert.MlpSampleReferenceIdeal.Gen.bcast_S512_S512x1_0 (Host.reduceAdd (mulf X X) (constant Cert.MlpSampleReferenceIdeal.S_ .f32 0x00000000#32) Cert.MlpSampleReferenceIdeal.Gen.reducesTo_S512x2048_S512_d1 Cert.MlpSampleReferenceIdeal.Gen.h_S_)) (broadcastInDim Cert.MlpSampleReferenceIdeal.S512x1 ![] Cert.MlpSampleReferenceIdeal.Gen.bcast_S_S512x1 (constant Cert.MlpSampleReferenceIdeal.S_ .f32 0x45000000#32))) (broadcastInDim Cert.MlpSampleReferenceIdeal.S512x1 ![] Cert.MlpSampleReferenceIdeal.Gen.bcast_S_S512x1 (constant Cert.MlpSampleReferenceIdeal.S_ .f32 0x358637BD#32)))))) (broadcastInDim Cert.MlpSampleReferenceIdeal.S512x2048 ![0, 1] Cert.MlpSampleReferenceIdeal.Gen.bcast_S1x2048_S512x2048_0_1 (broadcastInDim Cert.MlpSampleReferenceIdeal.S1x2048 ![1] Cert.MlpSampleReferenceIdeal.Gen.bcast_S2048_S1x2048_1 (shapeCast _ (extractStridedSlice Cert.MlpSampleReferenceIdeal.S1x2048 ![1, 0] g Cert.MlpSampleReferenceIdeal.Gen.slices_S2x2048_S1x2048_1_0) Cert.MlpSampleReferenceIdeal.Gen.shapeCasts_S1x2048_S2048)))) (shapeCast _ (extractStridedSlice Cert.MlpSampleReferenceIdeal.S1x2048x8192 ![1, 0, 0] U Cert.MlpSampleReferenceIdeal.Gen.slices_S2x2048x8192_S1x2048x8192_1_0_0) Cert.MlpSampleReferenceIdeal.Gen.shapeCasts_S1x2048x8192_S2048x8192)) (broadcastInDim Cert.MlpSampleReferenceIdeal.S512x8192 ![] Cert.MlpSampleReferenceIdeal.Gen.bcast_S_S512x8192 (constant Cert.MlpSampleReferenceIdeal.S_ .f32 0x00000000#32))) (maximumf (Host.dotGeneral (φ₁ := .f32) (φ₂ := .f32) Cert.MlpSampleReferenceIdeal.dot_S512x2048_S2048x8192_S512x8192_1_0_0_1_n_n none (mulf (mulf X (broadcastInDim Cert.MlpSampleReferenceIdeal.S512x2048 ![0, 1] Cert.MlpSampleReferenceIdeal.Gen.bcast_S512x1_S512x2048_0_1 (Host.rsqrt (addf (Host.divf (broadcastInDim Cert.MlpSampleReferenceIdeal.S512x1 ![0] Cert.MlpSampleReferenceIdeal.Gen.bcast_S512_S512x1_0 (Host.reduceAdd (mulf X X) (constant Cert.MlpSampleReferenceIdeal.S_ .f32 0x00000000#32) Cert.MlpSampleReferenceIdeal.Gen.reducesTo_S512x2048_S512_d1 Cert.MlpSampleReferenceIdeal.Gen.h_S_)) (broadcastInDim Cert.MlpSampleReferenceIdeal.S512x1 ![] Cert.MlpSampleReferenceIdeal.Gen.bcast_S_S512x1 (constant Cert.MlpSampleReferenceIdeal.S_ .f32 0x45000000#32))) (broadcastInDim Cert.MlpSampleReferenceIdeal.S512x1 ![] Cert.MlpSampleReferenceIdeal.Gen.bcast_S_S512x1 (constant Cert.MlpSampleReferenceIdeal.S_ .f32 0x358637BD#32)))))) (broadcastInDim Cert.MlpSampleReferenceIdeal.S512x2048 ![0, 1] Cert.MlpSampleReferenceIdeal.Gen.bcast_S1x2048_S512x2048_0_1 (broadcastInDim Cert.MlpSampleReferenceIdeal.S1x2048 ![1] Cert.MlpSampleReferenceIdeal.Gen.bcast_S2048_S1x2048_1 (shapeCast _ (extractStridedSlice Cert.MlpSampleReferenceIdeal.S1x2048 ![1, 0] g Cert.MlpSampleReferenceIdeal.Gen.slices_S2x2048_S1x2048_1_0) Cert.MlpSampleReferenceIdeal.Gen.shapeCasts_S1x2048_S2048)))) (shapeCast _ (extractStridedSlice Cert.MlpSampleReferenceIdeal.S1x2048x8192 ![1, 0, 0] U Cert.MlpSampleReferenceIdeal.Gen.slices_S2x2048x8192_S1x2048x8192_1_0_0) Cert.MlpSampleReferenceIdeal.Gen.shapeCasts_S1x2048x8192_S2048x8192)) (broadcastInDim Cert.MlpSampleReferenceIdeal.S512x8192 ![] Cert.MlpSampleReferenceIdeal.Gen.bcast_S_S512x8192 (constant Cert.MlpSampleReferenceIdeal.S_ .f32 0x00000000#32)))) (shapeCast _ (extractStridedSlice Cert.MlpSampleReferenceIdeal.S1x8192x2048 ![1, 0, 0] D Cert.MlpSampleReferenceIdeal.Gen.slices_S2x8192x2048_S1x8192x2048_1_0_0) Cert.MlpSampleReferenceIdeal.Gen.shapeCasts_S1x8192x2048_S8192x2048))

/-- Row `i`, entry `d` of the normalised and scaled input. -/
def RN (X : FVec Ideal S512x2048 .f32) (g : FVec Ideal S2x2048 .f32) (i : Fin 512) (d : Fin 2048) : EReal :=
  X (ix2 i d) * Ideal.rsqrt (Ideal.div (∑ k : Fin 2048, X (ix2 i k) * X (ix2 i k)) (Ideal.ofBits .f32 0x45000000#32)
    + Ideal.ofBits .f32 0x358637BD#32) * g (ix2 1 d)

/-- Entry `f` of row `i` of the hidden layer. -/
def HID (X : FVec Ideal S512x2048 .f32) (g : FVec Ideal S2x2048 .f32) (U : FVec Ideal S2x2048x8192 .f32)
    (i : Fin 512) (f : Fin 8192) : EReal :=
  max (∑ d : Fin 2048, RN X g i d * U (ix3 1 d f)) 0

theorem ref_at (X : FVec Ideal S512x2048 .f32) (g : FVec Ideal S2x2048 .f32) (U : FVec Ideal S2x2048x8192 .f32)
    (D : FVec Ideal S2x8192x2048 .f32) (i : Fin 512) (l : Fin 2048) : REF X g U D (ix2 i l)
      = X (ix2 i l) + ∑ f : Fin 8192, HID X g U i f * HID X g U i f * D (ix3 1 f l) := by
  pointwise [REF, HID, RN]

theorem pay2_at (xn wu acc wd) (r : Fin 512) (l : Fin 2048) : k0_pay2 (F := Ideal) xn wu acc wd (ix2 r l)
      = acc (ix2 r l) + ∑ k : Fin 1024, max (∑ d : Fin 2048, xn (ix2 r d) * wu (ix3 0 d k)) 0
          * max (∑ d : Fin 2048, xn (ix2 r d) * wu (ix3 0 d k)) 0 * wd (ix3 0 k l) := by
  pointwise [k0_pay2]

theorem idx : ∀ t : Fin cfg0.N, win0_0.index t = ![t.val / 8, 0] ∧ win0_1.index t = ![0, 0] ∧ win0_2.index t = ![1, 0, t.val % 8]
    ∧ win0_3.index t = ![1, t.val % 8, 0] ∧ win0_4.index t = ![t.val / 8, 0] ∧ t.val / 8 < 1 :=
  (by decide +kernel : ∀ t : Fin grid0.N, _)

theorem scr_A (c : Dev nD) (t : Fin cfg0.N) (h : t.val % 8 = 0) (y : S512x2048.Idx) (i : Fin 512)
    (hi : (i : ℕ) = t.val / 8 * 512 + y 0) : (outsAt0 m c t.val t.isLt).2 y =
      RN (m ((c : Thread nD τ).loc main_arg0)) (m ((c : Thread nD τ).loc main_arg1)) i (y 1) := by
  rw [outsAt0_A m c t h]; frame_out
  canon_tiles x h
  all_goals
    rw [h0] at hi
    pointwise [k0_pay1, k0_pay3, k0_pay4, k0_pay5, k0_pay6, k0_pay7, k0_pay8, RN]
    blk_point [iblk, V, idx t]

theorem scr (c : Dev nD) : ∀ (n : ℕ) (hn : n < cfg0.N) (y : S512x2048.Idx) (i : Fin 512)
    (_ : (i : ℕ) = n / 8 * 512 + y 0), (outsAt0 m c n hn).2 y =
      RN (m ((c : Thread nD τ).loc main_arg0)) (m ((c : Thread nD τ).loc main_arg1)) i (y 1) := by
  intro n
  induction n with
  | zero => exact fun hn y i hi => scr_A m c ⟨0, hn⟩ rfl y i hi
  | succ n ih =>
    intro hn y i hi
    by_cases h : (n + 1) % 8 = 0
    · exact scr_A m c ⟨n + 1, hn⟩ h y i hi
    · rw [outsAt0_B m c ⟨n + 1, hn⟩ h]
      frame_out
      unfold sout0_B_0
      exact ih _ y i (by omega)

/-- The part of row `i`, column `l` that slice `s` of the hidden layer adds. -/
def PART (X : FVec Ideal S512x2048 .f32) (g : FVec Ideal S2x2048 .f32) (U : FVec Ideal S2x2048x8192 .f32)
    (D : FVec Ideal S2x8192x2048 .f32) (i : Fin 512) (l : Fin 2048) (s : Fin 8) : EReal :=
  ∑ k : Fin 1024, HID X g U i ⟨s * 1024 + k, by omega⟩ * HID X g U i ⟨s * 1024 + k, by omega⟩
    * D (ix3 1 ⟨s * 1024 + k, by omega⟩ l)

theorem up_read (c : Dev nD) (t : Fin cfg0.N) (d : Fin 2048) (k : Fin 1024) : iblk m c 2 t (ix3 0 d k) =
    m ((c : Thread nD τ).loc main_arg2) (ix3 1 d ⟨t.val % 8 * 1024 + k, by omega⟩) := by
  blk_point [iblk, V, idx t]

theorem down_read (c : Dev nD) (t : Fin cfg0.N) (l : Fin 2048) (k : Fin 1024) : iblk m c 3 t (ix3 0 k l) =
    m ((c : Thread nD τ).loc main_arg3) (ix3 1 ⟨t.val % 8 * 1024 + k, by omega⟩ l) := by
  blk_point [iblk, V, idx t]

/-- Row `i`, column `l` after the first slice: the input's entry and slice 0. -/
def FIRST (X : FVec Ideal S512x2048 .f32) (g : FVec Ideal S2x2048 .f32) (U : FVec Ideal S2x2048x8192 .f32)
    (D : FVec Ideal S2x8192x2048 .f32) (i : Fin 512) (l : Fin 2048) : EReal :=
  X (ix2 i l) + PART X g U D i l 0

theorem pay2_val (c : Dev nD) (t : Fin cfg0.N) (r : Fin 512) (l : Fin 2048) (i : Fin 512)
    (xn : FVec Ideal S512x2048 .bf16) (acc : FVec Ideal S512x2048 .f32) (hx : ∀ d, xn (ix2 r d) =
      RN (m ((c : Thread nD τ).loc main_arg0)) (m ((c : Thread nD τ).loc main_arg1)) i d) (s : Fin 8)
    (hs : (s : ℕ) = t.val % 8) :
    k0_pay2 (F := Ideal) xn (iblk m c 2 t) acc (iblk m c 3 t) (ix2 r l) = acc (ix2 r l)
      + PART (m ((c : Thread nD τ).loc main_arg0)) (m ((c : Thread nD τ).loc main_arg1))
        (m ((c : Thread nD τ).loc main_arg2)) (m ((c : Thread nD τ).loc main_arg3)) i l s := by
  obtain ⟨s, hs'⟩ := s
  obtain rfl : s = t.val % 8 := hs
  rw [pay2_at, PART]
  refine congrArg _ (Finset.sum_congr rfl fun k _ => ?_)
  rw [down_read]
  have : (∑ d : Fin 2048, xn (ix2 r d) * iblk m c 2 t (ix3 0 d k)) =
    ∑ d : Fin 2048, RN (m ((c : Thread nD τ).loc main_arg0)) (m ((c : Thread nD τ).loc main_arg1)) i d
     * m ((c : Thread nD τ).loc main_arg2) (ix3 1 d ⟨t.val % 8 * 1024 + k, by omega⟩) :=
    Finset.sum_congr rfl fun d _ => by rw [hx, up_read]
  rw [this]
  rfl

end Cert.MlpSampleIdeal.Result
-- ==== Proof.MlpSampleFinal.lean ====
module

public import proofs.«01_k».proof.Proof.MlpSampleValue
public import proofs.«01_k».proof.Proof.Gen.MlpSampleIdeal.Value
public import proofs.«01_k».proof.Proof.Gen.MlpSampleReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MlpSampleIdeal.Result

open Cert.MlpSampleIdeal Cert.MlpSampleIdeal.Gen

section
/-- Row `i`, column `l` after the first `n` slices. -/
def SUMS (X : FVec Ideal S512x2048 .f32) (g : FVec Ideal S2x2048 .f32) (U : FVec Ideal S2x2048x8192 .f32)
    (D : FVec Ideal S2x8192x2048 .f32) (i : Fin 512) (l : Fin 2048) (n : ℕ) (hn : n ≤ 8) : EReal :=
  X (ix2 i l) + ∑ s : Fin n, PART X g U D i l ⟨s, by omega⟩

variable (X : FVec Ideal S512x2048 .f32) (g : FVec Ideal S2x2048 .f32) (U : FVec Ideal S2x2048x8192 .f32)
    (D : FVec Ideal S2x8192x2048 .f32) (i : Fin 512) (l : Fin 2048)

theorem sums_one (n : ℕ) (hn : n ≤ 8) (h : n = 1) : SUMS X g U D i l n hn = FIRST X g U D i l := by
  subst h
  exact congrArg (X (ix2 i l) + ·) (Fin.sum_univ_one _)

theorem sums_succ (n k : ℕ) (hn : n ≤ 8) (hk : k < 8) (h : n = k + 1) :
    SUMS X g U D i l n hn = SUMS X g U D i l k (by omega) + PART X g U D i l ⟨k, hk⟩ := by
  subst h
  unfold SUMS
  rw [Fin.sum_univ_castSucc, ← add_assoc]
  rfl

end

variable (m : (ℓ : Loc nD τ sig) → Buf (Elt Ideal) ℓ)

theorem whole_idx (h) (r : Fin 512) (l : Fin 2048) :
    (Rect.unit (s := S512x2048) ![0, 0] ![512, 2048] h).toLoadRect.idx (ix2 r l) = ix2 r l := by
  blk_ext
  · show 0 + 1 * (r : ℕ) = r
    omega
  · show 0 + 1 * (l : ℕ) = l
    omega

theorem step_A (c : Dev nD) (t : Fin cfg0.N) (h : t.val % 8 = 0) (r : Fin 512) (l : Fin 2048) (i : Fin 512)
    (hi : (i : ℕ) = t.val / 8 * 512 + r) : (outsAt0 m c t.val t.isLt).1 (ix2 r l) =
      FIRST (m ((c : Thread nD τ).loc main_arg0)) (m ((c : Thread nD τ).loc main_arg1))
        (m ((c : Thread nD τ).loc main_arg2)) (m ((c : Thread nD τ).loc main_arg3)) i l := by
  have hs := fun d => scr_A m c t h (ix2 r d) i hi
  rw [outsAt0_A m c t h] at hs ⊢
  frame_out
  refine (pay2_val m c t r l i _ _ (fun d => ?_) 0 h.symm).trans (congrArg (· + _) ?_)
  · refine (congrFun (View.readCov_eq_canon' _ _ _) _).trans (Eq.trans ?_ (hs d))
    rw [whole_idx]
    frame_out
  · refine (congrFun (View.readCov_eq_canon' _ _ _) _).trans ?_
    rw [whole_idx]
    generalize hy : ix2 r l = y
    have hr : (r : ℕ) = y 0 := hy ▸ rfl
    have hl : (l : ℕ) = y 1 := hy ▸ rfl
    clear hs hy
    canon_tiles x h
    all_goals
      rw [h0] at hr
      rw [h1] at hl
      blk_point [iblk, V, idx t]

theorem step_B (c : Dev nD) (n : ℕ) (hn : n + 1 < cfg0.N) (h : ¬(n + 1) % 8 = 0) (r : Fin 512) (l : Fin 2048)
    (i : Fin 512) (hi : (i : ℕ) = (n + 1) / 8 * 512 + r) (s : Fin 8) (hs : (s : ℕ) = (n + 1) % 8) :
    (outsAt0 m c (n + 1) hn).1 (ix2 r l) = (outsAt0 m c n (by omega)).1 (ix2 r l)
      + PART (m ((c : Thread nD τ).loc main_arg0)) (m ((c : Thread nD τ).loc main_arg1))
        (m ((c : Thread nD τ).loc main_arg2)) (m ((c : Thread nD τ).loc main_arg3)) i l s := by
  rw [outsAt0_B m c ⟨n + 1, hn⟩ h]
  frame_out
  refine pay2_val m c ⟨n + 1, hn⟩ r l i _ _ (fun d => ?_) s hs
  refine (congrFun (read_unread_whole _ _ _) _).trans ?_
  exact scr m c n (by omega) (ix2 r d) i (by show (i : ℕ) = n / 8 * 512 + r; omega)

theorem acc (c : Dev nD) : ∀ (n : ℕ) (hn : n < cfg0.N) (r : Fin 512) (l : Fin 2048) (i : Fin 512)
    (_ : (i : ℕ) = n / 8 * 512 + r), (outsAt0 m c n hn).1 (ix2 r l) =
      SUMS (m ((c : Thread nD τ).loc main_arg0)) (m ((c : Thread nD τ).loc main_arg1))
        (m ((c : Thread nD τ).loc main_arg2)) (m ((c : Thread nD τ).loc main_arg3)) i l (n % 8 + 1) (by omega) := by
  intro n
  induction n with
  | zero =>
    intro hn r l i hi
    exact (step_A m c ⟨0, hn⟩ rfl r l i hi).trans (sums_one _ _ _ _ _ _ _ _ rfl).symm
  | succ n ih =>
    intro hn r l i hi
    by_cases h : (n + 1) % 8 = 0
    · exact (step_A m c ⟨n + 1, hn⟩ h r l i hi).trans (sums_one _ _ _ _ _ _ _ _ (by omega)).symm
    · rw [step_B m c n hn h r l i hi ⟨n % 8 + 1, by omega⟩ (by show n % 8 + 1 = _; omega), ih (by omega) r l i (by omega)]
      exact (sums_succ _ _ _ _ _ _ _ _ _ _ (by omega)).symm

/-- The kernel's array is the reference's term of the entry contents. -/
theorem final (c : Dev nD) :
    (dats m 0 c).arrAt 4 (cfgs 0).N = REF (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  have ht := (idx t).2.2.2.2.2
  have h7 : t.val % 8 = 7 := (flush0_4 t).mp hf
  obtain ⟨r, l, rfl⟩ : ∃ (r : Fin 512) (l : Fin 2048), y = ix2 r l := ⟨y 0, y 1, by blk_ext⟩
  have e : (win0_4.blk t).view.emb (ix2 r l) = ix2 ⟨t.val / 8 * 512 + r, by omega⟩ l := by
    blk_ext [idx t]
  rw [e, ref_at]
  refine (acc m c t.val t.isLt r l ⟨t.val / 8 * 512 + r, by omega⟩ rfl).trans ?_
  unfold SUMS
  refine congrArg _ ?_
  rw [← Fin.sum_congr' _ (show 8 = t.val % 8 + 1 by omega)]
  exact Fin.sum_mul_add_congr fun s k hl => rfl

end Cert.MlpSampleIdeal.Result

namespace Cert.Proof.MlpSampleClaim

/-- The kernel's result is the reference's. -/
theorem algebraic : Cert.algebraic_MlpSampleIdeal_MlpSampleReferenceIdeal := by
  pair_intro
  · run_from Cert.MlpSampleIdeal.Gen.run_main m g
  · run_from Cert.MlpSampleReferenceIdeal.Value.run m' g'
    exact (Cert.MlpSampleIdeal.Result.final m c).symm

end Cert.Proof.MlpSampleClaim

end
-- ==== Proof.KvqSampleRef.lean ====
module

public import proofs.«01_k».proof.Proof.Gen.KvqSampleIdeal.Value
public import proofs.«01_k».proof.Proof.Gen.KvqSampleReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.KvqSampleIdeal.Result

open Cert.KvqSampleIdeal Cert.KvqSampleIdeal.Gen

/-- The reference's keys: per head normalised rows of the key projection. -/
def REFK (X : FVec Ideal S512x2048 .f32) (gk : FVec Ideal S2048 .f32) (Wkv : FVec Ideal S2048x4096 .f32) (kn : FVec Ideal S128 .f32) : FVec Ideal S512x2048 .f32 :=
  shapeCast _ (mulf (mulf (shapeCast _ (extractStridedSlice Cert.KvqSampleReferenceIdeal.S512x1x16x128 ![0, 0, 0, 0] (shapeCast _ (Host.dotGeneral (φ₁ := .f32) (φ₂ := .f32) Cert.KvqSampleReferenceIdeal.dot_S512x2048_S2048x4096_S512x4096_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 gk))) Wkv) Cert.KvqSampleReferenceIdeal.Gen.shapeCasts_S512x4096_S512x2x16x128) Cert.KvqSampleReferenceIdeal.Gen.slices_S512x2x16x128_S512x1x16x128_0_0_0_0) Cert.KvqSampleReferenceIdeal.Gen.shapeCasts_S512x1x16x128_S512x16x128) (broadcastInDim Cert.KvqSampleReferenceIdeal.S512x16x128 ![0, 1, 2] Cert.KvqSampleReferenceIdeal.Gen.bcast_S512x16x1_S512x16x128_0_1_2 (Host.rsqrt (addf (Host.divf (broadcastInDim Cert.KvqSampleReferenceIdeal.S512x16x1 ![0, 1] Cert.KvqSampleReferenceIdeal.Gen.bcast_S512x16_S512x16x1_0_1 (Host.reduceAdd (mulf (shapeCast _ (extractStridedSlice Cert.KvqSampleReferenceIdeal.S512x1x16x128 ![0, 0, 0, 0] (shapeCast _ (Host.dotGeneral (φ₁ := .f32) (φ₂ := .f32) Cert.KvqSampleReferenceIdeal.dot_S512x2048_S2048x4096_S512x4096_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 gk))) Wkv) Cert.KvqSampleReferenceIdeal.Gen.shapeCasts_S512x4096_S512x2x16x128) Cert.KvqSampleReferenceIdeal.Gen.slices_S512x2x16x128_S512x1x16x128_0_0_0_0) Cert.KvqSampleReferenceIdeal.Gen.shapeCasts_S512x1x16x128_S512x16x128) (shapeCast _ (extractStridedSlice Cert.KvqSampleReferenceIdeal.S512x1x16x128 ![0, 0, 0, 0] (shapeCast _ (Host.dotGeneral (φ₁ := .f32) (φ₂ := .f32) Cert.KvqSampleReferenceIdeal.dot_S512x2048_S2048x4096_S512x4096_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 gk))) Wkv) Cert.KvqSampleReferenceIdeal.Gen.shapeCasts_S512x4096_S512x2x16x128) Cert.KvqSampleReferenceIdeal.Gen.slices_S512x2x16x128_S512x1x16x128_0_0_0_0) Cert.KvqSampleReferenceIdeal.Gen.shapeCasts_S512x1x16x128_S512x16x128)) (constant Cert.KvqSampleReferenceIdeal.S_ .f32 0x00000000#32) Cert.KvqSampleReferenceIdeal.Gen.reducesTo_S512x16x128_S512x16_d2 Cert.KvqSampleReferenceIdeal.Gen.h_S_)) (broadcastInDim Cert.KvqSampleReferenceIdeal.S512x16x1 ![] Cert.KvqSampleReferenceIdeal.Gen.bcast_S_S512x16x1 (constant Cert.KvqSampleReferenceIdeal.S_ .f32 0x43000000#32))) (broadcastInDim Cert.KvqSampleReferenceIdeal.S512x16x1 ![] Cert.KvqSampleReferenceIdeal.Gen.bcast_S_S512x16x1 (constant Cert.KvqSampleReferenceIdeal.S_ .f32 0x358637BD#32)))))) (broadcastInDim Cert.KvqSampleReferenceIdeal.S512x16x128 ![0, 1, 2] Cert.KvqSampleReferenceIdeal.Gen.bcast_S1x1x128_S512x16x128_0_1_2 (broadcastInDim Cert.KvqSampleReferenceIdeal.S1x1x128 ![2] Cert.KvqSampleReferenceIdeal.Gen.bcast_S128_S1x1x128_2 kn))) Cert.KvqSampleReferenceIdeal.Gen.shapeCasts_S512x16x128_S512x2048

/-- The reference's values: rows of the value projection. -/
def REFV (X : FVec Ideal S512x2048 .f32) (gk : FVec Ideal S2048 .f32) (Wkv : FVec Ideal S2048x4096 .f32) : FVec Ideal S512x2048 .f32 :=
  shapeCast _ (shapeCast _ (extractStridedSlice Cert.KvqSampleReferenceIdeal.S512x1x16x128 ![0, 1, 0, 0] (shapeCast _ (Host.dotGeneral (φ₁ := .f32) (φ₂ := .f32) Cert.KvqSampleReferenceIdeal.dot_S512x2048_S2048x4096_S512x4096_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 gk))) Wkv) Cert.KvqSampleReferenceIdeal.Gen.shapeCasts_S512x4096_S512x2x16x128) Cert.KvqSampleReferenceIdeal.Gen.slices_S512x2x16x128_S512x1x16x128_0_1_0_0) Cert.KvqSampleReferenceIdeal.Gen.shapeCasts_S512x1x16x128_S512x16x128) Cert.KvqSampleReferenceIdeal.Gen.shapeCasts_S512x16x128_S512x2048

/-- The keys again, one head after the other. -/
def REFKH (X : FVec Ideal S512x2048 .f32) (gk : FVec Ideal S2048 .f32) (Wkv : FVec Ideal S2048x4096 .f32) (kn : FVec Ideal S128 .f32) : FVec Ideal S16x512x128 .bf16 :=
  truncf .bf16 (transpose Cert.KvqSampleReferenceIdeal.S16x512x128 [1, 0, 2] (mulf (mulf (shapeCast _ (extractStridedSlice Cert.KvqSampleReferenceIdeal.S512x1x16x128 ![0, 0, 0, 0] (shapeCast _ (Host.dotGeneral (φ₁ := .f32) (φ₂ := .f32) Cert.KvqSampleReferenceIdeal.dot_S512x2048_S2048x4096_S512x4096_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 gk))) Wkv) Cert.KvqSampleReferenceIdeal.Gen.shapeCasts_S512x4096_S512x2x16x128) Cert.KvqSampleReferenceIdeal.Gen.slices_S512x2x16x128_S512x1x16x128_0_0_0_0) Cert.KvqSampleReferenceIdeal.Gen.shapeCasts_S512x1x16x128_S512x16x128) (broadcastInDim Cert.KvqSampleReferenceIdeal.S512x16x128 ![0, 1, 2] Cert.KvqSampleReferenceIdeal.Gen.bcast_S512x16x1_S512x16x128_0_1_2 (Host.rsqrt (addf (Host.divf (broadcastInDim Cert.KvqSampleReferenceIdeal.S512x16x1 ![0, 1] Cert.KvqSampleReferenceIdeal.Gen.bcast_S512x16_S512x16x1_0_1 (Host.reduceAdd (mulf (shapeCast _ (extractStridedSlice Cert.KvqSampleReferenceIdeal.S512x1x16x128 ![0, 0, 0, 0] (shapeCast _ (Host.dotGeneral (φ₁ := .f32) (φ₂ := .f32) Cert.KvqSampleReferenceIdeal.dot_S512x2048_S2048x4096_S512x4096_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 gk))) Wkv) Cert.KvqSampleReferenceIdeal.Gen.shapeCasts_S512x4096_S512x2x16x128) Cert.KvqSampleReferenceIdeal.Gen.slices_S512x2x16x128_S512x1x16x128_0_0_0_0) Cert.KvqSampleReferenceIdeal.Gen.shapeCasts_S512x1x16x128_S512x16x128) (shapeCast _ (extractStridedSlice Cert.KvqSampleReferenceIdeal.S512x1x16x128 ![0, 0, 0, 0] (shapeCast _ (Host.dotGeneral (φ₁ := .f32) (φ₂ := .f32) Cert.KvqSampleReferenceIdeal.dot_S512x2048_S2048x4096_S512x4096_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 gk))) Wkv) Cert.KvqSampleReferenceIdeal.Gen.shapeCasts_S512x4096_S512x2x16x128) Cert.KvqSampleReferenceIdeal.Gen.slices_S512x2x16x128_S512x1x16x128_0_0_0_0) Cert.KvqSampleReferenceIdeal.Gen.shapeCasts_S512x1x16x128_S512x16x128)) (constant Cert.KvqSampleReferenceIdeal.S_ .f32 0x00000000#32) Cert.KvqSampleReferenceIdeal.Gen.reducesTo_S512x16x128_S512x16_d2 Cert.KvqSampleReferenceIdeal.Gen.h_S_)) (broadcastInDim Cert.KvqSampleReferenceIdeal.S512x16x1 ![] Cert.KvqSampleReferenceIdeal.Gen.bcast_S_S512x16x1 (constant Cert.KvqSampleReferenceIdeal.S_ .f32 0x43000000#32))) (broadcastInDim Cert.KvqSampleReferenceIdeal.S512x16x1 ![] Cert.KvqSampleReferenceIdeal.Gen.bcast_S_S512x16x1 (constant Cert.KvqSampleReferenceIdeal.S_ .f32 0x358637BD#32)))))) (broadcastInDim Cert.KvqSampleReferenceIdeal.S512x16x128 ![0, 1, 2] Cert.KvqSampleReferenceIdeal.Gen.bcast_S1x1x128_S512x16x128_0_1_2 (broadcastInDim Cert.KvqSampleReferenceIdeal.S1x1x128 ![2] Cert.KvqSampleReferenceIdeal.Gen.bcast_S128_S1x1x128_2 kn))) Cert.KvqSampleReferenceIdeal.Gen.transposes_S512x16x128_S16x512x128_1_0_2) Cert.KvqSampleReferenceIdeal.Gen.bitsLt_bf16_f32

/-- The values again, one head after the other. -/
def REFVH (X : FVec Ideal S512x2048 .f32) (gk : FVec Ideal S2048 .f32) (Wkv : FVec Ideal S2048x4096 .f32) : FVec Ideal S16x512x128 .bf16 :=
  truncf .bf16 (transpose Cert.KvqSampleReferenceIdeal.S16x512x128 [1, 0, 2] (shapeCast _ (extractStridedSlice Cert.KvqSampleReferenceIdeal.S512x1x16x128 ![0, 1, 0, 0] (shapeCast _ (Host.dotGeneral (φ₁ := .f32) (φ₂ := .f32) Cert.KvqSampleReferenceIdeal.dot_S512x2048_S2048x4096_S512x4096_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 gk))) Wkv) Cert.KvqSampleReferenceIdeal.Gen.shapeCasts_S512x4096_S512x2x16x128) Cert.KvqSampleReferenceIdeal.Gen.slices_S512x2x16x128_S512x1x16x128_0_1_0_0) Cert.KvqSampleReferenceIdeal.Gen.shapeCasts_S512x1x16x128_S512x16x128) Cert.KvqSampleReferenceIdeal.Gen.transposes_S512x16x128_S16x512x128_1_0_2) Cert.KvqSampleReferenceIdeal.Gen.bitsLt_bf16_f32

/-- The reference's queries, one head after the other. -/
def REFQH (X : FVec Ideal S512x2048 .f32) (gq : FVec Ideal S1x2048 .f32) (Wq : FVec Ideal S1x2048x2048 .f32) (qn : FVec Ideal S1x128 .f32) : FVec Ideal S16x512x128 .bf16 :=
  truncf .bf16 (transpose Cert.KvqSampleReferenceIdeal.S16x512x128 [1, 0, 2] (mulf (mulf (shapeCast _ (Host.dotGeneral (φ₁ := .f32) (φ₂ := .f32) Cert.KvqSampleReferenceIdeal.dot_S512x2048_S2048x2048_S512x2048_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 (shapeCast _ gq Cert.KvqSampleReferenceIdeal.Gen.shapeCasts_S1x2048_S2048)))) (shapeCast _ Wq Cert.KvqSampleReferenceIdeal.Gen.shapeCasts_S1x2048x2048_S2048x2048)) Cert.KvqSampleReferenceIdeal.Gen.shapeCasts_S512x2048_S512x16x128) (broadcastInDim Cert.KvqSampleReferenceIdeal.S512x16x128 ![0, 1, 2] Cert.KvqSampleReferenceIdeal.Gen.bcast_S512x16x1_S512x16x128_0_1_2 (Host.rsqrt (addf (Host.divf (broadcastInDim Cert.KvqSampleReferenceIdeal.S512x16x1 ![0, 1] Cert.KvqSampleReferenceIdeal.Gen.bcast_S512x16_S512x16x1_0_1 (Host.reduceAdd (mulf (shapeCast _ (Host.dotGeneral (φ₁ := .f32) (φ₂ := .f32) Cert.KvqSampleReferenceIdeal.dot_S512x2048_S2048x2048_S512x2048_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 (shapeCast _ gq Cert.KvqSampleReferenceIdeal.Gen.shapeCasts_S1x2048_S2048)))) (shapeCast _ Wq Cert.KvqSampleReferenceIdeal.Gen.shapeCasts_S1x2048x2048_S2048x2048)) Cert.KvqSampleReferenceIdeal.Gen.shapeCasts_S512x2048_S512x16x128) (shapeCast _ (Host.dotGeneral (φ₁ := .f32) (φ₂ := .f32) Cert.KvqSampleReferenceIdeal.dot_S512x2048_S2048x2048_S512x2048_1_0_0_1_n_n none (mulf (mulf X (broadcastInDim Cert.KvqSampleReferenceIdeal.S512x2048 ![0, 1] Cert.KvqSampleReferenceIdeal.Gen.bcast_S512x1_S512x2048_0_1 (Host.rsqrt (addf (Host.divf (broadcastInDim Cert.KvqSampleReferenceIdeal.S512x1 ![0] Cert.KvqSampleReferenceIdeal.Gen.bcast_S512_S512x1_0 (Host.reduceAdd (mulf X X) (constant Cert.KvqSampleReferenceIdeal.S_ .f32 0x00000000#32) Cert.KvqSampleReferenceIdeal.Gen.reducesTo_S512x2048_S512_d1 Cert.KvqSampleReferenceIdeal.Gen.h_S_)) (broadcastInDim Cert.KvqSampleReferenceIdeal.S512x1 ![] Cert.KvqSampleReferenceIdeal.Gen.bcast_S_S512x1 (constant Cert.KvqSampleReferenceIdeal.S_ .f32 0x45000000#32))) (broadcastInDim Cert.KvqSampleReferenceIdeal.S512x1 ![] Cert.KvqSampleReferenceIdeal.Gen.bcast_S_S512x1 (constant Cert.KvqSampleReferenceIdeal.S_ .f32 0x358637BD#32)))))) (broadcastInDim Cert.KvqSampleReferenceIdeal.S512x2048 ![0, 1] Cert.KvqSampleReferenceIdeal.Gen.bcast_S1x2048_S512x2048_0_1 (broadcastInDim Cert.KvqSampleReferenceIdeal.S1x2048 ![1] Cert.KvqSampleReferenceIdeal.Gen.bcast_S2048_S1x2048_1 (shapeCast _ gq Cert.KvqSampleReferenceIdeal.Gen.shapeCasts_S1x2048_S2048)))) (shapeCast _ Wq Cert.KvqSampleReferenceIdeal.Gen.shapeCasts_S1x2048x2048_S2048x2048)) Cert.KvqSampleReferenceIdeal.Gen.shapeCasts_S512x2048_S512x16x128)) (constant Cert.KvqSampleReferenceIdeal.S_ .f32 0x00000000#32) Cert.KvqSampleReferenceIdeal.Gen.reducesTo_S512x16x128_S512x16_d2 Cert.KvqSampleReferenceIdeal.Gen.h_S_)) (broadcastInDim Cert.KvqSampleReferenceIdeal.S512x16x1 ![] Cert.KvqSampleReferenceIdeal.Gen.bcast_S_S512x16x1 (constant Cert.KvqSampleReferenceIdeal.S_ .f32 0x43000000#32))) (broadcastInDim Cert.KvqSampleReferenceIdeal.S512x16x1 ![] Cert.KvqSampleReferenceIdeal.Gen.bcast_S_S512x16x1 (constant Cert.KvqSampleReferenceIdeal.S_ .f32 0x358637BD#32)))))) (broadcastInDim Cert.KvqSampleReferenceIdeal.S512x16x128 ![0, 1, 2] Cert.KvqSampleReferenceIdeal.Gen.bcast_S1x1x128_S512x16x128_0_1_2 (broadcastInDim Cert.KvqSampleReferenceIdeal.S1x1x128 ![2] Cert.KvqSampleReferenceIdeal.Gen.bcast_S128_S1x1x128_2 (shapeCast _ qn Cert.KvqSampleReferenceIdeal.Gen.shapeCasts_S1x128_S128)))) Cert.KvqSampleReferenceIdeal.Gen.transposes_S512x16x128_S16x512x128_1_0_2) Cert.KvqSampleReferenceIdeal.Gen.bitsLt_bf16_f32

/-- Row `i` of the input over its root mean square, entry `d`. -/
def RMS (X : FVec Ideal S512x2048 .f32) (i : Fin 512) (d : Fin 2048) : EReal :=
  X (ix2 i d) * Ideal.rsqrt (Ideal.div (∑ k : Fin 2048, X (ix2 i k) * X (ix2 i k)) (Ideal.ofBits .f32 0x45000000#32)
    + Ideal.ofBits .f32 0x358637BD#32)

/-- Row `i`, column `f` of the joint key and value projection. -/
def PKV (X : FVec Ideal S512x2048 .f32) (gk : FVec Ideal S2048 .f32) (Wkv : FVec Ideal S2048x4096 .f32) (i : Fin 512) (f : Fin 4096) : EReal :=
  ∑ d : Fin 2048, RMS X i d * gk (ix1 d) * Wkv (ix2 d f)

/-- Row `i`, column `f` of the query projection. -/
def PQ (X : FVec Ideal S512x2048 .f32) (gq : FVec Ideal S1x2048 .f32) (Wq : FVec Ideal S1x2048x2048 .f32) (i : Fin 512) (f : Fin 2048) : EReal :=
  ∑ d : Fin 2048, RMS X i d * gq (ix2 0 d) * Wq (ix3 0 d f)

/-- Entry `z` of a head's 128 values over their root mean square, scaled by `s`. -/
def HEAD (u : Fin 128 → EReal) (s : EReal) (z : Fin 128) : EReal :=
  u z * Ideal.rsqrt (Ideal.div (∑ k : Fin 128, u k * u k) (Ideal.ofBits .f32 0x43000000#32)
    + Ideal.ofBits .f32 0x358637BD#32) * s

theorem refkh_at (X : FVec Ideal S512x2048 .f32) (gk : FVec Ideal S2048 .f32) (Wkv : FVec Ideal S2048x4096 .f32) (kn : FVec Ideal S128 .f32) (h : Fin 16) (i : Fin 512) (z : Fin 128) : REFKH X gk Wkv kn (ix3 h i z)
      = HEAD (fun k => PKV X gk Wkv i ⟨h * 128 + k, by omega⟩) (kn (ix1 z)) z := by
  pointwise [REFKH, HEAD, PKV, RMS]

theorem refvh_at (X : FVec Ideal S512x2048 .f32) (gk : FVec Ideal S2048 .f32) (Wkv : FVec Ideal S2048x4096 .f32) (h : Fin 16) (i : Fin 512) (z : Fin 128) : REFVH X gk Wkv (ix3 h i z)
      = PKV X gk Wkv i ⟨2048 + (h * 128 + z), by omega⟩ := by
  pointwise [REFVH, PKV, RMS]
  exact Finset.sum_congr rfl fun d _ => congrArg _ (congrArg Wkv (congrArg (ix2 d) (Fin.ext (by simp only []; omega))))

theorem refqh_at (X : FVec Ideal S512x2048 .f32) (gq : FVec Ideal S1x2048 .f32) (Wq : FVec Ideal S1x2048x2048 .f32) (qn : FVec Ideal S1x128 .f32) (h : Fin 16) (i : Fin 512) (z : Fin 128) : REFQH X gq Wq qn (ix3 h i z)
      = HEAD (fun k => PQ X gq Wq i ⟨h * 128 + k, by omega⟩) (qn (ix2 0 z)) z := by
  pointwise [REFQH, HEAD, PQ, RMS]

theorem refk_at (X : FVec Ideal S512x2048 .f32) (gk : FVec Ideal S2048 .f32) (Wkv : FVec Ideal S2048x4096 .f32) (kn : FVec Ideal S128 .f32) (h : Fin 16) (i : Fin 512) (z : Fin 128) :
    REFK X gk Wkv kn (ix2 i ⟨h * 128 + z, by omega⟩)
      = HEAD (fun k => PKV X gk Wkv i ⟨h * 128 + k, by omega⟩) (kn (ix1 z)) z := by
  pointwise [REFK, HEAD, PKV, RMS]

theorem refv_at (X : FVec Ideal S512x2048 .f32) (gk : FVec Ideal S2048 .f32) (Wkv : FVec Ideal S2048x4096 .f32) (i : Fin 512) (l : Fin 2048) : REFV X gk Wkv (ix2 i l)
      = PKV X gk Wkv i ⟨2048 + l, by omega⟩ := by
  pointwise [REFV, PKV, RMS]
  exact Finset.sum_congr rfl fun d _ => congrArg _ (congrArg Wkv (congrArg (ix2 d) (Fin.ext (by simp only []; omega))))

/-- A grid point's key tile: the projection's columns, normalised head by head. -/
def KT (xn : FVec Ideal S512x2048 .bf16) (w : FVec Ideal S2048x512 .bf16) (s : FVec Ideal S1x128 .f32) : FVec Ideal S512x512 .f32 :=
  k0_pay26 (F := Ideal) (k0_pay19 xn w) (k0_pay20 s) (k0_pay21 xn w s) (k0_pay22 xn w s) (k0_pay23 xn w) (k0_pay24 xn w) k0_pay25

/-- A grid point's query tile. -/
def QT (xn : FVec Ideal S512x2048 .bf16) (w : FVec Ideal S2048x512 .bf16) (s : FVec Ideal S1x128 .f32) : FVec Ideal S512x512 .f32 :=
  k0_pay32 (F := Ideal) (k0_pay28 xn w) (k0_pay29 s) (k0_pay30 xn w) (k0_pay31 s)

theorem kt_at0 (xn w s) (r : Fin 512) (z : Fin 128) : KT xn w s (ix2 r ⟨z, by omega⟩)
      = HEAD (fun k => ∑ d : Fin 2048, xn (ix2 r d) * w (ix2 d ⟨k, by omega⟩)) (s (ix2 0 z)) z := by
  pointwise [KT, k0_pay19, k0_pay20, k0_pay21, k0_pay22, k0_pay23, k0_pay24, k0_pay25, k0_pay26, HEAD]

theorem kt_at1 (xn w s) (r : Fin 512) (z : Fin 128) : KT xn w s (ix2 r ⟨128 + z, by omega⟩)
      = HEAD (fun k => ∑ d : Fin 2048, xn (ix2 r d) * w (ix2 d ⟨128 + k, by omega⟩)) (s (ix2 0 z)) z := by
  pointwise [KT, k0_pay19, k0_pay20, k0_pay21, k0_pay22, k0_pay23, k0_pay24, k0_pay25, k0_pay26, HEAD]

theorem kt_at2 (xn w s) (r : Fin 512) (z : Fin 128) : KT xn w s (ix2 r ⟨256 + z, by omega⟩)
      = HEAD (fun k => ∑ d : Fin 2048, xn (ix2 r d) * w (ix2 d ⟨256 + k, by omega⟩)) (s (ix2 0 z)) z := by
  pointwise [KT, k0_pay19, k0_pay20, k0_pay21, k0_pay22, k0_pay23, k0_pay24, k0_pay25, k0_pay26, HEAD]
  rw [dif_neg (by omega), dif_neg (by omega), dif_pos (by omega)]
  have e : 256 + (z : ℕ) - 128 - 128 = z := by omega
  simp only [e]

theorem kt_at3 (xn w s) (r : Fin 512) (z : Fin 128) : KT xn w s (ix2 r ⟨384 + z, by omega⟩)
      = HEAD (fun k => ∑ d : Fin 2048, xn (ix2 r d) * w (ix2 d ⟨384 + k, by omega⟩)) (s (ix2 0 z)) z := by
  pointwise [KT, k0_pay19, k0_pay20, k0_pay21, k0_pay22, k0_pay23, k0_pay24, k0_pay25, k0_pay26, HEAD]
  rw [dif_neg (by omega), dif_neg (by omega), dif_neg (by omega)]
  have e : 384 + (z : ℕ) - 128 - 128 - 128 = z := by omega
  simp only [e]

theorem vt_at (xn w) (r : Fin 512) (l : Fin 512) : k0_pay27 (F := Ideal) xn w (ix2 r l)
      = ∑ d : Fin 2048, xn (ix2 r d) * w (ix2 d l) := by
  pointwise [k0_pay27]

theorem qt_eq (xn w s) : QT xn w s = KT xn w s := rfl

/-- The blocks of the windows at grid point `t`. -/
theorem idx : ∀ t : Fin cfg0.N, win0_0.index t = ![t.val / 4, 0] ∧ win0_1.index t = ![0, 0] ∧ win0_2.index t = ![0, 0]
    ∧ win0_3.index t = ![0, t.val % 4] ∧ win0_4.index t = ![0, t.val % 4 + 4] ∧ win0_5.index t = ![0, t.val % 4]
    ∧ win0_6.index t = ![0, 0] ∧ win0_7.index t = ![0, 0] ∧ win0_8.index t = ![t.val / 4, t.val % 4]
    ∧ win0_9.index t = ![t.val / 4, t.val % 4] ∧ win0_10.index t = ![t.val % 4, t.val / 4, 0]
    ∧ win0_11.index t = ![t.val % 4, t.val / 4, 0] ∧ win0_12.index t = ![t.val % 4, t.val / 4, 0] ∧ t.val / 4 < 1 :=
  (by decide +kernel : ∀ t : Fin grid0.N, _)

end Cert.KvqSampleIdeal.Result

end
-- ==== Proof.KvqSampleScratch.lean ====
module

public import proofs.«01_k».proof.Proof.Gen.KvqSampleIdeal.Value
public import proofs.«01_k».proof.Proof.Gen.KvqSampleReferenceIdeal.Run
public import Idealize.ShloMosaic.Lib.Pipeline.ValueKit
public import Idealize.ShloMosaic.Lib.Pipeline.ReadBack
public import Idealize.ShloMosaic.Lib.Pointwise
public import proofs.«01_k».proof.Proof.KvqSampleRef
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.KvqSampleIdeal.Result

open Cert.KvqSampleIdeal Cert.KvqSampleIdeal.Gen

variable (m : (ℓ : Loc nD τ sig) → Buf (Elt Ideal) ℓ)

/-- The first column tile of a row block fills the first scratch with the rows scaled for keys and values. -/
theorem kv_A (c : Dev nD) (t : Fin cfg0.N) (h : t.val % 4 = 0) (y : S512x2048.Idx) (i : Fin 512)
    (hi : (i : ℕ) = t.val / 4 * 512 + y 0) : (outsAt0 m c t.val t.isLt).2.2.2.2.2.1 y
      = RMS (m ((c : Thread nD τ).loc main_arg0)) i (y 1) * (m ((c : Thread nD τ).loc main_arg1)) (ix1 (y 1)) := by
  rw [outsAt0_A m c t h]; frame_out
  canon_tiles x h
  all_goals
    rw [h0] at hi
    pointwise [k0_pay6, k0_pay7, k0_pay8, k0_pay9, k0_pay10, k0_pay11, k0_pay12, k0_pay13, k0_pay14, k0_pay15, k0_pay16, k0_pay17, k0_pay18, RMS]
    blk_point [iblk, V, idx t]

/-- The second scratch with the rows scaled for the queries. -/
theorem q_A (c : Dev nD) (t : Fin cfg0.N) (h : t.val % 4 = 0) (y : S512x2048.Idx) (i : Fin 512)
    (hi : (i : ℕ) = t.val / 4 * 512 + y 0) : (outsAt0 m c t.val t.isLt).2.2.2.2.2.2 y
      = RMS (m ((c : Thread nD τ).loc main_arg0)) i (y 1) * (m ((c : Thread nD τ).loc main_arg2)) (ix2 0 (y 1)) := by
  rw [outsAt0_A m c t h]; frame_out
  canon_tiles x h
  all_goals
    rw [h0] at hi
    pointwise [k0_pay6, k0_pay7, k0_pay8, k0_pay9, k0_pay10, k0_pay11, k0_pay12, k0_pay13, k0_pay14, k0_pay15, k0_pay16, k0_pay17, k0_pay18, RMS]
    blk_point [iblk, V, idx t]

end Cert.KvqSampleIdeal.Result

end
-- ==== Proof.KvqSampleValue.lean ====
module

public import proofs.«01_k».proof.Proof.Gen.KvqSampleIdeal.Value
public import proofs.«01_k».proof.Proof.Gen.KvqSampleReferenceIdeal.Run
public import Idealize.ShloMosaic.Lib.Pipeline.ValueKit
public import Idealize.ShloMosaic.Lib.Pipeline.ReadBack
public import Idealize.ShloMosaic.Lib.Pointwise
public import proofs.«01_k».proof.Proof.KvqSampleScratch
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.KvqSampleIdeal.Result

open Cert.KvqSampleIdeal Cert.KvqSampleIdeal.Gen

theorem heads_k (K : FVec Ideal S512x512 .f32) (b : Fin 4) (r : Fin 512) (z : Fin 128) :
    View.canon (Val := Elt Ideal) (s := S4x512x128) (e := .bf16)
      [⟨Rect.unit ![3, 0, 0] ![1, 512, 128] inb_S4x512x128_S1x512x128_3_0_0, k0_pay3 (F := Ideal) K⟩,
       ⟨Rect.unit ![2, 0, 0] ![1, 512, 128] inb_S4x512x128_S1x512x128_2_0_0, k0_pay40 (F := Ideal) K⟩,
       ⟨Rect.unit ![1, 0, 0] ![1, 512, 128] inb_S4x512x128_S1x512x128_1_0_0, k0_pay37 (F := Ideal) K⟩,
       ⟨Rect.unit ![0, 0, 0] ![1, 512, 128] inb_S4x512x128_S1x512x128_0_0_0, k0_pay34 (F := Ideal) (k0_pay33 K)⟩] (ix3 b r z)
      = K (ix2 r ⟨b * 128 + z, by omega⟩) := by
  generalize hy : ix3 b r z = y
  have hb : (b : ℕ) = y 0 := hy ▸ rfl
  have hr : (r : ℕ) = y 1 := hy ▸ rfl
  have hz : (z : ℕ) = y 2 := hy ▸ rfl
  clear hy
  canon_tiles x h
  all_goals
    rw [h0] at hb
    rw [h1] at hr
    rw [h2] at hz
    pointwise [k0_pay3, k0_pay33, k0_pay34, k0_pay37, k0_pay40]
    refine congrArg K ?_
    blk_ext
    all_goals (try simp only []); (try omega)

theorem heads_v (K : FVec Ideal S512x512 .f32) (b : Fin 4) (r : Fin 512) (z : Fin 128) :
    View.canon (Val := Elt Ideal) (s := S4x512x128) (e := .bf16)
      [⟨Rect.unit ![3, 0, 0] ![1, 512, 128] inb_S4x512x128_S1x512x128_3_0_0, k0_pay4 (F := Ideal) K⟩,
       ⟨Rect.unit ![2, 0, 0] ![1, 512, 128] inb_S4x512x128_S1x512x128_2_0_0, k0_pay1 (F := Ideal) K⟩,
       ⟨Rect.unit ![1, 0, 0] ![1, 512, 128] inb_S4x512x128_S1x512x128_1_0_0, k0_pay38 (F := Ideal) K⟩,
       ⟨Rect.unit ![0, 0, 0] ![1, 512, 128] inb_S4x512x128_S1x512x128_0_0_0, k0_pay35 (F := Ideal) K⟩] (ix3 b r z)
      = K (ix2 r ⟨b * 128 + z, by omega⟩) := heads_k K b r z

theorem heads_q (K : FVec Ideal S512x512 .f32) (b : Fin 4) (r : Fin 512) (z : Fin 128) :
    View.canon (Val := Elt Ideal) (s := S4x512x128) (e := .bf16)
      [⟨Rect.unit ![3, 0, 0] ![1, 512, 128] inb_S4x512x128_S1x512x128_3_0_0, k0_pay5 (F := Ideal) K⟩,
       ⟨Rect.unit ![2, 0, 0] ![1, 512, 128] inb_S4x512x128_S1x512x128_2_0_0, k0_pay2 (F := Ideal) K⟩,
       ⟨Rect.unit ![1, 0, 0] ![1, 512, 128] inb_S4x512x128_S1x512x128_1_0_0, k0_pay39 (F := Ideal) K⟩,
       ⟨Rect.unit ![0, 0, 0] ![1, 512, 128] inb_S4x512x128_S1x512x128_0_0_0, k0_pay36 (F := Ideal) K⟩] (ix3 b r z)
      = K (ix2 r ⟨b * 128 + z, by omega⟩) := heads_k K b r z

theorem whole_idx (h) (r : Fin 512) (l : Fin 2048) :
    (Rect.unit (s := S512x2048) ![0, 0] ![512, 2048] h).toLoadRect.idx (ix2 r l) = ix2 r l := by
  blk_ext
  · show 0 + 1 * (r : ℕ) = r
    omega
  · show 0 + 1 * (l : ℕ) = l
    omega

variable (m : (ℓ : Loc nD τ sig) → Buf (Elt Ideal) ℓ)

/-- The scratch keeps the row block's scaled rows at every column tile. -/
theorem kv (c : Dev nD) : ∀ (n : ℕ) (hn : n < cfg0.N) (y : S512x2048.Idx) (i : Fin 512)
    (_ : (i : ℕ) = n / 4 * 512 + y 0), (outsAt0 m c n hn).2.2.2.2.2.1 y
      = RMS (m ((c : Thread nD τ).loc main_arg0)) i (y 1) * (m ((c : Thread nD τ).loc main_arg1)) (ix1 (y 1)) := by
  intro n
  induction n with
  | zero => exact fun hn y i hi => kv_A m c ⟨0, hn⟩ rfl y i hi
  | succ n ih =>
    intro hn y i hi
    by_cases h : (n + 1) % 4 = 0
    · exact kv_A m c ⟨n + 1, hn⟩ h y i hi
    · rw [outsAt0_B m c ⟨n + 1, hn⟩ h]
      frame_out
      unfold sout0_B_0
      exact ih _ y i (by omega)

/-- The same of the second scratch. -/
theorem qs (c : Dev nD) : ∀ (n : ℕ) (hn : n < cfg0.N) (y : S512x2048.Idx) (i : Fin 512)
    (_ : (i : ℕ) = n / 4 * 512 + y 0), (outsAt0 m c n hn).2.2.2.2.2.2 y
      = RMS (m ((c : Thread nD τ).loc main_arg0)) i (y 1) * (m ((c : Thread nD τ).loc main_arg2)) (ix2 0 (y 1)) := by
  intro n
  induction n with
  | zero => exact fun hn y i hi => q_A m c ⟨0, hn⟩ rfl y i hi
  | succ n ih =>
    intro hn y i hi
    by_cases h : (n + 1) % 4 = 0
    · exact q_A m c ⟨n + 1, hn⟩ h y i hi
    · rw [outsAt0_B m c ⟨n + 1, hn⟩ h]
      frame_out
      unfold sout0_B_1
      exact ih _ y i (by omega)

theorem wk_read (c : Dev nD) (t : Fin cfg0.N) (d : Fin 2048) (k : Fin 512) : iblk m c 3 t (ix2 d k) =
    (m ((c : Thread nD τ).loc main_arg3)) (ix2 d ⟨t.val % 4 * 512 + k, by omega⟩) := by
  blk_point [iblk, V, idx t]

theorem wv_read (c : Dev nD) (t : Fin cfg0.N) (d : Fin 2048) (k : Fin 512) : iblk m c 4 t (ix2 d k) =
    (m ((c : Thread nD τ).loc main_arg3)) (ix2 d ⟨2048 + (t.val % 4 * 512 + k), by omega⟩) := by
  blk_point [iblk, V, idx t]

theorem wq_read (c : Dev nD) (t : Fin cfg0.N) (d : Fin 2048) (k : Fin 512) : iblk m c 5 t (ix2 d k) =
    (m ((c : Thread nD τ).loc main_arg4)) (ix3 0 d ⟨t.val % 4 * 512 + k, by omega⟩) := by
  blk_point [iblk, V, idx t]

theorem kn_read (c : Dev nD) (t : Fin cfg0.N) (k : Fin 128) : iblk m c 6 t (ix2 0 k) = (m ((c : Thread nD τ).loc main_arg5)) (ix1 k) := by
  blk_point [iblk, V, idx t]

theorem qn_read (c : Dev nD) (t : Fin cfg0.N) (k : Fin 128) : iblk m c 7 t (ix2 0 k) = (m ((c : Thread nD τ).loc main_arg6)) (ix2 0 k) := by
  blk_point [iblk, V, idx t]

/-- All four heads of a normalised tile at once. -/
theorem kt_at (xn w s) (r : Fin 512) (b : Fin 4) (z : Fin 128) :
    KT xn w s (ix2 r ⟨b * 128 + z, by omega⟩)
      = HEAD (fun k => ∑ d : Fin 2048, xn (ix2 r d) * w (ix2 d ⟨b * 128 + k, by omega⟩)) (s (ix2 0 z)) z := by
  obtain ⟨b, hb⟩ := b
  obtain rfl | rfl | rfl | rfl : b = 0 ∨ b = 1 ∨ b = 2 ∨ b = 3 := by omega
  · have e : ∀ k : Fin 128, (⟨0 * 128 + k, by omega⟩ : Fin 512) = ⟨k, by omega⟩ := fun k => Fin.ext (by simp only []; omega)
    simp only [e]
    exact kt_at0 xn w s r z
  · exact kt_at1 xn w s r z
  · exact kt_at2 xn w s r z
  · exact kt_at3 xn w s r z

/-- A grid point's key tile, from the scaled rows. -/
theorem k_val (c : Dev nD) (t : Fin cfg0.N) (r : Fin 512) (i : Fin 512) (b : Fin 4) (z : Fin 128)
    (xn : FVec Ideal S512x2048 .bf16) (hx : ∀ d, xn (ix2 r d) = RMS (m ((c : Thread nD τ).loc main_arg0)) i d * (m ((c : Thread nD τ).loc main_arg1)) (ix1 d)) :
    KT xn (iblk m c 3 t) (iblk m c 6 t) (ix2 r ⟨b * 128 + z, by omega⟩)
      = HEAD (fun k => PKV (m ((c : Thread nD τ).loc main_arg0)) (m ((c : Thread nD τ).loc main_arg1)) (m ((c : Thread nD τ).loc main_arg3)) i ⟨(t.val % 4 * 4 + b) * 128 + k, by omega⟩) ((m ((c : Thread nD τ).loc main_arg5)) (ix1 z)) z := by
  rw [kt_at, kn_read]
  refine congrArg (HEAD · _ z) (funext fun k => Finset.sum_congr rfl fun d _ => ?_)
  rw [hx, wk_read]
  refine congrArg _ (congrArg (m ((c : Thread nD τ).loc main_arg3)) (congrArg (ix2 d) (Fin.ext ?_)))
  simp only []
  omega

/-- A grid point's value tile. -/
theorem v_val (c : Dev nD) (t : Fin cfg0.N) (r : Fin 512) (i : Fin 512) (l : Fin 512)
    (xn : FVec Ideal S512x2048 .bf16) (hx : ∀ d, xn (ix2 r d) = RMS (m ((c : Thread nD τ).loc main_arg0)) i d * (m ((c : Thread nD τ).loc main_arg1)) (ix1 d)) :
    k0_pay27 (F := Ideal) xn (iblk m c 4 t) (ix2 r l)
      = PKV (m ((c : Thread nD τ).loc main_arg0)) (m ((c : Thread nD τ).loc main_arg1)) (m ((c : Thread nD τ).loc main_arg3)) i ⟨2048 + (t.val % 4 * 512 + l), by omega⟩ := by
  rw [vt_at]
  exact Finset.sum_congr rfl fun d _ => by rw [hx, wv_read]

/-- A grid point's query tile. -/
theorem q_val (c : Dev nD) (t : Fin cfg0.N) (r : Fin 512) (i : Fin 512) (b : Fin 4) (z : Fin 128)
    (xn : FVec Ideal S512x2048 .bf16) (hx : ∀ d, xn (ix2 r d) = RMS (m ((c : Thread nD τ).loc main_arg0)) i d * (m ((c : Thread nD τ).loc main_arg2)) (ix2 0 d)) :
    QT xn (iblk m c 5 t) (iblk m c 7 t) (ix2 r ⟨b * 128 + z, by omega⟩)
      = HEAD (fun k => PQ (m ((c : Thread nD τ).loc main_arg0)) (m ((c : Thread nD τ).loc main_arg2)) (m ((c : Thread nD τ).loc main_arg4)) i ⟨(t.val % 4 * 4 + b) * 128 + k, by omega⟩) ((m ((c : Thread nD τ).loc main_arg6)) (ix2 0 z)) z := by
  rw [qt_eq, kt_at, qn_read]
  refine congrArg (HEAD · _ z) (funext fun k => Finset.sum_congr rfl fun d _ => ?_)
  rw [hx, wq_read]
  refine congrArg _ (congrArg (m ((c : Thread nD τ).loc main_arg4)) (congrArg (ix3 0 d) (Fin.ext ?_)))
  simp only []
  omega

/-- All five tiles a grid point leaves. -/
theorem tiles (c : Dev nD) (t : Fin cfg0.N) (r : Fin 512) (i : Fin 512) (hi : (i : ℕ) = t.val / 4 * 512 + r) :
    (∀ (b : Fin 4) (z : Fin 128), (outsAt0 m c t.val t.isLt).1 (ix2 r ⟨b * 128 + z, by omega⟩)
      = HEAD (fun k => PKV (m ((c : Thread nD τ).loc main_arg0)) (m ((c : Thread nD τ).loc main_arg1)) (m ((c : Thread nD τ).loc main_arg3)) i ⟨(t.val % 4 * 4 + b) * 128 + k, by omega⟩) ((m ((c : Thread nD τ).loc main_arg5)) (ix1 z)) z)
    ∧ (∀ l : Fin 512, (outsAt0 m c t.val t.isLt).2.1 (ix2 r l) = PKV (m ((c : Thread nD τ).loc main_arg0)) (m ((c : Thread nD τ).loc main_arg1)) (m ((c : Thread nD τ).loc main_arg3)) i ⟨2048 + (t.val % 4 * 512 + l), by omega⟩)
    ∧ (∀ (b : Fin 4) (z : Fin 128), (outsAt0 m c t.val t.isLt).2.2.1 (ix3 b r z)
      = HEAD (fun k => PKV (m ((c : Thread nD τ).loc main_arg0)) (m ((c : Thread nD τ).loc main_arg1)) (m ((c : Thread nD τ).loc main_arg3)) i ⟨(t.val % 4 * 4 + b) * 128 + k, by omega⟩) ((m ((c : Thread nD τ).loc main_arg5)) (ix1 z)) z)
    ∧ (∀ (b : Fin 4) (z : Fin 128), (outsAt0 m c t.val t.isLt).2.2.2.1 (ix3 b r z)
      = PKV (m ((c : Thread nD τ).loc main_arg0)) (m ((c : Thread nD τ).loc main_arg1)) (m ((c : Thread nD τ).loc main_arg3)) i ⟨2048 + (t.val % 4 * 512 + (b * 128 + z)), by omega⟩)
    ∧ (∀ (b : Fin 4) (z : Fin 128), (outsAt0 m c t.val t.isLt).2.2.2.2.1 (ix3 b r z)
      = HEAD (fun k => PQ (m ((c : Thread nD τ).loc main_arg0)) (m ((c : Thread nD τ).loc main_arg2)) (m ((c : Thread nD τ).loc main_arg4)) i ⟨(t.val % 4 * 4 + b) * 128 + k, by omega⟩) ((m ((c : Thread nD τ).loc main_arg6)) (ix2 0 z)) z) := by
  by_cases h : t.val % 4 = 0
  · have hk := fun d => kv_A m c t h (ix2 r d) i hi
    have hq := fun d => q_A m c t h (ix2 r d) i hi
    rw [outsAt0_A m c t h] at hk hq ⊢
    refine ⟨?_, ?_, ?_, ?_, ?_⟩
    · intro b z
      frame_out
      refine k_val m c t r i b z _ fun d => ?_
      refine (congrFun (View.readCov_eq_canon' _ _ _) _).trans (Eq.trans ?_ (hk d))
      rw [whole_idx]
      frame_out
    · intro l
      frame_out
      refine v_val m c t r i l _ fun d => ?_
      refine (congrFun (View.readCov_eq_canon' _ _ _) _).trans (Eq.trans ?_ (hk d))
      rw [whole_idx]
      frame_out
    · intro b z
      frame_out
      refine (heads_k _ b r z).trans ?_
      refine k_val m c t r i b z _ fun d => ?_
      refine (congrFun (View.readCov_eq_canon' _ _ _) _).trans (Eq.trans ?_ (hk d))
      rw [whole_idx]
      frame_out
    · intro b z
      frame_out
      refine (heads_v _ b r z).trans ?_
      refine v_val m c t r i ⟨b * 128 + z, by omega⟩ _ fun d => ?_
      refine (congrFun (View.readCov_eq_canon' _ _ _) _).trans (Eq.trans ?_ (hk d))
      rw [whole_idx]
      frame_out
    · intro b z
      frame_out
      refine (heads_q _ b r z).trans ?_
      refine q_val m c t r i b z _ fun d => ?_
      refine (congrFun (View.readCov_eq_canon' _ _ _) _).trans (Eq.trans ?_ (hq d))
      rw [whole_idx]
      frame_out
  · have hk := fun d => kv m c (t.val - 1) (by omega) (ix2 r d) i (by show (i : ℕ) = (t.val - 1) / 4 * 512 + r; omega)
    have hq := fun d => qs m c (t.val - 1) (by omega) (ix2 r d) i (by show (i : ℕ) = (t.val - 1) / 4 * 512 + r; omega)
    rw [outsAt0_B m c t h]
    refine ⟨?_, ?_, ?_, ?_, ?_⟩
    · intro b z
      frame_out
      exact k_val m c t r i b z _ fun d => (congrFun (read_unread_whole _ _ _) _).trans (hk d)
    · intro l
      frame_out
      exact v_val m c t r i l _ fun d => (congrFun (read_unread_whole _ _ _) _).trans (hk d)
    · intro b z
      frame_out
      refine (heads_k _ b r z).trans ?_
      exact k_val m c t r i b z _ fun d => (congrFun (read_unread_whole _ _ _) _).trans (hk d)
    · intro b z
      frame_out
      refine (heads_v _ b r z).trans ?_
      exact v_val m c t r i ⟨b * 128 + z, by omega⟩ _ fun d => (congrFun (read_unread_whole _ _ _) _).trans (hk d)
    · intro b z
      frame_out
      refine (heads_q _ b r z).trans ?_
      exact q_val m c t r i b z _ fun d => (congrFun (read_unread_whole _ _ _) _).trans (hq d)

/-- Output 1 after the run is the reference's. -/
theorem final8 (c : Dev nD) : (dats m 0 c).arrAt 8 (cfgs 0).N = REFK (m ((c : Thread nD τ).loc main_arg0)) (m ((c : Thread nD τ).loc main_arg1)) (m ((c : Thread nD τ).loc main_arg3)) (m ((c : Thread nD τ).loc main_arg5)) := by
  refine (dats m 0 c).arrAt_eq_of_covers 8 _ (by decide +kernel) fun t hf y => ?_
  blk_simp
  rw [after0_8]
  have ht := (idx t).2.2.2.2.2.2.2.2.2.2.2.2.2
  obtain ⟨r, b, z, rfl⟩ : ∃ (r : Fin 512) (b : Fin 4) (z : Fin 128), y = ix2 r ⟨b * 128 + z, by omega⟩ :=
    ⟨y 0, ⟨y 1 / 128, by have := (y 1).isLt; change _ < 512 at this; omega⟩, ⟨y 1 % 128, by omega⟩, by blk_ext⟩
  have e : (win0_8.blk t).view.emb (ix2 r ⟨b * 128 + z, by omega⟩)
      = ix2 ⟨t.val / 4 * 512 + r, by omega⟩ ⟨((⟨t.val % 4 * 4 + b, by omega⟩ : Fin 16) : ℕ) * 128 + z, by simp only []; omega⟩ := by
    blk_ext [idx t]
    all_goals (try simp only []); (try omega)
  rw [e, refk_at]
  exact ((tiles m c t r _ rfl).1 b z)

/-- Output 2 after the run is the reference's. -/
theorem final9 (c : Dev nD) : (dats m 0 c).arrAt 9 (cfgs 0).N = REFV (m ((c : Thread nD τ).loc main_arg0)) (m ((c : Thread nD τ).loc main_arg1)) (m ((c : Thread nD τ).loc main_arg3)) := by
  refine (dats m 0 c).arrAt_eq_of_covers 9 _ (by decide +kernel) fun t hf y => ?_
  blk_simp
  rw [after0_9]
  have ht := (idx t).2.2.2.2.2.2.2.2.2.2.2.2.2
  obtain ⟨r, l, rfl⟩ : ∃ (r : Fin 512) (l : Fin 512), y = ix2 r l := ⟨y 0, y 1, by blk_ext⟩
  have e : (win0_9.blk t).view.emb (ix2 r l) = ix2 ⟨t.val / 4 * 512 + r, by omega⟩ ⟨t.val % 4 * 512 + l, by omega⟩ := by
    blk_ext [idx t]
    all_goals (try simp only []); (try omega)
  rw [e, refv_at]
  exact ((tiles m c t r _ rfl).2.1 l)

/-- Output 3 after the run is the reference's. -/
theorem final10 (c : Dev nD) : (dats m 0 c).arrAt 10 (cfgs 0).N = REFKH (m ((c : Thread nD τ).loc main_arg0)) (m ((c : Thread nD τ).loc main_arg1)) (m ((c : Thread nD τ).loc main_arg3)) (m ((c : Thread nD τ).loc main_arg5)) := by
  refine (dats m 0 c).arrAt_eq_of_covers 10 _ (by decide +kernel) fun t hf y => ?_
  blk_simp
  rw [after0_10]
  have ht := (idx t).2.2.2.2.2.2.2.2.2.2.2.2.2
  obtain ⟨b, r, z, rfl⟩ : ∃ (b : Fin 4) (r : Fin 512) (z : Fin 128), y = ix3 b r z := ⟨y 0, y 1, y 2, by blk_ext⟩
  have e : (win0_10.blk t).view.emb (ix3 b r z) = ix3 ⟨t.val % 4 * 4 + b, by omega⟩ ⟨t.val / 4 * 512 + r, by omega⟩ z := by
    blk_ext [idx t]
    all_goals (try simp only []); (try omega)
  rw [e, refkh_at]
  exact ((tiles m c t r _ rfl).2.2.1 b z)

/-- Output 4 after the run is the reference's. -/
theorem final11 (c : Dev nD) : (dats m 0 c).arrAt 11 (cfgs 0).N = REFVH (m ((c : Thread nD τ).loc main_arg0)) (m ((c : Thread nD τ).loc main_arg1)) (m ((c : Thread nD τ).loc main_arg3)) := by
  refine (dats m 0 c).arrAt_eq_of_covers 11 _ (by decide +kernel) fun t hf y => ?_
  blk_simp
  rw [after0_11]
  have ht := (idx t).2.2.2.2.2.2.2.2.2.2.2.2.2
  obtain ⟨b, r, z, rfl⟩ : ∃ (b : Fin 4) (r : Fin 512) (z : Fin 128), y = ix3 b r z := ⟨y 0, y 1, y 2, by blk_ext⟩
  have e : (win0_11.blk t).view.emb (ix3 b r z) = ix3 ⟨t.val % 4 * 4 + b, by omega⟩ ⟨t.val / 4 * 512 + r, by omega⟩ z := by
    blk_ext [idx t]
    all_goals (try simp only []); (try omega)
  rw [e, refvh_at]
  exact ((tiles m c t r _ rfl).2.2.2.1 b z).trans (congrArg _ (Fin.ext (by simp only []; omega)))

/-- Output 5 after the run is the reference's. -/
theorem final12 (c : Dev nD) : (dats m 0 c).arrAt 12 (cfgs 0).N = REFQH (m ((c : Thread nD τ).loc main_arg0)) (m ((c : Thread nD τ).loc main_arg2)) (m ((c : Thread nD τ).loc main_arg4)) (m ((c : Thread nD τ).loc main_arg6)) := by
  refine (dats m 0 c).arrAt_eq_of_covers 12 _ (by decide +kernel) fun t hf y => ?_
  blk_simp
  rw [after0_12]
  have ht := (idx t).2.2.2.2.2.2.2.2.2.2.2.2.2
  obtain ⟨b, r, z, rfl⟩ : ∃ (b : Fin 4) (r : Fin 512) (z : Fin 128), y = ix3 b r z := ⟨y 0, y 1, y 2, by blk_ext⟩
  have e : (win0_12.blk t).view.emb (ix3 b r z) = ix3 ⟨t.val % 4 * 4 + b, by omega⟩ ⟨t.val / 4 * 512 + r, by omega⟩ z := by
    blk_ext [idx t]
    all_goals (try simp only []); (try omega)
  rw [e, refqh_at]
  exact ((tiles m c t r _ rfl).2.2.2.2 b z)

end Cert.KvqSampleIdeal.Result

namespace Cert.Proof.KvqSampleClaim

set_option maxHeartbeats 8000000 in
/-- The kernel's results are the reference's. -/
theorem algebraic : Cert.algebraic_KvqSampleIdeal_KvqSampleReferenceIdeal := by
  pair_intro
  · run_from Cert.KvqSampleIdeal.Gen.run_main m g
  · run_from Cert.KvqSampleReferenceIdeal.Value.run m' g'
    · exact (Cert.KvqSampleIdeal.Result.final8 m c).symm
    · exact (Cert.KvqSampleIdeal.Result.final9 m c).symm
    · exact (Cert.KvqSampleIdeal.Result.final10 m c).symm
    · exact (Cert.KvqSampleIdeal.Result.final11 m c).symm
    · exact (Cert.KvqSampleIdeal.Result.final12 m c).symm

end Cert.Proof.KvqSampleClaim

end
-- ==== Proof.InProjSampleValue.lean ====
module

public import proofs.«01_k».proof.Proof.Gen.InProjSampleIdeal.Value
public import proofs.«01_k».proof.Proof.Gen.InProjSampleReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.InProjSampleIdeal.Result

open Cert.InProjSampleIdeal Cert.InProjSampleIdeal.Gen

/-- The reference's first result, the gate `gelu(rmsnorm(x) g W[:, :2048])`, as it composes its operations. -/
def REF0 (X : FVec Ideal S512x2048 .f32) (g : FVec Ideal S1x2048 .f32) (W : FVec Ideal S1x2048x4096 .f32) : FVec Ideal S512x2048 .f32 :=
  mulf (extractStridedSlice Cert.InProjSampleReferenceIdeal.S512x2048 ![0, 0] (Host.dotGeneral (φ₁ := .f32) (φ₂ := .f32) Cert.InProjSampleReferenceIdeal.dot_S512x2048_S2048x4096_S512x4096_1_0_0_1_n_n none (mulf (mulf X (broadcastInDim Cert.InProjSampleReferenceIdeal.S512x2048 ![0, 1] Cert.InProjSampleReferenceIdeal.Gen.bcast_S512x1_S512x2048_0_1 (Host.rsqrt (addf (Host.divf (broadcastInDim Cert.InProjSampleReferenceIdeal.S512x1 ![0] Cert.InProjSampleReferenceIdeal.Gen.bcast_S512_S512x1_0 (Host.reduceAdd (mulf X X) (constant Cert.InProjSampleReferenceIdeal.S_ .f32 0x00000000#32) Cert.InProjSampleReferenceIdeal.Gen.reducesTo_S512x2048_S512_d1 Cert.InProjSampleReferenceIdeal.Gen.h_S_)) (broadcastInDim Cert.InProjSampleReferenceIdeal.S512x1 ![] Cert.InProjSampleReferenceIdeal.Gen.bcast_S_S512x1 (constant Cert.InProjSampleReferenceIdeal.S_ .f32 0x45000000#32))) (broadcastInDim Cert.InProjSampleReferenceIdeal.S512x1 ![] Cert.InProjSampleReferenceIdeal.Gen.bcast_S_S512x1 (constant Cert.InProjSampleReferenceIdeal.S_ .f32 0x358637BD#32)))))) (broadcastInDim Cert.InProjSampleReferenceIdeal.S512x2048 ![0, 1] Cert.InProjSampleReferenceIdeal.Gen.bcast_S1x2048_S512x2048_0_1 (broadcastInDim Cert.InProjSampleReferenceIdeal.S1x2048 ![1] Cert.InProjSampleReferenceIdeal.Gen.bcast_S2048_S1x2048_1 (shapeCast _ g Cert.InProjSampleReferenceIdeal.Gen.shapeCasts_S1x2048_S2048)))) (shapeCast _ W Cert.InProjSampleReferenceIdeal.Gen.shapeCasts_S1x2048x4096_S2048x4096)) Cert.InProjSampleReferenceIdeal.Gen.slices_S512x4096_S512x2048_0_0) (mulf (broadcastInDim Cert.InProjSampleReferenceIdeal.S512x2048 ![] Cert.InProjSampleReferenceIdeal.Gen.bcast_S_S512x2048 (constant Cert.InProjSampleReferenceIdeal.S_ .f32 0x3F000000#32)) (addf (broadcastInDim Cert.InProjSampleReferenceIdeal.S512x2048 ![] Cert.InProjSampleReferenceIdeal.Gen.bcast_S_S512x2048 (constant Cert.InProjSampleReferenceIdeal.S_ .f32 0x3F800000#32)) (Host.tanh (mulf (broadcastInDim Cert.InProjSampleReferenceIdeal.S512x2048 ![] Cert.InProjSampleReferenceIdeal.Gen.bcast_S_S512x2048 (constant Cert.InProjSampleReferenceIdeal.S_ .f32 0x3F4C422A#32)) (addf (extractStridedSlice Cert.InProjSampleReferenceIdeal.S512x2048 ![0, 0] (Host.dotGeneral (φ₁ := .f32) (φ₂ := .f32) Cert.InProjSampleReferenceIdeal.dot_S512x2048_S2048x4096_S512x4096_1_0_0_1_n_n none (mulf (mulf X (broadcastInDim Cert.InProjSampleReferenceIdeal.S512x2048 ![0, 1] Cert.InProjSampleReferenceIdeal.Gen.bcast_S512x1_S512x2048_0_1 (Host.rsqrt (addf (Host.divf (broadcastInDim Cert.InProjSampleReferenceIdeal.S512x1 ![0] Cert.InProjSampleReferenceIdeal.Gen.bcast_S512_S512x1_0 (Host.reduceAdd (mulf X X) (constant Cert.InProjSampleReferenceIdeal.S_ .f32 0x00000000#32) Cert.InProjSampleReferenceIdeal.Gen.reducesTo_S512x2048_S512_d1 Cert.InProjSampleReferenceIdeal.Gen.h_S_)) (broadcastInDim Cert.InProjSampleReferenceIdeal.S512x1 ![] Cert.InProjSampleReferenceIdeal.Gen.bcast_S_S512x1 (constant Cert.InProjSampleReferenceIdeal.S_ .f32 0x45000000#32))) (broadcastInDim Cert.InProjSampleReferenceIdeal.S512x1 ![] Cert.InProjSampleReferenceIdeal.Gen.bcast_S_S512x1 (constant Cert.InProjSampleReferenceIdeal.S_ .f32 0x358637BD#32)))))) (broadcastInDim Cert.InProjSampleReferenceIdeal.S512x2048 ![0, 1] Cert.InProjSampleReferenceIdeal.Gen.bcast_S1x2048_S512x2048_0_1 (broadcastInDim Cert.InProjSampleReferenceIdeal.S1x2048 ![1] Cert.InProjSampleReferenceIdeal.Gen.bcast_S2048_S1x2048_1 (shapeCast _ g Cert.InProjSampleReferenceIdeal.Gen.shapeCasts_S1x2048_S2048)))) (shapeCast _ W Cert.InProjSampleReferenceIdeal.Gen.shapeCasts_S1x2048x4096_S2048x4096)) Cert.InProjSampleReferenceIdeal.Gen.slices_S512x4096_S512x2048_0_0) (mulf (broadcastInDim Cert.InProjSampleReferenceIdeal.S512x2048 ![] Cert.InProjSampleReferenceIdeal.Gen.bcast_S_S512x2048 (constant Cert.InProjSampleReferenceIdeal.S_ .f32 0x3D372713#32)) (mulf (mulf (extractStridedSlice Cert.InProjSampleReferenceIdeal.S512x2048 ![0, 0] (Host.dotGeneral (φ₁ := .f32) (φ₂ := .f32) Cert.InProjSampleReferenceIdeal.dot_S512x2048_S2048x4096_S512x4096_1_0_0_1_n_n none (mulf (mulf X (broadcastInDim Cert.InProjSampleReferenceIdeal.S512x2048 ![0, 1] Cert.InProjSampleReferenceIdeal.Gen.bcast_S512x1_S512x2048_0_1 (Host.rsqrt (addf (Host.divf (broadcastInDim Cert.InProjSampleReferenceIdeal.S512x1 ![0] Cert.InProjSampleReferenceIdeal.Gen.bcast_S512_S512x1_0 (Host.reduceAdd (mulf X X) (constant Cert.InProjSampleReferenceIdeal.S_ .f32 0x00000000#32) Cert.InProjSampleReferenceIdeal.Gen.reducesTo_S512x2048_S512_d1 Cert.InProjSampleReferenceIdeal.Gen.h_S_)) (broadcastInDim Cert.InProjSampleReferenceIdeal.S512x1 ![] Cert.InProjSampleReferenceIdeal.Gen.bcast_S_S512x1 (constant Cert.InProjSampleReferenceIdeal.S_ .f32 0x45000000#32))) (broadcastInDim Cert.InProjSampleReferenceIdeal.S512x1 ![] Cert.InProjSampleReferenceIdeal.Gen.bcast_S_S512x1 (constant Cert.InProjSampleReferenceIdeal.S_ .f32 0x358637BD#32)))))) (broadcastInDim Cert.InProjSampleReferenceIdeal.S512x2048 ![0, 1] Cert.InProjSampleReferenceIdeal.Gen.bcast_S1x2048_S512x2048_0_1 (broadcastInDim Cert.InProjSampleReferenceIdeal.S1x2048 ![1] Cert.InProjSampleReferenceIdeal.Gen.bcast_S2048_S1x2048_1 (shapeCast _ g Cert.InProjSampleReferenceIdeal.Gen.shapeCasts_S1x2048_S2048)))) (shapeCast _ W Cert.InProjSampleReferenceIdeal.Gen.shapeCasts_S1x2048x4096_S2048x4096)) Cert.InProjSampleReferenceIdeal.Gen.slices_S512x4096_S512x2048_0_0) (extractStridedSlice Cert.InProjSampleReferenceIdeal.S512x2048 ![0, 0] (Host.dotGeneral (φ₁ := .f32) (φ₂ := .f32) Cert.InProjSampleReferenceIdeal.dot_S512x2048_S2048x4096_S512x4096_1_0_0_1_n_n none (mulf (mulf X (broadcastInDim Cert.InProjSampleReferenceIdeal.S512x2048 ![0, 1] Cert.InProjSampleReferenceIdeal.Gen.bcast_S512x1_S512x2048_0_1 (Host.rsqrt (addf (Host.divf (broadcastInDim Cert.InProjSampleReferenceIdeal.S512x1 ![0] Cert.InProjSampleReferenceIdeal.Gen.bcast_S512_S512x1_0 (Host.reduceAdd (mulf X X) (constant Cert.InProjSampleReferenceIdeal.S_ .f32 0x00000000#32) Cert.InProjSampleReferenceIdeal.Gen.reducesTo_S512x2048_S512_d1 Cert.InProjSampleReferenceIdeal.Gen.h_S_)) (broadcastInDim Cert.InProjSampleReferenceIdeal.S512x1 ![] Cert.InProjSampleReferenceIdeal.Gen.bcast_S_S512x1 (constant Cert.InProjSampleReferenceIdeal.S_ .f32 0x45000000#32))) (broadcastInDim Cert.InProjSampleReferenceIdeal.S512x1 ![] Cert.InProjSampleReferenceIdeal.Gen.bcast_S_S512x1 (constant Cert.InProjSampleReferenceIdeal.S_ .f32 0x358637BD#32)))))) (broadcastInDim Cert.InProjSampleReferenceIdeal.S512x2048 ![0, 1] Cert.InProjSampleReferenceIdeal.Gen.bcast_S1x2048_S512x2048_0_1 (broadcastInDim Cert.InProjSampleReferenceIdeal.S1x2048 ![1] Cert.InProjSampleReferenceIdeal.Gen.bcast_S2048_S1x2048_1 (shapeCast _ g Cert.InProjSampleReferenceIdeal.Gen.shapeCasts_S1x2048_S2048)))) (shapeCast _ W Cert.InProjSampleReferenceIdeal.Gen.shapeCasts_S1x2048x4096_S2048x4096)) Cert.InProjSampleReferenceIdeal.Gen.slices_S512x4096_S512x2048_0_0)) (extractStridedSlice Cert.InProjSampleReferenceIdeal.S512x2048 ![0, 0] (Host.dotGeneral (φ₁ := .f32) (φ₂ := .f32) Cert.InProjSampleReferenceIdeal.dot_S512x2048_S2048x4096_S512x4096_1_0_0_1_n_n none (mulf (mulf X (broadcastInDim Cert.InProjSampleReferenceIdeal.S512x2048 ![0, 1] Cert.InProjSampleReferenceIdeal.Gen.bcast_S512x1_S512x2048_0_1 (Host.rsqrt (addf (Host.divf (broadcastInDim Cert.InProjSampleReferenceIdeal.S512x1 ![0] Cert.InProjSampleReferenceIdeal.Gen.bcast_S512_S512x1_0 (Host.reduceAdd (mulf X X) (constant Cert.InProjSampleReferenceIdeal.S_ .f32 0x00000000#32) Cert.InProjSampleReferenceIdeal.Gen.reducesTo_S512x2048_S512_d1 Cert.InProjSampleReferenceIdeal.Gen.h_S_)) (broadcastInDim Cert.InProjSampleReferenceIdeal.S512x1 ![] Cert.InProjSampleReferenceIdeal.Gen.bcast_S_S512x1 (constant Cert.InProjSampleReferenceIdeal.S_ .f32 0x45000000#32))) (broadcastInDim Cert.InProjSampleReferenceIdeal.S512x1 ![] Cert.InProjSampleReferenceIdeal.Gen.bcast_S_S512x1 (constant Cert.InProjSampleReferenceIdeal.S_ .f32 0x358637BD#32)))))) (broadcastInDim Cert.InProjSampleReferenceIdeal.S512x2048 ![0, 1] Cert.InProjSampleReferenceIdeal.Gen.bcast_S1x2048_S512x2048_0_1 (broadcastInDim Cert.InProjSampleReferenceIdeal.S1x2048 ![1] Cert.InProjSampleReferenceIdeal.Gen.bcast_S2048_S1x2048_1 (shapeCast _ g Cert.InProjSampleReferenceIdeal.Gen.shapeCasts_S1x2048_S2048)))) (shapeCast _ W Cert.InProjSampleReferenceIdeal.Gen.shapeCasts_S1x2048x4096_S2048x4096)) Cert.InProjSampleReferenceIdeal.Gen.slices_S512x4096_S512x2048_0_0))))))))

/-- The reference's second result, the recurrence's input `rmsnorm(x) g W[:, 2048:]`. -/
def REF1 (X : FVec Ideal S512x2048 .f32) (g : FVec Ideal S1x2048 .f32) (W : FVec Ideal S1x2048x4096 .f32) : FVec Ideal S512x2048 .f32 :=
  extractStridedSlice Cert.InProjSampleReferenceIdeal.S512x2048 ![0, 2048] (Host.dotGeneral (φ₁ := .f32) (φ₂ := .f32) Cert.InProjSampleReferenceIdeal.dot_S512x2048_S2048x4096_S512x4096_1_0_0_1_n_n none (mulf (mulf X (broadcastInDim Cert.InProjSampleReferenceIdeal.S512x2048 ![0, 1] Cert.InProjSampleReferenceIdeal.Gen.bcast_S512x1_S512x2048_0_1 (Host.rsqrt (addf (Host.divf (broadcastInDim Cert.InProjSampleReferenceIdeal.S512x1 ![0] Cert.InProjSampleReferenceIdeal.Gen.bcast_S512_S512x1_0 (Host.reduceAdd (mulf X X) (constant Cert.InProjSampleReferenceIdeal.S_ .f32 0x00000000#32) Cert.InProjSampleReferenceIdeal.Gen.reducesTo_S512x2048_S512_d1 Cert.InProjSampleReferenceIdeal.Gen.h_S_)) (broadcastInDim Cert.InProjSampleReferenceIdeal.S512x1 ![] Cert.InProjSampleReferenceIdeal.Gen.bcast_S_S512x1 (constant Cert.InProjSampleReferenceIdeal.S_ .f32 0x45000000#32))) (broadcastInDim Cert.InProjSampleReferenceIdeal.S512x1 ![] Cert.InProjSampleReferenceIdeal.Gen.bcast_S_S512x1 (constant Cert.InProjSampleReferenceIdeal.S_ .f32 0x358637BD#32)))))) (broadcastInDim Cert.InProjSampleReferenceIdeal.S512x2048 ![0, 1] Cert.InProjSampleReferenceIdeal.Gen.bcast_S1x2048_S512x2048_0_1 (broadcastInDim Cert.InProjSampleReferenceIdeal.S1x2048 ![1] Cert.InProjSampleReferenceIdeal.Gen.bcast_S2048_S1x2048_1 (shapeCast _ g Cert.InProjSampleReferenceIdeal.Gen.shapeCasts_S1x2048_S2048)))) (shapeCast _ W Cert.InProjSampleReferenceIdeal.Gen.shapeCasts_S1x2048x4096_S2048x4096)) Cert.InProjSampleReferenceIdeal.Gen.slices_S512x4096_S512x2048_0_2048

/-- Row `i`, entry `d` of the normalised and scaled input. -/
def RN (X : FVec Ideal S512x2048 .f32) (g : FVec Ideal S1x2048 .f32) (i : Fin 512) (d : Fin 2048) : EReal :=
  X (ix2 i d) * Ideal.rsqrt (Ideal.div (∑ k : Fin 2048, X (ix2 i k) * X (ix2 i k)) (Ideal.ofBits .f32 0x45000000#32)
    + Ideal.ofBits .f32 0x358637BD#32) * g (ix2 0 d)

/-- Row `i`, column `f` of the projection. -/
def PROJ (X : FVec Ideal S512x2048 .f32) (g : FVec Ideal S1x2048 .f32) (W : FVec Ideal S1x2048x4096 .f32) (i : Fin 512) (f : Fin 4096) : EReal :=
  ∑ d : Fin 2048, RN X g i d * W (ix3 0 d f)

/-- The approximate `gelu` both sides use. -/
def GELU (u : EReal) : EReal :=
  u * (Ideal.ofBits .f32 0x3F000000#32 * (Ideal.ofBits .f32 0x3F800000#32 + Ideal.tanh
    (Ideal.ofBits .f32 0x3F4C422A#32 * (u + Ideal.ofBits .f32 0x3D372713#32 * (u * (u * u))))))

theorem ref0_at (X : FVec Ideal S512x2048 .f32) (g : FVec Ideal S1x2048 .f32) (W : FVec Ideal S1x2048x4096 .f32) (i : Fin 512) (l : Fin 2048) :
    REF0 X g W (ix2 i l) = GELU (PROJ X g W i ⟨l, by omega⟩) := by
  pointwise [REF0, PROJ, RN, GELU]
  simp only [mul_assoc]

theorem ref1_at (X : FVec Ideal S512x2048 .f32) (g : FVec Ideal S1x2048 .f32) (W : FVec Ideal S1x2048x4096 .f32) (i : Fin 512) (l : Fin 2048) :
    REF1 X g W (ix2 i l) = PROJ X g W i ⟨2048 + l, by omega⟩ := by
  pointwise [REF1, PROJ, RN]

theorem pay3_at (xn wg) (r : Fin 512) (l : Fin 1024) : k0_pay3 (F := Ideal) xn wg (ix2 r l)
      = GELU (∑ d : Fin 2048, xn (ix2 r d) * wg (ix2 d l)) := by
  pointwise [k0_pay3, GELU]

theorem pay4_at (xn wr) (r : Fin 512) (l : Fin 1024) : k0_pay4 (F := Ideal) xn wr (ix2 r l)
      = ∑ d : Fin 2048, xn (ix2 r d) * wr (ix2 d l) := by
  pointwise [k0_pay4]

/-- The blocks of the windows at grid point `t`. -/
theorem idx : ∀ t : Fin cfg0.N, win0_0.index t = ![t.val / 2, 0] ∧ win0_1.index t = ![0, 0] ∧ win0_2.index t = ![0, t.val % 2]
    ∧ win0_3.index t = ![0, t.val % 2 + 2] ∧ win0_4.index t = ![t.val / 2, t.val % 2]
    ∧ win0_5.index t = ![t.val / 2, t.val % 2] ∧ t.val / 2 < 1 :=
  (by decide +kernel : ∀ t : Fin grid0.N, _)

variable (m : (ℓ : Loc nD τ sig) → Buf (Elt Ideal) ℓ)

/-- The first column tile of a row block fills the scratch with the normalised rows. -/
theorem scr_A (c : Dev nD) (t : Fin cfg0.N) (h : t.val % 2 = 0) (y : S512x2048.Idx) (i : Fin 512)
    (hi : (i : ℕ) = t.val / 2 * 512 + y 0) : (outsAt0 m c t.val t.isLt).2.2 y = RN (m ((c : Thread nD τ).loc main_arg0)) (m ((c : Thread nD τ).loc main_arg1)) i (y 1) := by
  rw [outsAt0_A m c t h]; frame_out
  canon_tiles x h
  all_goals
    rw [h0] at hi
    pointwise [k0_pay1, k0_pay2, k0_pay5, k0_pay6, RN]
    blk_point [iblk, V, idx t]

/-- The scratch holds the row block's normalised rows at every column tile. -/
theorem scr (c : Dev nD) : ∀ (n : ℕ) (hn : n < cfg0.N) (y : S512x2048.Idx) (i : Fin 512)
    (_ : (i : ℕ) = n / 2 * 512 + y 0), (outsAt0 m c n hn).2.2 y = RN (m ((c : Thread nD τ).loc main_arg0)) (m ((c : Thread nD τ).loc main_arg1)) i (y 1) := by
  intro n
  induction n with
  | zero => exact fun hn y i hi => scr_A m c ⟨0, hn⟩ rfl y i hi
  | succ n ih =>
    intro hn y i hi
    by_cases h : (n + 1) % 2 = 0
    · exact scr_A m c ⟨n + 1, hn⟩ h y i hi
    · rw [outsAt0_B m c ⟨n + 1, hn⟩ h]
      frame_out
      unfold sout0_B_0
      exact ih _ y i (by omega)

theorem gate_read (c : Dev nD) (t : Fin cfg0.N) (d : Fin 2048) (k : Fin 1024) : iblk m c 2 t (ix2 d k) =
    (m ((c : Thread nD τ).loc main_arg2)) (ix3 0 d ⟨t.val % 2 * 1024 + k, by omega⟩) := by
  blk_point [iblk, V, idx t]

theorem rec_read (c : Dev nD) (t : Fin cfg0.N) (d : Fin 2048) (k : Fin 1024) : iblk m c 3 t (ix2 d k) =
    (m ((c : Thread nD τ).loc main_arg2)) (ix3 0 d ⟨2048 + (t.val % 2 * 1024 + k), by omega⟩) := by
  blk_point [iblk, V, idx t]

theorem whole_idx (h) (r : Fin 512) (l : Fin 2048) :
    (Rect.unit (s := S512x2048) ![0, 0] ![512, 2048] h).toLoadRect.idx (ix2 r l) = ix2 r l := by
  blk_ext
  · show 0 + 1 * (r : ℕ) = r
    omega
  · show 0 + 1 * (l : ℕ) = l
    omega

/-- A grid point's gate tile, from the normalised rows. -/
theorem gate_val (c : Dev nD) (t : Fin cfg0.N) (r : Fin 512) (l : Fin 1024) (i : Fin 512)
    (xn : FVec Ideal S512x2048 .bf16) (hx : ∀ d, xn (ix2 r d) = RN (m ((c : Thread nD τ).loc main_arg0)) (m ((c : Thread nD τ).loc main_arg1)) i d) :
    k0_pay3 (F := Ideal) xn (iblk m c 2 t) (ix2 r l)
      = GELU (PROJ (m ((c : Thread nD τ).loc main_arg0)) (m ((c : Thread nD τ).loc main_arg1)) (m ((c : Thread nD τ).loc main_arg2)) i ⟨t.val % 2 * 1024 + l, by omega⟩) := by
  rw [pay3_at, PROJ]
  exact congrArg GELU (Finset.sum_congr rfl fun d _ => by rw [hx, gate_read])

/-- A grid point's tile of the recurrence's input, from the normalised rows. -/
theorem rec_val (c : Dev nD) (t : Fin cfg0.N) (r : Fin 512) (l : Fin 1024) (i : Fin 512)
    (xn : FVec Ideal S512x2048 .bf16) (hx : ∀ d, xn (ix2 r d) = RN (m ((c : Thread nD τ).loc main_arg0)) (m ((c : Thread nD τ).loc main_arg1)) i d) :
    k0_pay4 (F := Ideal) xn (iblk m c 3 t) (ix2 r l)
      = PROJ (m ((c : Thread nD τ).loc main_arg0)) (m ((c : Thread nD τ).loc main_arg1)) (m ((c : Thread nD τ).loc main_arg2)) i ⟨2048 + (t.val % 2 * 1024 + l), by omega⟩ := by
  rw [pay4_at, PROJ]
  exact Finset.sum_congr rfl fun d _ => by rw [hx, rec_read]

/-- Both tiles a grid point leaves. -/
theorem tiles (c : Dev nD) (t : Fin cfg0.N) (r : Fin 512) (l : Fin 1024) (i : Fin 512)
    (hi : (i : ℕ) = t.val / 2 * 512 + r) :
    (outsAt0 m c t.val t.isLt).1 (ix2 r l) = GELU (PROJ (m ((c : Thread nD τ).loc main_arg0)) (m ((c : Thread nD τ).loc main_arg1)) (m ((c : Thread nD τ).loc main_arg2)) i ⟨t.val % 2 * 1024 + l, by omega⟩)
    ∧ (outsAt0 m c t.val t.isLt).2.1 (ix2 r l) = PROJ (m ((c : Thread nD τ).loc main_arg0)) (m ((c : Thread nD τ).loc main_arg1)) (m ((c : Thread nD τ).loc main_arg2)) i ⟨2048 + (t.val % 2 * 1024 + l), by omega⟩ := by
  by_cases h : t.val % 2 = 0
  · have hs := fun d => scr_A m c t h (ix2 r d) i hi
    rw [outsAt0_A m c t h] at hs ⊢
    constructor
    · frame_out
      refine gate_val m c t r l i _ fun d => ?_
      refine (congrFun (View.readCov_eq_canon' _ _ _) _).trans (Eq.trans ?_ (hs d))
      rw [whole_idx]
      frame_out
    · frame_out
      refine rec_val m c t r l i _ fun d => ?_
      refine (congrFun (View.readCov_eq_canon' _ _ _) _).trans (Eq.trans ?_ (hs d))
      rw [whole_idx]
      frame_out
  · have hs := fun d => scr m c (t.val - 1) (by omega) (ix2 r d) i (by show (i : ℕ) = (t.val - 1) / 2 * 512 + r; omega)
    rw [outsAt0_B m c t h]
    constructor
    · frame_out
      exact gate_val m c t r l i _ fun d => (congrFun (read_unread_whole _ _ _) _).trans (hs d)
    · frame_out
      exact rec_val m c t r l i _ fun d => (congrFun (read_unread_whole _ _ _) _).trans (hs d)

/-- The gate array after the run is the reference's first term. -/
theorem final0 (c : Dev nD) : (dats m 0 c).arrAt 4 (cfgs 0).N = REF0 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have ht := (idx t).2.2.2.2.2.2
  obtain ⟨r, l, rfl⟩ : ∃ (r : Fin 512) (l : Fin 1024), y = ix2 r l := ⟨y 0, y 1, by blk_ext⟩
  have e : (win0_4.blk t).view.emb (ix2 r l) = ix2 ⟨t.val / 2 * 512 + r, by omega⟩ ⟨t.val % 2 * 1024 + l, by omega⟩ := by
    blk_ext [idx t]
  rw [e, ref0_at]
  exact (tiles m c t r l _ rfl).1

/-- The array of the recurrence's input after the run is the reference's second term. -/
theorem final1 (c : Dev nD) : (dats m 0 c).arrAt 5 (cfgs 0).N = REF1 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have ht := (idx t).2.2.2.2.2.2
  obtain ⟨r, l, rfl⟩ : ∃ (r : Fin 512) (l : Fin 1024), y = ix2 r l := ⟨y 0, y 1, by blk_ext⟩
  have e : (win0_5.blk t).view.emb (ix2 r l) = ix2 ⟨t.val / 2 * 512 + r, by omega⟩ ⟨t.val % 2 * 1024 + l, by omega⟩ := by
    blk_ext [idx t]
  rw [e, ref1_at]
  exact (tiles m c t r l _ rfl).2

end Cert.InProjSampleIdeal.Result

namespace Cert.Proof.InProjSampleClaim

/-- The kernel's results are the reference's. -/
theorem algebraic : Cert.algebraic_InProjSampleIdeal_InProjSampleReferenceIdeal := by
  pair_intro
  · run_from Cert.InProjSampleIdeal.Gen.run_main m g
  · run_from Cert.InProjSampleReferenceIdeal.Value.run m' g'
    · unfold Cert.InProjSampleReferenceIdeal.Value.res_main_v29
      rw [(hagree c).1, (hagree c).2.1, (hagree c).2.2]
      exact (Cert.InProjSampleIdeal.Result.final0 m c).symm
    · exact (Cert.InProjSampleIdeal.Result.final1 m c).symm

end Cert.Proof.InProjSampleClaim

end
-- ==== Proof.OutSampleValue.lean ====
module

public import proofs.«01_k».proof.Proof.Gen.OutSampleIdeal.Value
public import proofs.«01_k».proof.Proof.Gen.OutSampleReferenceIdeal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.OutSampleIdeal.Result

open Cert.OutSampleIdeal Cert.OutSampleIdeal.Gen

variable (m : (ℓ : Loc nD τ sig) → Buf (Elt Ideal) ℓ)

/-- The reference's result: the residual plus the product with the weight's one layer. -/
def REF (A : FVec Ideal S512x2048 .bf16) (W : FVec Ideal S1x2048x2048 .f32) (X : FVec Ideal S512x2048 .f32) :
    FVec Ideal S512x2048 .f32 :=
  addf X (Host.dotGeneral (φ₁ := .f32) (φ₂ := .f32) Cert.OutSampleReferenceIdeal.dot_S512x2048_S2048x2048_S512x2048_1_0_0_1_n_n none
    (extf .f32 A Cert.OutSampleReferenceIdeal.Gen.bitsLt_bf16_f32) (shapeCast _ W Cert.OutSampleReferenceIdeal.Gen.shapeCasts_S1x2048x2048_S2048x2048))

/-- The blocks of the four windows at grid point `t`: rows move with `t`, the weight is one block. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- What grid point `t` stores at `y` is the reference's result where `y` sits in the array. -/
theorem point (c : Dev nD) (t : Fin cfg0.N) (y) : k0_pay1 (F := Ideal) (iblk m c 2 t) (iblk m c 0 t) (iblk m c 1 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The result array after the run is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutSampleIdeal.Result

namespace Cert.Proof.OutSampleClaim

/-- The kernel's result is the reference's. -/
theorem algebraic : Cert.algebraic_OutSampleIdeal_OutSampleReferenceIdeal := by
  pair_intro
  · run_from Cert.OutSampleIdeal.Gen.run_main m g
  · run_from Cert.OutSampleReferenceIdeal.Value.run m' g'
    exact (Cert.OutSampleIdeal.Result.final m c).symm

end Cert.Proof.OutSampleClaim

end
-- ==== Proof.LayersSample.lean ====
module

public import proofs.«01_k».proof.Proof.Gen.MlpSample
public import proofs.«01_k».proof.Proof.MlpSampleFinal
public import proofs.«01_k».proof.Proof.Gen.KvqSample
public import proofs.«01_k».proof.Proof.KvqSampleValue
public import proofs.«01_k».proof.Proof.Gen.InProjSample
public import proofs.«01_k».proof.Proof.InProjSampleValue
public import proofs.«01_k».proof.Proof.Gen.OutSample
public import proofs.«01_k».proof.Proof.OutSampleValue
public import proofs.«01_k».proof.Defs

@[expose] public section

set_option maxRecDepth 16384

noncomputable section

open Idealize.ShloMosaic Idealize.SL.Sem

/-! The frames of the calls on the sample batch. A call's `P` and `PI` have one text, so its one run over any float values
    serves both frames. -/

namespace Cert.Proof.Layers

/-- The two printed body tables are one. -/
theorem MlpSample_bodies : Cert.MlpSample.defs₀ (F := Bits) = Cert.MlpSampleIdeal.defs₀ (F := Bits) := by
  unfold Cert.MlpSample.defs₀ Cert.MlpSampleIdeal.defs₀
  refine congrArg Defs.onTc ?_
  funext x y
  match x, y with
  | 0, (t, s) => rfl

/-- So the whole tables are. -/
theorem MlpSample_defs : Cert.MlpSample.defs (F := Bits) = Cert.MlpSampleIdeal.defs (F := Bits) :=
  congrArg (Pipeline.defs Cert.MlpSampleIdeal.pcfgs) MlpSample_bodies

/-- Frame of the kernel as printed: the squared-ReLU MLP. -/
theorem MlpSample_p : Cert.quiescent_MlpSample := fun m ρ _ => by
  rw [MlpSample_defs]
  exact Cert.MlpSampleIdeal.Gen.frame (F := Bits) m ρ

/-- Frame of the kernel over the extended reals: the squared-ReLU MLP. -/
theorem MlpSample_pi : Cert.quiescent_MlpSampleIdeal := fun m ρ _ => Cert.MlpSampleIdeal.Gen.frame m ρ

/-- Frame of the reference: the squared-ReLU MLP. -/
theorem MlpSample_ri : Cert.quiescent_MlpSampleReferenceIdeal := fun m ρ _ =>
  (θ_run Cert.MlpSampleReferenceIdeal.defs _ _).mono
    (fun r h => ⟨fun c => (h c).2, sem_eq_zero_of_no_sems (by decide) r.2⟩)
    (Cert.MlpSampleReferenceIdeal.Value.run m ρ)

/-- The two printed body tables are one. -/
theorem KvqSample_bodies : Cert.KvqSample.defs₀ (F := Bits) = Cert.KvqSampleIdeal.defs₀ (F := Bits) := by
  unfold Cert.KvqSample.defs₀ Cert.KvqSampleIdeal.defs₀
  refine congrArg Defs.onTc ?_
  funext x y
  match x, y with
  | 0, (t, s) => rfl

/-- So the whole tables are. -/
theorem KvqSample_defs : Cert.KvqSample.defs (F := Bits) = Cert.KvqSampleIdeal.defs (F := Bits) :=
  congrArg (Pipeline.defs Cert.KvqSampleIdeal.pcfgs) KvqSample_bodies

/-- Frame of the kernel as printed: keys, values and queries. -/
theorem KvqSample_p : Cert.quiescent_KvqSample := fun m ρ _ => by
  rw [KvqSample_defs]
  exact Cert.KvqSampleIdeal.Gen.frame (F := Bits) m ρ

/-- Frame of the kernel over the extended reals: keys, values and queries. -/
theorem KvqSample_pi : Cert.quiescent_KvqSampleIdeal := fun m ρ _ => Cert.KvqSampleIdeal.Gen.frame m ρ

/-- Frame of the reference: keys, values and queries. -/
theorem KvqSample_ri : Cert.quiescent_KvqSampleReferenceIdeal := fun m ρ _ =>
  (θ_run Cert.KvqSampleReferenceIdeal.defs _ _).mono
    (fun r h => ⟨fun c => (h c).2.2.2.2.2, sem_eq_zero_of_no_sems (by decide) r.2⟩)
    (Cert.KvqSampleReferenceIdeal.Value.run m ρ)

/-- The two printed body tables are one. -/
theorem InProjSample_bodies : Cert.InProjSample.defs₀ (F := Bits) = Cert.InProjSampleIdeal.defs₀ (F := Bits) := by
  unfold Cert.InProjSample.defs₀ Cert.InProjSampleIdeal.defs₀
  refine congrArg Defs.onTc ?_
  funext x y
  match x, y with
  | 0, (t, s) => rfl

/-- So the whole tables are. -/
theorem InProjSample_defs : Cert.InProjSample.defs (F := Bits) = Cert.InProjSampleIdeal.defs (F := Bits) :=
  congrArg (Pipeline.defs Cert.InProjSampleIdeal.pcfgs) InProjSample_bodies

/-- Frame of the kernel as printed: input projection of the recurrent block. -/
theorem InProjSample_p : Cert.quiescent_InProjSample := fun m ρ _ => by
  rw [InProjSample_defs]
  exact Cert.InProjSampleIdeal.Gen.frame (F := Bits) m ρ

/-- Frame of the kernel over the extended reals: input projection of the recurrent block. -/
theorem InProjSample_pi : Cert.quiescent_InProjSampleIdeal := fun m ρ _ => Cert.InProjSampleIdeal.Gen.frame m ρ

/-- Frame of the reference: input projection of the recurrent block. -/
theorem InProjSample_ri : Cert.quiescent_InProjSampleReferenceIdeal := fun m ρ _ =>
  (θ_run Cert.InProjSampleReferenceIdeal.defs _ _).mono
    (fun r h => ⟨fun c => (h c).2.2, sem_eq_zero_of_no_sems (by decide) r.2⟩)
    (Cert.InProjSampleReferenceIdeal.Value.run m ρ)

/-- The two printed body tables are one. -/
theorem OutSample_bodies : Cert.OutSample.defs₀ (F := Bits) = Cert.OutSampleIdeal.defs₀ (F := Bits) := by
  unfold Cert.OutSample.defs₀ Cert.OutSampleIdeal.defs₀
  refine congrArg Defs.onTc ?_
  funext x y
  match x, y with
  | 0, (t, s) => rfl

/-- So the whole tables are. -/
theorem OutSample_defs : Cert.OutSample.defs (F := Bits) = Cert.OutSampleIdeal.defs (F := Bits) :=
  congrArg (Pipeline.defs Cert.OutSampleIdeal.pcfgs) OutSample_bodies

/-- Frame of the kernel as printed: output projection. -/
theorem OutSample_p : Cert.quiescent_OutSample := fun m ρ _ => by
  rw [OutSample_defs]
  exact Cert.OutSampleIdeal.Gen.frame (F := Bits) m ρ

/-- Frame of the kernel over the extended reals: output projection. -/
theorem OutSample_pi : Cert.quiescent_OutSampleIdeal := fun m ρ _ => Cert.OutSampleIdeal.Gen.frame m ρ

/-- Frame of the reference: output projection. -/
theorem OutSample_ri : Cert.quiescent_OutSampleReferenceIdeal := fun m ρ _ =>
  (θ_run Cert.OutSampleReferenceIdeal.defs _ _).mono
    (fun r h => ⟨fun c => (h c).2, sem_eq_zero_of_no_sems (by decide) r.2⟩)
    (Cert.OutSampleReferenceIdeal.Value.run m ρ)

end Cert.Proof.Layers

end
-- ==== Proof.Layers.lean ====
module

public import proofs.«01_k».proof.Proof.Gen.Mlp
public import proofs.«01_k».proof.Proof.MlpFinal
public import proofs.«01_k».proof.Proof.Gen.Kvq
public import proofs.«01_k».proof.Proof.KvqValue
public import proofs.«01_k».proof.Proof.Gen.InProj
public import proofs.«01_k».proof.Proof.InProjValue
public import proofs.«01_k».proof.Proof.Gen.Out
public import proofs.«01_k».proof.Proof.OutValue
public import proofs.«01_k».proof.Defs

@[expose] public section

set_option maxRecDepth 16384

noncomputable section

open Idealize.ShloMosaic Idealize.SL.Sem

/-! The frames of the four calls around the recurrence and the attention. A call's `P` and `PI` have one text, so its one
    run over any float values serves both frames. -/

namespace Cert.Proof.Layers

/-- The two printed body tables are one. -/
theorem Mlp_bodies : Cert.Mlp.defs₀ (F := Bits) = Cert.MlpIdeal.defs₀ (F := Bits) := by
  unfold Cert.Mlp.defs₀ Cert.MlpIdeal.defs₀
  refine congrArg Defs.onTc ?_
  funext x y
  match x, y with
  | 0, (t, s) => rfl

/-- So the whole tables are. -/
theorem Mlp_defs : Cert.Mlp.defs (F := Bits) = Cert.MlpIdeal.defs (F := Bits) :=
  congrArg (Pipeline.defs Cert.MlpIdeal.pcfgs) Mlp_bodies

/-- Frame of the kernel as printed: the squared-ReLU MLP. -/
theorem Mlp_p : Cert.quiescent_Mlp := fun m ρ _ => by
  rw [Mlp_defs]
  exact Cert.MlpIdeal.Gen.frame (F := Bits) m ρ

/-- Frame of the kernel over the extended reals: the squared-ReLU MLP. -/
theorem Mlp_pi : Cert.quiescent_MlpIdeal := fun m ρ _ => Cert.MlpIdeal.Gen.frame m ρ

/-- Frame of the reference: the squared-ReLU MLP. -/
theorem Mlp_ri : Cert.quiescent_MlpReferenceIdeal := fun m ρ _ =>
  (θ_run Cert.MlpReferenceIdeal.defs _ _).mono
    (fun r h => ⟨fun c => (h c).2, sem_eq_zero_of_no_sems (by decide) r.2⟩)
    (Cert.MlpReferenceIdeal.Value.run m ρ)

/-- The two printed body tables are one. -/
theorem Kvq_bodies : Cert.Kvq.defs₀ (F := Bits) = Cert.KvqIdeal.defs₀ (F := Bits) := by
  unfold Cert.Kvq.defs₀ Cert.KvqIdeal.defs₀
  refine congrArg Defs.onTc ?_
  funext x y
  match x, y with
  | 0, (t, s) => rfl

/-- So the whole tables are. -/
theorem Kvq_defs : Cert.Kvq.defs (F := Bits) = Cert.KvqIdeal.defs (F := Bits) :=
  congrArg (Pipeline.defs Cert.KvqIdeal.pcfgs) Kvq_bodies

/-- Frame of the kernel as printed: keys, values and queries. -/
theorem Kvq_p : Cert.quiescent_Kvq := fun m ρ _ => by
  rw [Kvq_defs]
  exact Cert.KvqIdeal.Gen.frame (F := Bits) m ρ

/-- Frame of the kernel over the extended reals: keys, values and queries. -/
theorem Kvq_pi : Cert.quiescent_KvqIdeal := fun m ρ _ => Cert.KvqIdeal.Gen.frame m ρ

/-- Frame of the reference: keys, values and queries. -/
theorem Kvq_ri : Cert.quiescent_KvqReferenceIdeal := fun m ρ _ =>
  (θ_run Cert.KvqReferenceIdeal.defs _ _).mono
    (fun r h => ⟨fun c => (h c).2.2.2.2.2, sem_eq_zero_of_no_sems (by decide) r.2⟩)
    (Cert.KvqReferenceIdeal.Value.run m ρ)

/-- The two printed body tables are one. -/
theorem InProj_bodies : Cert.InProj.defs₀ (F := Bits) = Cert.InProjIdeal.defs₀ (F := Bits) := by
  unfold Cert.InProj.defs₀ Cert.InProjIdeal.defs₀
  refine congrArg Defs.onTc ?_
  funext x y
  match x, y with
  | 0, (t, s) => rfl

/-- So the whole tables are. -/
theorem InProj_defs : Cert.InProj.defs (F := Bits) = Cert.InProjIdeal.defs (F := Bits) :=
  congrArg (Pipeline.defs Cert.InProjIdeal.pcfgs) InProj_bodies

/-- Frame of the kernel as printed: input projection. -/
theorem InProj_p : Cert.quiescent_InProj := fun m ρ _ => by
  rw [InProj_defs]
  exact Cert.InProjIdeal.Gen.frame (F := Bits) m ρ

/-- Frame of the kernel over the extended reals: input projection. -/
theorem InProj_pi : Cert.quiescent_InProjIdeal := fun m ρ _ => Cert.InProjIdeal.Gen.frame m ρ

/-- Frame of the reference: input projection. -/
theorem InProj_ri : Cert.quiescent_InProjReferenceIdeal := fun m ρ _ =>
  (θ_run Cert.InProjReferenceIdeal.defs _ _).mono
    (fun r h => ⟨fun c => (h c).2.2, sem_eq_zero_of_no_sems (by decide) r.2⟩)
    (Cert.InProjReferenceIdeal.Value.run m ρ)

/-- The two printed body tables are one. -/
theorem Out_bodies : Cert.Out.defs₀ (F := Bits) = Cert.OutIdeal.defs₀ (F := Bits) := by
  unfold Cert.Out.defs₀ Cert.OutIdeal.defs₀
  refine congrArg Defs.onTc ?_
  funext x y
  match x, y with
  | 0, (t, s) => rfl

/-- So the whole tables are. -/
theorem Out_defs : Cert.Out.defs (F := Bits) = Cert.OutIdeal.defs (F := Bits) :=
  congrArg (Pipeline.defs Cert.OutIdeal.pcfgs) Out_bodies

/-- Frame of the kernel as printed: output projection. -/
theorem Out_p : Cert.quiescent_Out := fun m ρ _ => by
  rw [Out_defs]
  exact Cert.OutIdeal.Gen.frame (F := Bits) m ρ

/-- Frame of the kernel over the extended reals: output projection. -/
theorem Out_pi : Cert.quiescent_OutIdeal := fun m ρ _ => Cert.OutIdeal.Gen.frame m ρ

/-- Frame of the reference: output projection. -/
theorem Out_ri : Cert.quiescent_OutReferenceIdeal := fun m ρ _ =>
  (θ_run Cert.OutReferenceIdeal.defs _ _).mono
    (fun r h => ⟨fun c => (h c).2, sem_eq_zero_of_no_sems (by decide) r.2⟩)
    (Cert.OutReferenceIdeal.Value.run m ρ)

end Cert.Proof.Layers

end
-- ==== Proof.RglruMath.lean ====
module

public import Idealize.ShloMosaic.Lib.Pipeline.ValueKit
public import Idealize.ShloMosaic.Lib.Pointwise
public import Mathlib.Analysis.SpecialFunctions.Trigonometric.DerivHyp

@[expose] public section

noncomputable section

namespace Cert.Proof.Rglru

open Idealize.ShloMosaic

/-! ## The gates' values on the extended reals -/

/-- Between zero and one. -/
def Unit01 (x : EReal) : Prop := 0 ≤ x ∧ x ≤ 1

theorem Unit01.real {x : EReal} (h : Unit01 x) : ∃ r : ℝ, x = r ∧ 0 ≤ r ∧ r ≤ 1 := by
  obtain ⟨h0, h1⟩ := h
  induction x using EReal.rec with
  | bot => simp at h0
  | top => exact absurd h1 (by simp [← EReal.coe_one])
  | coe r => exact ⟨r, rfl, by exact_mod_cast h0, by exact_mod_cast h1⟩

theorem Unit01.of_real {r : ℝ} (h0 : 0 ≤ r) (h1 : r ≤ 1) : Unit01 (r : EReal) :=
  ⟨by exact_mod_cast h0, by exact_mod_cast h1⟩

theorem Unit01.mul {x y : EReal} (hx : Unit01 x) (hy : Unit01 y) : Unit01 (x * y) := by
  obtain ⟨a, rfl, a0, a1⟩ := hx.real
  obtain ⟨b, rfl, b0, b1⟩ := hy.real
  rw [← EReal.coe_mul]
  exact .of_real (mul_nonneg a0 b0) (mul_le_one₀ a1 b0 b1)

theorem Unit01.ne_top {x : EReal} (hx : Unit01 x) : x ≠ ⊤ := by
  obtain ⟨a, rfl, -, -⟩ := hx.real; exact EReal.coe_ne_top a

theorem unit_logistic (x : EReal) : Unit01 (Ideal.logistic x) := by
  induction x using EReal.rec with
  | bot => simp [Unit01]
  | top => simp [Unit01]
  | coe r =>
    rw [Ideal.logistic_coe]
    have h := Real.exp_pos (-r)
    exact .of_real (by positivity) (inv_le_one_of_one_le₀ (by linarith))

theorem log_one : Ideal.log 1 = 0 := by
  rw [← EReal.coe_one, Ideal.log_coe, if_neg (by norm_num), Real.log_one, EReal.coe_zero]

/-- `max x 0 + log (1 + e^(-|x|))`. -/
def softplus (x : EReal) : EReal := max x 0 + Ideal.log (1 + Ideal.exp (0 - max x (-x)))

theorem softplus_nonneg (x : EReal) : 0 ≤ softplus x := by
  unfold softplus
  refine add_nonneg (le_max_right _ _) ?_
  induction x using EReal.rec with
  | bot => simp [log_one]
  | top => simp [log_one]
  | coe r =>
    have e : (0 : EReal) - max (r : EReal) (-(r : EReal)) = ((0 - max r (-r) : ℝ) : EReal) := by
      rw [EReal.coe_sub, EReal.coe_zero, EReal.coe_strictMono.monotone.map_max, EReal.coe_neg]
    rw [e, Ideal.exp_coe, ← EReal.coe_one, ← EReal.coe_add, Ideal.log_coe]
    have h := Real.exp_pos (0 - max r (-r))
    rw [if_neg (by linarith)]
    exact_mod_cast Real.log_nonneg (by linarith)

/-- The logarithm of the decay, from the recurrence gate and the decay's softplus. -/
def logDecay (r s : EReal) : EReal := Ideal.ofBits .f32 0xC1000000#32 * r * s

theorem minus8 : Ideal.ofBits .f32 0xC1000000#32 = ((-8 : ℝ) : EReal) := by
  simp [Ideal.ofBits, Ideal.ieee, -EReal.coe_mul]; norm_num

theorem logDecay_nonpos {r s : EReal} (hr : Unit01 r) (hs : 0 ≤ s) : logDecay r s ≤ 0 := by
  obtain ⟨a, rfl, a0, a1⟩ := hr.real
  rw [logDecay, minus8, ← EReal.coe_mul]
  exact EReal.mul_nonpos_iff.mpr (Or.inr ⟨by exact_mod_cast (by linarith : -8 * a ≤ 0), hs⟩)

theorem unit_exp {x : EReal} (h : x ≤ 0) : Unit01 (Ideal.exp x) := by
  induction x using EReal.rec with
  | bot => simp [Unit01]
  | top => simp at h
  | coe r =>
    rw [Ideal.exp_coe]
    exact .of_real (Real.exp_pos r).le (Real.exp_le_one_iff.mpr (by exact_mod_cast h))

/-- `1 - e^(2 L)` as the kernel computes it. -/
def oneMinus (L : EReal) : EReal := Ideal.tanh (0 - L) * (Ideal.exp L * Ideal.exp L + 1)

theorem two : Ideal.ofBits .f32 0x40000000#32 = ((2 : ℝ) : EReal) := by
  simp [Ideal.ofBits, Ideal.ieee, -EReal.coe_mul]; norm_num

theorem oneMinus_eq {L : EReal} (h : L ≤ 0) :
    oneMinus L = -(Ideal.exp (Ideal.ofBits .f32 0x40000000#32 * L) - 1) := by
  rw [oneMinus, two]
  induction L using EReal.rec with
  | bot =>
    rw [EReal.coe_mul_bot_of_pos (by norm_num)]
    simp
  | top => simp at h
  | coe r =>
    have e : (0 : EReal) - (r : EReal) = ((-r : ℝ) : EReal) := by rw [zero_sub, EReal.coe_neg]
    rw [e, Ideal.tanh_coe, Ideal.exp_coe, ← EReal.coe_mul 2, Ideal.exp_coe, ← EReal.coe_one, ← EReal.coe_mul, ← EReal.coe_add,
      ← EReal.coe_mul, ← EReal.coe_sub, ← EReal.coe_neg]
    refine congrArg _ ?_
    rw [Real.tanh_eq_sinh_div_cosh, Real.sinh_eq, Real.cosh_eq, neg_neg, two_mul, Real.exp_add, Real.exp_neg]
    have hp := Real.exp_pos r
    have : (Real.exp r)⁻¹ + Real.exp r ≠ 0 := by positivity
    field_simp
    ring

theorem oneMinus_ne_top {L : EReal} (h : L ≤ 0) : oneMinus L ≠ ⊤ := by
  rw [oneMinus_eq h]
  have h2 : Ideal.ofBits .f32 0x40000000#32 * L ≤ 0 := by
    rw [two]; exact EReal.mul_nonpos_iff.mpr (Or.inl ⟨by exact_mod_cast (by norm_num : (0 : ℝ) ≤ 2), h⟩)
  obtain ⟨a, e, -, -⟩ := (unit_exp h2).real
  rw [e, ← EReal.coe_one, ← EReal.coe_sub, ← EReal.coe_neg]
  exact EReal.coe_ne_top _

theorem tiny_pos : ∃ t : ℝ, Ideal.ofBits .f32 0x00800000#32 = (t : EReal) ∧ 0 < t := by
  refine ⟨8388608 * (2 ^ 149)⁻¹, ?_, by positivity⟩
  simp [Ideal.ofBits, Ideal.ieee, -EReal.coe_mul]

/-- The scale's square root: a product with a reciprocal root where the square is no smaller than the bound or zero. -/
theorem root_eq {x : EReal} (hx : x ≠ ⊤) (h : Ideal.ofBits .f32 0x00800000#32 ≤ x ∨ x = 0) :
    x * Ideal.rsqrt (max x (Ideal.ofBits .f32 0x00800000#32)) = Ideal.sqrt x := by
  obtain ⟨t, ht, t0⟩ := tiny_pos
  rw [ht] at h ⊢
  rcases h with h | rfl
  · rw [max_eq_left h]
    induction x using EReal.rec with
    | bot => simp at h
    | top => exact absurd rfl hx
    | coe r =>
      have hr : t ≤ r := by exact_mod_cast h
      have r0 : 0 < r := by linarith
      rw [Ideal.rsqrt_coe, Ideal.sqrt_coe, if_neg (by linarith), if_neg r0.ne', if_neg (by linarith), ← EReal.coe_mul]
      refine congrArg _ ?_
      have := Real.sqrt_pos.mpr r0
      field_simp
      exact (Real.sq_sqrt r0.le).symm
  · rw [zero_mul]; simp [← EReal.coe_zero, Ideal.sqrt_coe]

/-! ## The scan of eight rows -/

variable (a b : ℕ → EReal)

/-- The recurrence `h ← b n + a n h`, from `x`. -/
def rec1 (x : EReal) : ℕ → EReal
  | 0 => x
  | n + 1 => b n + a n * rec1 x n

def sa (d : ℕ) (a : ℕ → EReal) (s : ℕ) : EReal := if d ≤ s then a s * a (s - d) else a s
def sb (d : ℕ) (a b : ℕ → EReal) (s : ℕ) : EReal := if d ≤ s then a s * b (s - d) + b s else b s

theorem sa_unit {a : ℕ → EReal} (d : ℕ) (h : ∀ n, Unit01 (a n)) (n : ℕ) : Unit01 (sa d a n) := by
  unfold sa; split
  · exact (h _).mul (h _)
  · exact h _

theorem scan_step {a b : ℕ → EReal} (d : ℕ) (h : ∀ n, Unit01 (a n)) (s : ℕ) (x : EReal) :
    sb d a b s + sa d a s * x = if d ≤ s then b s + a s * (b (s - d) + a (s - d) * x) else b s + a s * x := by
  unfold sb sa; split
  · rw [EReal.left_distrib_of_nonneg_of_ne_top (h s).1 (h s).ne_top, add_comm (a s * b (s - d)), add_assoc, mul_assoc]
  · rfl

theorem scan8 {a b : ℕ → EReal} (h : ∀ n, Unit01 (a n)) (x : EReal) (s : ℕ) (hs : s < 8) :
    sb 4 (sa 2 (sa 1 a)) (sb 2 (sa 1 a) (sb 1 a b)) s + sa 4 (sa 2 (sa 1 a)) s * x = rec1 a b x (s + 1) := by
  have h1 := sa_unit 1 h
  have h2 := sa_unit 2 h1
  interval_cases s <;>
    simp [scan_step 4 h2, scan_step 2 h1, scan_step 1 h, rec1]

theorem rec1_add (x : EReal) (m n : ℕ) : rec1 a b x (m + n) = rec1 (fun k => a (m + k)) (fun k => b (m + k)) (rec1 a b x m) n := by
  induction n with
  | zero => rfl
  | succ n ih => exact congrArg (fun z => b (m + n) + a (m + n) * z) ih

end Cert.Proof.Rglru

end
-- ==== Proof.RglruSpec.lean ====
module

public import proofs.«01_k».proof.Proof.RglruMath

@[expose] public section

noncomputable section

namespace Cert.Proof.Rglru

open Idealize.ShloMosaic

/-! ## The recurrent block's values over time, from its arguments -/

/-- The arguments, by time and channel. -/
structure Par where
  seq : Fin 16384 → Fin 2048 → EReal
  gate : Fin 16384 → Fin 2048 → EReal
  buf : Fin 3 → Fin 2048 → EReal
  h0 : Fin 2048 → EReal
  w : Fin 4 → Fin 2048 → EReal
  cb : Fin 2048 → EReal
  wr : Fin 16 → Fin 128 → Fin 128 → EReal
  br : Fin 2048 → EReal
  wi : Fin 16 → Fin 128 → Fin 128 → EReal
  bi : Fin 2048 → EReal
  lam : Fin 2048 → EReal

namespace Par

variable (p : Par)

/-- The convolution's input: the three rows carried in, then the sequence. -/
def pad (n : ℕ) (ch : Fin 2048) : EReal :=
  if h : n < 3 then p.buf ⟨n, h⟩ ch else if h' : n - 3 < 16384 then p.seq ⟨n - 3, h'⟩ ch else 0

/-- The convolution. -/
def cv (n : ℕ) (ch : Fin 2048) : EReal :=
  p.cb ch + p.pad n ch * p.w 0 ch + p.pad (n + 1) ch * p.w 1 ch + p.pad (n + 2) ch * p.w 2 ch + p.pad (n + 3) ch * p.w 3 ch

def hd (ch : Fin 2048) : Fin 16 := ⟨ch.val / 128, by omega⟩
def inh (ch : Fin 2048) : Fin 128 := ⟨ch.val % 128, Nat.mod_lt _ (by norm_num)⟩

/-- A gate's argument. -/
def arg (W : Fin 16 → Fin 128 → Fin 128 → EReal) (b : Fin 2048 → EReal) (n : ℕ) (ch : Fin 2048) : EReal :=
  (∑ x : Fin 128, p.cv n ⟨128 * (hd ch).val + x.val, by have := (hd ch).isLt; omega⟩ * W (hd ch) x (inh ch)) + b ch

/-- The decay's logarithm. -/
def lg (n : ℕ) (ch : Fin 2048) : EReal := logDecay (Ideal.logistic (p.arg p.wr p.br n ch)) (softplus (0 - p.lam ch))

theorem lg_nonpos (n : ℕ) (ch : Fin 2048) : p.lg n ch ≤ 0 := logDecay_nonpos (unit_logistic _) (softplus_nonneg _)

/-- The decay. -/
def al (ch : Fin 2048) (n : ℕ) : EReal := Ideal.exp (p.lg n ch)

theorem al_unit (ch : Fin 2048) (n : ℕ) : Unit01 (p.al ch n) := unit_exp (p.lg_nonpos n ch)

/-- The input's term. -/
def be (ch : Fin 2048) (n : ℕ) : EReal :=
  (if n = 0 then 1 else oneMinus (p.lg n ch) * Ideal.rsqrt (max (oneMinus (p.lg n ch)) (Ideal.ofBits .f32 0x00800000#32)))
    * Ideal.logistic (p.arg p.wi p.bi n ch) * p.cv n ch

/-- The state before time `n`. -/
def st (ch : Fin 2048) (n : ℕ) : EReal := rec1 (p.al ch) (p.be ch) (p.h0 ch) n

end Par

end Cert.Proof.Rglru

end
-- ==== Proof.RglruRefEntry.lean ====
module

public import proofs.«01_k».proof.Proof.RglruSpec
public import proofs.«01_k».proof.Proof.Gen.ReferenceIdeal.Run
@[expose] public section

set_option maxHeartbeats 4000000

set_option maxRecDepth 16384
noncomputable section
namespace Cert.Proof.RglruRef
open Cert.ReferenceIdeal Cert.ReferenceIdeal.Gen Cert.ReferenceIdeal.Value Cert.Proof.Rglru
open Idealize.ShloMosaic Idealize.ShloMosaic.TcCoe Idealize.SL.Sem Idealize.ShloMosaic.StableHlo

section

/-! The reference's values before its loop, as functions of the arguments. -/
def w_cst_1 (V : Valuation τ sig (Elt Ideal)) : FVec Ideal S_ .f32 := (constant (F := Ideal) S_ .f32 0xC1000000#32)
def w52 (V : Valuation τ sig (Elt Ideal)) : FVec Ideal S1x16384x2048 .f32 := broadcastInDim S1x16384x2048 ![] bcast_S_S1x16384x2048 (w_cst_1 V)
def w_cst_0 (V : Valuation τ sig (Elt Ideal)) : FVec Ideal S_ .f32 := (constant (F := Ideal) S_ .f32 0x3F800000#32)
def w50 (V : Valuation τ sig (Elt Ideal)) : FVec Ideal S1x16384x2048 .f32 := broadcastInDim S1x16384x2048 ![] bcast_S_S1x16384x2048 (w_cst_0 V)
def w_cst (V : Valuation τ sig (Elt Ideal)) : FVec Ideal S_ .f32 := (constant (F := Ideal) S_ .f32 0x3F800000#32)
def w48 (V : Valuation τ sig (Elt Ideal)) : FVec Ideal S1x16384x2048 .f32 := broadcastInDim S1x16384x2048 ![] bcast_S_S1x16384x2048 (w_cst V)
def w36 (V : Valuation τ sig (Elt Ideal)) : FVec Ideal S16x128x128 .f32 := shapeCast S16x128x128 (V (Proc.devRef .tc main_arg6)) shapeCasts_S1x16x128x128_S16x128x128
def w5 (V : Valuation τ sig (Elt Ideal)) : FVec Ideal S2048 .f32 := shapeCast S2048 (V (Proc.devRef .tc main_arg5)) shapeCasts_S1x2048_S2048
def w12 (V : Valuation τ sig (Elt Ideal)) : FVec Ideal S1x1x2048 .f32 := broadcastInDim S1x1x2048 ![2] bcast_S2048_S1x1x2048_2 (w5 V)
def w13 (V : Valuation τ sig (Elt Ideal)) : FVec Ideal S1x16384x2048 .f32 := broadcastInDim S1x16384x2048 ![0, 1, 2] bcast_S1x1x2048_S1x16384x2048_0_1_2 (w12 V)
def w0 (V : Valuation τ sig (Elt Ideal)) : FVec Ideal S1x16384x2048 .f32 := shapeCast S1x16384x2048 (V (Proc.devRef .tc main_arg0)) shapeCasts_S16384x2048_S1x16384x2048
def w2 (V : Valuation τ sig (Elt Ideal)) : FVec Ideal S1x16387x2048 .f32 := (fun a b => concatenate S1x16387x2048 1 [⟨S1x3x2048, a⟩, ⟨S1x16384x2048, b⟩] concatenates_S1x3x2048_S1x16384x2048_S1x16387x2048_d1) (V (Proc.devRef .tc main_arg2)) (w0 V)
def w6 (V : Valuation τ sig (Elt Ideal)) : FVec Ideal S1x16384x2048 .f32 := (extractStridedSlice S1x16384x2048 ![0, 0, 0] · slices_S1x16387x2048_S1x16384x2048_0_0_0) (w2 V)
def w4 (V : Valuation τ sig (Elt Ideal)) : FVec Ideal S4x2048 .f32 := shapeCast S4x2048 (V (Proc.devRef .tc main_arg4)) shapeCasts_S1x4x2048_S4x2048
def w7 (V : Valuation τ sig (Elt Ideal)) : FVec Ideal S1x2048 .f32 := (extractStridedSlice S1x2048 ![0, 0] · slices_S4x2048_S1x2048_0_0) (w4 V)
def w8 (V : Valuation τ sig (Elt Ideal)) : FVec Ideal S2048 .f32 := shapeCast S2048 (w7 V) shapeCasts_S1x2048_S2048
def w9 (V : Valuation τ sig (Elt Ideal)) : FVec Ideal S1x1x2048 .f32 := broadcastInDim S1x1x2048 ![2] bcast_S2048_S1x1x2048_2 (w8 V)
def w10 (V : Valuation τ sig (Elt Ideal)) : FVec Ideal S1x16384x2048 .f32 := broadcastInDim S1x16384x2048 ![0, 1, 2] bcast_S1x1x2048_S1x16384x2048_0_1_2 (w9 V)
def w11 (V : Valuation τ sig (Elt Ideal)) : FVec Ideal S1x16384x2048 .f32 := mulf (F := Ideal) (w6 V) (w10 V)
def w14 (V : Valuation τ sig (Elt Ideal)) : FVec Ideal S1x16384x2048 .f32 := addf (F := Ideal) (w13 V) (w11 V)
def w15 (V : Valuation τ sig (Elt Ideal)) : FVec Ideal S1x16384x2048 .f32 := (extractStridedSlice S1x16384x2048 ![0, 1, 0] · slices_S1x16387x2048_S1x16384x2048_0_1_0) (w2 V)
def w16 (V : Valuation τ sig (Elt Ideal)) : FVec Ideal S1x2048 .f32 := (extractStridedSlice S1x2048 ![1, 0] · slices_S4x2048_S1x2048_1_0) (w4 V)
def w17 (V : Valuation τ sig (Elt Ideal)) : FVec Ideal S2048 .f32 := shapeCast S2048 (w16 V) shapeCasts_S1x2048_S2048
def w18 (V : Valuation τ sig (Elt Ideal)) : FVec Ideal S1x1x2048 .f32 := broadcastInDim S1x1x2048 ![2] bcast_S2048_S1x1x2048_2 (w17 V)
def w19 (V : Valuation τ sig (Elt Ideal)) : FVec Ideal S1x16384x2048 .f32 := broadcastInDim S1x16384x2048 ![0, 1, 2] bcast_S1x1x2048_S1x16384x2048_0_1_2 (w18 V)
def w20 (V : Valuation τ sig (Elt Ideal)) : FVec Ideal S1x16384x2048 .f32 := mulf (F := Ideal) (w15 V) (w19 V)
def w21 (V : Valuation τ sig (Elt Ideal)) : FVec Ideal S1x16384x2048 .f32 := addf (F := Ideal) (w14 V) (w20 V)
def w22 (V : Valuation τ sig (Elt Ideal)) : FVec Ideal S1x16384x2048 .f32 := (extractStridedSlice S1x16384x2048 ![0, 2, 0] · slices_S1x16387x2048_S1x16384x2048_0_2_0) (w2 V)
def w23 (V : Valuation τ sig (Elt Ideal)) : FVec Ideal S1x2048 .f32 := (extractStridedSlice S1x2048 ![2, 0] · slices_S4x2048_S1x2048_2_0) (w4 V)
def w24 (V : Valuation τ sig (Elt Ideal)) : FVec Ideal S2048 .f32 := shapeCast S2048 (w23 V) shapeCasts_S1x2048_S2048
def w25 (V : Valuation τ sig (Elt Ideal)) : FVec Ideal S1x1x2048 .f32 := broadcastInDim S1x1x2048 ![2] bcast_S2048_S1x1x2048_2 (w24 V)
def w26 (V : Valuation τ sig (Elt Ideal)) : FVec Ideal S1x16384x2048 .f32 := broadcastInDim S1x16384x2048 ![0, 1, 2] bcast_S1x1x2048_S1x16384x2048_0_1_2 (w25 V)
def w27 (V : Valuation τ sig (Elt Ideal)) : FVec Ideal S1x16384x2048 .f32 := mulf (F := Ideal) (w22 V) (w26 V)
def w28 (V : Valuation τ sig (Elt Ideal)) : FVec Ideal S1x16384x2048 .f32 := addf (F := Ideal) (w21 V) (w27 V)
def w29 (V : Valuation τ sig (Elt Ideal)) : FVec Ideal S1x16384x2048 .f32 := (extractStridedSlice S1x16384x2048 ![0, 3, 0] · slices_S1x16387x2048_S1x16384x2048_0_3_0) (w2 V)
def w30 (V : Valuation τ sig (Elt Ideal)) : FVec Ideal S1x2048 .f32 := (extractStridedSlice S1x2048 ![3, 0] · slices_S4x2048_S1x2048_3_0) (w4 V)
def w31 (V : Valuation τ sig (Elt Ideal)) : FVec Ideal S2048 .f32 := shapeCast S2048 (w30 V) shapeCasts_S1x2048_S2048
def w32 (V : Valuation τ sig (Elt Ideal)) : FVec Ideal S1x1x2048 .f32 := broadcastInDim S1x1x2048 ![2] bcast_S2048_S1x1x2048_2 (w31 V)
def w33 (V : Valuation τ sig (Elt Ideal)) : FVec Ideal S1x16384x2048 .f32 := broadcastInDim S1x16384x2048 ![0, 1, 2] bcast_S1x1x2048_S1x16384x2048_0_1_2 (w32 V)
def w34 (V : Valuation τ sig (Elt Ideal)) : FVec Ideal S1x16384x2048 .f32 := mulf (F := Ideal) (w29 V) (w33 V)
def w35 (V : Valuation τ sig (Elt Ideal)) : FVec Ideal S1x16384x2048 .f32 := addf (F := Ideal) (w28 V) (w34 V)
def w39 (V : Valuation τ sig (Elt Ideal)) : FVec Ideal S1x16384x16x128 .f32 := shapeCast S1x16384x16x128 (w35 V) shapeCasts_S1x16384x2048_S1x16384x16x128
def w40 (V : Valuation τ sig (Elt Ideal)) : FVec Ideal S16x128x1x16384 .f32 := (fun l r => Host.dotGeneral (F := Ideal) dot_S16x128x128_S1x16384x16x128_S16x128x1x16384_1_3_2_01_0_2 none l r) (w36 V) (w39 V)
def w41 (V : Valuation τ sig (Elt Ideal)) : FVec Ideal S1x16384x16x128 .f32 := (transpose S1x16384x16x128 [2, 3, 0, 1] · transposes_S16x128x1x16384_S1x16384x16x128_2_3_0_1) (w40 V)
def w42 (V : Valuation τ sig (Elt Ideal)) : FVec Ideal S1x16384x2048 .f32 := shapeCast S1x16384x2048 (w41 V) shapeCasts_S1x16384x16x128_S1x16384x2048
def w37 (V : Valuation τ sig (Elt Ideal)) : FVec Ideal S2048 .f32 := shapeCast S2048 (V (Proc.devRef .tc main_arg7)) shapeCasts_S1x2048_S2048
def w43 (V : Valuation τ sig (Elt Ideal)) : FVec Ideal S1x1x2048 .f32 := broadcastInDim S1x1x2048 ![2] bcast_S2048_S1x1x2048_2 (w37 V)
def w44 (V : Valuation τ sig (Elt Ideal)) : FVec Ideal S1x16384x2048 .f32 := broadcastInDim S1x16384x2048 ![0, 1, 2] bcast_S1x1x2048_S1x16384x2048_0_1_2 (w43 V)
def w45 (V : Valuation τ sig (Elt Ideal)) : FVec Ideal S1x16384x2048 .f32 := addf (F := Ideal) (w42 V) (w44 V)
def w46 (V : Valuation τ sig (Elt Ideal)) : FVec Ideal S1x16384x2048 .f32 := Host.negf (F := Ideal) (w45 V)
def w47 (V : Valuation τ sig (Elt Ideal)) : FVec Ideal S1x16384x2048 .f32 := Host.exp (F := Ideal) (w46 V)
def w49 (V : Valuation τ sig (Elt Ideal)) : FVec Ideal S1x16384x2048 .f32 := addf (F := Ideal) (w48 V) (w47 V)
def w51 (V : Valuation τ sig (Elt Ideal)) : FVec Ideal S1x16384x2048 .f32 := Host.divf (F := Ideal) (w50 V) (w49 V)
def w53 (V : Valuation τ sig (Elt Ideal)) : FVec Ideal S1x16384x2048 .f32 := mulf (F := Ideal) (w52 V) (w51 V)
def w38 (V : Valuation τ sig (Elt Ideal)) : FVec Ideal S2048 .f32 := shapeCast S2048 (V (Proc.devRef .tc main_arg10)) shapeCasts_S1x2048_S2048
def w54 (V : Valuation τ sig (Elt Ideal)) : FVec Ideal S2048 .f32 := Host.negf (F := Ideal) (w38 V)
def w_call0_cst (V : Valuation τ sig (Elt Ideal)) : FVec Ideal S_ .f32 := (constant (F := Ideal) S_ .f32 0x00000000#32)
def w_call0_v2 (V : Valuation τ sig (Elt Ideal)) : FVec Ideal S2048 .f32 := (broadcastInDim S2048 ![] bcast_S_S2048) (w_call0_cst V)
def w_call0_v3 (V : Valuation τ sig (Elt Ideal)) : FVec Ideal S2048 .f32 := subf (F := Ideal) (w54 V) (w_call0_v2 V)
def w_call0_v4 (V : Valuation τ sig (Elt Ideal)) : Vec Ideal S2048 .i1 := (cmpf (F := Ideal) .une) (w_call0_v3 V) (w_call0_v3 V)
def w_call0_v5 (V : Valuation τ sig (Elt Ideal)) : FVec Ideal S2048 .f32 := (broadcastInDim S2048 ![] bcast_S_S2048) (w_call0_cst V)
def w_call0_v6 (V : Valuation τ sig (Elt Ideal)) : FVec Ideal S2048 .f32 := addf (F := Ideal) (w54 V) (w_call0_v5 V)
def w_call0_v0 (V : Valuation τ sig (Elt Ideal)) : FVec Ideal S2048 .f32 := (broadcastInDim S2048 ![] bcast_S_S2048) (w_call0_cst V)
def w_call0_v1 (V : Valuation τ sig (Elt Ideal)) : FVec Ideal S2048 .f32 := maximumf (F := Ideal) (w54 V) (w_call0_v0 V)
def w_call0_v7 (V : Valuation τ sig (Elt Ideal)) : FVec Ideal S2048 .f32 := Host.absf (F := Ideal) (w_call0_v3 V)
def w_call0_v8 (V : Valuation τ sig (Elt Ideal)) : FVec Ideal S2048 .f32 := Host.negf (F := Ideal) (w_call0_v7 V)
def w_call0_v9 (V : Valuation τ sig (Elt Ideal)) : FVec Ideal S2048 .f32 := Host.exp (F := Ideal) (w_call0_v8 V)
def w_call0_v10 (V : Valuation τ sig (Elt Ideal)) : FVec Ideal S2048 .f32 := Host.log1p (F := Ideal) (w_call0_v9 V)
def w_call0_v11 (V : Valuation τ sig (Elt Ideal)) : FVec Ideal S2048 .f32 := addf (F := Ideal) (w_call0_v1 V) (w_call0_v10 V)
def w55 (V : Valuation τ sig (Elt Ideal)) : FVec Ideal S2048 .f32 := select (w_call0_v4 V) (w_call0_v6 V) (w_call0_v11 V)
def w56 (V : Valuation τ sig (Elt Ideal)) : FVec Ideal S1x1x2048 .f32 := broadcastInDim S1x1x2048 ![2] bcast_S2048_S1x1x2048_2 (w55 V)
def w57 (V : Valuation τ sig (Elt Ideal)) : FVec Ideal S1x16384x2048 .f32 := broadcastInDim S1x16384x2048 ![0, 1, 2] bcast_S1x1x2048_S1x16384x2048_0_1_2 (w56 V)
def w58 (V : Valuation τ sig (Elt Ideal)) : FVec Ideal S1x16384x2048 .f32 := mulf (F := Ideal) (w53 V) (w57 V)
def w74 (V : Valuation τ sig (Elt Ideal)) : FVec Ideal S1x16384x2048 .f32 := Host.exp (F := Ideal) (w58 V)
def w89 (V : Valuation τ sig (Elt Ideal)) : FVec Ideal S16384x1x2048 .f32 := (transpose S16384x1x2048 [1, 0, 2] · transposes_S1x16384x2048_S16384x1x2048_1_0_2) (w74 V)
def w92_0 (V : Valuation τ sig (Elt Ideal)) : FVec Ideal S16384x1x2048 .f32 := id (w89 V)
def w_c (V : Valuation τ sig (Elt Ideal)) : Vec Ideal S_ .i32 := (constantI S_ 32 0#32)
def w76 (V : Valuation τ sig (Elt Ideal)) : Vec Ideal S16384 .i32 := broadcastInDim S16384 ![] bcast_S_S16384 (w_c V)
def w75 (V : Valuation τ sig (Elt Ideal)) : Vec Ideal S16384 .i32 := (iotaInDim S16384 32 0)
def w77 (V : Valuation τ sig (Elt Ideal)) : Vec Ideal S16384 .i32 := addi (w76 V) (w75 V)
def w_c_4 (V : Valuation τ sig (Elt Ideal)) : Vec Ideal S_ .i32 := (constantI S_ 32 0#32)
def w78 (V : Valuation τ sig (Elt Ideal)) : Vec Ideal S16384 .i32 := broadcastInDim S16384 ![] bcast_S_S16384 (w_c_4 V)
def w79 (V : Valuation τ sig (Elt Ideal)) : Vec Ideal S16384 .i1 := cmpi .eq (w77 V) (w78 V)
def w80 (V : Valuation τ sig (Elt Ideal)) : Vec Ideal S1x16384x1 .i1 := broadcastInDim S1x16384x1 ![1] bcast_S16384_S1x16384x1_1 (w79 V)
def w_call1_v1 (V : Valuation τ sig (Elt Ideal)) : Vec Ideal S1x16384x2048 .i1 := (broadcastInDim S1x16384x2048 ![0, 1, 2] bcast_S1x16384x1_S1x16384x2048_0_1_2) (w80 V)
def w_cst_6 (V : Valuation τ sig (Elt Ideal)) : FVec Ideal S_ .f32 := (constant (F := Ideal) S_ .f32 0x3F800000#32)
def w_call1_v0 (V : Valuation τ sig (Elt Ideal)) : FVec Ideal S_ .f32 := id (w_cst_6 V)
def w_call1_v2 (V : Valuation τ sig (Elt Ideal)) : FVec Ideal S1x16384x2048 .f32 := (broadcastInDim S1x16384x2048 ![] bcast_S_S1x16384x2048) (w_call1_v0 V)
def w_cst_5 (V : Valuation τ sig (Elt Ideal)) : FVec Ideal S_ .f32 := (constant (F := Ideal) S_ .f32 0x40000000#32)
def w81 (V : Valuation τ sig (Elt Ideal)) : FVec Ideal S1x16384x2048 .f32 := broadcastInDim S1x16384x2048 ![] bcast_S_S1x16384x2048 (w_cst_5 V)
def w82 (V : Valuation τ sig (Elt Ideal)) : FVec Ideal S1x16384x2048 .f32 := mulf (F := Ideal) (w81 V) (w58 V)
def w83 (V : Valuation τ sig (Elt Ideal)) : FVec Ideal S1x16384x2048 .f32 := Host.expm1 (F := Ideal) (w82 V)
def w84 (V : Valuation τ sig (Elt Ideal)) : FVec Ideal S1x16384x2048 .f32 := Host.negf (F := Ideal) (w83 V)
def w85 (V : Valuation τ sig (Elt Ideal)) : FVec Ideal S1x16384x2048 .f32 := Host.sqrt (F := Ideal) (w84 V)
def w86 (V : Valuation τ sig (Elt Ideal)) : FVec Ideal S1x16384x2048 .f32 := select (w_call1_v1 V) (w_call1_v2 V) (w85 V)
def w_cst_3 (V : Valuation τ sig (Elt Ideal)) : FVec Ideal S_ .f32 := (constant (F := Ideal) S_ .f32 0x3F800000#32)
def w72 (V : Valuation τ sig (Elt Ideal)) : FVec Ideal S1x16384x2048 .f32 := broadcastInDim S1x16384x2048 ![] bcast_S_S1x16384x2048 (w_cst_3 V)
def w_cst_2 (V : Valuation τ sig (Elt Ideal)) : FVec Ideal S_ .f32 := (constant (F := Ideal) S_ .f32 0x3F800000#32)
def w70 (V : Valuation τ sig (Elt Ideal)) : FVec Ideal S1x16384x2048 .f32 := broadcastInDim S1x16384x2048 ![] bcast_S_S1x16384x2048 (w_cst_2 V)
def w60 (V : Valuation τ sig (Elt Ideal)) : FVec Ideal S16x128x128 .f32 := shapeCast S16x128x128 (V (Proc.devRef .tc main_arg8)) shapeCasts_S1x16x128x128_S16x128x128
def w59 (V : Valuation τ sig (Elt Ideal)) : FVec Ideal S1x16384x16x128 .f32 := shapeCast S1x16384x16x128 (w35 V) shapeCasts_S1x16384x2048_S1x16384x16x128
def w61 (V : Valuation τ sig (Elt Ideal)) : FVec Ideal S16x128x1x16384 .f32 := (fun l r => Host.dotGeneral (F := Ideal) dot_S16x128x128_S1x16384x16x128_S16x128x1x16384_1_3_2_01_0_2 none l r) (w60 V) (w59 V)
def w62 (V : Valuation τ sig (Elt Ideal)) : FVec Ideal S1x16384x16x128 .f32 := (transpose S1x16384x16x128 [2, 3, 0, 1] · transposes_S16x128x1x16384_S1x16384x16x128_2_3_0_1) (w61 V)
def w63 (V : Valuation τ sig (Elt Ideal)) : FVec Ideal S1x16384x2048 .f32 := shapeCast S1x16384x2048 (w62 V) shapeCasts_S1x16384x16x128_S1x16384x2048
def w64 (V : Valuation τ sig (Elt Ideal)) : FVec Ideal S2048 .f32 := shapeCast S2048 (V (Proc.devRef .tc main_arg9)) shapeCasts_S1x2048_S2048
def w65 (V : Valuation τ sig (Elt Ideal)) : FVec Ideal S1x1x2048 .f32 := broadcastInDim S1x1x2048 ![2] bcast_S2048_S1x1x2048_2 (w64 V)
def w66 (V : Valuation τ sig (Elt Ideal)) : FVec Ideal S1x16384x2048 .f32 := broadcastInDim S1x16384x2048 ![0, 1, 2] bcast_S1x1x2048_S1x16384x2048_0_1_2 (w65 V)
def w67 (V : Valuation τ sig (Elt Ideal)) : FVec Ideal S1x16384x2048 .f32 := addf (F := Ideal) (w63 V) (w66 V)
def w68 (V : Valuation τ sig (Elt Ideal)) : FVec Ideal S1x16384x2048 .f32 := Host.negf (F := Ideal) (w67 V)
def w69 (V : Valuation τ sig (Elt Ideal)) : FVec Ideal S1x16384x2048 .f32 := Host.exp (F := Ideal) (w68 V)
def w71 (V : Valuation τ sig (Elt Ideal)) : FVec Ideal S1x16384x2048 .f32 := addf (F := Ideal) (w70 V) (w69 V)
def w73 (V : Valuation τ sig (Elt Ideal)) : FVec Ideal S1x16384x2048 .f32 := Host.divf (F := Ideal) (w72 V) (w71 V)
def w87 (V : Valuation τ sig (Elt Ideal)) : FVec Ideal S1x16384x2048 .f32 := mulf (F := Ideal) (w86 V) (w73 V)
def w88 (V : Valuation τ sig (Elt Ideal)) : FVec Ideal S1x16384x2048 .f32 := mulf (F := Ideal) (w87 V) (w35 V)
def w90 (V : Valuation τ sig (Elt Ideal)) : FVec Ideal S16384x1x2048 .f32 := (transpose S16384x1x2048 [1, 0, 2] · transposes_S1x16384x2048_S16384x1x2048_1_0_2) (w88 V)
def w92_1 (V : Valuation τ sig (Elt Ideal)) : FVec Ideal S16384x1x2048 .f32 := id (w90 V)
def w92_3 (V : Valuation τ sig (Elt Ideal)) : FVec Ideal S1x2048 .f32 := id (V (Proc.devRef .tc main_arg3))
def w3 (V : Valuation τ sig (Elt Ideal)) : FVec Ideal S1x3x2048 .f32 := (extractStridedSlice S1x3x2048 ![0, 16384, 0] · slices_S1x16387x2048_S1x3x2048_0_16384_0) (w2 V)
def w1 (V : Valuation τ sig (Elt Ideal)) : FVec Ideal S1x16384x2048 .f32 := shapeCast S1x16384x2048 (V (Proc.devRef .tc main_arg1)) shapeCasts_S16384x2048_S1x16384x2048
def w_c_8 (V : Valuation τ sig (Elt Ideal)) : Vec Ideal S_ .i32 := (constantI S_ 32 0#32)
def w92_2 (V : Valuation τ sig (Elt Ideal)) : Vec Ideal S_ .i32 := id (w_c_8 V)

end

variable (m : (ℓ : Loc nD τ sig) → Buf (Elt Ideal) ℓ) (c : Dev nD)
theorem entry0 : entryContents preI m c (Proc.devRef .tc main_v92_0) = w92_0 (fun b => m (c, b)) := by
  simp only [entryContents, afterL_cons, afterL_nil]
  after_reads_simp
  sl_kernel_rfl
theorem entry1 : entryContents preI m c (Proc.devRef .tc main_v92_1) = w92_1 (fun b => m (c, b)) := by
  simp only [entryContents, afterL_cons, afterL_nil]
  after_reads_simp
  sl_kernel_rfl
theorem entry3 : entryContents preI m c (Proc.devRef .tc main_v92_3) = w92_3 (fun b => m (c, b)) := by
  simp only [entryContents, afterL_cons, afterL_nil]
  after_reads_simp
  sl_kernel_rfl

theorem entry_v3 : entryContents preI m c (Proc.devRef .tc main_v3) = w3 (fun b => m (c, b)) := by
  simp only [entryContents, afterL_cons, afterL_nil]
  after_reads_simp
  sl_kernel_rfl
theorem entry_v1 : entryContents preI m c (Proc.devRef .tc main_v1) = w1 (fun b => m (c, b)) := by
  simp only [entryContents, afterL_cons, afterL_nil]
  after_reads_simp
  sl_kernel_rfl

end Cert.Proof.RglruRef

end
-- ==== Proof.RglruRefAt.lean ====
module

public import proofs.«01_k».proof.Proof.RglruRefEntry
public import proofs.«01_k».proof.Pre_scale_normal
public import Idealize.ShloMosaic.Lib.ReduceAll
public import Idealize.ShloMosaic.Lib.WordCmp
@[expose] public section

set_option maxRecDepth 16384
noncomputable section
namespace Cert.Proof.RglruRef
open Cert.ReferenceIdeal Cert.ReferenceIdeal.Gen Cert.ReferenceIdeal.Value Cert.Proof.Rglru
open Idealize.ShloMosaic Idealize.ShloMosaic.TcCoe Idealize.SL.Sem Idealize.ShloMosaic.StableHlo

variable (V : Valuation τ sig (Elt Ideal))

/-- The arguments, by time and channel. -/
def parV : Par where
  seq n ch := V (Proc.devRef .tc main_arg0) (ix2 n ch)
  gate n ch := V (Proc.devRef .tc main_arg1) (ix2 n ch)
  buf n ch := V (Proc.devRef .tc main_arg2) (ix3 0 n ch)
  h0 ch := V (Proc.devRef .tc main_arg3) (ix2 0 ch)
  w n ch := V (Proc.devRef .tc main_arg4) (ix3 0 n ch)
  cb ch := V (Proc.devRef .tc main_arg5) (ix2 0 ch)
  wr g x y := V (Proc.devRef .tc main_arg6) (ix4 0 g x y)
  br ch := V (Proc.devRef .tc main_arg7) (ix2 0 ch)
  wi g x y := V (Proc.devRef .tc main_arg8) (ix4 0 g x y)
  bi ch := V (Proc.devRef .tc main_arg9) (ix2 0 ch)
  lam ch := V (Proc.devRef .tc main_arg10) (ix2 0 ch)

theorem w2_at (n : ℕ) (hn : n < 16387) (ch : Fin 2048) : w2 V (ix3 0 ⟨n, hn⟩ ch) = (parV V).pad n ch := by
  unfold w2 Par.pad
  by_cases h : n < 3
  · rw [dif_pos h]
    pointwise [parV, h]
  · rw [dif_neg h, dif_pos (by omega)]
    pointwise [w0, parV, h]

theorem w35_at (n : Fin 16384) (ch : Fin 2048) : w35 V (ix3 0 n ch) = (parV V).cv n ch := by
  unfold Par.cv
  rw [Nat.add_comm (n : ℕ) 1, Nat.add_comm (n : ℕ) 2, Nat.add_comm (n : ℕ) 3, ← w2_at V n (by omega), ← w2_at V (1 + n) (by omega), ← w2_at V (2 + n) (by omega), ← w2_at V (3 + n) (by omega)]
  pointwise [w35, w34, w33, w32, w31, w30, w29, w28, w27, w26, w25, w24, w23, w22, w21, w20, w19, w18, w17, w16, w15, w14, w13, w12, w11, w10, w9, w8, w7, w6, w5, w4, parV]

theorem w45_at (n : Fin 16384) (ch : Fin 2048) : w45 V (ix3 0 n ch) = (parV V).arg (parV V).wr (parV V).br n ch := by
  unfold Par.arg
  obtain ⟨q, s, rfl⟩ : ∃ (q : Fin 16) (s : Fin 128), ch = ⟨q * 128 + s, by omega⟩ := ⟨⟨ch / 128, by omega⟩, ⟨ch % 128, by omega⟩, Fin.ext (by simp only []; omega)⟩
  have hq : Par.hd ⟨q * 128 + s, by omega⟩ = q := Fin.ext (by simp only [Par.hd]; omega)
  have hs : Par.inh ⟨q * 128 + s, by omega⟩ = s := Fin.ext (by simp only [Par.inh]; omega)
  pointwise [w45, w44, w43, w42, w41, w40, w39, w37, w36]
  refine congrArg₂ (@HAdd.hAdd EReal EReal EReal _) (Finset.sum_congr rfl fun x _ => ?_) rfl
  rw [w35_at, mul_comm, hs]
  exact congrArg₂ (@HMul.hMul EReal EReal EReal _) (congrArg _ (Fin.ext (by simp only [Par.hd]; omega))) (by rw [hq]; rfl)

theorem w67_at (n : Fin 16384) (ch : Fin 2048) : w67 V (ix3 0 n ch) = (parV V).arg (parV V).wi (parV V).bi n ch := by
  unfold Par.arg
  obtain ⟨q, s, rfl⟩ : ∃ (q : Fin 16) (s : Fin 128), ch = ⟨q * 128 + s, by omega⟩ := ⟨⟨ch / 128, by omega⟩, ⟨ch % 128, by omega⟩, Fin.ext (by simp only []; omega)⟩
  have hq : Par.hd ⟨q * 128 + s, by omega⟩ = q := Fin.ext (by simp only [Par.hd]; omega)
  have hs : Par.inh ⟨q * 128 + s, by omega⟩ = s := Fin.ext (by simp only [Par.inh]; omega)
  pointwise [w67, w66, w65, w63, w62, w61, w59, w64, w60]
  refine congrArg₂ (@HAdd.hAdd EReal EReal EReal _) (Finset.sum_congr rfl fun x _ => ?_) rfl
  rw [w35_at, mul_comm, hs]
  exact congrArg₂ (@HMul.hMul EReal EReal EReal _) (congrArg _ (Fin.ext (by simp only [Par.hd]; omega))) (by rw [hq]; rfl)

theorem w51_at (n : Fin 16384) (ch : Fin 2048) : w51 V (ix3 0 n ch) = Ideal.logistic ((parV V).arg (parV V).wr (parV V).br n ch) := by
  rw [← w45_at]
  pointwise [w51, w50, w49, w48, w47, w46, w_cst, w_cst_0]
  rfl

theorem w73_at (n : Fin 16384) (ch : Fin 2048) : w73 V (ix3 0 n ch) = Ideal.logistic ((parV V).arg (parV V).wi (parV V).bi n ch) := by
  rw [← w67_at]
  pointwise [w73, w72, w71, w70, w69, w68, w_cst_2, w_cst_3]
  rfl

theorem w55_at (ch : Fin 2048) : w55 V (ix1 ch) = softplus (0 - (parV V).lam ch) := by
  pointwise [w55, w54, w38, w_call0_v0, w_call0_v1, w_call0_v2, w_call0_v3, w_call0_v4, w_call0_v5, w_call0_v6, w_call0_v7, w_call0_v8, w_call0_v9, w_call0_v10, w_call0_v11, w_call0_cst, parV, softplus]
  rw [if_neg (fun h => h rfl)]
  simp only [zero_sub]
  rfl

theorem w58_at (n : Fin 16384) (ch : Fin 2048) : w58 V (ix3 0 n ch) = (parV V).lg n ch := by
  unfold Par.lg logDecay
  rw [← w51_at, ← w55_at]
  pointwise [w58, w57, w56, w53, w52, w_cst_1]

theorem w84_at (n : Fin 16384) (ch : Fin 2048) : w84 V (ix3 0 n ch) = oneMinus ((parV V).lg n ch) := by
  rw [oneMinus_eq ((parV V).lg_nonpos n ch), ← w58_at]
  pointwise [w84, w83, w82, w81, w_cst_5]

theorem alpha_at (n : Fin 16384) (ch : Fin 2048) : w92_0 V (ix3 n 0 ch) = (parV V).al ch n := by
  unfold Par.al
  rw [← w58_at, show w92_0 V = w89 V from rfl]
  pointwise [w89, w74]

theorem h0_at (ch : Fin 2048) : w92_3 V (ix2 0 ch) = (parV V).h0 ch := rfl

theorem gate_at (n : Fin 16384) (ch : Fin 2048) : w1 V (ix3 0 n ch) = (parV V).gate n ch := by
  pointwise [w1, parV]

theorem nbuf_at (r : Fin 3) (ch : Fin 2048) : w3 V (ix3 0 r ch) = (parV V).pad (16384 + r) ch := by
  rw [← w2_at V (16384 + r) (by omega)]
  pointwise [w3]

theorem mask_at (n : Fin 16384) (ch : Fin 2048) : w86 V (ix3 0 n ch) = if n.val = 0 then 1 else Ideal.sqrt (oneMinus ((parV V).lg n ch)) := by
  rw [← w84_at]
  pointwise [w86, w85, w_call1_v0, w_call1_v1, w_call1_v2, w80, w79, w78, w77, w76, w75, w_c, w_c_4, w_cst_6]
  rw [show id (constant (F := Ideal) S_ FTy.f32 1065353216#32) ix0 = (1 : EReal) from by rw [id]; pointwise]
  by_cases h : n.val = 0
  · rw [if_pos h, h]
    rfl
  · rw [if_neg h]
    have e : IntOp.cmpi CmpIPredicate.eq (IntOp.addi (0#32) (BitVec.ofNat 32 n.val)) 0#32 = 0#1 := by
      have hne : IntOp.addi (0#32) (BitVec.ofNat 32 n.val) ≠ 0#32 := by
        intro hh
        have h2 := congrArg BitVec.toNat hh
        simp [IntOp.addi] at h2
        omega
      have hb : (IntOp.addi (0#32) (BitVec.ofNat 32 n.val) == 0#32) = false := beq_eq_false_iff_ne.mpr hne
      exact congrArg BitVec.ofBool hb
    rw [e]
    rfl

theorem beta_at (n : Fin 16384) (ch : Fin 2048)
    (h : Ideal.ofBits .f32 0x00800000#32 ≤ oneMinus ((parV V).lg n ch) ∨ oneMinus ((parV V).lg n ch) = 0) :
    w92_1 V (ix3 n 0 ch) = (parV V).be ch n := by
  unfold Par.be
  rw [root_eq (oneMinus_ne_top ((parV V).lg_nonpos n ch)) h, ← mask_at, ← w73_at, ← w35_at]
  rw [show w92_1 V = w90 V from rfl]
  pointwise [w90, w88, w87]

/-! ## The precondition -/

theorem pre_at [hF : Cert.Pre_scale_normal.Facts]
    (h : Cert.Pre_scale_normal.fn (F := Ideal) (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7)) (V (Proc.devRef .tc main_arg8))
      (V (Proc.devRef .tc main_arg9)) (V (Proc.devRef .tc main_arg10)) = fun _ => 1#1) (n : Fin 16384) (ch : Fin 2048) :
    Ideal.ofBits .f32 0x00800000#32 ≤ oneMinus ((parV V).lg n ch) ∨ oneMinus ((parV V).lg n ch) = 0 := by
  have e : Cert.Pre_scale_normal.fn (F := Ideal) (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7)) (V (Proc.devRef .tc main_arg8))
      (V (Proc.devRef .tc main_arg9)) (V (Proc.devRef .tc main_arg10))
      = Host.reduce IntOp.andi (ori (cmpf (F := Ideal) .oge (w84 V) (broadcastInDim S1x16384x2048 ![] bcast_S_S1x16384x2048 (constant (F := Ideal) S_ .f32 0x00800000#32)))
          (cmpf (F := Ideal) .oeq (w84 V) (broadcastInDim S1x16384x2048 ![] bcast_S_S1x16384x2048 (constant (F := Ideal) S_ .f32 0x00000000#32))))
          (constantI S_ 1 1#1) Cert.Pre_scale_normal.Facts.reducesTo_S1x16384x2048_S_d0_1_2 Cert.Pre_scale_normal.Facts.h_S_ := by
    sl_kernel_rfl
  rw [e] at h
  have : Subsingleton S_.Idx := ⟨fun a b => funext fun k => k.elim0⟩
  have h1 := Host.reduce_andi_all _ _ _ _ ix0 (congrFun h ix0) (ix3 0 n ch)
  rw [← w84_at]
  revert h1
  pointwise []
  rw [WordCmp.ori_ofBool]
  intro h2
  by_contra hn
  rw [not_or] at hn
  simp [hn.1, hn.2] at h2

end Cert.Proof.RglruRef

end
-- ==== Proof.RglruLoop.lean ====
module

public import proofs.«01_k».proof.Proof.RglruSpec
public import proofs.«01_k».proof.Proof.Gen.ReferenceIdeal.Run
public import Idealize.ShloMosaic.Lib.DynamicIndex
public import Idealize.ShloMosaic.Lib.WordCmp
@[expose] public section

set_option maxRecDepth 16384
noncomputable section
namespace Cert.Proof.RglruRef
open Cert.ReferenceIdeal Cert.ReferenceIdeal.Gen Cert.ReferenceIdeal.Value Cert.Proof.Rglru
open Idealize.ShloMosaic Idealize.ShloMosaic.TcCoe Idealize.SL.Sem Idealize.ShloMosaic.StableHlo

/-! ## One trip -/

/-- A trip's start, as the loop passes it. -/
def start (i : Vec Ideal S_ .i32) : Fin 3 → Int :=
  fun k => (((![i, constantI S_ 32 0#32, constantI S_ 32 0#32] : Fin 3 → (⟨S_, .i32⟩ : BufTy).Contents (Elt Ideal))) k (Shape.Idx.first h_S_)).toInt

theorem start_eq (i : Vec Ideal S_ .i32) (n : ℕ) (hn : n < 16384) (hi : i = fun _ => BitVec.ofNat 32 n) (a : Fin 3) :
    start i a = ((![n, 0, 0] : Fin 3 → ℕ) a : Int) := by
  subst hi
  match a with
  | 0 =>
    show (BitVec.ofNat 32 n).toInt = (n : Int)
    rw [BitVec.toInt_eq_toNat_cond, BitVec.toNat_ofNat, Nat.mod_eq_of_lt (by omega), if_pos (by omega)]
  | 1 => rfl
  | 2 => rfl

theorem row_slices (n : ℕ) (hn : n < 16384) : S16384x1x2048.Slices ![n, 0, 0] S1x1x2048 :=
  ⟨rfl, fun a => by match a with
    | 0 => show n + 1 ≤ 16384; omega
    | 1 => show 0 + 1 ≤ 1; omega
    | 2 => show 0 + 2048 ≤ 2048; omega⟩

theorem row_at (X : FVec Ideal S16384x1x2048 .f32) (i : Vec Ideal S_ .i32) (n : ℕ) (hn : n < 16384) (hi : i = fun _ => BitVec.ofNat 32 n) (ch : Fin 2048) :
    shapeCast S1x2048 (Host.dynamicSlice S1x1x2048 X (start i) sliceFits_S16384x1x2048_S1x1x2048) shapeCasts_S1x1x2048_S1x2048 (ix2 0 ch) = X (ix3 ⟨n, hn⟩ 0 ch) := by
  rw [Host.dynamicSlice_eq_extractStridedSlice S1x1x2048 X (start i) ![n, 0, 0] _ (row_slices n hn) (start_eq i n hn hi)]
  have e : ∀ Y : FVec Ideal S1x1x2048 .f32, shapeCast S1x2048 Y shapeCasts_S1x1x2048_S1x2048 (ix2 0 ch) = Y (ix3 0 0 ch) := fun Y => by pointwise
  rw [e]
  refine congrArg X ?_
  blk_ext
  all_goals (first | rfl | (show n + 0 = n; omega) | (show 0 + ch.val = ch.val; omega))

theorem put_at (X : FVec Ideal S16384x1x2048 .f32) (y : FVec Ideal S1x2048 .f32) (i : Vec Ideal S_ .i32) (n : ℕ) (hn : n < 16384) (hi : i = fun _ => BitVec.ofNat 32 n)
    (k : Fin 16384) (ch : Fin 2048) :
    Host.dynamicUpdateSlice X (broadcastInDim S1x1x2048 ![1, 2] bcast_S1x2048_S1x1x2048_1_2 y) (start i) updateFits_S16384x1x2048_S1x1x2048 (ix3 k 0 ch)
      = if k.val = n then y (ix2 0 ch) else X (ix3 k 0 ch) := by
  rw [WordCmp.dynamicUpdateSlice_eq_update X _ (start i) _ ![n, 0, 0] (row_slices n hn) (start_eq i n hn hi)]
  unfold updateSlice
  by_cases hk : k.val = n
  · rw [if_pos hk, dif_pos ?_]
    · have e : ∀ j : S1x1x2048.Idx, (j 2).val = ch.val → broadcastInDim S1x1x2048 ![1, 2] bcast_S1x2048_S1x1x2048_1_2 y j = y (ix2 0 ch) := fun j hj => by
        obtain ⟨a, b, d, rfl⟩ : ∃ a b d, j = ix3 a b d := ⟨j 0, j 1, j 2, by blk_ext⟩
        have hd : d = ch := Fin.ext hj
        subst hd
        have hb : b = 0 := Subsingleton.elim _ _
        subst hb
        pointwise
      refine e _ ?_
      rfl
    · intro a
      match a with
      | 0 => show n ≤ k.val ∧ k.val < n + 1; omega
      | 1 => show 0 ≤ 0 ∧ 0 < 0 + 1; omega
      | 2 => show 0 ≤ ch.val ∧ ch.val < 0 + 2048; omega
  · rw [if_neg hk, dif_neg ?_]
    intro h
    have h0 : n ≤ k.val ∧ k.val < n + 1 := h 0
    omega

theorem v100_at (V : Valuation τ sig (Elt Ideal)) (n : ℕ) (hn : n < 16384) (hi : V (Proc.devRef .tc main_v92_2) = fun _ => BitVec.ofNat 32 n) (ch : Fin 2048) :
    res_main_while0b_v100 V (ix2 0 ch) = @HAdd.hAdd EReal EReal EReal _ (@HMul.hMul EReal EReal EReal _ (V (Proc.devRef .tc main_v92_0) (ix3 ⟨n, hn⟩ 0 ch)) (V (Proc.devRef .tc main_v92_3) (ix2 0 ch)))
      (V (Proc.devRef .tc main_v92_1) (ix3 ⟨n, hn⟩ 0 ch)) := by
  rw [← row_at (V (Proc.devRef .tc main_v92_0)) _ n hn hi ch, ← row_at (V (Proc.devRef .tc main_v92_1)) _ n hn hi ch]
  rfl

variable (m : (ℓ : Loc nD τ sig) → Buf (Elt Ideal) ℓ) (c : Dev nD)

/-- The carried buffers after `n` trips. -/
def trips (n : ℕ) : Valuation τ sig (Elt Ideal) := STEP^[n] (entryContents preI m c)

theorem trips_succ (n : ℕ) : trips m c (n + 1) = STEP (trips m c n) := Function.iterate_succ_apply' _ _ _

theorem trips0 (n : ℕ) : trips m c n (Proc.devRef .tc main_v92_0) = entryContents preI m c (Proc.devRef .tc main_v92_0) := by
  induction n with
  | zero => rfl
  | succ n ih => rw [trips_succ, STEP_main_v92_0, ih]

theorem trips1 (n : ℕ) : trips m c n (Proc.devRef .tc main_v92_1) = entryContents preI m c (Proc.devRef .tc main_v92_1) := by
  induction n with
  | zero => rfl
  | succ n ih => rw [trips_succ, STEP_main_v92_1, ih]

theorem trips2 (n : ℕ) : trips m c n (Proc.devRef .tc main_v92_2) = fun _ => BitVec.ofNat 32 n := by
  induction n with
  | zero => exact ctr_entry m c
  | succ n ih =>
    rw [trips_succ, STEP_main_v92_2, step_main_v92_2, ih]
    funext j
    exact (BitVec.ofNat_add n 1).symm

variable (α β : Fin 2048 → ℕ → EReal) (x : Fin 2048 → EReal)
  (ha : ∀ (n : Fin 16384) (ch : Fin 2048), entryContents preI m c (Proc.devRef .tc main_v92_0) (ix3 n 0 ch) = α ch n)
  (hb : ∀ (n : Fin 16384) (ch : Fin 2048), entryContents preI m c (Proc.devRef .tc main_v92_1) (ix3 n 0 ch) = β ch n)
  (hx : ∀ ch : Fin 2048, entryContents preI m c (Proc.devRef .tc main_v92_3) (ix2 0 ch) = x ch)
include ha hb hx

/-- The state after `n` trips. -/
theorem state_at (n : ℕ) : n ≤ 16384 → ∀ ch : Fin 2048, trips m c n (Proc.devRef .tc main_v92_3) (ix2 0 ch) = rec1 (α ch) (β ch) (x ch) n := by
  induction n with
  | zero => exact fun _ ch => hx ch
  | succ n ih =>
    intro hn ch
    rw [trips_succ, STEP_main_v92_3, step_main_v92_3]
    refine (v100_at _ n hn (trips2 m c n) ch).trans ?_
    rw [trips0, trips1, ih (by omega) ch]
    rw [ha, hb]
    exact add_comm (G := EReal) _ _

/-- The rows stored in `n` trips. -/
theorem rows_at (n : ℕ) : n ≤ 16384 → ∀ (k : Fin 16384) (ch : Fin 2048), k.val < n →
    trips m c n (Proc.devRef .tc main_v92_4) (ix3 k 0 ch) = rec1 (α ch) (β ch) (x ch) (k + 1) := by
  induction n with
  | zero => exact fun _ k ch hk => absurd hk (Nat.not_lt_zero _)
  | succ n ih =>
    intro hn k ch hk
    have hs := state_at m c α β x ha hb hx (n + 1) hn ch
    rw [trips_succ, STEP_main_v92_3, step_main_v92_3] at hs
    rw [trips_succ, STEP_main_v92_4, step_main_v92_4]
    refine (put_at _ (res_main_while0b_v100 (trips m c n)) _ n hn (trips2 m c n) k ch).trans ?_
    by_cases e : k.val = n
    · rw [if_pos e, e]; exact hs
    · rw [if_neg e]; exact ih (by omega) k ch (by omega)

end Cert.Proof.RglruRef

end
-- ==== Proof.RglruRunA.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Rglru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first grid coordinate along time is zero: the body's one branch. -/
abbrev First (i : grid0.Coords) : Prop :=
  Scalar.cmpi .ne (Scalar.extui (Scalar.cmpi .eq (BitVec.ofNat 32 (i 2).val) 0#32)) 0#32 = 1#1

/-- The eight rows at the head of the window scratch, which one point leaves for the next. -/
abbrev headRows (p : Vec F S8x1024 .f32) : View.Piece (Elt F) S272x1024 .f32 :=
  ⟨Rect.unit (s := S272x1024) ![0, 0] S8x1024.size inb_S272x1024_S8x1024_0_0, p⟩

/-- The state row, as the one store that fills it. -/
abbrev stateRow (h : Vec F S1x1024 .f32) : View.Piece (Elt F) S1x1024 .f32 :=
  ⟨Rect.unit (s := S1x1024) ![0, 0] S1x1024.size inb_S1x1024_S1x1024_0_0, h⟩

/-- The stores before the last one to the head rows are part of what the buffer held. -/
theorem headRows_last (c : Dev nD) (M : Memref sig .tc .vmem S272x1024 .f32) (f : Buf (Elt F) (M.view.loc (c : Thread nD τ)))
    (L : List (View.Piece (Elt F) S272x1024 .f32)) (q : Vec F S8x1024 .f32) :
    (M.view.loc (c : Thread nD τ) ↦[M.view.set]{fullShare} M.view.writes (Elt F) f (headRows q :: L) : sProp 𝕄)
      ⊢ iprop(∃ f, M.view.loc (c : Thread nD τ) ↦[M.view.set]{fullShare} M.view.writes (Elt F) f [headRows q]) := by
  iintro H; iexists M.view.writes (Elt F) f L; iexact H

/-- The same for the state row. -/
theorem stateRow_last (c : Dev nD) (M : Memref sig .tc .vmem S1x1024 .f32) (f : Buf (Elt F) (M.view.loc (c : Thread nD τ)))
    (L : List (View.Piece (Elt F) S1x1024 .f32)) (q : Vec F S1x1024 .f32) :
    (M.view.loc (c : Thread nD τ) ↦[M.view.set]{fullShare} M.view.writes (Elt F) f (stateRow q :: L) : sProp 𝕄)
      ⊢ iprop(∃ f, M.view.loc (c : Thread nD τ) ↦[M.view.set]{fullShare} M.view.writes (Elt F) f [stateRow q]) := by
  iintro H; iexists M.view.writes (Elt F) f L; iexact H

set_option maxHeartbeats 2000000 in
/-- The body at a point that starts a sequence, run once at symbolic operands: the pieces it leaves in the three
    outputs, the head rows and the state it leaves for the next point, and the proof that it leaves them. The window
    scratch and the state may hold anything before. -/
noncomputable def runA (c : Dev nD) (i : grid0.Coords) (arg3 : Memref sig .tc .vmem S1x256x1024 .f32) (harg3 : arg3.IsWhole) (arg4 : Memref sig .tc .vmem S1x256x1024 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128x128 .bf16) (harg12 : arg12.IsWhole) (arg13 : Memref sig .tc .vmem S8x128x128 .bf16) (harg13 : arg13.IsWhole) (arg14 : Memref sig .tc .vmem S1x256x1024 .bf16) (harg14 : arg14.IsWhole) (arg15 : Memref sig .tc .vmem S1x1x1024 .f32) (harg15 : arg15.IsWhole) (arg16 : Memref sig .tc .vmem S1x3x1024 .f32) (harg16 : arg16.IsWhole) (arg17 : Memref sig .tc .vmem S272x1024 .f32) (harg17 : arg17.IsWhole) (arg18 : Memref sig .tc .vmem S1x1024 .f32) (harg18 : arg18.IsWhole) (hc : First i)
    (x0 : Vec F S1x256x1024 .f32) (x1 : Vec F S1x256x1024 .f32) (x2 : Vec F S1x3x1024 .f32) (x3 : Vec F S1x1x1024 .f32) (x4 : Vec F S4x1024 .f32) (x5 : Vec F S1x1024 .f32) (x6 : Vec F S1x1024 .f32) (x7 : Vec F S1x1024 .f32) (x8 : Vec F S1x1024 .f32) (x9 : Vec F S8x128x128 .bf16) (x10 : Vec F S8x128x128 .bf16) :
    { W : List (View.Piece (Elt F) S1x256x1024 .bf16) × List (View.Piece (Elt F) S1x1x1024 .f32) × List (View.Piece (Elt F) S1x3x1024 .f32) × Vec F S8x1024 .f32 × Vec F S1x1024 .f32 //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f W.1) ∗ (∃ f, arg15.view.loc (c : Thread nD τ) ↦[arg15.view.set]{fullShare} arg15.view.writes (Elt F) f W.2.1) ∗ (∃ f, arg16.view.loc (c : Thread nD τ) ↦[arg16.view.set]{fullShare} arg16.view.writes (Elt F) f W.2.2.1) ∗ (∃ f, arg17.view.loc (c : Thread nD τ) ↦[arg17.view.set]{fullShare} arg17.view.writes (Elt F) f [headRows W.2.2.2.1]) ∗ (∃ f, arg18.view.loc (c : Thread nD τ) ↦[arg18.view.set]{fullShare} arg18.view.writes (Elt F) f [stateRow W.2.2.2.2])) -∗ K ⟨⟩))
          ⊢ wp frame (wpE (defs₀ (F := F)) Variants.none c none) E (cc0_rglru i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_, ?_⟩, fun E K => ?run⟩
  case run =>
    simp only [cc0_rglru_eq_skeleton]; unfold cc0_rglru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d14, %f14, -, H14⟩, ⟨%d15, %f15, -, H15⟩, ⟨%d16, %f16, -, H16⟩, ⟨%d17, %f17, -, H17⟩, ⟨%d18, %f18, -, H18⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H14]; · iexists _; iexact H14
    isplitl [H15]; · iexists _; iexact H15
    isplitl [H16]; · iexists _; iexact H16
    isplitl [H17]; · iapply headRows_last; iexact H17
    iapply stateRow_last; iexact H18

end Cert.Proof.Rglru

end
-- ==== Proof.RglruRunB.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import proofs.«01_k».proof.Proof.RglruRunA

@[expose] public section

set_option maxRecDepth 16384

noncomputable section

namespace Cert.Proof.Rglru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body at a later point of a sequence: as `runA`, over the head rows `p` and the state `h` the point before left. -/
noncomputable def runB (c : Dev nD) (i : grid0.Coords) (arg3 : Memref sig .tc .vmem S1x256x1024 .f32) (harg3 : arg3.IsWhole) (arg4 : Memref sig .tc .vmem S1x256x1024 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128x128 .bf16) (harg12 : arg12.IsWhole) (arg13 : Memref sig .tc .vmem S8x128x128 .bf16) (harg13 : arg13.IsWhole) (arg14 : Memref sig .tc .vmem S1x256x1024 .bf16) (harg14 : arg14.IsWhole) (arg15 : Memref sig .tc .vmem S1x1x1024 .f32) (harg15 : arg15.IsWhole) (arg16 : Memref sig .tc .vmem S1x3x1024 .f32) (harg16 : arg16.IsWhole) (arg17 : Memref sig .tc .vmem S272x1024 .f32) (harg17 : arg17.IsWhole) (arg18 : Memref sig .tc .vmem S1x1024 .f32) (harg18 : arg18.IsWhole) (hc : ¬ First i)
    (x0 : Vec F S1x256x1024 .f32) (x1 : Vec F S1x256x1024 .f32) (x2 : Vec F S1x3x1024 .f32) (x3 : Vec F S1x1x1024 .f32) (x4 : Vec F S4x1024 .f32) (x5 : Vec F S1x1024 .f32) (x6 : Vec F S1x1024 .f32) (x7 : Vec F S1x1024 .f32) (x8 : Vec F S1x1024 .f32) (x9 : Vec F S8x128x128 .bf16) (x10 : Vec F S8x128x128 .bf16) (p : Vec F S8x1024 .f32) (h : Vec F S1x1024 .f32) :
    { W : List (View.Piece (Elt F) S1x256x1024 .bf16) × List (View.Piece (Elt F) S1x1x1024 .f32) × List (View.Piece (Elt F) S1x3x1024 .f32) × Vec F S8x1024 .f32 × Vec F S1x1024 .f32 //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f [headRows p]) ∗ (∃ f, arg18.view.loc (c : Thread nD τ) ↦[arg18.view.set]{fullShare} arg18.view.writes (Elt F) f [stateRow h])
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f W.1) ∗ (∃ f, arg15.view.loc (c : Thread nD τ) ↦[arg15.view.set]{fullShare} arg15.view.writes (Elt F) f W.2.1) ∗ (∃ f, arg16.view.loc (c : Thread nD τ) ↦[arg16.view.set]{fullShare} arg16.view.writes (Elt F) f W.2.2.1) ∗ (∃ f, arg17.view.loc (c : Thread nD τ) ↦[arg17.view.set]{fullShare} arg17.view.writes (Elt F) f [headRows W.2.2.2.1]) ∗ (∃ f, arg18.view.loc (c : Thread nD τ) ↦[arg18.view.set]{fullShare} arg18.view.writes (Elt F) f [stateRow W.2.2.2.2])) -∗ K ⟨⟩))
          ⊢ wp frame (wpE (defs₀ (F := F)) Variants.none c none) E (cc0_rglru i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_, ?_⟩, fun E K => ?run⟩
  case run =>
    simp only [cc0_rglru_eq_skeleton]; unfold cc0_rglru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d14, %f14, -, H14⟩, ⟨%d15, %f15, -, H15⟩, ⟨%d16, %f16, -, H16⟩, ⟨%f17, H17⟩, ⟨%f18, H18⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H14]; · iexists _; iexact H14
    isplitl [H15]; · iexists _; iexact H15
    isplitl [H16]; · iexists _; iexact H16
    isplitl [H17]; · iapply headRows_last; iexact H17
    iapply stateRow_last; iexact H18

end Cert.Proof.Rglru

end
-- ==== Proof.RglruFrame.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import proofs.«01_k».proof.Proof.RglruRunB
public import Idealize.ShloMosaic.Lib.Claim

@[expose] public section

set_option maxRecDepth 16384

noncomputable section

namespace Cert.Proof.Rglru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs and the branch -/

abbrev st0 (t : Fin cfg0.N) : Memref sig .tc .vmem S1x256x1024 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S1x256x1024 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x3x1024 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S1x1x1024 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S4x1024 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S1x1024 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S1x1024 .f32 := win0_6.stage (cfg0.slots t 6)
abbrev hst6 (t : Fin cfg0.N) : (st6 t).IsWhole := hstage0_6 ((cfg0.slots t 6).cast nbuf0_6)
abbrev st7 (t : Fin cfg0.N) : Memref sig .tc .vmem S1x1024 .f32 := win0_7.stage (cfg0.slots t 7)
abbrev hst7 (t : Fin cfg0.N) : (st7 t).IsWhole := hstage0_7 ((cfg0.slots t 7).cast nbuf0_7)
abbrev st8 (t : Fin cfg0.N) : Memref sig .tc .vmem S1x1024 .f32 := win0_8.stage (cfg0.slots t 8)
abbrev hst8 (t : Fin cfg0.N) : (st8 t).IsWhole := hstage0_8 ((cfg0.slots t 8).cast nbuf0_8)
abbrev st9 (t : Fin cfg0.N) : Memref sig .tc .vmem S8x128x128 .bf16 := win0_9.stage (cfg0.slots t 9)
abbrev hst9 (t : Fin cfg0.N) : (st9 t).IsWhole := hstage0_9 ((cfg0.slots t 9).cast nbuf0_9)
abbrev st10 (t : Fin cfg0.N) : Memref sig .tc .vmem S8x128x128 .bf16 := win0_10.stage (cfg0.slots t 10)
abbrev hst10 (t : Fin cfg0.N) : (st10 t).IsWhole := hstage0_10 ((cfg0.slots t 10).cast nbuf0_10)
abbrev st11 (t : Fin cfg0.N) : Memref sig .tc .vmem S1x256x1024 .bf16 := win0_11.stage (cfg0.slots t 11)
abbrev hst11 (t : Fin cfg0.N) : (st11 t).IsWhole := hstage0_11 ((cfg0.slots t 11).cast nbuf0_11)
abbrev st12 (t : Fin cfg0.N) : Memref sig .tc .vmem S1x1x1024 .f32 := win0_12.stage (cfg0.slots t 12)
abbrev hst12 (t : Fin cfg0.N) : (st12 t).IsWhole := hstage0_12 ((cfg0.slots t 12).cast nbuf0_12)
abbrev st13 (t : Fin cfg0.N) : Memref sig .tc .vmem S1x3x1024 .f32 := win0_13.stage (cfg0.slots t 13)
abbrev hst13 (t : Fin cfg0.N) : (st13 t).IsWhole := hstage0_13 ((cfg0.slots t 13).cast nbuf0_13)
/-- The two scratch operands. -/
abbrev scExt : Memref sig .tc .vmem S272x1024 .f32 := Memref.whole cc0_scratch0
abbrev scState : Memref sig .tc .vmem S1x1024 .f32 := Memref.whole cc0_scratch1

/-- A sequence starts at the points whose number is a multiple of 64. -/
theorem first_iff : ∀ t : Fin cfg0.N, First (grid0.coords t) ↔ t.val % 64 = 0 :=
  (fun t => by
    have ht : t.val < 128 := Nat.lt_of_lt_of_eq t.isLt N_0
    have e2 : (grid0.coords t 2).val = t.val / 1 % 64 := Pipeline.Grid.coords_val t 2 (by decide) rfl
    simp only [First, e2]
    word_cmp
   : ∀ t : Fin grid0.N, First (grid0.coords t) ↔ t.val % 64 = 0)

/-- What the launch hands the region: both scratch memrefs and the generator register at something. -/
theorem launch_scratch (c : Dev nD) :
    (Pipeline.ΦA spec0 c : sProp 𝕄)
      = iprop(iprop((∃ d, owns (c : Thread nD τ) scExt fullShare d) ∗ (∃ d, owns (c : Thread nD τ) scState fullShare d)) ∗ (∃ r, prngReg c r)) := by
  unfold Pipeline.ΦA; rw [scopedRest0_eq]; simp only [scExt, scState, owns_whole]; try rfl

/-! ## What a point leaves, and the state between points -/

/-- What the body leaves at point `t`, over the head rows `p` and the state `h` it finds. -/
def leaves (c : Dev nD) (t : Fin cfg0.N) (p : Vec F S8x1024 .f32) (h : Vec F S1x1024 .f32) :
    List (View.Piece (Elt F) S1x256x1024 .bf16) × List (View.Piece (Elt F) S1x1x1024 .f32) × List (View.Piece (Elt F) S1x3x1024 .f32) × Vec F S8x1024 .f32 × Vec F S1x1024 .f32 :=
  open Classical in
  if hc : First (grid0.coords t) then (runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t)).1 else (runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) p h).1

theorem leaves_first (c : Dev nD) (t : Fin cfg0.N) (p : Vec F S8x1024 .f32) (h : Vec F S1x1024 .f32) (hc : First (grid0.coords t)) :
    leaves m c t p h = (runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t)).1 := dif_pos hc

theorem leaves_later (c : Dev nD) (t : Fin cfg0.N) (p : Vec F S8x1024 .f32) (h : Vec F S1x1024 .f32) (hc : ¬ First (grid0.coords t)) :
    leaves m c t p h = (runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) p h).1 := dif_neg hc

theorem cover11 (c : Dev nD) (t : Fin cfg0.N) (p : Vec F S8x1024 .f32) (h : Vec F S1x1024 .f32) (y : S1x256x1024.Idx) :
    ∃ pc ∈ (leaves m c t p h).1, y ∈ pc.1.set := by
  by_cases hc : First (grid0.coords t)
  · rw [leaves_first m c t p h hc]
    exact View.cover_of_tiledL (runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t)).1.1 S1x16x1024.size (by sl_kernel_rfl) y
  · rw [leaves_later m c t p h hc]
    exact View.cover_of_tiledL (runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) p h).1.1 S1x16x1024.size (by sl_kernel_rfl) y

theorem cover12 (c : Dev nD) (t : Fin cfg0.N) (p : Vec F S8x1024 .f32) (h : Vec F S1x1024 .f32) (y : S1x1x1024.Idx) :
    ∃ pc ∈ (leaves m c t p h).2.1, y ∈ pc.1.set := by
  by_cases hc : First (grid0.coords t)
  · rw [leaves_first m c t p h hc]
    exact View.cover_of_tiledL (runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t)).1.2.1 S1x1x1024.size (by sl_kernel_rfl) y
  · rw [leaves_later m c t p h hc]
    exact View.cover_of_tiledL (runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) p h).1.2.1 S1x1x1024.size (by sl_kernel_rfl) y

theorem cover13 (c : Dev nD) (t : Fin cfg0.N) (p : Vec F S8x1024 .f32) (h : Vec F S1x1024 .f32) (y : S1x3x1024.Idx) :
    ∃ pc ∈ (leaves m c t p h).2.2.1, y ∈ pc.1.set := by
  by_cases hc : First (grid0.coords t)
  · rw [leaves_first m c t p h hc]
    exact View.cover_of_tiledL (runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t)).1.2.2.1 S1x3x1024.size (by sl_kernel_rfl) y
  · rw [leaves_later m c t p h hc]
    exact View.cover_of_tiledL (runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) p h).1.2.2.1 S1x3x1024.size (by sl_kernel_rfl) y

/-- The head rows and the state before point `n`. -/
def stateAt (c : Dev nD) : ℕ → Vec F S8x1024 .f32 × Vec F S1x1024 .f32
  | 0 => (constant S8x1024 .f32 0x00000000#32, constant S1x1024 .f32 0x00000000#32)
  | n + 1 => if hn : n < cfg0.N then (leaves m c ⟨n, hn⟩ (stateAt c n).1 (stateAt c n).2).2.2.2 else stateAt c n

theorem stateAt_succ (c : Dev nD) (t : Fin cfg0.N) :
    stateAt m c (t.val + 1) = (leaves m c t (stateAt m c t.val).1 (stateAt m c t.val).2).2.2.2 := dif_pos t.isLt

/-- The region's invariant before point `n`. -/
def Inv (c : Dev nD) : ℕ → sProp 𝕄
  | 0 => Pipeline.ΦA spec0 c
  | n + 1 => iprop(iprop((∃ f, scExt.view.loc (c : Thread nD τ) ↦[scExt.view.set]{fullShare} scExt.view.writes (Elt F) f [headRows (stateAt m c (n + 1)).1])
      ∗ (∃ f, scState.view.loc (c : Thread nD τ) ↦[scState.view.set]{fullShare} scState.view.writes (Elt F) f [stateRow (stateAt m c (n + 1)).2])) ∗ (∃ r, prngReg c r))

theorem Inv_pos (c : Dev nD) (n : ℕ) (hn : n ≠ 0) :
    Inv m c n = iprop(iprop((∃ f, scExt.view.loc (c : Thread nD τ) ↦[scExt.view.set]{fullShare} scExt.view.writes (Elt F) f [headRows (stateAt m c n).1])
      ∗ (∃ f, scState.view.loc (c : Thread nD τ) ↦[scState.view.set]{fullShare} scState.view.writes (Elt F) f [stateRow (stateAt m c n).2])) ∗ (∃ r, prngReg c r)) := by
  cases n with
  | zero => exact absurd rfl hn
  | succ n => rfl

/-- A buffer held whole is owned at what it reads. -/
theorem owned {sp : Space} {s : Shape} {e : EltTy} (c : Dev nD) (M : Memref sig .tc sp s e) (f : Buf (Elt F) (M.view.loc (c : Thread nD τ))) :
    (M.view.loc (c : Thread nD τ) ↦[M.view.set]{fullShare} f : sProp 𝕄) ⊢ iprop(∃ d, owns (c : Thread nD τ) M fullShare d) := by
  iintro H; iexists M.view.read (Elt F) f; unfold owns; iexists f; isplitr
  · ipureintro; rfl
  iexact H

/-! ## The proof data and the body's obligation -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => View.canon (leaves m c t (stateAt m c t.val).1 (stateAt m c t.val).2).1
    | ⟨12, _⟩ => View.canon (leaves m c t (stateAt m c t.val).1 (stateAt m c t.val).2).2.1
    | ⟨13, _⟩ => View.canon (leaves m c t (stateAt m c t.val).1 (stateAt m c t.val).2).2.2.1
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = View.canon (leaves m c t (stateAt m c t.val).1 (stateAt m c t.val).2).1 := by dsimp only [dats]
theorem after12 (c : Dev nD) (t : Fin cfg0.N) : (dats m 0 c).after 12 t = View.canon (leaves m c t (stateAt m c t.val).1 (stateAt m c t.val).2).2.1 := by dsimp only [dats]
theorem after13 (c : Dev nD) (t : Fin cfg0.N) : (dats m 0 c).after 13 t = View.canon (leaves m c t (stateAt m c t.val).1 (stateAt m c t.val).2).2.2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t)
    ∗ owns (c : Thread nD τ) (st13 t) fullShare ((dats m 0 c).after 13 t))

set_option maxHeartbeats 3200000 in
theorem body_at (c : Dev nD) (t : Fin cfg0.N) :
    bodyPre m c t ⊢ wp frame (wpE (defs₀ (F := F)) Variants.none c none) Set.univ (bodyAt0 t) (fun _ => bodyPost m c t) := by
  have cv11 := cover11 m c t (stateAt m c t.val).1 (stateAt m c t.val).2
  have cv12 := cover12 m c t (stateAt m c t.val).1 (stateAt m c t.val).2
  have cv13 := cover13 m c t (stateAt m c t.val).1 (stateAt m c t.val).2
  unfold bodyPre bodyPost bodyAt0
  simp only [before0, before1, before2, before3, before4, before5, before6, before7, before8, before9, before10]
  rw [show (dats m 0 c).owesAt () t.succ = (dats m 0 c).owesAt () t.castSucc from rfl,
    after0, after1, after2, after3, after4, after5, after6, after7, after8, after9, after10, after11, after12, after13]
  rw [show (dats m 0 c).Φ t.succ = Inv m c (t.val + 1) from rfl, show (dats m 0 c).Φ t.castSucc = Inv m c t.val from rfl,
    Inv_pos m c (t.val + 1) (Nat.succ_ne_zero _), stateAt_succ]
  by_cases hc : First (grid0.coords t)
  · simp only [leaves_first m c t _ _ hc] at cv11 cv12 cv13 ⊢
    by_cases hz : t.val = 0
    · rw [hz, show Inv m c 0 = Pipeline.ΦA spec0 c from rfl, launch_scratch]
      iintro ⟨⟨⟨HE, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [HE]; · iexact HE
      isplitl [HS]; · iexact HS
      iintro ⟨H0, H1, H2, H3, H4, H5, H6, H7, H8, H9, H10, ⟨%e11, H11⟩, ⟨%e12, H12⟩, ⟨%e13, H13⟩, HE, HS⟩
      isplitl [HE HS Hg]
      · isplitl [HE HS]
        · isplitl [HE]; · iexact HE
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_eq_canon _ _ _ cv11
      isplitl [H12]
      · unfold owns; iexists _; isplitr
        swap; · iexact H12
        ipureintro; exact View.read_writes_eq_canon _ _ _ cv12
      unfold owns; iexists _; isplitr
      swap; · iexact H13
      ipureintro; exact View.read_writes_eq_canon _ _ _ cv13
    · rw [Inv_pos m c _ hz]
      iintro ⟨⟨⟨⟨%fe, HE⟩, ⟨%fs, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [HE]; · iapply owned; iexact HE
      isplitl [HS]; · iapply owned; iexact HS
      iintro ⟨H0, H1, H2, H3, H4, H5, H6, H7, H8, H9, H10, ⟨%e11, H11⟩, ⟨%e12, H12⟩, ⟨%e13, H13⟩, HE, HS⟩
      isplitl [HE HS Hg]
      · isplitl [HE HS]
        · isplitl [HE]; · iexact HE
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_eq_canon _ _ _ cv11
      isplitl [H12]
      · unfold owns; iexists _; isplitr
        swap; · iexact H12
        ipureintro; exact View.read_writes_eq_canon _ _ _ cv12
      unfold owns; iexists _; isplitr
      swap; · iexact H13
      ipureintro; exact View.read_writes_eq_canon _ _ _ cv13
  · have hz : t.val ≠ 0 := fun h => hc ((first_iff t).mpr (by rw [h]))
    simp only [leaves_later m c t _ _ hc] at cv11 cv12 cv13 ⊢
    rw [Inv_pos m c _ hz]
    iintro ⟨⟨⟨HE, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HE]; · iexact HE
    isplitl [HS]; · iexact HS
    iintro ⟨H0, H1, H2, H3, H4, H5, H6, H7, H8, H9, H10, ⟨%e11, H11⟩, ⟨%e12, H12⟩, ⟨%e13, H13⟩, HE, HS⟩
    isplitl [HE HS Hg]
    · isplitl [HE HS]
      · isplitl [HE]; · iexact HE
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_eq_canon _ _ _ cv11
    isplitl [H12]
    · unfold owns; iexists _; isplitr
      swap; · iexact H12
      ipureintro; exact View.read_writes_eq_canon _ _ _ cv12
    unfold owns; iexists _; isplitr
    swap; · iexact H13
    ipureintro; exact View.read_writes_eq_canon _ _ _ cv13

theorem row_at (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_at]
  exact triple_restated (body_at m c t) rfl .rfl fun _ => .rfl

theorem inv_in (c : Dev nD) : Pipeline.ΦA spec0 c ⊢ (dats m 0 c).Φ 0 := by
  rw [show (dats m 0 c).Φ 0 = Pipeline.ΦA spec0 c from rfl]

theorem inv_out (c : Dev nD) : (dats m 0 c).Φ (Fin.last cfg0.N) ⊢ Pipeline.ΦA spec0 c := by
  have hN : cfg0.N = 128 := N_0
  rw [show (dats m 0 c).Φ (Fin.last cfg0.N) = Inv m c cfg0.N from rfl, Inv_pos m c _ (by omega), launch_scratch]
  iintro ⟨⟨⟨%fe, HE⟩, ⟨%fs, HS⟩⟩, Hg⟩
  isplitl [HE HS]
  · isplitl [HE]; · iapply owned; iexact HE
    iapply owned; iexact HS
  iexact Hg

/-! ## The run and the frame -/

set_option backward.isDefEq.respectTransparency.types false in
/-- Every fair execution of `main` ends, with every array of the pipeline at what the proof data say and every
    semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_quiescent m ρ))

end Cert.Proof.Rglru

end
-- ==== Proof.RglruTower.lean ====
module

public import proofs.«01_k».proof.Proof.RglruFrame

@[expose] public section

set_option maxRecDepth 16384

noncomputable section

namespace Cert.Proof.Rglru

open Cert.KernelIdeal Cert.KernelIdeal.Gen
open Idealize.ShloMosaic Idealize.ShloMosaic.TcCoe

variable {F : FTy → Type} [FloatOps F]

/-! ## One point's operands, and what its body computes of them -/

/-- The operands of one point: the four shifted windows of the padded sequence, the convolution's weights and bias,
    the gates' weights and biases, the decay, the state it starts from, its number along time, the output gate's
    rows sixteen at a time, and the last rows of the padded sequence. -/
structure Ops (F : FTy → Type) where
  e5 : Vec F S256x1024 .f32
  e6 : Vec F S256x1024 .f32
  e7 : Vec F S256x1024 .f32
  e8 : Vec F S256x1024 .f32
  w : Fin 4 → Vec F S1x1024 .f32
  cb : Vec F S1x1024 .f32
  wr : Fin 8 → Vec F S1x128x128 .bf16
  wi : Fin 8 → Vec F S1x128x128 .bf16
  br : Vec F S1x1024 .f32
  bi : Vec F S1x1024 .f32
  lam : Vec F S1x1024 .f32
  st : Vec F S1x1024 .f32
  i2 : BitVec 32
  gate : Fin 16 → Vec F S1x16x1024 .f32
  tail3 : Vec F S3x1024 .f32
  tail8 : Vec F S8x1024 .f32

variable (o : Ops F)

def t0 : Vec F S256x1024 .f32 := k0_pay5 o.cb o.e5 (o.w 0) o.e6 (o.w 1) o.e7 (o.w 2)
def t1 : Vec F S256x1024 .f32 := k0_pay6 (t0 o) o.e8 (o.w 3)
def t2 : Vec F S256x1024 .bf16 := k0_pay7 (t0 o) o.e8 (o.w 3)
def t3 : Vec F S256x128 .f32 := k0_pay9 (t0 o) o.e8 (o.w 3) (o.wr 0)
def t4 : Vec F S256x128 .f32 := k0_pay10 (t0 o) o.e8 (o.w 3) (o.wi 0)
def t5 : Vec F S256x128 .f32 := k0_pay12 (t0 o) o.e8 (o.w 3) (o.wr 1)
def t6 : Vec F S256x128 .f32 := k0_pay13 (t0 o) o.e8 (o.w 3) (o.wi 1)
def t7 : Vec F S256x128 .f32 := k0_pay15 (t0 o) o.e8 (o.w 3) (o.wr 2)
def t8 : Vec F S256x128 .f32 := k0_pay16 (t0 o) o.e8 (o.w 3) (o.wi 2)
def t9 : Vec F S256x128 .bf16 := k0_pay17 (t0 o) o.e8 (o.w 3)
def t10 : Vec F S256x128 .f32 := k0_pay18 (t0 o) o.e8 (o.w 3) (o.wr 3)
def t11 : Vec F S256x128 .f32 := k0_pay19 (t9 o) (o.wi 3)
def t12 : Vec F S256x128 .f32 := k0_pay21 (t2 o) (o.wr 4)
def t13 : Vec F S256x128 .f32 := k0_pay22 (t2 o) (o.wi 4)
def t14 : Vec F S256x128 .f32 := k0_pay24 (t2 o) (o.wr 5)
def t15 : Vec F S256x128 .f32 := k0_pay25 (t2 o) (o.wi 5)
def t16 : Vec F S256x128 .f32 := k0_pay27 (t2 o) (o.wr 6)
def t17 : Vec F S256x128 .f32 := k0_pay28 (t2 o) (o.wi 6)
def t18 : Vec F S256x128 .bf16 := k0_pay29 (t2 o)
def t19 : Vec F S256x128 .f32 := k0_pay30 (t2 o) (o.wr 7)
def t20 : Vec F S256x1024 .f32 := k0_pay31 (t4 o) (t6 o) (t8 o) (t11 o) (t13 o) (t15 o) (t17 o) (t18 o) (o.wi 7) o.bi
def t21 : Vec F S256x1024 .f32 := k0_pay33 (t3 o) (t5 o) (t7 o) (t10 o) (t12 o) (t14 o) (t16 o) (t19 o) o.br o.lam
def t22 : Vec F S256x1024 .f32 := k0_pay34 (t3 o) (t5 o) (t7 o) (t10 o) (t12 o) (t14 o) (t16 o) (t19 o) o.br o.lam
def t23 : Vec F S256x1024 .f32 := k0_pay35 (t3 o) (t5 o) (t7 o) (t10 o) (t12 o) (t14 o) (t16 o) (t19 o) o.br o.lam
def t24 : Vec F S32x8x1024 .f32 := k0_pay40 o.i2 (t1 o) (t20 o) (t21 o) (t22 o) (t23 o)
def t25 : Vec F S32x8x1024 .f32 := k0_pay41 (t21 o)
def t26 : Vec F S32x8x1024 .f32 := k0_pay43 (t21 o)
def t27 : Vec F S32x8x1024 .f32 := k0_pay44 o.i2 (t1 o) (t20 o) (t21 o) (t22 o) (t23 o)
def t28 : Vec F S32x8x1024 .f32 := k0_pay45 (t24 o) (t25 o) k0_pay42 (t27 o)
def t29 : Vec F S32x8x1024 .f32 := k0_pay46 (t25 o) (t26 o)
def t30 : Vec F S1x1024 .f32 := k0_pay52 (t24 o) (t25 o) k0_pay42 (t26 o) (t27 o) o.st
def t31 : Vec F S16x1024 .f32 := k0_pay53 (t24 o) (t25 o) k0_pay42 (t26 o) (t27 o) o.st
def t32 : Vec F S1x1024 .f32 := k0_pay60 (t28 o) (t29 o) (t30 o)
def t33 : Vec F S16x1024 .f32 := k0_pay61 (t28 o) (t29 o) (t30 o)
def t34 : Vec F S8x1024 .f32 := k0_pay66 (t28 o) (t29 o) (t32 o)
def t35 : Vec F S8x1024 .f32 := k0_pay67 (t28 o) (t29 o) (t32 o)
def t36 : Vec F S1x1024 .f32 := k0_pay68 (t28 o) (t29 o) (t32 o)
def t37 : Vec F S8x1024 .f32 := k0_pay73 (t28 o) (t29 o) (t36 o)
def t38 : Vec F S8x1024 .f32 := k0_pay74 (t28 o)
def t39 : Vec F S8x1024 .f32 := k0_pay75 (t28 o) (t29 o) (t36 o)
def t40 : Vec F S8x1024 .f32 := k0_pay81 (t28 o) (t29 o) (t38 o) (t39 o)
def t41 : Vec F S8x1024 .f32 := k0_pay82 (t28 o)
def t42 : Vec F S8x1024 .f32 := k0_pay83 (t29 o)
def t43 : Vec F S1x1024 .f32 := k0_pay84 (t28 o) (t29 o) (t38 o) (t39 o)
def t44 : Vec F S8x1024 .f32 := k0_pay90 (t28 o) (t29 o) (t41 o) (t42 o) (t43 o)
def t45 : Vec F S8x1024 .f32 := k0_pay91 (t28 o)
def t46 : Vec F S1x8x1024 .f32 := k0_pay92 (t29 o)
def t47 : Vec F S8x1024 .f32 := k0_pay98 (t28 o) (t29 o) (t44 o) (t45 o) (t46 o)
def t48 : Vec F S1x8x1024 .f32 := k0_pay99 (t28 o)
def t49 : Vec F S8x1024 .f32 := k0_pay105 (t28 o)
def t50 : Vec F S8x1024 .f32 := k0_pay106 (t28 o) (t29 o) (t47 o) (t48 o)
def t51 : Vec F S1x3x1024 .f32 := k0_pay113 o.tail3

/-- The rows `16 k … 16 k + 15` the point leaves of the gated output. -/
def pieces : List (View.Piece (Elt F) S1x256x1024 .bf16) :=
  [⟨Rect.unit ![0, 240, 0] S1x16x1024.size inb_S1x256x1024_S1x16x1024_0_240_0, k0_pay110 (t28 o) (t29 o) (t49 o) (t50 o) (o.gate 15)⟩,
   ⟨Rect.unit ![0, 224, 0] S1x16x1024.size inb_S1x256x1024_S1x16x1024_0_224_0, k0_pay104 (t28 o) (t29 o) (t47 o) (t48 o) (o.gate 14)⟩,
   ⟨Rect.unit ![0, 208, 0] S1x16x1024.size inb_S1x256x1024_S1x16x1024_0_208_0, k0_pay101 (t29 o) (t47 o) (t48 o) (o.gate 13)⟩,
   ⟨Rect.unit ![0, 192, 0] S1x16x1024.size inb_S1x256x1024_S1x16x1024_0_192_0, k0_pay97 (t28 o) (t29 o) (t44 o) (t45 o) (t46 o) (o.gate 12)⟩,
   ⟨Rect.unit ![0, 176, 0] S1x16x1024.size inb_S1x256x1024_S1x16x1024_0_176_0, k0_pay94 (t44 o) (t45 o) (t46 o) (o.gate 11)⟩,
   ⟨Rect.unit ![0, 160, 0] S1x16x1024.size inb_S1x256x1024_S1x16x1024_0_160_0, k0_pay89 (t28 o) (t29 o) (t41 o) (t42 o) (t43 o) (o.gate 10)⟩,
   ⟨Rect.unit ![0, 144, 0] S1x16x1024.size inb_S1x256x1024_S1x16x1024_0_144_0, k0_pay86 (t40 o) (t41 o) (t42 o) (t43 o) (o.gate 9)⟩,
   ⟨Rect.unit ![0, 128, 0] S1x16x1024.size inb_S1x256x1024_S1x16x1024_0_128_0, k0_pay80 (t28 o) (t29 o) (t38 o) (t39 o) (o.gate 8)⟩,
   ⟨Rect.unit ![0, 112, 0] S1x16x1024.size inb_S1x256x1024_S1x16x1024_0_112_0, k0_pay77 (t37 o) (t38 o) (t39 o) (o.gate 7)⟩,
   ⟨Rect.unit ![0, 96, 0] S1x16x1024.size inb_S1x256x1024_S1x16x1024_0_96_0, k0_pay72 (t28 o) (t29 o) (t36 o) (o.gate 6)⟩,
   ⟨Rect.unit ![0, 80, 0] S1x16x1024.size inb_S1x256x1024_S1x16x1024_0_80_0, k0_pay69 (t34 o) (t35 o) (o.gate 5)⟩,
   ⟨Rect.unit ![0, 64, 0] S1x16x1024.size inb_S1x256x1024_S1x16x1024_0_64_0, k0_pay65 (t28 o) (t29 o) (t32 o) (o.gate 4)⟩,
   ⟨Rect.unit ![0, 48, 0] S1x16x1024.size inb_S1x256x1024_S1x16x1024_0_48_0, k0_pay62 (t33 o) (o.gate 3)⟩,
   ⟨Rect.unit ![0, 32, 0] S1x16x1024.size inb_S1x256x1024_S1x16x1024_0_32_0, k0_pay57 (t28 o) (t29 o) (t30 o) (o.gate 2)⟩,
   ⟨Rect.unit ![0, 16, 0] S1x16x1024.size inb_S1x256x1024_S1x16x1024_0_16_0, k0_pay54 (t31 o) (o.gate 1)⟩,
   ⟨Rect.unit ![0, 0, 0] S1x16x1024.size inb_S1x256x1024_S1x16x1024_0_0_0, k0_pay49 (t24 o) (t25 o) k0_pay42 (t26 o) (t27 o) o.st (o.gate 0)⟩]

/-- All that the point leaves. -/
def outs : List (View.Piece (Elt F) S1x256x1024 .bf16) × List (View.Piece (Elt F) S1x1x1024 .f32) × List (View.Piece (Elt F) S1x3x1024 .f32) × Vec F S8x1024 .f32 × Vec F S1x1024 .f32 :=
  (pieces o,
   [⟨Rect.unit ![0, 0, 0] S1x1x1024.size inb_S1x1x1024_S1x1x1024_0_0_0, k0_pay112 (t28 o) (t29 o) (t49 o) (t50 o)⟩],
   [⟨Rect.unit ![0, 0, 0] ![1, 3, 1024] inb_S1x3x1024_S1x3x1024_0_0_0, t51 o⟩],
   k0_pay1 o.tail8,
   k0_pay111 (t28 o) (t29 o) (t49 o) (t50 o))

theorem inb4 (j : Fin 4) : ∀ d, (![j.val, 0] : Fin 2 → ℕ) d + S1x1024.size d ≤ S4x1024.size d := by
  revert j; decide
theorem inb8 (j : Fin 8) : ∀ d, (![j.val, 0, 0] : Fin 3 → ℕ) d + S1x128x128.size d ≤ S8x128x128.size d := by
  revert j; decide
theorem inb16 (j : Fin 16) : ∀ d, (![0, 16 * j.val, 0] : Fin 3 → ℕ) d + S1x16x1024.size d ≤ S1x256x1024.size d := by
  revert j; decide

/-- The operands of a point that starts a sequence. -/
def opsA (c : Dev nD) (i : grid0.Coords) (arg3 : Memref sig .tc .vmem S1x256x1024 .f32) (harg3 : arg3.IsWhole) (arg4 : Memref sig .tc .vmem S1x256x1024 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128x128 .bf16) (harg12 : arg12.IsWhole) (arg13 : Memref sig .tc .vmem S8x128x128 .bf16) (harg13 : arg13.IsWhole) (arg14 : Memref sig .tc .vmem S1x256x1024 .bf16) (harg14 : arg14.IsWhole) (arg15 : Memref sig .tc .vmem S1x1x1024 .f32) (harg15 : arg15.IsWhole) (arg16 : Memref sig .tc .vmem S1x3x1024 .f32) (harg16 : arg16.IsWhole) (arg17 : Memref sig .tc .vmem S272x1024 .f32) (harg17 : arg17.IsWhole) (arg18 : Memref sig .tc .vmem S1x1024 .f32) (harg18 : arg18.IsWhole) (hc : First i) (x0 : Vec F S1x256x1024 .f32) (x1 : Vec F S1x256x1024 .f32) (x2 : Vec F S1x3x1024 .f32) (x3 : Vec F S1x1x1024 .f32) (x4 : Vec F S4x1024 .f32) (x5 : Vec F S1x1024 .f32) (x6 : Vec F S1x1024 .f32) (x7 : Vec F S1x1024 .f32) (x8 : Vec F S1x1024 .f32) (x9 : Vec F S8x128x128 .bf16) (x10 : Vec F S8x128x128 .bf16) : Ops F where
  e5 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, ⟨Rect.unit ![5, 0] S3x1024.size inb_S272x1024_S3x1024_5_0, k0_pay2 (View.readAt (Elt F) arg5.view (Rect.unit ![0, 0, 0] S1x3x1024.size inb_S1x3x1024_S1x3x1024_0_0_0).toLoadRect (harg5.unread x2))⟩] (Rect.unit (s := S272x1024) ![5, 0] S256x1024.size inb_S272x1024_S256x1024_5_0).toLoadRect
  e6 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, ⟨Rect.unit ![5, 0] S3x1024.size inb_S272x1024_S3x1024_5_0, k0_pay2 (View.readAt (Elt F) arg5.view (Rect.unit ![0, 0, 0] S1x3x1024.size inb_S1x3x1024_S1x3x1024_0_0_0).toLoadRect (harg5.unread x2))⟩] (Rect.unit (s := S272x1024) ![6, 0] S256x1024.size inb_S272x1024_S256x1024_6_0).toLoadRect
  e7 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, ⟨Rect.unit ![5, 0] S3x1024.size inb_S272x1024_S3x1024_5_0, k0_pay2 (View.readAt (Elt F) arg5.view (Rect.unit ![0, 0, 0] S1x3x1024.size inb_S1x3x1024_S1x3x1024_0_0_0).toLoadRect (harg5.unread x2))⟩] (Rect.unit (s := S272x1024) ![7, 0] S256x1024.size inb_S272x1024_S256x1024_7_0).toLoadRect
  e8 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, ⟨Rect.unit ![5, 0] S3x1024.size inb_S272x1024_S3x1024_5_0, k0_pay2 (View.readAt (Elt F) arg5.view (Rect.unit ![0, 0, 0] S1x3x1024.size inb_S1x3x1024_S1x3x1024_0_0_0).toLoadRect (harg5.unread x2))⟩] (Rect.unit (s := S272x1024) ![8, 0] S256x1024.size inb_S272x1024_S256x1024_8_0).toLoadRect
  tail3 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, ⟨Rect.unit ![5, 0] S3x1024.size inb_S272x1024_S3x1024_5_0, k0_pay2 (View.readAt (Elt F) arg5.view (Rect.unit ![0, 0, 0] S1x3x1024.size inb_S1x3x1024_S1x3x1024_0_0_0).toLoadRect (harg5.unread x2))⟩] (Rect.unit (s := S272x1024) ![261, 0] S3x1024.size inb_S272x1024_S3x1024_261_0).toLoadRect
  tail8 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, ⟨Rect.unit ![5, 0] S3x1024.size inb_S272x1024_S3x1024_5_0, k0_pay2 (View.readAt (Elt F) arg5.view (Rect.unit ![0, 0, 0] S1x3x1024.size inb_S1x3x1024_S1x3x1024_0_0_0).toLoadRect (harg5.unread x2))⟩] (Rect.unit (s := S272x1024) ![256, 0] S8x1024.size inb_S272x1024_S8x1024_256_0).toLoadRect
  st := arg18.view.readCov [⟨Rect.unit ![0, 0] S1x1024.size inb_S1x1024_S1x1024_0_0, k0_pay3 (View.readAt (Elt F) arg6.view (Rect.unit ![0, 0, 0] S1x1x1024.size inb_S1x1x1024_S1x1x1024_0_0_0).toLoadRect (harg6.unread x3))⟩] (Rect.unit ![0, 0] S1x1024.size inb_S1x1024_S1x1024_0_0).toLoadRect
  w j := View.readAt (Elt F) arg7.view (Rect.unit (s := S4x1024) ![j.val, 0] S1x1024.size (inb4 j)).toLoadRect (harg7.unread x4)
  cb := View.readAt (Elt F) arg8.view (Rect.unit ![0, 0] S1x1024.size inb_S1x1024_S1x1024_0_0).toLoadRect (harg8.unread x5)
  wr j := View.readAt (Elt F) arg12.view (Rect.unit (s := S8x128x128) ![j.val, 0, 0] S1x128x128.size (inb8 j)).toLoadRect (harg12.unread x9)
  wi j := View.readAt (Elt F) arg13.view (Rect.unit (s := S8x128x128) ![j.val, 0, 0] S1x128x128.size (inb8 j)).toLoadRect (harg13.unread x10)
  br := View.readAt (Elt F) arg9.view (Rect.unit ![0, 0] S1x1024.size inb_S1x1024_S1x1024_0_0).toLoadRect (harg9.unread x6)
  bi := View.readAt (Elt F) arg10.view (Rect.unit ![0, 0] S1x1024.size inb_S1x1024_S1x1024_0_0).toLoadRect (harg10.unread x7)
  lam := View.readAt (Elt F) arg11.view (Rect.unit ![0, 0] S1x1024.size inb_S1x1024_S1x1024_0_0).toLoadRect (harg11.unread x8)
  i2 := BitVec.ofNat 32 (i 2).val
  gate j := View.readAt (Elt F) arg4.view (Rect.unit (s := S1x256x1024) ![0, 16 * j.val, 0] S1x16x1024.size (inb16 j)).toLoadRect (harg4.unread x1)

set_option maxHeartbeats 4000000 in
theorem runA_val (c : Dev nD) (i : grid0.Coords) (arg3 : Memref sig .tc .vmem S1x256x1024 .f32) (harg3 : arg3.IsWhole) (arg4 : Memref sig .tc .vmem S1x256x1024 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128x128 .bf16) (harg12 : arg12.IsWhole) (arg13 : Memref sig .tc .vmem S8x128x128 .bf16) (harg13 : arg13.IsWhole) (arg14 : Memref sig .tc .vmem S1x256x1024 .bf16) (harg14 : arg14.IsWhole) (arg15 : Memref sig .tc .vmem S1x1x1024 .f32) (harg15 : arg15.IsWhole) (arg16 : Memref sig .tc .vmem S1x3x1024 .f32) (harg16 : arg16.IsWhole) (arg17 : Memref sig .tc .vmem S272x1024 .f32) (harg17 : arg17.IsWhole) (arg18 : Memref sig .tc .vmem S1x1024 .f32) (harg18 : arg18.IsWhole) (hc : First i) (x0 : Vec F S1x256x1024 .f32) (x1 : Vec F S1x256x1024 .f32) (x2 : Vec F S1x3x1024 .f32) (x3 : Vec F S1x1x1024 .f32) (x4 : Vec F S4x1024 .f32) (x5 : Vec F S1x1024 .f32) (x6 : Vec F S1x1024 .f32) (x7 : Vec F S1x1024 .f32) (x8 : Vec F S1x1024 .f32) (x9 : Vec F S8x128x128 .bf16) (x10 : Vec F S8x128x128 .bf16) :
    (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 x10).1 = outs (opsA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 x10) := by
  sl_kernel_rfl

/-- The operands of a point that continues a sequence. -/
def opsB (c : Dev nD) (i : grid0.Coords) (arg3 : Memref sig .tc .vmem S1x256x1024 .f32) (harg3 : arg3.IsWhole) (arg4 : Memref sig .tc .vmem S1x256x1024 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128x128 .bf16) (harg12 : arg12.IsWhole) (arg13 : Memref sig .tc .vmem S8x128x128 .bf16) (harg13 : arg13.IsWhole) (arg14 : Memref sig .tc .vmem S1x256x1024 .bf16) (harg14 : arg14.IsWhole) (arg15 : Memref sig .tc .vmem S1x1x1024 .f32) (harg15 : arg15.IsWhole) (arg16 : Memref sig .tc .vmem S1x3x1024 .f32) (harg16 : arg16.IsWhole) (arg17 : Memref sig .tc .vmem S272x1024 .f32) (harg17 : arg17.IsWhole) (arg18 : Memref sig .tc .vmem S1x1024 .f32) (harg18 : arg18.IsWhole) (hc : ¬ First i) (x0 : Vec F S1x256x1024 .f32) (x1 : Vec F S1x256x1024 .f32) (x2 : Vec F S1x3x1024 .f32) (x3 : Vec F S1x1x1024 .f32) (x4 : Vec F S4x1024 .f32) (x5 : Vec F S1x1024 .f32) (x6 : Vec F S1x1024 .f32) (x7 : Vec F S1x1024 .f32) (x8 : Vec F S1x1024 .f32) (x9 : Vec F S8x128x128 .bf16) (x10 : Vec F S8x128x128 .bf16) (p : Vec F S8x1024 .f32) (h : Vec F S1x1024 .f32) : Ops F where
  e5 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, headRows p] (Rect.unit (s := S272x1024) ![5, 0] S256x1024.size inb_S272x1024_S256x1024_5_0).toLoadRect
  e6 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, headRows p] (Rect.unit (s := S272x1024) ![6, 0] S256x1024.size inb_S272x1024_S256x1024_6_0).toLoadRect
  e7 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, headRows p] (Rect.unit (s := S272x1024) ![7, 0] S256x1024.size inb_S272x1024_S256x1024_7_0).toLoadRect
  e8 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, headRows p] (Rect.unit (s := S272x1024) ![8, 0] S256x1024.size inb_S272x1024_S256x1024_8_0).toLoadRect
  tail3 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, headRows p] (Rect.unit (s := S272x1024) ![261, 0] S3x1024.size inb_S272x1024_S3x1024_261_0).toLoadRect
  tail8 := arg17.view.readCov [⟨Rect.unit ![8, 0] S256x1024.size inb_S272x1024_S256x1024_8_0, k0_pay4 (View.readAt (Elt F) arg3.view (Rect.unit ![0, 0, 0] S1x256x1024.size inb_S1x256x1024_S1x256x1024_0_0_0).toLoadRect (harg3.unread x0))⟩, headRows p] (Rect.unit (s := S272x1024) ![256, 0] S8x1024.size inb_S272x1024_S8x1024_256_0).toLoadRect
  st := arg18.view.readCov [stateRow h] (Rect.unit ![0, 0] S1x1024.size inb_S1x1024_S1x1024_0_0).toLoadRect
  w j := View.readAt (Elt F) arg7.view (Rect.unit (s := S4x1024) ![j.val, 0] S1x1024.size (inb4 j)).toLoadRect (harg7.unread x4)
  cb := View.readAt (Elt F) arg8.view (Rect.unit ![0, 0] S1x1024.size inb_S1x1024_S1x1024_0_0).toLoadRect (harg8.unread x5)
  wr j := View.readAt (Elt F) arg12.view (Rect.unit (s := S8x128x128) ![j.val, 0, 0] S1x128x128.size (inb8 j)).toLoadRect (harg12.unread x9)
  wi j := View.readAt (Elt F) arg13.view (Rect.unit (s := S8x128x128) ![j.val, 0, 0] S1x128x128.size (inb8 j)).toLoadRect (harg13.unread x10)
  br := View.readAt (Elt F) arg9.view (Rect.unit ![0, 0] S1x1024.size inb_S1x1024_S1x1024_0_0).toLoadRect (harg9.unread x6)
  bi := View.readAt (Elt F) arg10.view (Rect.unit ![0, 0] S1x1024.size inb_S1x1024_S1x1024_0_0).toLoadRect (harg10.unread x7)
  lam := View.readAt (Elt F) arg11.view (Rect.unit ![0, 0] S1x1024.size inb_S1x1024_S1x1024_0_0).toLoadRect (harg11.unread x8)
  i2 := BitVec.ofNat 32 (i 2).val
  gate j := View.readAt (Elt F) arg4.view (Rect.unit (s := S1x256x1024) ![0, 16 * j.val, 0] S1x16x1024.size (inb16 j)).toLoadRect (harg4.unread x1)

set_option maxHeartbeats 4000000 in
theorem runB_val (c : Dev nD) (i : grid0.Coords) (arg3 : Memref sig .tc .vmem S1x256x1024 .f32) (harg3 : arg3.IsWhole) (arg4 : Memref sig .tc .vmem S1x256x1024 .f32) (harg4 : arg4.IsWhole) (arg5 : Memref sig .tc .vmem S1x3x1024 .f32) (harg5 : arg5.IsWhole) (arg6 : Memref sig .tc .vmem S1x1x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128x128 .bf16) (harg12 : arg12.IsWhole) (arg13 : Memref sig .tc .vmem S8x128x128 .bf16) (harg13 : arg13.IsWhole) (arg14 : Memref sig .tc .vmem S1x256x1024 .bf16) (harg14 : arg14.IsWhole) (arg15 : Memref sig .tc .vmem S1x1x1024 .f32) (harg15 : arg15.IsWhole) (arg16 : Memref sig .tc .vmem S1x3x1024 .f32) (harg16 : arg16.IsWhole) (arg17 : Memref sig .tc .vmem S272x1024 .f32) (harg17 : arg17.IsWhole) (arg18 : Memref sig .tc .vmem S1x1024 .f32) (harg18 : arg18.IsWhole) (hc : ¬ First i) (x0 : Vec F S1x256x1024 .f32) (x1 : Vec F S1x256x1024 .f32) (x2 : Vec F S1x3x1024 .f32) (x3 : Vec F S1x1x1024 .f32) (x4 : Vec F S4x1024 .f32) (x5 : Vec F S1x1024 .f32) (x6 : Vec F S1x1024 .f32) (x7 : Vec F S1x1024 .f32) (x8 : Vec F S1x1024 .f32) (x9 : Vec F S8x128x128 .bf16) (x10 : Vec F S8x128x128 .bf16) (p : Vec F S8x1024 .f32) (h : Vec F S1x1024 .f32) :
    (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 x10 p h).1 = outs (opsB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 x10 p h) := by
  sl_kernel_rfl

end Cert.Proof.Rglru

end
-- ==== Proof.RglruChain.lean ====
module

public import proofs.«01_k».proof.Proof.RglruTower
public import proofs.«01_k».proof.Proof.RglruMath
public import Idealize.ShloMosaic.Lib.Pipeline.ValueKit
public import Idealize.ShloMosaic.Lib.Pipeline.ReadBack
public import Idealize.ShloMosaic.Lib.Pointwise

@[expose] public section

set_option maxRecDepth 16384
noncomputable section
namespace Cert.Proof.Rglru
open Cert.KernelIdeal Cert.KernelIdeal.Gen
open Idealize.ShloMosaic Idealize.ShloMosaic.TcCoe
variable (o : Ops Ideal)
variable {F : FTy → Type} [FloatOps F]

theorem sl32 (g : Fin 32) : S32x8x1024.Slices ![g.val, 0, 0] S1x8x1024 := by revert g; decide

def hgrp (b a : Vec F S32x8x1024 .f32) (g : Fin 32) (s : Vec F S1x1024 .f32) : Vec F S8x1024 .f32 :=
  addf (shapeCast S8x1024 (extractStridedSlice S1x8x1024 ![g.val, 0, 0] b (sl32 g)) shapeCasts_S1x8x1024_S8x1024)
    (mulf (shapeCast S8x1024 (extractStridedSlice S1x8x1024 ![g.val, 0, 0] a (sl32 g)) shapeCasts_S1x8x1024_S8x1024)
      (broadcastTo S8x1024 s broadcasts_S1x1024_S8x1024))
def hend (h : Vec F S8x1024 .f32) : Vec F S1x1024 .f32 := extractStridedSlice S1x1024 ![7, 0] h slices_S8x1024_o7_0_S1x1024
def chain (b a : Vec F S32x8x1024 .f32) (s : Vec F S1x1024 .f32) : ℕ → Vec F S1x1024 .f32
  | 0 => s
  | n + 1 => hend (hgrp b a (Fin.ofNat 32 n) (chain b a s n))
def hout (b a : Vec F S32x8x1024 .f32) (s : Vec F S1x1024 .f32) (k : Fin 16) (gt : Vec F S1x16x1024 .f32) : Vec F S1x16x1024 .bf16 :=
  k0_pay54 (concatenate S16x1024 0 [⟨S8x1024, hgrp b a (Fin.ofNat 32 (2 * k.val)) (chain b a s (2 * k.val))⟩,
    ⟨S8x1024, hgrp b a (Fin.ofNat 32 (2 * k.val + 1)) (chain b a s (2 * k.val + 1))⟩] concatenates_S8x1024_S8x1024_S16x1024_d0) gt

theorem inbg (j : Fin 16) : ∀ d, (![0, 16 * j.val, 0] : Fin 3 → ℕ) d + S1x16x1024.size d ≤ S1x256x1024.size d := inb16 j

def fpieces (o : Ops F) : List (View.Piece (Elt F) S1x256x1024 .bf16) :=
  [15,14,13,12,11,10,9,8,7,6,5,4,3,2,1,0].map fun k : Fin 16 =>
   ⟨Rect.unit (s := S1x256x1024) ![0, 16 * k.val, 0] S1x16x1024.size (inb16 k), hout (t28 o) (t29 o) o.st k (o.gate k)⟩

theorem pieces_eq (o : Ops F) : pieces o = fpieces o := by sl_kernel_rfl
theorem last_eq (o : Ops F) : k0_pay111 (t28 o) (t29 o) (t49 o) (t50 o) = shapeCast S1x1024 (chain (t28 o) (t29 o) o.st 32) shapeCasts_S1x1024_S1x1024 := by sl_kernel_rfl
theorem hlast_eq (o : Ops F) : k0_pay112 (t28 o) (t29 o) (t49 o) (t50 o) = shapeCast S1x1x1024 (chain (t28 o) (t29 o) o.st 32) shapeCasts_S1x1024_S1x1x1024 := by sl_kernel_rfl

theorem hgrp_at (b a : Vec Ideal S32x8x1024 .f32) (g : Fin 32) (s : Vec Ideal S1x1024 .f32) (r : Fin 8) (l : Fin 1024) :
   hgrp b a g s (ix2 r l) = b (ix3 g r l) + a (ix3 g r l) * s (ix2 0 l) := by
  pointwise [hgrp]
theorem hend_at (h : Vec Ideal S8x1024 .f32) (l : Fin 1024) : hend h (ix2 0 l) = h (ix2 7 l) := by pointwise [hend]
theorem hout_at (b a : Vec Ideal S32x8x1024 .f32) (s : Vec Ideal S1x1024 .f32) (k : Fin 16) (gt : Vec Ideal S1x16x1024 .f32) (r : Fin 16) (l : Fin 1024) :
   hout b a s k gt (ix3 0 r l) = (if h : r.val < 8 then hgrp b a (Fin.ofNat 32 (2 * k.val)) (chain b a s (2 * k.val)) (ix2 ⟨r.val, h⟩ l) else
     hgrp b a (Fin.ofNat 32 (2 * k.val+1)) (chain b a s (2 * k.val+1)) (ix2 ⟨r.val-8, by omega⟩ l)) * gt (ix3 0 r l) := by
  pointwise [hout, k0_pay54]

variable (g : Fin 32) (l : Fin 1024)
theorem scan_a1 (a : Vec Ideal S256x1024 .f32) (α : ℕ → EReal)
    (h : ∀ k (hk : k < 8), a (ix2 ⟨g.val * 8 + k, by omega⟩ l) = α k) (s : ℕ) (hs : s < 8) :
    k0_pay38 (F := Ideal) a (ix3 g ⟨s, hs⟩ l) = sa 1 α s := by
  have h' : ∀ k : Fin 8, k0_pay36 (F := Ideal) a (ix3 g k l) = α k := by
    intro k
    rw [← h k.val k.isLt]
    pointwise [k0_pay36]
  interval_cases s <;> pointwise [k0_pay38, k0_pay37] <;> simp [h', sa, Scalar.select, IntOp.cmpi]

theorem scan_a2 (a : Vec Ideal S256x1024 .f32) (α : ℕ → EReal)
    (h : ∀ k (hk : k < 8), a (ix2 ⟨g.val * 8 + k, by omega⟩ l) = α k) (s : ℕ) (hs : s < 8) :
    k0_pay41 (F := Ideal) a (ix3 g ⟨s, hs⟩ l) = sa 2 (sa 1 α) s := by
  have h' : ∀ k : Fin 8, k0_pay38 (F := Ideal) a (ix3 g k l) = sa 1 α k := fun k => scan_a1 g l a α h k.val k.isLt
  interval_cases s <;> pointwise [k0_pay41, k0_pay39] <;> simp [h', sa.eq_def 2, Scalar.select, IntOp.cmpi]

theorem scan_a3 (a : Vec Ideal S256x1024 .f32) (α : ℕ → EReal)
    (h : ∀ k (hk : k < 8), a (ix2 ⟨g.val * 8 + k, by omega⟩ l) = α k) (s : ℕ) (hs : s < 8) :
    k0_pay46 (F := Ideal) (k0_pay41 a) (k0_pay43 a) (ix3 g ⟨s, hs⟩ l) = sa 4 (sa 2 (sa 1 α)) s := by
  have h' : ∀ k : Fin 8, k0_pay41 (F := Ideal) a (ix3 g k l) = sa 2 (sa 1 α) k := fun k => scan_a2 g l a α h k.val k.isLt
  interval_cases s <;> pointwise [k0_pay46, k0_pay43, k0_pay42] <;> simp [h', sa.eq_def 4, Scalar.select, IntOp.cmpi]

/-- A row's term of the recurrence, from the gates' entries. -/
def termAt (i2 : BitVec 32) (c ig m M : Vec Ideal S256x1024 .f32) (r : Fin 256) (l : Fin 1024) : EReal :=
  Scalar.select (IntOp.andi (IntOp.cmpi .eq (BitVec.ofNat 32 r.val) 0#32) (Scalar.cmpi .eq i2 0#32)) 1
    (m (ix2 r l) * Ideal.rsqrt (M (ix2 r l))) * ig (ix2 r l) * c (ix2 r l)

theorem scan_b2 (i2 : BitVec 32) (c ig a m M : Vec Ideal S256x1024 .f32) (α β : ℕ → EReal)
    (h : ∀ k (hk : k < 8), a (ix2 ⟨g.val * 8 + k, by omega⟩ l) = α k)
    (hb : ∀ k (hk : k < 8), termAt i2 c ig m M ⟨g.val * 8 + k, by omega⟩ l = β k) (s : ℕ) (hs : s < 8) :
    k0_pay40 (F := Ideal) i2 c ig a m M (ix3 g ⟨s, hs⟩ l) = sb 2 (sa 1 α) (sb 1 α β) s := by
  have h1 : ∀ k : Fin 8, k0_pay38 (F := Ideal) a (ix3 g k l) = sa 1 α k := fun k => scan_a1 g l a α h k.val k.isLt
  have h0 : ∀ k : Fin 8, k0_pay36 (F := Ideal) a (ix3 g k l) = α k := by
    intro k
    rw [← h k.val k.isLt]
    pointwise [k0_pay36]
  have b0 := hb 0 (by norm_num)
  have b1 := hb 1 (by norm_num)
  have b2 := hb 2 (by norm_num)
  have b3 := hb 3 (by norm_num)
  have b4 := hb 4 (by norm_num)
  have b5 := hb 5 (by norm_num)
  have b6 := hb 6 (by norm_num)
  have b7 := hb 7 (by norm_num)
  simp only [termAt, Nat.add_zero] at b0 b1 b2 b3 b4 b5 b6 b7
  interval_cases s <;> pointwise [k0_pay40, k0_pay39, k0_pay37] <;> simp only [b0, b1, b2, b3, b4, b5, b6, b7, h0, h1] <;>
    simp [sb, Scalar.select, IntOp.cmpi]

theorem scan_b3 (i2 : BitVec 32) (c ig a m M : Vec Ideal S256x1024 .f32) (α β : ℕ → EReal)
    (h : ∀ k (hk : k < 8), a (ix2 ⟨g.val * 8 + k, by omega⟩ l) = α k)
    (hb : ∀ k (hk : k < 8), termAt i2 c ig m M ⟨g.val * 8 + k, by omega⟩ l = β k) (s : ℕ) (hs : s < 8) :
    k0_pay45 (F := Ideal) (k0_pay40 i2 c ig a m M) (k0_pay41 a) k0_pay42 (k0_pay44 i2 c ig a m M) (ix3 g ⟨s, hs⟩ l) =
      sb 4 (sa 2 (sa 1 α)) (sb 2 (sa 1 α) (sb 1 α β)) s := by
  have h1 : ∀ k : Fin 8, k0_pay41 (F := Ideal) a (ix3 g k l) = sa 2 (sa 1 α) k := fun k => scan_a2 g l a α h k.val k.isLt
  have h0 : ∀ k : Fin 8, k0_pay40 (F := Ideal) i2 c ig a m M (ix3 g k l) = sb 2 (sa 1 α) (sb 1 α β) k :=
    fun k => scan_b2 g l i2 c ig a m M α β h hb k.val k.isLt
  interval_cases s <;> pointwise [k0_pay45, k0_pay44, k0_pay42] <;> simp only [h0, h1] <;> simp [sb.eq_def 4, Scalar.select, IntOp.cmpi]

/-- The recurrence over a block's rows. -/
theorem group_at (i2 : BitVec 32) (c ig a m M : Vec Ideal S256x1024 .f32) (α β : ℕ → EReal)
    (h : ∀ r : Fin 256, a (ix2 r l) = α r) (hu : ∀ n, Unit01 (α n)) (hb : ∀ r : Fin 256, termAt i2 c ig m M r l = β r)
    (s : Vec Ideal S1x1024 .f32) (x : EReal) (n : ℕ) (hn : n < 32) (hx : s (ix2 0 l) = rec1 α β x (8 * n)) (r : Fin 8) :
    hgrp (k0_pay45 (F := Ideal) (k0_pay40 i2 c ig a m M) (k0_pay41 a) k0_pay42 (k0_pay44 i2 c ig a m M))
      (k0_pay46 (F := Ideal) (k0_pay41 a) (k0_pay43 a)) ⟨n, hn⟩ s (ix2 r l) = rec1 α β x (8 * n + r + 1) := by
  have ha : ∀ k (hk : k < 8), a (ix2 ⟨n * 8 + k, by omega⟩ l) = α (8 * n + k) := fun k hk => (h _).trans (congrArg α (by simp only; omega))
  have hb' : ∀ k (hk : k < 8), termAt i2 c ig m M ⟨n * 8 + k, by omega⟩ l = β (8 * n + k) := fun k hk => (hb _).trans (congrArg β (by simp only; omega))
  rw [hgrp_at, scan_b3 ⟨n, hn⟩ l i2 c ig a m M (fun k => α (8 * n + k)) (fun k => β (8 * n + k)) ha hb' r.val r.isLt,
    scan_a3 ⟨n, hn⟩ l a (fun k => α (8 * n + k)) ha r.val r.isLt, scan8 (fun k => hu _) _ _ r.isLt, hx, add_assoc]
  exact (rec1_add _ _ _ _ _).symm

theorem chain_at (i2 : BitVec 32) (c ig a m M : Vec Ideal S256x1024 .f32) (α β : ℕ → EReal)
    (h : ∀ r : Fin 256, a (ix2 r l) = α r) (hu : ∀ n, Unit01 (α n)) (hb : ∀ r : Fin 256, termAt i2 c ig m M r l = β r)
    (s : Vec Ideal S1x1024 .f32) (n : ℕ) (hn : n ≤ 32) :
    chain (k0_pay45 (F := Ideal) (k0_pay40 i2 c ig a m M) (k0_pay41 a) k0_pay42 (k0_pay44 i2 c ig a m M))
      (k0_pay46 (F := Ideal) (k0_pay41 a) (k0_pay43 a)) s n (ix2 0 l) = rec1 α β (s (ix2 0 l)) (8 * n) := by
  induction n with
  | zero => rfl
  | succ n ih =>
    rw [chain, hend_at, show Fin.ofNat 32 n = ⟨n, by omega⟩ from Fin.ext (Nat.mod_eq_of_lt (by omega)),
      group_at l i2 c ig a m M α β h hu hb _ _ n (by omega) (ih (by omega))]
    rfl

variable (o : Ops Ideal)

theorem chainO (α β : ℕ → EReal) (h : ∀ r : Fin 256, t21 o (ix2 r l) = α r) (hu : ∀ n, Unit01 (α n))
    (hb : ∀ r : Fin 256, termAt o.i2 (t1 o) (t20 o) (t22 o) (t23 o) r l = β r) (n : ℕ) (hn : n ≤ 32) :
    chain (t28 o) (t29 o) o.st n (ix2 0 l) = rec1 α β (o.st (ix2 0 l)) (8 * n) :=
  chain_at l o.i2 (t1 o) (t20 o) (t21 o) (t22 o) (t23 o) α β h hu hb o.st n hn

theorem groupO (α β : ℕ → EReal) (h : ∀ r : Fin 256, t21 o (ix2 r l) = α r) (hu : ∀ n, Unit01 (α n))
    (hb : ∀ r : Fin 256, termAt o.i2 (t1 o) (t20 o) (t22 o) (t23 o) r l = β r) (n : ℕ) (hn : n < 32) (r : Fin 8) :
    hgrp (t28 o) (t29 o) (Fin.ofNat 32 n) (chain (t28 o) (t29 o) o.st n) (ix2 r l) = rec1 α β (o.st (ix2 0 l)) (8 * n + r + 1) := by
  rw [show Fin.ofNat 32 n = ⟨n, by omega⟩ from Fin.ext (Nat.mod_eq_of_lt (by omega))]
  exact group_at l o.i2 (t1 o) (t20 o) (t21 o) (t22 o) (t23 o) α β h hu hb _ _ n hn (chainO l o α β h hu hb n (by omega)) r

/-- The gated output's rows. -/
theorem houtO (α β : ℕ → EReal) (h : ∀ r : Fin 256, t21 o (ix2 r l) = α r) (hu : ∀ n, Unit01 (α n))
    (hb : ∀ r : Fin 256, termAt o.i2 (t1 o) (t20 o) (t22 o) (t23 o) r l = β r) (k : Fin 16) (r : Fin 16) :
    hout (t28 o) (t29 o) o.st k (o.gate k) (ix3 0 r l) =
      rec1 α β (o.st (ix2 0 l)) (16 * k + r + 1) * o.gate k (ix3 0 r l) := by
  rw [hout_at]
  split
  · rw [groupO l o α β h hu hb _ (by omega)]
    congr 3; simp only; omega
  · rw [groupO l o α β h hu hb _ (by omega)]
    congr 3; simp only; omega

theorem lastO (α β : ℕ → EReal) (h : ∀ r : Fin 256, t21 o (ix2 r l) = α r) (hu : ∀ n, Unit01 (α n))
    (hb : ∀ r : Fin 256, termAt o.i2 (t1 o) (t20 o) (t22 o) (t23 o) r l = β r) :
    k0_pay111 (t28 o) (t29 o) (t49 o) (t50 o) (ix2 0 l) = rec1 α β (o.st (ix2 0 l)) 256 := by
  rw [last_eq, shapeCast_self]
  exact chainO l o α β h hu hb 32 le_rfl

theorem hlastO (α β : ℕ → EReal) (h : ∀ r : Fin 256, t21 o (ix2 r l) = α r) (hu : ∀ n, Unit01 (α n))
    (hb : ∀ r : Fin 256, termAt o.i2 (t1 o) (t20 o) (t22 o) (t23 o) r l = β r) :
    k0_pay112 (t28 o) (t29 o) (t49 o) (t50 o) (ix3 0 0 l) = rec1 α β (o.st (ix2 0 l)) 256 := by
  rw [hlast_eq, ← chainO l o α β h hu hb 32 le_rfl]
  generalize chain (t28 o) (t29 o) o.st 32 = z
  pointwise

end Cert.Proof.Rglru

end
-- ==== Proof.RglruGate.lean ====
module

public import proofs.«01_k».proof.Proof.RglruChain

@[expose] public section

set_option maxRecDepth 16384

noncomputable section

namespace Cert.Proof.Rglru

open Cert.KernelIdeal Cert.KernelIdeal.Gen
open Idealize.ShloMosaic Idealize.ShloMosaic.TcCoe

/-! ## The gates' entries -/

/-- Eight heads side by side. -/
def heads (v : Fin 8 → Vec Ideal S256x128 .f32) (r : Fin 256) (l : Fin 1024) : EReal :=
  if h : l.val < 128 then v 0 (ix2 r ⟨l.val, h⟩)
  else if h : l.val - 128 < 128 then v 1 (ix2 r ⟨l.val - 128, h⟩)
  else if h : l.val - 128 - 128 < 128 then v 2 (ix2 r ⟨l.val - 128 - 128, h⟩)
  else if h : l.val - 128 - 128 - 128 < 128 then v 3 (ix2 r ⟨l.val - 128 - 128 - 128, h⟩)
  else if h : l.val - 128 - 128 - 128 - 128 < 128 then v 4 (ix2 r ⟨l.val - 128 - 128 - 128 - 128, h⟩)
  else if h : l.val - 128 - 128 - 128 - 128 - 128 < 128 then v 5 (ix2 r ⟨l.val - 128 - 128 - 128 - 128 - 128, h⟩)
  else if h : l.val - 128 - 128 - 128 - 128 - 128 - 128 < 128 then v 6 (ix2 r ⟨l.val - 128 - 128 - 128 - 128 - 128 - 128, h⟩)
  else v 7 (ix2 r ⟨l.val - 128 - 128 - 128 - 128 - 128 - 128 - 128, by omega⟩)

/-- A lane's head and its place in the head. -/
def headOf (l : Fin 1024) : Fin 8 := ⟨l.val / 128, by omega⟩
def inHead (l : Fin 1024) : Fin 128 := ⟨l.val % 128, Nat.mod_lt _ (by norm_num)⟩

theorem head_entry (v : Fin 8 → Vec Ideal S256x128 .f32) (r : Fin 256) (l : Fin 1024) (k : Fin 8) (x : ℕ) (hx : x < 128)
    (h : l.val = 128 * k.val + x) : v k (ix2 r ⟨x, hx⟩) = v (headOf l) (ix2 r (inHead l)) := by
  have e1 : headOf l = k := Fin.ext (by simp only [headOf]; omega)
  have e2 : inHead l = ⟨x, hx⟩ := Fin.ext (by simp only [inHead]; omega)
  rw [e1, e2]

theorem heads_at (v : Fin 8 → Vec Ideal S256x128 .f32) (r : Fin 256) (l : Fin 1024) :
    heads v r l = v (headOf l) (ix2 r (inHead l)) := by
  unfold heads
  split
  · exact head_entry v r l 0 _ _ (by simp)
  split
  · exact head_entry v r l 1 _ _ (by simp; omega)
  split
  · exact head_entry v r l 2 _ _ (by simp; omega)
  split
  · exact head_entry v r l 3 _ _ (by simp; omega)
  split
  · exact head_entry v r l 4 _ _ (by simp; omega)
  split
  · exact head_entry v r l 5 _ _ (by simp; omega)
  split
  · exact head_entry v r l 6 _ _ (by simp; omega)
  · exact head_entry v r l 7 _ _ (by simp; omega)

theorem p32_at (v : Fin 8 → Vec Ideal S256x128 .f32) (b lam : Vec Ideal S1x1024 .f32) (r : Fin 256) (l : Fin 1024) :
    k0_pay32 (F := Ideal) (v 0) (v 1) (v 2) (v 3) (v 4) (v 5) (v 6) (v 7) b lam (ix2 r l) =
      logDecay (Ideal.logistic (heads v r l + b (ix2 0 l))) (softplus (0 - lam (ix2 0 l))) := by
  pointwise [k0_pay32, heads, logDecay, softplus]
  rfl

variable (o : Ops Ideal) (r : Fin 256) (l : Fin 1024)

/-- The convolution's entry. -/
def cAt (r : Fin 256) (l : Fin 1024) : EReal :=
  o.cb (ix2 0 l) + o.e5 (ix2 r l) * o.w 0 (ix2 0 l) + o.e6 (ix2 r l) * o.w 1 (ix2 0 l) + o.e7 (ix2 r l) * o.w 2 (ix2 0 l)
    + o.e8 (ix2 r l) * o.w 3 (ix2 0 l)

theorem t1_at : t1 o (ix2 r l) = cAt o r l := by
  pointwise [t1, t0, k0_pay6, k0_pay5, cAt]

/-- A gate's argument. -/
def gArg (W : Fin 8 → Vec Ideal S1x128x128 .bf16) (b : Vec Ideal S1x1024 .f32) : EReal :=
  (∑ x : Fin 128, cAt o r ⟨128 * (headOf l).val + x.val, by have := (headOf l).isLt; omega⟩ * W (headOf l) (ix3 0 x (inHead l))) + b (ix2 0 l)

def rHead : Fin 8 → Vec Ideal S256x128 .f32
  | 0 => t3 o | 1 => t5 o | 2 => t7 o | 3 => t10 o | 4 => t12 o | 5 => t14 o | 6 => t16 o | 7 => t19 o
def iHead : Fin 8 → Vec Ideal S256x128 .f32
  | 0 => t4 o | 1 => t6 o | 2 => t8 o | 3 => t11 o | 4 => t13 o | 5 => t15 o | 6 => t17 o | 7 => k0_pay30 (F := Ideal) (t2 o) (o.wi 7)

theorem rHead_at (q : Fin 8) (s : Fin 128) :
    rHead o q (ix2 r s) = ∑ x : Fin 128, cAt o r ⟨128 * q.val + x.val, by omega⟩ * o.wr q (ix3 0 x s) := by
  match q with
  | 0 => pointwise [rHead, cAt, t3, t0, k0_pay9, k0_pay8, k0_pay7, k0_pay6, k0_pay5]
  | 1 => pointwise [rHead, cAt, t5, t0, k0_pay12, k0_pay11, k0_pay7, k0_pay6, k0_pay5]
  | 2 => pointwise [rHead, cAt, t7, t0, k0_pay15, k0_pay14, k0_pay7, k0_pay6, k0_pay5]
  | 3 => pointwise [rHead, cAt, t10, t0, k0_pay18, k0_pay17, k0_pay7, k0_pay6, k0_pay5]
  | 4 => pointwise [rHead, cAt, t12, t2, t0, k0_pay21, k0_pay20, k0_pay7, k0_pay6, k0_pay5]
  | 5 => pointwise [rHead, cAt, t14, t2, t0, k0_pay24, k0_pay23, k0_pay7, k0_pay6, k0_pay5]
  | 6 => pointwise [rHead, cAt, t16, t2, t0, k0_pay27, k0_pay26, k0_pay7, k0_pay6, k0_pay5]
  | 7 => pointwise [rHead, cAt, t19, t2, t0, k0_pay30, k0_pay29, k0_pay7, k0_pay6, k0_pay5]

theorem iHead_at (q : Fin 8) (s : Fin 128) :
    iHead o q (ix2 r s) = ∑ x : Fin 128, cAt o r ⟨128 * q.val + x.val, by omega⟩ * o.wi q (ix3 0 x s) := by
  match q with
  | 0 => pointwise [iHead, cAt, t4, t0, k0_pay10, k0_pay8, k0_pay7, k0_pay6, k0_pay5]
  | 1 => pointwise [iHead, cAt, t6, t0, k0_pay13, k0_pay11, k0_pay7, k0_pay6, k0_pay5]
  | 2 => pointwise [iHead, cAt, t8, t0, k0_pay16, k0_pay14, k0_pay7, k0_pay6, k0_pay5]
  | 3 => pointwise [iHead, cAt, t11, t9, t0, k0_pay19, k0_pay17, k0_pay7, k0_pay6, k0_pay5]
  | 4 => pointwise [iHead, cAt, t13, t2, t0, k0_pay22, k0_pay20, k0_pay7, k0_pay6, k0_pay5]
  | 5 => pointwise [iHead, cAt, t15, t2, t0, k0_pay25, k0_pay23, k0_pay7, k0_pay6, k0_pay5]
  | 6 => pointwise [iHead, cAt, t17, t2, t0, k0_pay28, k0_pay26, k0_pay7, k0_pay6, k0_pay5]
  | 7 => pointwise [iHead, cAt, t2, t0, k0_pay30, k0_pay29, k0_pay7, k0_pay6, k0_pay5]

/-- The decay's logarithm at a row and a lane. -/
def lAt : EReal := logDecay (Ideal.logistic (gArg o r l o.wr o.br)) (softplus (0 - o.lam (ix2 0 l)))

theorem log_at : k0_pay32 (F := Ideal) (t3 o) (t5 o) (t7 o) (t10 o) (t12 o) (t14 o) (t16 o) (t19 o) o.br o.lam (ix2 r l) = lAt o r l := by
  refine (p32_at (rHead o) o.br o.lam r l).trans ?_
  rw [heads_at, rHead_at]
  rfl

theorem t21_at : t21 o (ix2 r l) = Ideal.exp (lAt o r l) := by
  rw [← log_at]
  pointwise [t21, k0_pay33]

theorem t22_at : t22 o (ix2 r l) = oneMinus (lAt o r l) := by
  rw [← log_at]
  pointwise [t22, k0_pay34, k0_pay33, oneMinus]

theorem t23_at : t23 o (ix2 r l) = max (oneMinus (lAt o r l)) (Ideal.ofBits .f32 0x00800000#32) := by
  rw [← t22_at]
  pointwise [t23, t22, k0_pay35]

theorem p31_at (v : Fin 8 → Vec Ideal S256x128 .f32) (x : FVec Ideal S256x128 .bf16) (w : Vec Ideal S1x128x128 .bf16) (b : Vec Ideal S1x1024 .f32)
    (h : ∀ (r : Fin 256) (s : Fin 128), (∑ y : Fin 128, x (ix2 r y) * w (ix3 0 y s)) = v 7 (ix2 r s)) :
    k0_pay31 (F := Ideal) (v 0) (v 1) (v 2) (v 3) (v 4) (v 5) (v 6) x w b (ix2 r l) =
      Ideal.logistic (heads v r l + b (ix2 0 l)) := by
  simp only [heads, ← h]
  pointwise [k0_pay31]

theorem t20_at : t20 o (ix2 r l) = Ideal.logistic (gArg o r l o.wi o.bi) := by
  refine (p31_at r l (iHead o) (t18 o) (o.wi 7) o.bi fun r s => ?_).trans ?_
  · pointwise [iHead, t18, k0_pay30]
  · rw [heads_at, iHead_at]
    rfl

theorem t21_unit : Unit01 (Ideal.exp (lAt o r l)) :=
  unit_exp (logDecay_nonpos (unit_logistic _) (softplus_nonneg _))

/-- The recurrence's term at a row and a lane. -/
theorem term_at : termAt o.i2 (t1 o) (t20 o) (t22 o) (t23 o) r l =
    Scalar.select (IntOp.andi (IntOp.cmpi .eq (BitVec.ofNat 32 r.val) 0#32) (Scalar.cmpi .eq o.i2 0#32)) 1
      (oneMinus (lAt o r l) * Ideal.rsqrt (max (oneMinus (lAt o r l)) (Ideal.ofBits .f32 0x00800000#32)))
      * Ideal.logistic (gArg o r l o.wi o.bi) * cAt o r l := by
  rw [termAt, t22_at, t23_at, t20_at, t1_at]

end Cert.Proof.Rglru

end
-- ==== Proof.RglruBlocks.lean ====
module

public import proofs.«01_k».proof.Proof.RglruGate
public import proofs.«01_k».proof.Proof.RglruSpec
public import Idealize.ShloMosaic.Lib.Pipeline.ReadBack
public import Idealize.ShloMosaic.Lib.WholeRead

@[expose] public section

set_option maxRecDepth 16384
noncomputable section
namespace Cert.Proof.Rglru
open Cert.KernelIdeal Cert.KernelIdeal.Gen
open Idealize.ShloMosaic Idealize.ShloMosaic.TcCoe Idealize.SL.Sem
variable (m : (ℓ : Loc nD τ sig) → Buf (Elt Ideal) ℓ) (c : Dev nD) (t : Fin cfg0.N)

theorem n128 : t.val < 128 := Nat.lt_of_lt_of_eq t.isLt N_0

theorem idxs : ∀ t : Fin cfg0.N, win0_0.index t = ![0, t.val % 64, t.val / 64] ∧ win0_1.index t = ![0, t.val % 64, t.val / 64]
    ∧ win0_2.index t = ![0, 0, t.val / 64] ∧ win0_3.index t = ![0, 0, t.val / 64] ∧ win0_4.index t = ![0, t.val / 64]
    ∧ win0_5.index t = ![0, t.val / 64] ∧ win0_6.index t = ![0, t.val / 64] ∧ win0_7.index t = ![0, t.val / 64]
    ∧ win0_8.index t = ![0, t.val / 64] ∧ win0_9.index t = ![t.val / 64, 0, 0] ∧ win0_10.index t = ![t.val / 64, 0, 0]
    ∧ win0_11.index t = ![0, t.val % 64, t.val / 64] ∧ win0_12.index t = ![0, 0, t.val / 64] ∧ win0_13.index t = ![0, 0, t.val / 64] :=
  (by decide +kernel : ∀ t : Fin grid0.N, _)

/-- The arguments the kernel finds. -/
def parK : Par where
  seq n ch := m ((c : Thread nD τ).loc main_arg0) (ix2 n ch)
  gate n ch := m ((c : Thread nD τ).loc main_arg1) (ix2 n ch)
  buf n ch := m ((c : Thread nD τ).loc main_arg2) (ix3 0 n ch)
  h0 ch := m ((c : Thread nD τ).loc main_arg3) (ix2 0 ch)
  w n ch := m ((c : Thread nD τ).loc main_arg4) (ix3 0 n ch)
  cb ch := m ((c : Thread nD τ).loc main_arg5) (ix2 0 ch)
  wr g x y := m ((c : Thread nD τ).loc main_arg6) (ix4 0 g x y)
  br ch := m ((c : Thread nD τ).loc main_arg7) (ix2 0 ch)
  wi g x y := m ((c : Thread nD τ).loc main_arg8) (ix4 0 g x y)
  bi ch := m ((c : Thread nD τ).loc main_arg9) (ix2 0 ch)
  lam ch := m ((c : Thread nD τ).loc main_arg10) (ix2 0 ch)

/-- The channel of a lane at a point. -/
def chan (l : Fin 1024) : Fin 2048 := ⟨t.val / 64 * 1024 + l.val, by have := n128 t; omega⟩

theorem b0 (r : Fin 256) (l : Fin 1024) : iblk m c 0 t (ix3 0 r l) = (parK m c).seq ⟨t.val % 64 * 256 + r, by omega⟩ (chan t l) := by
  unfold parK chan
  blk_point [iblk, V, idxs t]
theorem b1 (r : Fin 256) (l : Fin 1024) : iblk m c 1 t (ix3 0 r l) = (parK m c).gate ⟨t.val % 64 * 256 + r, by omega⟩ (chan t l) := by
  unfold parK chan
  blk_point [iblk, V, idxs t]
theorem b2 (r : Fin 3) (l : Fin 1024) : iblk m c 2 t (ix3 0 r l) = (parK m c).buf r (chan t l) := by
  unfold parK chan
  blk_point [iblk, V, idxs t]
theorem b3 (l : Fin 1024) : iblk m c 3 t (ix3 0 0 l) = (parK m c).h0 (chan t l) := by
  unfold parK chan
  blk_point [iblk, V, idxs t]
theorem b4 (r : Fin 4) (l : Fin 1024) : iblk m c 4 t (ix2 r l) = (parK m c).w r (chan t l) := by
  unfold parK chan
  blk_point [iblk, V, idxs t]
theorem b5 (l : Fin 1024) : iblk m c 5 t (ix2 0 l) = (parK m c).cb (chan t l) := by
  unfold parK chan
  blk_point [iblk, V, idxs t]
theorem b6 (l : Fin 1024) : iblk m c 6 t (ix2 0 l) = (parK m c).br (chan t l) := by
  unfold parK chan
  blk_point [iblk, V, idxs t]
theorem b7 (l : Fin 1024) : iblk m c 7 t (ix2 0 l) = (parK m c).bi (chan t l) := by
  unfold parK chan
  blk_point [iblk, V, idxs t]
theorem b8 (l : Fin 1024) : iblk m c 8 t (ix2 0 l) = (parK m c).lam (chan t l) := by
  unfold parK chan
  blk_point [iblk, V, idxs t]
theorem b9 (q : Fin 8) (x y : Fin 128) : iblk m c 9 t (ix3 q x y) = (parK m c).wr ⟨t.val / 64 * 8 + q, by have := n128 t; omega⟩ x y := by
  unfold parK
  blk_point [iblk, V, idxs t]
theorem b10 (q : Fin 8) (x y : Fin 128) : iblk m c 10 t (ix3 q x y) = (parK m c).wi ⟨t.val / 64 * 8 + q, by have := n128 t; omega⟩ x y := by
  unfold parK
  blk_point [iblk, V, idxs t]
end Cert.Proof.Rglru

end
-- ==== Proof.RglruPoint.lean ====
module

public import proofs.«01_k».proof.Proof.RglruBlocks
@[expose] public section

set_option maxRecDepth 16384
noncomputable section
namespace Cert.Proof.Rglru
open Cert.KernelIdeal Cert.KernelIdeal.Gen
open Idealize.ShloMosaic Idealize.ShloMosaic.TcCoe Idealize.SL.Sem

/-! ## The window scratch's rows -/

theorem win_new (R : Vec Ideal S256x1024 .f32) (L : List (View.Piece (Elt Ideal) S272x1024 .f32)) (r : Fin 256) (l : Fin 1024) :
    View.canon (⟨Rect.unit (s := S272x1024) ![8, 0] S256x1024.size inb_S272x1024_S256x1024_8_0, R⟩ :: L) (ix2 ⟨8 + r, by omega⟩ l) = R (ix2 r l) := by
  have e : (Rect.unit (s := S272x1024) ![8, 0] S256x1024.size inb_S272x1024_S256x1024_8_0).emb (ix2 r l) = ix2 ⟨8 + r, by omega⟩ l := by
    blk_ext
  rw [← e]
  exact View.canon_cons_emb _ _ _ _

theorem win_old (R : Vec Ideal S256x1024 .f32) (L : List (View.Piece (Elt Ideal) S272x1024 .f32)) (q : Fin 272) (hq : q.val < 8) (l : Fin 1024) :
    View.canon (⟨Rect.unit (s := S272x1024) ![8, 0] S256x1024.size inb_S272x1024_S256x1024_8_0, R⟩ :: L) (ix2 q l) = View.canon L (ix2 q l) := by
  refine View.canon_cons_of_not_mem _ _ fun hm => ?_
  obtain ⟨x, hx⟩ := LoadRect.exists_idx_of_mem _ hm
  have h := congrArg Fin.val (congrFun hx 0)
  have h2 : 8 + 1 * (x 0).val = q.val := h
  omega

theorem win_buf (Q : Vec Ideal S3x1024 .f32) (r : Fin 3) (l : Fin 1024) :
    View.canon [⟨Rect.unit (s := S272x1024) ![5, 0] S3x1024.size inb_S272x1024_S3x1024_5_0, Q⟩] (ix2 ⟨5 + r, by omega⟩ l) = Q (ix2 r l) := by
  have e : (Rect.unit (s := S272x1024) ![5, 0] S3x1024.size inb_S272x1024_S3x1024_5_0).emb (ix2 r l) = ix2 ⟨5 + r, by omega⟩ l := by
    blk_ext
  rw [← e]
  exact View.canon_cons_emb _ _ _ _

theorem win_head (p : Vec Ideal S8x1024 .f32) (r : Fin 8) (l : Fin 1024) :
    View.canon [headRows p] (ix2 ⟨r, by omega⟩ l) = p (ix2 r l) := by
  have e : (Rect.unit (s := S272x1024) ![0, 0] S8x1024.size inb_S272x1024_S8x1024_0_0).emb (ix2 r l) = ix2 ⟨r, by omega⟩ l := by
    blk_ext
  rw [← e]
  exact View.canon_cons_emb _ _ _ _

/-- A load of `n` rows from row `k` of the window scratch. -/
theorem win_load (v : View sig .tc .vmem S272x1024 .f32) (L : List (View.Piece (Elt Ideal) S272x1024 .f32)) (k n : ℕ)
    (inb : ∀ a, (![k, 0] : Fin 2 → ℕ) a + (⟨2, ![n, 1024]⟩ : Shape).size a ≤ S272x1024.size a) (r : Fin n) (l : Fin 1024) (hk : k + r.val < 272) :
    v.readCov L (Rect.unit (s := S272x1024) ![k, 0] (⟨2, ![n, 1024]⟩ : Shape).size inb).toLoadRect (ix2 r l) = View.canon L (ix2 ⟨k + r, hk⟩ l) := by
  rw [View.readCov_eq_canon']
  refine congrArg (View.canon L) ?_
  blk_ext
  · show k + 1 * r.val = k + r.val
    omega
  · show 0 + 1 * l.val = l.val
    omega

variable (m : (ℓ : Loc nD τ sig) → Buf (Elt Ideal) ℓ) (c : Dev nD) (t : Fin cfg0.N)

/-- The operands of a point. -/
def opsAt : Ops Ideal :=
  open Classical in
  if hc : First (grid0.coords t) then opsA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t)
  else opsB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (stateAt m c t.val).1 (stateAt m c t.val).2

theorem opsAt_first (hc : First (grid0.coords t)) : opsAt m c t = opsA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) := dif_pos hc
theorem opsAt_later (hc : ¬ First (grid0.coords t)) : opsAt m c t = opsB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scExt (Memref.isWhole_whole _) scState (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (stateAt m c t.val).1 (stateAt m c t.val).2 := dif_neg hc

theorem leaves_outs : leaves m c t (stateAt m c t.val).1 (stateAt m c t.val).2 = outs (opsAt m c t) := by
  by_cases hc : First (grid0.coords t)
  · rw [leaves_first m c t _ _ hc, opsAt_first m c t hc, runA_val]
  · rw [leaves_later m c t _ _ hc, opsAt_later m c t hc, runB_val]

theorem unit_idx {s : Shape} (off size : Fin s.rank → ℕ) (inb : ∀ a, off a + size a ≤ s.size a) (j : (Rect.unit (s := s) off size inb).toLoadRect.shape.Idx) (a : Fin s.rank) :
    ((Rect.unit (s := s) off size inb).toLoadRect.idx j a).val = off a + 1 * (j a).val := rfl

theorem o_w (j : Fin 4) (l : Fin 1024) : (opsAt m c t).w j (ix2 0 l) = (parK m c).w j (chan t l) := by
  have e : (opsAt m c t).w j = View.readAt (Elt Ideal) (st4 t).view (Rect.unit (s := S4x1024) ![j.val, 0] S1x1024.size (inb4 j)).toLoadRect ((hst4 t).unread (iblk m c 4 t)) := by
    by_cases hc : First (grid0.coords t)
    · rw [opsAt_first m c t hc]; rfl
    · rw [opsAt_later m c t hc]; rfl
  rw [e]
  refine ((hst4 t).readAt_unread _ _ _).trans ((congrArg (iblk m c 4 t) ?_).trans (b4 m c t j l))
  blk_ext <;> (refine (unit_idx _ _ _ _ _).trans ?_; simp [ix2, ix3])

theorem o_cb (l : Fin 1024) : (opsAt m c t).cb (ix2 0 l) = (parK m c).cb (chan t l) := by
  have e : (opsAt m c t).cb = View.readAt (Elt Ideal) (st5 t).view (Rect.unit (s := S1x1024) ![0, 0] S1x1024.size inb_S1x1024_S1x1024_0_0).toLoadRect ((hst5 t).unread (iblk m c 5 t)) := by
    by_cases hc : First (grid0.coords t)
    · rw [opsAt_first m c t hc]; rfl
    · rw [opsAt_later m c t hc]; rfl
  rw [e]
  refine ((hst5 t).readAt_unread _ _ _).trans ((congrArg (iblk m c 5 t) ?_).trans (b5 m c t l))
  blk_ext <;> (refine (unit_idx _ _ _ _ _).trans ?_; simp [ix2, ix3])

theorem o_br (l : Fin 1024) : (opsAt m c t).br (ix2 0 l) = (parK m c).br (chan t l) := by
  have e : (opsAt m c t).br = View.readAt (Elt Ideal) (st6 t).view (Rect.unit (s := S1x1024) ![0, 0] S1x1024.size inb_S1x1024_S1x1024_0_0).toLoadRect ((hst6 t).unread (iblk m c 6 t)) := by
    by_cases hc : First (grid0.coords t)
    · rw [opsAt_first m c t hc]; rfl
    · rw [opsAt_later m c t hc]; rfl
  rw [e]
  refine ((hst6 t).readAt_unread _ _ _).trans ((congrArg (iblk m c 6 t) ?_).trans (b6 m c t l))
  blk_ext <;> (refine (unit_idx _ _ _ _ _).trans ?_; simp [ix2, ix3])

theorem o_bi (l : Fin 1024) : (opsAt m c t).bi (ix2 0 l) = (parK m c).bi (chan t l) := by
  have e : (opsAt m c t).bi = View.readAt (Elt Ideal) (st7 t).view (Rect.unit (s := S1x1024) ![0, 0] S1x1024.size inb_S1x1024_S1x1024_0_0).toLoadRect ((hst7 t).unread (iblk m c 7 t)) := by
    by_cases hc : First (grid0.coords t)
    · rw [opsAt_first m c t hc]; rfl
    · rw [opsAt_later m c t hc]; rfl
  rw [e]
  refine ((hst7 t).readAt_unread _ _ _).trans ((congrArg (iblk m c 7 t) ?_).trans (b7 m c t l))
  blk_ext <;> (refine (unit_idx _ _ _ _ _).trans ?_; simp [ix2, ix3])

theorem o_lam (l : Fin 1024) : (opsAt m c t).lam (ix2 0 l) = (parK m c).lam (chan t l) := by
  have e : (opsAt m c t).lam = View.readAt (Elt Ideal) (st8 t).view (Rect.unit (s := S1x1024) ![0, 0] S1x1024.size inb_S1x1024_S1x1024_0_0).toLoadRect ((hst8 t).unread (iblk m c 8 t)) := by
    by_cases hc : First (grid0.coords t)
    · rw [opsAt_first m c t hc]; rfl
    · rw [opsAt_later m c t hc]; rfl
  rw [e]
  refine ((hst8 t).readAt_unread _ _ _).trans ((congrArg (iblk m c 8 t) ?_).trans (b8 m c t l))
  blk_ext <;> (refine (unit_idx _ _ _ _ _).trans ?_; simp [ix2, ix3])

theorem o_wr (q : Fin 8) (x y : Fin 128) : (opsAt m c t).wr q (ix3 0 x y) = (parK m c).wr ⟨t.val / 64 * 8 + q, by have := n128 t; omega⟩ x y := by
  have e : (opsAt m c t).wr q = View.readAt (Elt Ideal) (st9 t).view (Rect.unit (s := S8x128x128) ![q.val, 0, 0] S1x128x128.size (inb8 q)).toLoadRect ((hst9 t).unread (iblk m c 9 t)) := by
    by_cases hc : First (grid0.coords t)
    · rw [opsAt_first m c t hc]; rfl
    · rw [opsAt_later m c t hc]; rfl
  rw [e]
  refine ((hst9 t).readAt_unread _ _ _).trans ((congrArg (iblk m c 9 t) ?_).trans (b9 m c t q x y))
  blk_ext <;> (refine (unit_idx _ _ _ _ _).trans ?_; simp [ix2, ix3])

theorem o_wi (q : Fin 8) (x y : Fin 128) : (opsAt m c t).wi q (ix3 0 x y) = (parK m c).wi ⟨t.val / 64 * 8 + q, by have := n128 t; omega⟩ x y := by
  have e : (opsAt m c t).wi q = View.readAt (Elt Ideal) (st10 t).view (Rect.unit (s := S8x128x128) ![q.val, 0, 0] S1x128x128.size (inb8 q)).toLoadRect ((hst10 t).unread (iblk m c 10 t)) := by
    by_cases hc : First (grid0.coords t)
    · rw [opsAt_first m c t hc]; rfl
    · rw [opsAt_later m c t hc]; rfl
  rw [e]
  refine ((hst10 t).readAt_unread _ _ _).trans ((congrArg (iblk m c 10 t) ?_).trans (b10 m c t q x y))
  blk_ext <;> (refine (unit_idx _ _ _ _ _).trans ?_; simp [ix2, ix3])

theorem o_gate (k r : Fin 16) (l : Fin 1024) : (opsAt m c t).gate k (ix3 0 r l) = (parK m c).gate ⟨t.val % 64 * 256 + (16 * k + r), by omega⟩ (chan t l) := by
  have e : (opsAt m c t).gate k = View.readAt (Elt Ideal) (st1 t).view (Rect.unit (s := S1x256x1024) ![0, 16 * k.val, 0] S1x16x1024.size (inb16 k)).toLoadRect ((hst1 t).unread (iblk m c 1 t)) := by
    by_cases hc : First (grid0.coords t)
    · rw [opsAt_first m c t hc]; rfl
    · rw [opsAt_later m c t hc]; rfl
  rw [e]
  refine ((hst1 t).readAt_unread _ _ _).trans ((congrArg (iblk m c 1 t) ?_).trans (b1 m c t ⟨16 * k + r, by omega⟩ l))
  blk_ext <;> (refine (unit_idx _ _ _ _ _).trans ?_; simp [ix2, ix3])

theorem o_i2 : (opsAt m c t).i2 = BitVec.ofNat 32 (t.val % 64) := by
  have e2 : (grid0.coords t 2).val = t.val / 1 % 64 := Pipeline.Grid.coords_val t 2 (by decide) rfl
  rw [Nat.div_one] at e2
  rw [← e2]
  by_cases hc : First (grid0.coords t)
  · rw [opsAt_first m c t hc]; rfl
  · rw [opsAt_later m c t hc]; rfl

/-- What the rows at the window's head hold before a point's own rows. -/
def Head (L : List (View.Piece (Elt Ideal) S272x1024 .f32)) : Prop :=
  ∀ (r : Fin 3) (l : Fin 1024), View.canon L (ix2 ⟨5 + r, by omega⟩ l) = (parK m c).pad (t.val % 64 * 256 + r) (chan t l)

/-- The point's own rows. -/
def own : Vec Ideal S256x1024 .f32 :=
  k0_pay4 (View.readAt (Elt Ideal) (st0 t).view (Rect.unit ![0, 0, 0] S1x256x1024.size inb_S1x256x1024_S1x256x1024_0_0_0).toLoadRect ((hst0 t).unread (iblk m c 0 t)))

theorem own_at (r : Fin 256) (l : Fin 1024) : own m c t (ix2 r l) = (parK m c).seq ⟨t.val % 64 * 256 + r, by omega⟩ (chan t l) := by
  rw [← b0 m c t r l]
  have e : ∀ X : Vec Ideal S1x256x1024 .f32, k0_pay4 (F := Ideal) X (ix2 r l) = X (ix3 0 r l) := fun X => by pointwise [k0_pay4]
  unfold own
  rw [e]
  refine ((hst0 t).readAt_unread _ _ _).trans (congrArg (iblk m c 0 t) ?_)
  blk_ext <;> (refine (unit_idx _ _ _ _ _).trans ?_; simp [ix2, ix3])

theorem win_at {L} (h : Head m c t L) (q : ℕ) (hq : q < 259) (l : Fin 1024) :
    View.canon (⟨Rect.unit (s := S272x1024) ![8, 0] S256x1024.size inb_S272x1024_S256x1024_8_0, own m c t⟩ :: L) (ix2 ⟨5 + q, by omega⟩ l)
      = (parK m c).pad (t.val % 64 * 256 + q) (chan t l) := by
  by_cases h3 : q < 3
  · rw [win_old _ _ _ (by show 5 + q < 8; omega)]
    exact h ⟨q, h3⟩ l
  · have e : (⟨5 + q, by omega⟩ : Fin 272) = ⟨8 + (⟨q - 3, by omega⟩ : Fin 256).val, by simp only []; omega⟩ := Fin.ext (by simp only []; omega)
    rw [e, win_new, own_at, Par.pad, dif_neg (by omega), dif_pos (by omega)]
    exact congrArg ((parK m c).seq · (chan t l)) (Fin.ext (by simp only []; omega))

/-- The operands that come from the window scratch and the state row. -/
structure Carried : Prop where
  e5 : ∀ (r : Fin 256) (l : Fin 1024), (opsAt m c t).e5 (ix2 r l) = (parK m c).pad (t.val % 64 * 256 + r) (chan t l)
  e6 : ∀ (r : Fin 256) (l : Fin 1024), (opsAt m c t).e6 (ix2 r l) = (parK m c).pad (t.val % 64 * 256 + r + 1) (chan t l)
  e7 : ∀ (r : Fin 256) (l : Fin 1024), (opsAt m c t).e7 (ix2 r l) = (parK m c).pad (t.val % 64 * 256 + r + 2) (chan t l)
  e8 : ∀ (r : Fin 256) (l : Fin 1024), (opsAt m c t).e8 (ix2 r l) = (parK m c).pad (t.val % 64 * 256 + r + 3) (chan t l)
  tail3 : ∀ (r : Fin 3) (l : Fin 1024), (opsAt m c t).tail3 (ix2 r l) = (parK m c).pad (t.val % 64 * 256 + 256 + r) (chan t l)
  tail8 : ∀ (r : Fin 3) (l : Fin 1024), (opsAt m c t).tail8 (ix2 ⟨5 + r, by omega⟩ l) = (parK m c).pad (t.val % 64 * 256 + 256 + r) (chan t l)
  st : ∀ l : Fin 1024, (opsAt m c t).st (ix2 0 l) = (parK m c).st (chan t l) (t.val % 64 * 256)

/-- The same of the loads themselves. -/
theorem load_at (v : View sig .tc .vmem S272x1024 .f32) {L} (h : Head m c t L) (k n : ℕ)
    (inb : ∀ a, (![k, 0] : Fin 2 → ℕ) a + (⟨2, ![n, 1024]⟩ : Shape).size a ≤ S272x1024.size a) (r : Fin n) (l : Fin 1024) (q x : ℕ)
    (hk : k + r.val = 5 + q) (hq : q < 259) (hx : x = t.val % 64 * 256 + q) :
    v.readCov (⟨Rect.unit (s := S272x1024) ![8, 0] S256x1024.size inb_S272x1024_S256x1024_8_0, own m c t⟩ :: L)
      (Rect.unit (s := S272x1024) ![k, 0] (⟨2, ![n, 1024]⟩ : Shape).size inb).toLoadRect (ix2 r l) = (parK m c).pad x (chan t l) := by
  subst hx
  rw [win_load v _ k n inb r l (by omega), ← win_at m c t h q hq l]
  refine congrArg (View.canon _) ?_
  refine congrArg (ix2 · l) (Fin.ext hk)

set_option maxHeartbeats 600000 in
theorem carried_first (hc : First (grid0.coords t)) : Carried m c t := by
  have h0 : t.val % 64 = 0 := (first_iff t).mp hc
  have h : Head m c t [⟨Rect.unit (s := S272x1024) ![5, 0] S3x1024.size inb_S272x1024_S3x1024_5_0, k0_pay2 (View.readAt (Elt Ideal) (st2 t).view (Rect.unit ![0, 0, 0] S1x3x1024.size inb_S1x3x1024_S1x3x1024_0_0_0).toLoadRect ((hst2 t).unread (iblk m c 2 t)))⟩] := by
    intro r l
    have e : ∀ X : Vec Ideal S1x3x1024 .f32, k0_pay2 (F := Ideal) X (ix2 r l) = X (ix3 0 r l) := fun X => by pointwise [k0_pay2]
    rw [win_buf, e, h0, Par.pad, dif_pos (by omega)]
    refine ((hst2 t).readAt_unread _ _ _).trans ((congrArg (iblk m c 2 t) ?_).trans ((b2 m c t r l).trans ?_))
    · blk_ext <;> (refine (unit_idx _ _ _ _ _).trans ?_; simp [ix2, ix3])
    · exact congrArg ((parK m c).buf · (chan t l)) (Fin.ext (by simp only []; omega))
  refine ⟨fun r l => ?_, fun r l => ?_, fun r l => ?_, fun r l => ?_, fun r l => ?_, fun r l => ?_, fun l => ?_⟩
  · have e : (opsAt m c t).e5 = scExt.view.readCov (⟨Rect.unit (s := S272x1024) ![8, 0] S256x1024.size inb_S272x1024_S256x1024_8_0, own m c t⟩ :: [⟨Rect.unit (s := S272x1024) ![5, 0] S3x1024.size inb_S272x1024_S3x1024_5_0, k0_pay2 (View.readAt (Elt Ideal) (st2 t).view (Rect.unit ![0, 0, 0] S1x3x1024.size inb_S1x3x1024_S1x3x1024_0_0_0).toLoadRect ((hst2 t).unread (iblk m c 2 t)))⟩]) (Rect.unit (s := S272x1024) ![5, 0] S256x1024.size inb_S272x1024_S256x1024_5_0).toLoadRect := by
      rw [opsAt_first m c t hc]; sl_kernel_rfl
    rw [e]; exact load_at m c t _ h 5 256 _ r l r _ rfl (by omega) (by omega)
  · have e : (opsAt m c t).e6 = scExt.view.readCov (⟨Rect.unit (s := S272x1024) ![8, 0] S256x1024.size inb_S272x1024_S256x1024_8_0, own m c t⟩ :: [⟨Rect.unit (s := S272x1024) ![5, 0] S3x1024.size inb_S272x1024_S3x1024_5_0, k0_pay2 (View.readAt (Elt Ideal) (st2 t).view (Rect.unit ![0, 0, 0] S1x3x1024.size inb_S1x3x1024_S1x3x1024_0_0_0).toLoadRect ((hst2 t).unread (iblk m c 2 t)))⟩]) (Rect.unit (s := S272x1024) ![6, 0] S256x1024.size inb_S272x1024_S256x1024_6_0).toLoadRect := by
      rw [opsAt_first m c t hc]; sl_kernel_rfl
    rw [e]; exact load_at m c t _ h 6 256 _ r l (r + 1) _ (by omega) (by omega) (by omega)
  · have e : (opsAt m c t).e7 = scExt.view.readCov (⟨Rect.unit (s := S272x1024) ![8, 0] S256x1024.size inb_S272x1024_S256x1024_8_0, own m c t⟩ :: [⟨Rect.unit (s := S272x1024) ![5, 0] S3x1024.size inb_S272x1024_S3x1024_5_0, k0_pay2 (View.readAt (Elt Ideal) (st2 t).view (Rect.unit ![0, 0, 0] S1x3x1024.size inb_S1x3x1024_S1x3x1024_0_0_0).toLoadRect ((hst2 t).unread (iblk m c 2 t)))⟩]) (Rect.unit (s := S272x1024) ![7, 0] S256x1024.size inb_S272x1024_S256x1024_7_0).toLoadRect := by
      rw [opsAt_first m c t hc]; sl_kernel_rfl
    rw [e]; exact load_at m c t _ h 7 256 _ r l (r + 2) _ (by omega) (by omega) (by omega)
  · have e : (opsAt m c t).e8 = scExt.view.readCov (⟨Rect.unit (s := S272x1024) ![8, 0] S256x1024.size inb_S272x1024_S256x1024_8_0, own m c t⟩ :: [⟨Rect.unit (s := S272x1024) ![5, 0] S3x1024.size inb_S272x1024_S3x1024_5_0, k0_pay2 (View.readAt (Elt Ideal) (st2 t).view (Rect.unit ![0, 0, 0] S1x3x1024.size inb_S1x3x1024_S1x3x1024_0_0_0).toLoadRect ((hst2 t).unread (iblk m c 2 t)))⟩]) (Rect.unit (s := S272x1024) ![8, 0] S256x1024.size inb_S272x1024_S256x1024_8_0).toLoadRect := by
      rw [opsAt_first m c t hc]; sl_kernel_rfl
    rw [e]; exact load_at m c t _ h 8 256 _ r l (r + 3) _ (by omega) (by omega) (by omega)
  · have e : (opsAt m c t).tail3 = scExt.view.readCov (⟨Rect.unit (s := S272x1024) ![8, 0] S256x1024.size inb_S272x1024_S256x1024_8_0, own m c t⟩ :: [⟨Rect.unit (s := S272x1024) ![5, 0] S3x1024.size inb_S272x1024_S3x1024_5_0, k0_pay2 (View.readAt (Elt Ideal) (st2 t).view (Rect.unit ![0, 0, 0] S1x3x1024.size inb_S1x3x1024_S1x3x1024_0_0_0).toLoadRect ((hst2 t).unread (iblk m c 2 t)))⟩]) (Rect.unit (s := S272x1024) ![261, 0] S3x1024.size inb_S272x1024_S3x1024_261_0).toLoadRect := by
      rw [opsAt_first m c t hc]; sl_kernel_rfl
    rw [e]; exact load_at m c t _ h 261 3 _ r l (256 + r) _ (by omega) (by omega) (by omega)
  · have e : (opsAt m c t).tail8 = scExt.view.readCov (⟨Rect.unit (s := S272x1024) ![8, 0] S256x1024.size inb_S272x1024_S256x1024_8_0, own m c t⟩ :: [⟨Rect.unit (s := S272x1024) ![5, 0] S3x1024.size inb_S272x1024_S3x1024_5_0, k0_pay2 (View.readAt (Elt Ideal) (st2 t).view (Rect.unit ![0, 0, 0] S1x3x1024.size inb_S1x3x1024_S1x3x1024_0_0_0).toLoadRect ((hst2 t).unread (iblk m c 2 t)))⟩]) (Rect.unit (s := S272x1024) ![256, 0] S8x1024.size inb_S272x1024_S8x1024_256_0).toLoadRect := by
      rw [opsAt_first m c t hc]; sl_kernel_rfl
    rw [e]; exact load_at m c t _ h 256 8 _ ⟨5 + r, by omega⟩ l (256 + r) _ (by simp only []; omega) (by omega) (by omega)
  · rw [h0]
    have e : ∀ X : Vec Ideal S1x1x1024 .f32, k0_pay3 (F := Ideal) X (ix2 0 l) = X (ix3 0 0 l) := fun X => by pointwise [k0_pay3]
    have e' : (opsAt m c t).st = k0_pay3 (View.readAt (Elt Ideal) (st3 t).view (Rect.unit ![0, 0, 0] S1x1x1024.size inb_S1x1x1024_S1x1x1024_0_0_0).toLoadRect ((hst3 t).unread (iblk m c 3 t))) := by
      have e1 : (opsAt m c t).st = scState.view.readCov [⟨Rect.unit (s := S1x1024) ![0, 0] S1x1024.size inb_S1x1024_S1x1024_0_0, k0_pay3 (View.readAt (Elt Ideal) (st3 t).view (Rect.unit ![0, 0, 0] S1x1x1024.size inb_S1x1x1024_S1x1x1024_0_0_0).toLoadRect ((hst3 t).unread (iblk m c 3 t)))⟩] (Rect.unit (s := S1x1024) ![0, 0] S1x1024.size inb_S1x1024_S1x1024_0_0).toLoadRect := by
        rw [opsAt_first m c t hc]; sl_kernel_rfl
      rw [e1]
      refine View.readCov_unit_lit (S := S1x1024) _ _ _ (off := ![0, 0]) ?_
      decide
    refine (congrFun e' (ix2 0 l)).trans ((e _).trans ?_)
    refine ((hst3 t).readAt_unread _ _ _).trans ((congrArg (iblk m c 3 t) ?_).trans (b3 m c t l))
    blk_ext <;> (refine (unit_idx _ _ _ _ _).trans ?_; simp [ix2, ix3])

set_option maxHeartbeats 600000 in
theorem carried_later (hc : ¬ First (grid0.coords t))
    (h : Head m c t [headRows (stateAt m c t.val).1])
    (hs : ∀ l : Fin 1024, (stateAt m c t.val).2 (ix2 0 l) = (parK m c).st (chan t l) (t.val % 64 * 256)) : Carried m c t := by
  refine ⟨fun r l => ?_, fun r l => ?_, fun r l => ?_, fun r l => ?_, fun r l => ?_, fun r l => ?_, fun l => ?_⟩
  · have e : (opsAt m c t).e5 = scExt.view.readCov (⟨Rect.unit (s := S272x1024) ![8, 0] S256x1024.size inb_S272x1024_S256x1024_8_0, own m c t⟩ :: [headRows (stateAt m c t.val).1]) (Rect.unit (s := S272x1024) ![5, 0] S256x1024.size inb_S272x1024_S256x1024_5_0).toLoadRect := by
      rw [opsAt_later m c t hc]; sl_kernel_rfl
    rw [e]; exact load_at m c t _ h 5 256 _ r l r _ rfl (by omega) (by omega)
  · have e : (opsAt m c t).e6 = scExt.view.readCov (⟨Rect.unit (s := S272x1024) ![8, 0] S256x1024.size inb_S272x1024_S256x1024_8_0, own m c t⟩ :: [headRows (stateAt m c t.val).1]) (Rect.unit (s := S272x1024) ![6, 0] S256x1024.size inb_S272x1024_S256x1024_6_0).toLoadRect := by
      rw [opsAt_later m c t hc]; sl_kernel_rfl
    rw [e]; exact load_at m c t _ h 6 256 _ r l (r + 1) _ (by omega) (by omega) (by omega)
  · have e : (opsAt m c t).e7 = scExt.view.readCov (⟨Rect.unit (s := S272x1024) ![8, 0] S256x1024.size inb_S272x1024_S256x1024_8_0, own m c t⟩ :: [headRows (stateAt m c t.val).1]) (Rect.unit (s := S272x1024) ![7, 0] S256x1024.size inb_S272x1024_S256x1024_7_0).toLoadRect := by
      rw [opsAt_later m c t hc]; sl_kernel_rfl
    rw [e]; exact load_at m c t _ h 7 256 _ r l (r + 2) _ (by omega) (by omega) (by omega)
  · have e : (opsAt m c t).e8 = scExt.view.readCov (⟨Rect.unit (s := S272x1024) ![8, 0] S256x1024.size inb_S272x1024_S256x1024_8_0, own m c t⟩ :: [headRows (stateAt m c t.val).1]) (Rect.unit (s := S272x1024) ![8, 0] S256x1024.size inb_S272x1024_S256x1024_8_0).toLoadRect := by
      rw [opsAt_later m c t hc]; sl_kernel_rfl
    rw [e]; exact load_at m c t _ h 8 256 _ r l (r + 3) _ (by omega) (by omega) (by omega)
  · have e : (opsAt m c t).tail3 = scExt.view.readCov (⟨Rect.unit (s := S272x1024) ![8, 0] S256x1024.size inb_S272x1024_S256x1024_8_0, own m c t⟩ :: [headRows (stateAt m c t.val).1]) (Rect.unit (s := S272x1024) ![261, 0] S3x1024.size inb_S272x1024_S3x1024_261_0).toLoadRect := by
      rw [opsAt_later m c t hc]; sl_kernel_rfl
    rw [e]; exact load_at m c t _ h 261 3 _ r l (256 + r) _ (by omega) (by omega) (by omega)
  · have e : (opsAt m c t).tail8 = scExt.view.readCov (⟨Rect.unit (s := S272x1024) ![8, 0] S256x1024.size inb_S272x1024_S256x1024_8_0, own m c t⟩ :: [headRows (stateAt m c t.val).1]) (Rect.unit (s := S272x1024) ![256, 0] S8x1024.size inb_S272x1024_S8x1024_256_0).toLoadRect := by
      rw [opsAt_later m c t hc]; sl_kernel_rfl
    rw [e]; exact load_at m c t _ h 256 8 _ ⟨5 + r, by omega⟩ l (256 + r) _ (by simp only []; omega) (by omega) (by omega)
  · have e : (opsAt m c t).st = (stateAt m c t.val).2 := by
      have e1 : (opsAt m c t).st = scState.view.readCov [⟨Rect.unit (s := S1x1024) ![0, 0] S1x1024.size inb_S1x1024_S1x1024_0_0, (stateAt m c t.val).2⟩] (Rect.unit (s := S1x1024) ![0, 0] S1x1024.size inb_S1x1024_S1x1024_0_0).toLoadRect := by
        rw [opsAt_later m c t hc]; sl_kernel_rfl
      rw [e1]
      refine View.readCov_unit_lit (S := S1x1024) _ _ _ (off := ![0, 0]) ?_
      decide
    rw [e, hs l]

variable (h : Carried m c t)
include h

theorem cAt_eq (r : Fin 256) (l : Fin 1024) : cAt (opsAt m c t) r l = (parK m c).cv (t.val % 64 * 256 + r) (chan t l) := by
  unfold cAt Par.cv
  rw [h.e5, h.e6, h.e7, h.e8, o_cb, o_w, o_w, o_w, o_w]

omit h in
theorem chan_head (l : Fin 1024) (x : Fin 128) :
    chan t ⟨128 * (headOf l).val + x.val, by have := (headOf l).isLt; omega⟩ = ⟨128 * (Par.hd (chan t l)).val + x.val, by have := (Par.hd (chan t l)).isLt; omega⟩ :=
  Fin.ext (by simp only [chan, headOf, Par.hd]; omega)

omit h in
theorem head_chan (l : Fin 1024) : (⟨t.val / 64 * 8 + headOf l, by have := n128 t; have := (headOf l).isLt; omega⟩ : Fin 16) = Par.hd (chan t l) :=
  Fin.ext (by simp only [chan, headOf, Par.hd]; omega)

omit h in
theorem inh_chan (l : Fin 1024) : inHead l = Par.inh (chan t l) := Fin.ext (by simp only [chan, inHead, Par.inh]; omega)

theorem rArg (r : Fin 256) (l : Fin 1024) :
    gArg (opsAt m c t) r l (opsAt m c t).wr (opsAt m c t).br = (parK m c).arg (parK m c).wr (parK m c).br (t.val % 64 * 256 + r) (chan t l) := by
  unfold gArg Par.arg
  rw [o_br]
  refine congrArg (· + _) (Finset.sum_congr rfl fun x _ => ?_)
  rw [cAt_eq m c t h, o_wr, head_chan, inh_chan, chan_head]

theorem iArg (r : Fin 256) (l : Fin 1024) :
    gArg (opsAt m c t) r l (opsAt m c t).wi (opsAt m c t).bi = (parK m c).arg (parK m c).wi (parK m c).bi (t.val % 64 * 256 + r) (chan t l) := by
  unfold gArg Par.arg
  rw [o_bi]
  refine congrArg (· + _) (Finset.sum_congr rfl fun x _ => ?_)
  rw [cAt_eq m c t h, o_wi, head_chan, inh_chan, chan_head]

theorem lAt_eq (r : Fin 256) (l : Fin 1024) : lAt (opsAt m c t) r l = (parK m c).lg (t.val % 64 * 256 + r) (chan t l) := by
  unfold lAt Par.lg
  rw [rArg m c t h, o_lam]

omit h in
theorem first_row (r : Fin 256) (y : EReal) :
    Scalar.select (IntOp.andi (IntOp.cmpi .eq (BitVec.ofNat 32 r.val) 0#32) (Scalar.cmpi .eq (BitVec.ofNat 32 (t.val % 64)) 0#32)) 1 y
      = if t.val % 64 * 256 + r.val = 0 then 1 else y := by
  have hz : ∀ n : ℕ, n < 256 → (BitVec.ofNat 32 n == 0#32) = decide (n = 0) := fun n hn => by
    have : (BitVec.ofNat 32 n = 0#32) ↔ n = 0 := by
      rw [← BitVec.toNat_inj]; simp; omega
    by_cases c : n = 0
    · simp [c]
    · simpa [c] using fun e => c (this.mp e)
  have h1 := hz r.val r.isLt
  have h2 := hz (t.val % 64) (by omega)
  by_cases c1 : r.val = 0 <;> by_cases c2 : t.val % 64 = 0 <;>
    simp [Scalar.select, IntOp.andi, IntOp.cmpi, Scalar.cmpi, h1, h2, c1, c2]

theorem term_eq (r : Fin 256) (l : Fin 1024) :
    termAt (opsAt m c t).i2 (t1 (opsAt m c t)) (t20 (opsAt m c t)) (t22 (opsAt m c t)) (t23 (opsAt m c t)) r l
      = (parK m c).be (chan t l) (t.val % 64 * 256 + r) := by
  rw [term_at, o_i2, first_row, lAt_eq m c t h, cAt_eq m c t h, iArg m c t h]
  rfl

theorem dec_eq (r : Fin 256) (l : Fin 1024) : t21 (opsAt m c t) (ix2 r l) = (parK m c).al (chan t l) (t.val % 64 * 256 + r) := by
  rw [t21_at, lAt_eq m c t h]; rfl

/-- `n` rows into a point, the recurrence's state. -/
theorem rec_at (l : Fin 1024) (n : ℕ) :
    rec1 (fun k => (parK m c).al (chan t l) (t.val % 64 * 256 + k)) (fun k => (parK m c).be (chan t l) (t.val % 64 * 256 + k))
      ((opsAt m c t).st (ix2 0 l)) n = (parK m c).st (chan t l) (t.val % 64 * 256 + n) := by
  rw [h.st, Par.st, Par.st, rec1_add]

/-- The point's gated output. -/
theorem hg_at (k r : Fin 16) (l : Fin 1024) :
    hout (t28 (opsAt m c t)) (t29 (opsAt m c t)) (opsAt m c t).st k ((opsAt m c t).gate k) (ix3 0 r l)
      = (parK m c).st (chan t l) (t.val % 64 * 256 + (16 * k + r) + 1) * (parK m c).gate ⟨t.val % 64 * 256 + (16 * k + r), by omega⟩ (chan t l) := by
  rw [houtO l (opsAt m c t) (fun k => (parK m c).al (chan t l) (t.val % 64 * 256 + k)) (fun k => (parK m c).be (chan t l) (t.val % 64 * 256 + k)) (fun r => dec_eq m c t h r l) (fun n => (parK m c).al_unit _ _) (fun r => term_eq m c t h r l), rec_at m c t h, o_gate]
  rfl

/-- The state a point leaves. -/
theorem last_at (l : Fin 1024) :
    k0_pay111 (t28 (opsAt m c t)) (t29 (opsAt m c t)) (t49 (opsAt m c t)) (t50 (opsAt m c t)) (ix2 0 l) = (parK m c).st (chan t l) (t.val % 64 * 256 + 256) := by
  rw [lastO l (opsAt m c t) (fun k => (parK m c).al (chan t l) (t.val % 64 * 256 + k)) (fun k => (parK m c).be (chan t l) (t.val % 64 * 256 + k)) (fun r => dec_eq m c t h r l) (fun n => (parK m c).al_unit _ _) (fun r => term_eq m c t h r l), rec_at m c t h]

theorem hlast_at (l : Fin 1024) :
    k0_pay112 (t28 (opsAt m c t)) (t29 (opsAt m c t)) (t49 (opsAt m c t)) (t50 (opsAt m c t)) (ix3 0 0 l) = (parK m c).st (chan t l) (t.val % 64 * 256 + 256) := by
  rw [hlastO l (opsAt m c t) (fun k => (parK m c).al (chan t l) (t.val % 64 * 256 + k)) (fun k => (parK m c).be (chan t l) (t.val % 64 * 256 + k)) (fun r => dec_eq m c t h r l) (fun n => (parK m c).al_unit _ _) (fun r => term_eq m c t h r l), rec_at m c t h]

omit h

end Cert.Proof.Rglru

end
-- ==== Proof.RglruFold.lean ====
module

public import proofs.«01_k».proof.Proof.RglruPoint
@[expose] public section

set_option maxRecDepth 16384
noncomputable section
namespace Cert.Proof.Rglru
open Cert.KernelIdeal Cert.KernelIdeal.Gen
open Idealize.ShloMosaic Idealize.ShloMosaic.TcCoe Idealize.SL.Sem

variable (m : (ℓ : Loc nD τ sig) → Buf (Elt Ideal) ℓ) (c : Dev nD)

/-- What a point leaves for the next one. -/
theorem handed (t : Fin cfg0.N) (h : Carried m c t) :
    (∀ (r : Fin 3) (l : Fin 1024), (stateAt m c (t.val + 1)).1 (ix2 ⟨5 + r, by omega⟩ l) = (parK m c).pad (t.val % 64 * 256 + 256 + r) (chan t l))
    ∧ ∀ l : Fin 1024, (stateAt m c (t.val + 1)).2 (ix2 0 l) = (parK m c).st (chan t l) (t.val % 64 * 256 + 256) := by
  rw [stateAt_succ, leaves_outs]
  refine ⟨fun r l => ?_, fun l => ?_⟩
  · have e : ∀ (X : Vec Ideal S8x1024 .f32) (q : Fin 8), k0_pay1 (F := Ideal) X (ix2 q l) = X (ix2 q l) := fun X q => by pointwise [k0_pay1]
    exact (e _ _).trans (h.tail8 r l)
  · exact last_at m c t h l

theorem carried (n : ℕ) : ∀ hn : n < cfg0.N, Carried m c ⟨n, hn⟩ := by
  induction n with
  | zero => exact fun hn => carried_first m c _ ((first_iff _).mpr rfl)
  | succ n ih =>
    intro hn
    by_cases hc : First (grid0.coords ⟨n + 1, hn⟩)
    · exact carried_first m c _ hc
    · have hz : (n + 1) % 64 ≠ 0 := fun e => hc ((first_iff _).mpr e)
      obtain ⟨h1, h2⟩ := handed m c ⟨n, Nat.lt_of_succ_lt hn⟩ (ih _)
      have hch : ∀ l, chan ⟨n, Nat.lt_of_succ_lt hn⟩ l = chan ⟨n + 1, hn⟩ l := fun l => Fin.ext (by simp only [chan]; omega)
      refine carried_later m c _ hc (fun r l => ?_) fun l => ?_
      · have e := win_head (stateAt m c (n + 1)).1 ⟨5 + r, by omega⟩ l
        refine e.trans ((h1 r l).trans ?_)
        rw [hch]
        exact congrArg ((parK m c).pad · _) (by simp only []; omega)
      · refine (h2 l).trans ?_
        rw [hch]
        exact congrArg ((parK m c).st _ ·) (by simp only []; omega)

/-- The sixteen stores of the gated output. -/
theorem fcanon (o : Ops Ideal) (k q : Fin 16) (l : Fin 1024) (ks : List (Fin 16)) (hk : k ∈ ks) :
    View.canon (ks.map fun k : Fin 16 => (⟨Rect.unit (s := S1x256x1024) ![0, 16 * k.val, 0] S1x16x1024.size (inb16 k), hout (t28 o) (t29 o) o.st k (o.gate k)⟩ : View.Piece (Elt Ideal) S1x256x1024 .bf16))
      (ix3 0 ⟨16 * k + q, by omega⟩ l) = hout (t28 o) (t29 o) o.st k (o.gate k) (ix3 0 q l) := by
  induction ks with
  | nil => simp at hk
  | cons k' ks ih =>
    rw [List.map_cons]
    by_cases e : k' = k
    · subst e
      have e : (Rect.unit (s := S1x256x1024) ![0, 16 * k'.val, 0] S1x16x1024.size (inb16 k')).emb (ix3 0 q l) = ix3 0 ⟨16 * k' + q, by omega⟩ l := by
        blk_ext
      rw [← e]
      exact View.canon_cons_emb _ _ _ _
    · refine (View.canon_cons_of_not_mem _ _ fun hm => e ?_).trans (ih ((List.mem_cons.mp hk).resolve_left fun h => e h.symm))
      obtain ⟨j, hj⟩ := LoadRect.exists_idx_of_mem _ hm
      have h1 := congrArg (fun i : S1x256x1024.Idx => (i 1).val) hj
      change 16 * k'.val + 1 * (j 1).val = 16 * k.val + q.val at h1
      have h2 : (j 1).val < 16 := (j 1).isLt
      exact Fin.ext (by omega)

theorem mem16 (k : Fin 16) : k ∈ ([15,14,13,12,11,10,9,8,7,6,5,4,3,2,1,0] : List (Fin 16)) := by revert k; decide

/-- The gated output's buffer after the run. -/
def HG (p : Par) : Buf (Elt Ideal) ((c : Thread nD τ).loc main_v16_0) := fun i => p.st (i 2) ((i 1).val + 1) * p.gate (i 1) (i 2)
/-- The last state's. -/
def HLAST (p : Par) : Buf (Elt Ideal) ((c : Thread nD τ).loc main_v16_1) := fun i => p.st (i 2) 16384
/-- The next call's window's. -/
def NBUF (p : Par) : Buf (Elt Ideal) ((c : Thread nD τ).loc main_v16_2) := fun i => p.pad (16384 + (i 1).val) (i 2)

theorem final11 : (dats m 0 c).arrAt 11 (cfgs 0).N = HG c (parK m c) := by
  refine (dats m 0 c).arrAt_eq_of_covers 11 _ (by decide +kernel) fun t hf y => ?_
  blk_simp
  rw [after11, leaves_outs]
  obtain ⟨k, q, l, rfl⟩ : ∃ (k q : Fin 16) (l : Fin 1024), y = ix3 0 ⟨16 * k + q, by omega⟩ l :=
    ⟨⟨y 1 / 16, by have := (y 1).isLt; change _ < 256 at this; omega⟩, ⟨y 1 % 16, by omega⟩, y 2, by blk_ext⟩
  have e : (win0_11.blk t).view.emb (ix3 0 ⟨16 * k + q, by omega⟩ l) = ix3 0 ⟨t.val % 64 * 256 + (16 * k + q), by omega⟩ (chan t l) := by
    unfold chan
    blk_ext [idxs t]
    all_goals (try simp only []); (try omega)
  rw [e]
  refine ((congrArg (fun L => View.canon L _) (pieces_eq (opsAt m c t))).trans ((fcanon _ k q l _ (mem16 k)).trans (hg_at m c t (carried m c t.val t.isLt) k q l))).trans ?_
  rfl

theorem final12 : (dats m 0 c).arrAt 12 (cfgs 0).N = HLAST c (parK m c) := by
  refine (dats m 0 c).arrAt_eq_of_covers 12 _ (by decide +kernel) fun t hf y => ?_
  have h63 := (flush0_12 t).mp hf
  blk_simp
  rw [after12, leaves_outs]
  obtain ⟨l, rfl⟩ : ∃ (l : Fin 1024), y = ix3 0 0 l := ⟨y 2, by blk_ext⟩
  have e : (win0_12.blk t).view.emb (ix3 0 0 l) = ix3 0 0 (chan t l) := by
    unfold chan
    blk_ext [idxs t]
    all_goals (try simp only []); (try omega)
  rw [e]
  have hL : View.canon (outs (opsAt m c t)).2.1 = k0_pay112 (t28 (opsAt m c t)) (t29 (opsAt m c t)) (t49 (opsAt m c t)) (t50 (opsAt m c t)) :=
    View.canon_cons_unit_lit (S := S1x1x1024) (off := ![0, 0, 0]) _ _ _ (by decide)
  refine (congrFun hL _).trans ((hlast_at m c t (carried m c t.val t.isLt) l).trans ?_)
  exact congrArg ((parK m c).st (chan t l)) (by omega)

theorem final13 : (dats m 0 c).arrAt 13 (cfgs 0).N = NBUF c (parK m c) := by
  refine (dats m 0 c).arrAt_eq_of_covers 13 _ (by decide +kernel) fun t hf y => ?_
  have h63 := (flush0_13 t).mp hf
  blk_simp
  rw [after13, leaves_outs]
  obtain ⟨r, l, rfl⟩ : ∃ (r : Fin 3) (l : Fin 1024), y = ix3 0 r l := ⟨y 1, y 2, by blk_ext⟩
  have e : (win0_13.blk t).view.emb (ix3 0 r l) = ix3 0 r (chan t l) := by
    unfold chan
    blk_ext [idxs t]
    all_goals (try simp only []); (try omega)
  rw [e]
  have hL : View.canon (outs (opsAt m c t)).2.2.1 = t51 (opsAt m c t) :=
    View.canon_cons_unit_lit (S := S1x3x1024) (off := ![0, 0, 0]) _ _ _ (by decide)
  have hp : t51 (opsAt m c t) (ix3 0 r l) = (opsAt m c t).tail3 (ix2 r l) := by
    unfold t51
    generalize (opsAt m c t).tail3 = X
    pointwise [k0_pay113]
  refine (congrFun hL _).trans (hp.trans (((carried m c t.val t.isLt).tail3 r l).trans ?_))
  exact congrArg ((parK m c).pad · (chan t l)) (show t.val % 64 * 256 + 256 + r.val = 16384 + r.val by omega)

end Cert.Proof.Rglru

end
-- ==== Proof.RglruFinal.lean ====
module

public import proofs.«01_k».proof.Proof.RglruRefAt
public import proofs.«01_k».proof.Proof.RglruLoop
public import proofs.«01_k».proof.Proof.RglruFold
public import proofs.«01_k».proof.Defs
public import proofs.«01_k».proof.Proof.Gen.Kernel
public import proofs.«01_k».proof.Proof.RglruFrame
public import proofs.«01_k».proof.Proof.Gen.Pre_scale_normal
@[expose] public section

set_option maxRecDepth 16384
noncomputable section
namespace Cert.Proof.RglruRef
open Cert.ReferenceIdeal Cert.ReferenceIdeal.Gen Cert.ReferenceIdeal.Value Cert.Proof.Rglru
open Idealize.ShloMosaic Idealize.ShloMosaic.TcCoe Idealize.SL.Sem Idealize.ShloMosaic.StableHlo

variable (m : (ℓ : Loc nD τ sig) → Buf (Elt Ideal) ℓ) (c : Dev nD)

/-! ## What no stretch writes -/

/-- A buffer none of the lists writes. -/
def Unwritten (b : Ref sig .tc) : Prop :=
  (∀ X : Valuation τ sig (Elt Ideal), after condOps X (Proc.devRef .tc b) = X (Proc.devRef .tc b)) ∧
  (∀ X : Valuation τ sig (Elt Ideal), afterL bodyI X (Proc.devRef .tc b) = X (Proc.devRef .tc b)) ∧
  (∀ X : Valuation τ sig (Elt Ideal), afterL postI X (Proc.devRef .tc b) = X (Proc.devRef .tc b))

theorem body_keeps (b : Ref sig .tc) (X : Valuation τ sig (Elt Ideal)) (h0 : b ∉ while0Ops0_W) (h1 : b ∉ while0Ops0_1_W) (h2 : b ∉ while0Ops0_2_W)
    (h3 : b ∉ while0Ops0_3_W) (h4 : b ∉ while0Ops0_4_W) : afterL bodyI X (Proc.devRef .tc b) = X (Proc.devRef .tc b) := by
  simp only [afterL_cons, afterL_nil]
  rw [after_of_writes_sub _ _ while0Ops0_4_writes h4, after_of_writes_sub _ _ while0Ops0_3_writes h3, after_of_writes_sub _ _ while0Ops0_2_writes h2,
    after_of_writes_sub _ _ while0Ops0_1_writes h1, after_of_writes_sub _ _ while0Ops0_writes h0]

theorem pre_keeps (b : Ref sig .tc) (X : Valuation τ sig (Elt Ideal)) (h0 : b ∉ hostOps0_W) (h1 : b ∉ hostOps0_1_W) (h2 : b ∉ hostOps0_2_W)
    (h3 : b ∉ hostOps0_3_W) (h4 : b ∉ hostOps0_4_W) : afterL preI X (Proc.devRef .tc b) = X (Proc.devRef .tc b) := by
  simp only [afterL_cons, afterL_nil]
  rw [after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

theorem cond_frame (b : Ref sig .tc) (X : Valuation τ sig (Elt Ideal)) (h : b ∉ condOps_W) : after condOps X (Proc.devRef .tc b) = X (Proc.devRef .tc b) :=
  after_of_writes_sub _ _ condOps_writes h

theorem post_keeps (b : Ref sig .tc) (X : Valuation τ sig (Elt Ideal)) (h93 : b ≠ main_v93) (h94 : b ≠ main_v94) (h95 : b ≠ main_v95) (h96 : b ≠ main_v96) :
    afterL postI X (Proc.devRef .tc b) = X (Proc.devRef .tc b) := by
  simp only [afterL_cons, afterL_nil]
  refine after_of_forall_not_mem hostOps0_5 X fun op hop => ?_
  fin_cases hop <;> intro h <;> have h := Proc.devRef_injective _ (Finset.mem_singleton.mp h)
  · exact h93 h
  · exact h94 h
  · exact h95 h
  · exact h96 h

theorem atK_keeps (b : Ref sig .tc) (h : Unwritten b) (n : ℕ) : atK m n c (Proc.devRef .tc b) = entryContents preI m c (Proc.devRef .tc b) := by
  induction n with
  | zero => rfl
  | succ n ih => exact (h.2.1 _).trans ((h.1 _).trans ih)

theorem final_keeps (b : Ref sig .tc) (h : Unwritten b) :
    finalContents condOps preI bodyI postI 16384 m c (Proc.devRef .tc b) = entryContents preI m c (Proc.devRef .tc b) :=
  (h.2.2 _).trans ((h.1 _).trans (atK_keeps m c b h 16384))

theorem v1_unwritten : Unwritten main_v1 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem v3_unwritten : Unwritten main_v3 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg0_unwritten : Unwritten main_arg0 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg1_unwritten : Unwritten main_arg1 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg2_unwritten : Unwritten main_arg2 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg3_unwritten : Unwritten main_arg3 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg4_unwritten : Unwritten main_arg4 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg5_unwritten : Unwritten main_arg5 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg6_unwritten : Unwritten main_arg6 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg7_unwritten : Unwritten main_arg7 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg8_unwritten : Unwritten main_arg8 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg9_unwritten : Unwritten main_arg9 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg10_unwritten : Unwritten main_arg10 :=
  ⟨fun X => cond_frame _ X (by decide +kernel),
   fun X => body_keeps _ X (by decide +kernel) (by decide +kernel) (by decide +kernel) (by decide +kernel) (by decide +kernel),
   fun X => post_keeps _ X (by decide +kernel) (by decide +kernel) (by decide +kernel) (by decide +kernel)⟩

theorem arg0_final : finalContents condOps preI bodyI postI 16384 m c (Proc.devRef .tc main_arg0) = m ((c.tc : Thread nD τ).loc main_arg0) :=
  (final_keeps m c _ arg0_unwritten).trans
    (pre_keeps _ _ (by decide +kernel) (by decide +kernel) (by decide +kernel) (by decide +kernel) (by decide +kernel))

theorem arg1_final : finalContents condOps preI bodyI postI 16384 m c (Proc.devRef .tc main_arg1) = m ((c.tc : Thread nD τ).loc main_arg1) :=
  (final_keeps m c _ arg1_unwritten).trans
    (pre_keeps _ _ (by decide +kernel) (by decide +kernel) (by decide +kernel) (by decide +kernel) (by decide +kernel))

theorem arg2_final : finalContents condOps preI bodyI postI 16384 m c (Proc.devRef .tc main_arg2) = m ((c.tc : Thread nD τ).loc main_arg2) :=
  (final_keeps m c _ arg2_unwritten).trans
    (pre_keeps _ _ (by decide +kernel) (by decide +kernel) (by decide +kernel) (by decide +kernel) (by decide +kernel))

theorem arg3_final : finalContents condOps preI bodyI postI 16384 m c (Proc.devRef .tc main_arg3) = m ((c.tc : Thread nD τ).loc main_arg3) :=
  (final_keeps m c _ arg3_unwritten).trans
    (pre_keeps _ _ (by decide +kernel) (by decide +kernel) (by decide +kernel) (by decide +kernel) (by decide +kernel))

theorem arg4_final : finalContents condOps preI bodyI postI 16384 m c (Proc.devRef .tc main_arg4) = m ((c.tc : Thread nD τ).loc main_arg4) :=
  (final_keeps m c _ arg4_unwritten).trans
    (pre_keeps _ _ (by decide +kernel) (by decide +kernel) (by decide +kernel) (by decide +kernel) (by decide +kernel))

theorem arg5_final : finalContents condOps preI bodyI postI 16384 m c (Proc.devRef .tc main_arg5) = m ((c.tc : Thread nD τ).loc main_arg5) :=
  (final_keeps m c _ arg5_unwritten).trans
    (pre_keeps _ _ (by decide +kernel) (by decide +kernel) (by decide +kernel) (by decide +kernel) (by decide +kernel))

theorem arg6_final : finalContents condOps preI bodyI postI 16384 m c (Proc.devRef .tc main_arg6) = m ((c.tc : Thread nD τ).loc main_arg6) :=
  (final_keeps m c _ arg6_unwritten).trans
    (pre_keeps _ _ (by decide +kernel) (by decide +kernel) (by decide +kernel) (by decide +kernel) (by decide +kernel))

theorem arg7_final : finalContents condOps preI bodyI postI 16384 m c (Proc.devRef .tc main_arg7) = m ((c.tc : Thread nD τ).loc main_arg7) :=
  (final_keeps m c _ arg7_unwritten).trans
    (pre_keeps _ _ (by decide +kernel) (by decide +kernel) (by decide +kernel) (by decide +kernel) (by decide +kernel))

theorem arg8_final : finalContents condOps preI bodyI postI 16384 m c (Proc.devRef .tc main_arg8) = m ((c.tc : Thread nD τ).loc main_arg8) :=
  (final_keeps m c _ arg8_unwritten).trans
    (pre_keeps _ _ (by decide +kernel) (by decide +kernel) (by decide +kernel) (by decide +kernel) (by decide +kernel))

theorem arg9_final : finalContents condOps preI bodyI postI 16384 m c (Proc.devRef .tc main_arg9) = m ((c.tc : Thread nD τ).loc main_arg9) :=
  (final_keeps m c _ arg9_unwritten).trans
    (pre_keeps _ _ (by decide +kernel) (by decide +kernel) (by decide +kernel) (by decide +kernel) (by decide +kernel))

theorem arg10_final : finalContents condOps preI bodyI postI 16384 m c (Proc.devRef .tc main_arg10) = m ((c.tc : Thread nD τ).loc main_arg10) :=
  (final_keeps m c _ arg10_unwritten).trans
    (pre_keeps _ _ (by decide +kernel) (by decide +kernel) (by decide +kernel) (by decide +kernel) (by decide +kernel))

/-! ## The results -/

/-- The arguments on one device, by time and channel. -/
def parR : Par := parV (fun b => m (c, b))

section
variable (hp : ∀ (n : Fin 16384) (ch : Fin 2048),
  Ideal.ofBits .f32 0x00800000#32 ≤ oneMinus ((parR m c).lg n ch) ∨ oneMinus ((parR m c).lg n ch) = 0)
include hp

theorem row_state (k : Fin 16384) (ch : Fin 2048) :
    trips m c 16384 (Proc.devRef .tc main_v92_4) (ix3 k 0 ch) = (parR m c).st ch (k + 1) :=
  rows_at m c (fun ch n => (parR m c).al ch n) (fun ch n => (parR m c).be ch n) (parR m c).h0
    (fun n ch => (congrFun (entry0 m c) _).trans (alpha_at _ n ch))
    (fun n ch => (congrFun (entry1 m c) _).trans (beta_at _ n ch (hp n ch)))
    (fun ch => (congrFun (entry3 m c) _).trans (h0_at _ ch)) 16384 le_rfl k ch k.isLt

theorem last_state (ch : Fin 2048) : trips m c 16384 (Proc.devRef .tc main_v92_3) (ix2 0 ch) = (parR m c).st ch 16384 :=
  state_at m c (fun ch n => (parR m c).al ch n) (fun ch n => (parR m c).be ch n) (parR m c).h0
    (fun n ch => (congrFun (entry0 m c) _).trans (alpha_at _ n ch))
    (fun n ch => (congrFun (entry1 m c) _).trans (beta_at _ n ch (hp n ch)))
    (fun ch => (congrFun (entry3 m c) _).trans (h0_at _ ch)) 16384 le_rfl ch

end

/-- What the loop leaves, after its last test. -/
theorem left_rows : after condOps (atK m 16384 c) (Proc.devRef .tc main_v92_4) = trips m c 16384 (Proc.devRef .tc main_v92_4) :=
  (cond_keeps _ main_v92_4 (by decide +kernel)).trans (atK_agree m c 16384 main_v92_4 (by decide +kernel))

theorem left_state : after condOps (atK m 16384 c) (Proc.devRef .tc main_v92_3) = trips m c 16384 (Proc.devRef .tc main_v92_3) :=
  (cond_keeps _ main_v92_3 (by decide +kernel)).trans (atK_agree m c 16384 main_v92_3 (by decide +kernel))

theorem left_gate : after condOps (atK m 16384 c) (Proc.devRef .tc main_v1) = w1 (fun b => m (c, b)) :=
  (v1_unwritten.1 _).trans ((atK_keeps m c _ v1_unwritten 16384).trans (entry_v1 m c))

/-- The last stretch's gated states, from any contents. -/
theorem post95 (X : Valuation τ sig (Elt Ideal)) : afterL postI X (Proc.devRef .tc main_v95) =
    truncf (F := Ideal) .bf16 (mulf (F := Ideal) (transpose S1x16384x2048 [1, 0, 2] (X (Proc.devRef .tc main_v92_4)) transposes_S16384x1x2048_S1x16384x2048_1_0_2) (X (Proc.devRef .tc main_v1))) bitsLt_bf16_f32 := by
  simp only [afterL_cons, afterL_nil]
  after_reads_simp

theorem post96 (X : Valuation τ sig (Elt Ideal)) : afterL postI X (Proc.devRef .tc main_v96) =
    broadcastInDim S1x1x2048 ![0, 2] bcast_S1x2048_S1x1x2048_0_2 (X (Proc.devRef .tc main_v92_3)) := by
  simp only [afterL_cons, afterL_nil]
  after_reads_simp

/-- One entry of the gated states. -/
theorem gated_at (A : FVec Ideal S16384x1x2048 .f32) (B : FVec Ideal S1x16384x2048 .f32) (n : Fin 16384) (ch : Fin 2048) :
    truncf (F := Ideal) .bf16 (mulf (F := Ideal) (transpose S1x16384x2048 [1, 0, 2] A transposes_S16384x1x2048_S1x16384x2048_1_0_2) B) bitsLt_bf16_f32 (ix3 0 n ch)
      = @HMul.hMul EReal EReal EReal _ (A (ix3 n 0 ch)) (B (ix3 0 n ch)) := by
  pointwise

theorem spread_at (A : FVec Ideal S1x2048 .f32) (ch : Fin 2048) :
    broadcastInDim S1x1x2048 ![0, 2] bcast_S1x2048_S1x1x2048_0_2 A (ix3 0 0 ch) = A (ix2 0 ch) := by
  pointwise

section
variable (hp : ∀ (n : Fin 16384) (ch : Fin 2048),
  Ideal.ofBits .f32 0x00800000#32 ≤ oneMinus ((parR m c).lg n ch) ∨ oneMinus ((parR m c).lg n ch) = 0)
include hp

theorem v95_final (n : Fin 16384) (ch : Fin 2048) : finalContents condOps preI bodyI postI 16384 m c (Proc.devRef .tc main_v95) (ix3 0 n ch)
    = @HMul.hMul EReal EReal EReal _ ((parR m c).st ch (n + 1)) ((parR m c).gate n ch) := by
  refine (congrFun (post95 _) _).trans ((gated_at _ _ n ch).trans ?_)
  refine congrArg₂ (@HMul.hMul EReal EReal EReal _) ?_ ?_
  · exact (congrFun (left_rows m c) _).trans (row_state m c hp n ch)
  · exact (congrFun (left_gate m c) _).trans (gate_at _ n ch)

theorem v96_final (ch : Fin 2048) : finalContents condOps preI bodyI postI 16384 m c (Proc.devRef .tc main_v96) (ix3 0 0 ch)
    = (parR m c).st ch 16384 :=
  (congrFun (post96 _) _).trans ((spread_at _ ch).trans ((congrFun (left_state m c) _).trans (last_state m c hp ch)))
end

theorem v3_final (r : Fin 3) (ch : Fin 2048) : finalContents condOps preI bodyI postI 16384 m c (Proc.devRef .tc main_v3) (ix3 0 r ch)
    = (parR m c).pad (16384 + r) ch :=
  (congrFun ((final_keeps m c _ v3_unwritten).trans (entry_v3 m c)) _).trans (nbuf_at _ r ch)

variable (ρ : Dev nD → PrngReg)

/-- Every buffer the claims read is unscoped. -/
theorem frame_all : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10))
      ∧ r.2.sem = fun _ => 0) :=
  (θ_run defs _ _).mono (fun r h => ⟨fun c => ⟨(h c main_arg0 rfl).trans (arg0_final m c), (h c main_arg1 rfl).trans (arg1_final m c), (h c main_arg2 rfl).trans (arg2_final m c), (h c main_arg3 rfl).trans (arg3_final m c), (h c main_arg4 rfl).trans (arg4_final m c), (h c main_arg5 rfl).trans (arg5_final m c), (h c main_arg6 rfl).trans (arg6_final m c), (h c main_arg7 rfl).trans (arg7_final m c), (h c main_arg8 rfl).trans (arg8_final m c), (h c main_arg9 rfl).trans (arg9_final m c), (h c main_arg10 rfl).trans (arg10_final m c)⟩,
    sem_eq_zero_of_no_sems (by decide) r.2⟩) (run_fold m ρ)

end Cert.Proof.RglruRef

namespace Cert.Proof.Rglru

open Idealize.ShloMosaic Idealize.ShloMosaic.TcCoe Idealize.SL.Sem

/-! ## The claims -/

/-- The two printed body tables are one. -/
theorem bodies : Cert.Kernel.defs₀ (F := Bits) = Cert.KernelIdeal.defs₀ (F := Bits) := by
  sl_kernel_rfl

theorem tables : Cert.Kernel.defs (F := Bits) = Cert.KernelIdeal.defs (F := Bits) :=
  congrArg (Pipeline.defs Cert.KernelIdeal.pcfgs) bodies

theorem frame_p : Cert.quiescent_Kernel := fun m ρ _ => by
  rw [tables]
  exact frame_all (F := Bits) m ρ

theorem frame_pi : Cert.quiescent_KernelIdeal := fun m ρ _ => frame_all m ρ

theorem frame_pi_pre : Cert.quiescent_KernelIdeal_pre_scale_normal := fun m ρ _ => frame_all m ρ

theorem frame_ri : Cert.quiescent_ReferenceIdeal := fun m ρ _ => RglruRef.frame_all m ρ

theorem frame_ri_pre : Cert.quiescent_ReferenceIdeal_pre_scale_normal := fun m ρ _ => RglruRef.frame_all m ρ

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Memories that agree on the arguments state one problem. -/
theorem par_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    : RglruRef.parR m' c = parK m c := by
  simp only [RglruRef.parR, RglruRef.parV, parK, Par.mk.injEq]
  refine ⟨?_, ?_, ?_, ?_, ?_, ?_, ?_, ?_, ?_, ?_, ?_⟩
  · funext n ch; exact congrFun h0 _
  · funext n ch; exact congrFun h1 _
  · funext n ch; exact congrFun h2 _
  · funext ch; exact congrFun h3 _
  · funext n ch; exact congrFun h4 _
  · funext ch; exact congrFun h5 _
  · funext g x y; exact congrFun h6 _
  · funext ch; exact congrFun h7 _
  · funext g x y; exact congrFun h8 _
  · funext ch; exact congrFun h9 _
  · funext ch; exact congrFun h10 _
end

theorem algebraic : Cert.algebraic_KernelIdeal_ReferenceIdeal_pre_scale_normal := by
  intro m g m' g' hpre hag
  have hpar : ∀ c, RglruRef.parR m' c = parK m c := fun c => by
    obtain ⟨h0, h1, h2, h3, h4, h5, h6, h7, h8, h9, h10⟩ := hag c
    exact par_eq m m' c h0 h1 h2 h3 h4 h5 h6 h7 h8 h9 h10
  have hp : ∀ (c : Dev Cert.ReferenceIdeal.nD) (n : Fin 16384) (ch : Fin 2048),
      Ideal.ofBits .f32 0x00800000#32 ≤ oneMinus ((RglruRef.parR m' c).lg n ch) ∨ oneMinus ((RglruRef.parR m' c).lg n ch) = 0 := fun c => by
    obtain ⟨h0, h1, h2, h3, h4, h5, h6, h7, h8, h9, h10⟩ := hag c
    have h := hpre c
    rw [← h0, ← h1, ← h2, ← h3, ← h4, ← h5, ← h6, ← h7, ← h8, ← h9, ← h10] at h
    exact RglruRef.pre_at (fun b => m' (c, b)) h
  refine ⟨fun c => HG c (parK m c), fun c => HLAST c (parK m c), fun c => NBUF c (parK m c), ?_, ?_⟩
  · refine (θ_run Cert.KernelIdeal.defs _ _).mono (fun r h c => ?_) (θ_run_and (run_main m g) (frame_all m g))
    exact ⟨((h.1 c).1 11).trans (final11 m c), ((h.1 c).1 12).trans (final12 m c), ((h.1 c).1 13).trans (final13 m c), h.2.1 c⟩
  · refine (θ_run Cert.ReferenceIdeal.defs _ _).mono (fun r h c => ?_) (θ_run_and (Cert.ReferenceIdeal.Value.run_fold m' g') (RglruRef.frame_all m' g'))
    refine ⟨(h.1 c Cert.ReferenceIdeal.main_v95 rfl).trans ?_, (h.1 c Cert.ReferenceIdeal.main_v96 rfl).trans ?_, (h.1 c Cert.ReferenceIdeal.main_v3 rfl).trans ?_, h.2.1 c⟩
    · show _ = HG c (parK m c)
      rw [← hpar c]
      funext i
      obtain ⟨n, ch, rfl⟩ : ∃ (n : Fin 16384) (ch : Fin 2048), i = ix3 0 n ch :=
        ⟨i 1, i 2, funext fun k => by fin_cases k; exacts [Fin.ext (by have := (i 0).isLt; simp at this; simp [ix3]), rfl, rfl]⟩
      exact RglruRef.v95_final m' c (hp c) n ch
    · show _ = HLAST c (parK m c)
      rw [← hpar c]
      funext i
      obtain ⟨ch, rfl⟩ : ∃ (ch : Fin 2048), i = ix3 0 0 ch :=
        ⟨i 2, funext fun k => by fin_cases k; exacts [Fin.ext (by have := (i 0).isLt; simp at this; simp [ix3]), Fin.ext (by have := (i 1).isLt; simp at this; simp [ix3]), rfl]⟩
      exact RglruRef.v96_final m' c (hp c) ch
    · show _ = NBUF c (parK m c)
      rw [← hpar c]
      funext i
      obtain ⟨n, ch, rfl⟩ : ∃ (n : Fin 3) (ch : Fin 2048), i = ix3 0 n ch :=
        ⟨i 1, i 2, funext fun k => by fin_cases k; exacts [Fin.ext (by have := (i 0).isLt; simp at this; simp [ix3]), rfl, rfl]⟩
      exact RglruRef.v3_final m' c n ch

end Cert.Proof.Rglru

end
-- ==== Proof.lean ====
module

public import proofs.«01_k».proof.Defs
public import proofs.«01_k».proof.Proof.Gen.Mlp
public import proofs.«01_k».proof.Proof.Gen.MlpIdeal
public import proofs.«01_k».proof.Proof.Gen.MlpIdeal.Value
public import proofs.«01_k».proof.Proof.Gen.MlpReferenceIdeal.Run
public import proofs.«01_k».proof.Proof.Gen.Kvq
public import proofs.«01_k».proof.Proof.Gen.KvqIdeal
public import proofs.«01_k».proof.Proof.Gen.KvqIdeal.Value
public import proofs.«01_k».proof.Proof.Gen.KvqReferenceIdeal.Run
public import proofs.«01_k».proof.Proof.Gen.InProj
public import proofs.«01_k».proof.Proof.Gen.InProjIdeal
public import proofs.«01_k».proof.Proof.Gen.InProjIdeal.Value
public import proofs.«01_k».proof.Proof.Gen.InProjReferenceIdeal.Run
public import proofs.«01_k».proof.Proof.Gen.Out
public import proofs.«01_k».proof.Proof.Gen.OutIdeal
public import proofs.«01_k».proof.Proof.Gen.OutIdeal.Value
public import proofs.«01_k».proof.Proof.Gen.OutReferenceIdeal.Run
public import proofs.«01_k».proof.Proof.Gen.MlpSample
public import proofs.«01_k».proof.Proof.Gen.MlpSampleIdeal
public import proofs.«01_k».proof.Proof.Gen.MlpSampleIdeal.Value
public import proofs.«01_k».proof.Proof.Gen.MlpSampleReferenceIdeal.Run
public import proofs.«01_k».proof.Proof.Gen.KvqSample
public import proofs.«01_k».proof.Proof.Gen.KvqSampleIdeal
public import proofs.«01_k».proof.Proof.Gen.KvqSampleIdeal.Value
public import proofs.«01_k».proof.Proof.Gen.KvqSampleReferenceIdeal.Run
public import proofs.«01_k».proof.Proof.Gen.InProjSample
public import proofs.«01_k».proof.Proof.Gen.InProjSampleIdeal
public import proofs.«01_k».proof.Proof.Gen.InProjSampleIdeal.Value
public import proofs.«01_k».proof.Proof.Gen.InProjSampleReferenceIdeal.Run
public import proofs.«01_k».proof.Proof.Gen.OutSample
public import proofs.«01_k».proof.Proof.Gen.OutSampleIdeal
public import proofs.«01_k».proof.Proof.Gen.OutSampleIdeal.Value
public import proofs.«01_k».proof.Proof.Gen.OutSampleReferenceIdeal.Run
public import proofs.«01_k».proof.Proof.MlpFinal
public import proofs.«01_k».proof.Proof.KvqValue
public import proofs.«01_k».proof.Proof.InProjValue
public import proofs.«01_k».proof.Proof.OutValue
public import proofs.«01_k».proof.Proof.MlpSampleFinal
public import proofs.«01_k».proof.Proof.KvqSampleValue
public import proofs.«01_k».proof.Proof.InProjSampleValue
public import proofs.«01_k».proof.Proof.OutSampleValue
public import proofs.«01_k».proof.Proof.LayersSample
public import proofs.«01_k».proof.Proof.Layers
public import proofs.«01_k».proof.Proof.Gen.Kernel
public import proofs.«01_k».proof.Proof.Gen.KernelIdeal
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_scale_normal
public import proofs.«01_k».proof.Proof.RglruFinal

@[expose] public section

noncomputable section

namespace Cert.Proof

open Idealize.ShloMosaic Idealize.SL.Sem

/-- Every claim of the certificate: the programs' facts, their frames, that the ideal programs are the kernels' own texts,
    and that each call computes its part of the problem. -/
theorem claim : Cert.Claim :=
  ⟨Cert.Kernel.Gen.facts,
    Cert.KernelIdeal.Gen.facts,
    Cert.ReferenceIdeal.Gen.facts,
    Cert.Mlp.Gen.facts,
    Cert.MlpIdeal.Gen.facts,
    Cert.MlpReferenceIdeal.Gen.facts,
    Cert.Kvq.Gen.facts,
    Cert.KvqIdeal.Gen.facts,
    Cert.KvqReferenceIdeal.Gen.facts,
    Cert.InProj.Gen.facts,
    Cert.InProjIdeal.Gen.facts,
    Cert.InProjReferenceIdeal.Gen.facts,
    Cert.Out.Gen.facts,
    Cert.OutIdeal.Gen.facts,
    Cert.OutReferenceIdeal.Gen.facts,
    Cert.MlpSample.Gen.facts,
    Cert.MlpSampleIdeal.Gen.facts,
    Cert.MlpSampleReferenceIdeal.Gen.facts,
    Cert.KvqSample.Gen.facts,
    Cert.KvqSampleIdeal.Gen.facts,
    Cert.KvqSampleReferenceIdeal.Gen.facts,
    Cert.InProjSample.Gen.facts,
    Cert.InProjSampleIdeal.Gen.facts,
    Cert.InProjSampleReferenceIdeal.Gen.facts,
    Cert.OutSample.Gen.facts,
    Cert.OutSampleIdeal.Gen.facts,
    Cert.OutSampleReferenceIdeal.Gen.facts,
    Cert.Pre_scale_normal.Gen.facts,
    Rglru.frame_p, Rglru.frame_pi, Rglru.frame_pi_pre, Rglru.frame_ri, Rglru.frame_ri_pre,
    Layers.Mlp_p, Layers.Mlp_pi, Layers.Mlp_ri,
    Layers.Kvq_p, Layers.Kvq_pi, Layers.Kvq_ri,
    Layers.InProj_p, Layers.InProj_pi, Layers.InProj_ri,
    Layers.Out_p, Layers.Out_pi, Layers.Out_ri,
    Layers.MlpSample_p, Layers.MlpSample_pi, Layers.MlpSample_ri,
    Layers.KvqSample_p, Layers.KvqSample_pi, Layers.KvqSample_ri,
    Layers.InProjSample_p, Layers.InProjSample_pi, Layers.InProjSample_ri,
    Layers.OutSample_p, Layers.OutSample_pi, Layers.OutSample_ri,
    trivial, Rglru.algebraic,
    trivial, MlpClaim.algebraic,
    trivial, KvqClaim.algebraic,
    trivial, InProjClaim.algebraic,
    trivial, OutClaim.algebraic,
    trivial, MlpSampleClaim.algebraic,
    trivial, KvqSampleClaim.algebraic,
    trivial, InProjSampleClaim.algebraic,
    trivial, OutSampleClaim.algebraic⟩

end Cert.Proof

end
